-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  IdealRules.named_const.Statement Cert.KernelIdeal.κ "sb_query_scale" .f32 0x3E0293EE#32 ((((Real.sqrt 128) * (Real.log 2))⁻¹ : ℝ) : EReal)
  ∧ IdealRules.named_const.Statement Cert.KernelIdeal.κ "sb_scale" .f32 0x3DB504F3#32 (((Real.sqrt 128)⁻¹ : ℝ) : EReal)
  ∧ IdealRules.named_const.Statement Cert.KernelIdeal.κ "sb_query_unscale" .f32 0x40FAF233#32 (((Real.sqrt 128) * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_v24) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x2048 : Shape := ⟨2, ![8192, 2048]⟩
abbrev S8192x7168 : Shape := ⟨2, ![8192, 7168]⟩
abbrev S_ : Shape := ⟨0, ![]⟩

class Facts : Prop where
  bcast_S_S8192x2048 : S_.BroadcastsInDim S8192x2048 (![] : Fin 0 → Fin S8192x2048.rank)
  bcast_S_S8192x7168 : S_.BroadcastsInDim S8192x7168 (![] : Fin 0 → Fin S8192x7168.rank)

variable [Facts]

def fn {F : FTy → Type} [FloatOps F] (main_arg0 : FVec F S8192x2048 .f32) (main_arg1 : FVec F S8192x7168 .f32) : IVec S8192x2048 1 × IVec S8192x7168 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x7168 .f32 := Host.absf main_arg1
  let main_cst_0 : FVec F S_ .f32 := constant S_ .f32 0x7F800000#32
  let main_v4 : FVec F S8192x7168 .f32 := broadcastInDim S8192x7168 ![] bcast_S_S8192x7168 main_cst_0
  let main_v5 : IVec S8192x7168 1 := cmpf .olt main_v3 main_v4
  (main_v2, main_v5)
-- ==== Pre_finite3.lean ====
abbrev S8x8192x704 : Shape := ⟨3, ![8, 8192, 704]⟩
abbrev S8x704x2048 : Shape := ⟨3, ![8, 704, 2048]⟩
abbrev S8192x2048 : Shape := ⟨2, ![8192, 2048]⟩
abbrev S_ : Shape := ⟨0, ![]⟩

class Facts : Prop where
  bcast_S_S8x8192x704 : S_.BroadcastsInDim S8x8192x704 (![] : Fin 0 → Fin S8x8192x704.rank)
  bitsLt_bf16_f32 : FTy.bits .bf16 < FTy.bits .f32
  bcast_S_S8x704x2048 : S_.BroadcastsInDim S8x704x2048 (![] : Fin 0 → Fin S8x704x2048.rank)
  bcast_S_S8192x2048 : S_.BroadcastsInDim S8192x2048 (![] : Fin 0 → Fin S8192x2048.rank)

variable [Facts]

def fn {F : FTy → Type} [FloatOps F] (main_arg0 : FVec F S8x8192x704 .f32) (main_arg1 : FVec F S8x8192x704 .f32) (main_arg2 : FVec F S8x704x2048 .bf16) (main_arg3 : FVec F S8192x2048 .bf16) : IVec S8x8192x704 1 × IVec S8x8192x704 1 × IVec S8x704x2048 1 × IVec S8192x2048 1 :=
  let main_v0 : FVec F S8x8192x704 .f32 := Host.absf main_arg0
  let main_cst : FVec F S_ .f32 := constant S_ .f32 0x7F800000#32
  let main_v1 : FVec F S8x8192x704 .f32 := broadcastInDim S8x8192x704 ![] bcast_S_S8x8192x704 main_cst
  let main_v2 : IVec S8x8192x704 1 := cmpf .olt main_v0 main_v1
  let main_v3 : FVec F S8x8192x704 .f32 := Host.absf main_arg1
  let main_cst_0 : FVec F S_ .f32 := constant S_ .f32 0x7F800000#32
  let main_v4 : FVec F S8x8192x704 .f32 := broadcastInDim S8x8192x704 ![] bcast_S_S8x8192x704 main_cst_0
  let main_v5 : IVec S8x8192x704 1 := cmpf .olt main_v3 main_v4
  let main_v6 : FVec F S8x704x2048 .f32 := (extf .f32 · bitsLt_bf16_f32) main_arg2
  let main_v7 : FVec F S8x704x2048 .f32 := Host.absf main_v6
  let main_cst_1 : FVec F S_ .f32 := constant S_ .f32 0x7F800000#32
  let main_v8 : FVec F S8x704x2048 .f32 := broadcastInDim S8x704x2048 ![] bcast_S_S8x704x2048 main_cst_1
  let main_v9 : IVec S8x704x2048 1 := cmpf .olt main_v7 main_v8
  let main_v10 : FVec F S8192x2048 .f32 := (extf .f32 · bitsLt_bf16_f32) main_arg3
  let main_v11 : FVec F S8192x2048 .f32 := Host.absf main_v10
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  (main_v2, main_v5, main_v9, main_v13)
-- ==== Pre_finite5.lean ====
abbrev S8192x2048 : Shape := ⟨2, ![8192, 2048]⟩
abbrev S8x2048x704 : Shape := ⟨3, ![8, 2048, 704]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8x2048x704 : S_.BroadcastsInDim S8x2048x704 (![] : Fin 0 → Fin S8x2048x704.rank)

variable [Facts]

def fn {F : FTy → Type} [FloatOps F] (main_arg0 : FVec F S8192x2048 .bf16) (main_arg1 : FVec F S8x2048x704 .bf16) (main_arg2 : FVec F S8x2048x704 .bf16) : IVec S8192x2048 1 × IVec S8x2048x704 1 × IVec S8x2048x704 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8x2048x704 .f32 := (extf .f32 · bitsLt_bf16_f32) main_arg1
  let main_v5 : FVec F S8x2048x704 .f32 := Host.absf main_v4
  let main_cst_0 : FVec F S_ .f32 := constant S_ .f32 0x7F800000#32
  let main_v6 : FVec F S8x2048x704 .f32 := broadcastInDim S8x2048x704 ![] bcast_S_S8x2048x704 main_cst_0
  let main_v7 : IVec S8x2048x704 1 := cmpf .olt main_v5 main_v6
  let main_v8 : FVec F S8x2048x704 .f32 := (extf .f32 · bitsLt_bf16_f32) main_arg2
  let main_v9 : FVec F S8x2048x704 .f32 := Host.absf main_v8
  let main_cst_1 : FVec F S_ .f32 := constant S_ .f32 0x7F800000#32
  let main_v10 : FVec F S8x2048x704 .f32 := broadcastInDim S8x2048x704 ![] bcast_S_S8x2048x704 main_cst_1
  let main_v11 : IVec S8x2048x704 1 := cmpf .olt main_v9 main_v10
  (main_v3, main_v7, main_v11)
-- ==== Kernel.lean ====
abbrev S8192x2048 : Shape := ⟨2, ![8192, 2048]⟩
abbrev S8192x7168 : Shape := ⟨2, ![8192, 7168]⟩
abbrev S136 : Shape := ⟨1, ![136]⟩
abbrev S256x128 : Shape := ⟨2, ![256, 128]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x512x16x512 : Shape := ⟨5, ![8, 16, 512, 16, 512]⟩
abbrev S8x16x16x512x512 : Shape := ⟨5, ![8, 16, 16, 512, 512]⟩
abbrev S8x256x512x512 : Shape := ⟨4, ![8, 256, 512, 512]⟩
abbrev S136x1 : Shape := ⟨2, ![136, 1]⟩
abbrev S8x136x512x512 : Shape := ⟨4, ![8, 136, 512, 512]⟩
abbrev S512x128 : Shape := ⟨2, ![512, 128]⟩
abbrev S8192x128 : Shape := ⟨2, ![8192, 128]⟩
abbrev S2x512x512 : Shape := ⟨3, ![2, 512, 512]⟩
abbrev S2 : Shape := ⟨1, ![2]⟩
abbrev S1 : Shape := ⟨1, ![1]⟩
abbrev S1x512x512 : Shape := ⟨3, ![1, 512, 512]⟩
abbrev S512x512 : Shape := ⟨2, ![512, 512]⟩
abbrev S1x1x512x512 : Shape := ⟨4, ![1, 1, 512, 512]⟩
abbrev S512x1 : Shape := ⟨2, ![512, 1]⟩
abbrev S512x256 : Shape := ⟨2, ![512, 256]⟩

abbrev nBuf : Space → Nat
  | .hbm => 87
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x7168, .f32⟩
  | .hbm, ⟨2, _⟩ => ⟨S136, .i32⟩
  | .hbm, ⟨3, _⟩ => ⟨S256x128, .bf16⟩
  | .hbm, ⟨4, _⟩ => ⟨S8192x7168, .bf16⟩
  | .hbm, ⟨5, _⟩ => ⟨S8192x1024, .f32⟩
  | .hbm, ⟨6, _⟩ => ⟨S8192x8x128, .f32⟩
  | .hbm, ⟨7, _⟩ => ⟨S8x8192x128, .f32⟩
  | .hbm, ⟨8, _⟩ => ⟨S8192x1024, .f32⟩
  | .hbm, ⟨9, _⟩ => ⟨S8192x8x128, .f32⟩
  | .hbm, ⟨10, _⟩ => ⟨S8x8192x128, .f32⟩
  | .hbm, ⟨11, _⟩ => ⟨S8x8192x8192, .f32⟩
  | .hbm, ⟨12, _⟩ => ⟨S_, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .i1⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S_, .f32⟩
  | .hbm, ⟨68, _⟩ => ⟨S8x8192x8192, .i1⟩
  | .hbm, ⟨69, _⟩ => ⟨S8x8192x8192, .f32⟩
  | .hbm, ⟨70, _⟩ => ⟨S8x8192x8192, .f32⟩
  | .hbm, ⟨71, _⟩ => ⟨S8x8192x8192, .bf16⟩
  | .hbm, ⟨72, _⟩ => ⟨S8x16x512x16x512, .bf16⟩
  | .hbm, ⟨73, _⟩ => ⟨S8x16x16x512x512, .bf16⟩
  | .hbm, ⟨74, _⟩ => ⟨S8x256x512x512, .bf16⟩
  | .hbm, ⟨75, _⟩ => ⟨S_, .i32⟩
  | .hbm, ⟨76, _⟩ => ⟨S136, .i32⟩
  | .hbm, ⟨77, _⟩ => ⟨S136, .i1⟩
  | .hbm, ⟨78, _⟩ => ⟨S_, .i32⟩
  | .hbm, ⟨79, _⟩ => ⟨S136, .i32⟩
  | .hbm, ⟨80, _⟩ => ⟨S136, .i32⟩
  | .hbm, ⟨81, _⟩ => ⟨S136, .i32⟩
  | .hbm, ⟨82, _⟩ => ⟨S136x1, .i32⟩
  | .hbm, ⟨83, _⟩ => ⟨S8x136x512x512, .bf16⟩
  | .hbm, ⟨84, _⟩ => ⟨S8192x1024, .bf16⟩
  | .hbm, ⟨85, _⟩ => ⟨S8192x1024, .bf16⟩
  | .hbm, ⟨86, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S512x128, .bf16⟩
  | .local _ .vmem, ⟨10, _⟩ => ⟨S512x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .f32⟩
  | .local _ .vmem, ⟨16, _⟩ => ⟨S8192x128, .f32⟩
  | .local _ .vmem, ⟨17, _⟩ => ⟨S2x512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_call2_cst : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_2 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_3 : Ref sig .tc := ⟨.hbm, 75, rfl⟩
abbrev main_v30 : Ref sig .tc := ⟨.hbm, 76, rfl⟩
abbrev main_v31 : Ref sig .tc := ⟨.hbm, 77, rfl⟩
abbrev main_c_4 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37_0 : Ref sig .tc := ⟨.hbm, 84, rfl⟩
abbrev main_v37_1 : Ref sig .tc := ⟨.hbm, 85, rfl⟩
abbrev main_v37_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c0_i32_12 : BitVec 32 := 0#32
  let v29 : BitVec 32 := Scalar.addi v28 c0_i32_12
  let c0_i32_17 : BitVec 32 := 0#32
  let c0_i32_18 : BitVec 32 := 0#32
  ![arg0.toNat, v29.toNat, 0, 0]
@[reducible] def k0_t1_loop (i : grid0.Coords) : Scf.Loop 32 :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_23 : BitVec 32 := 1#32
  ⟨c0_i32_21, v42, c1_i32_23⟩
def k0_off2 (i : grid0.Coords) (k0_t1 : Fin (k0_t1_loop i).trips) : Fin 1 → Nat :=
  let c0_i32_21 : BitVec 32 := 0#32
  let c1_i32_23 : BitVec 32 := 1#32
  let arg15 : BitVec 32 := Scf.iv c0_i32_21 c1_i32_23 k0_t1
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  ![v194.toNat]
def k0_off3 (i : grid0.Coords) (k0_t1 : Fin (k0_t1_loop i).trips) : Fin 3 → Nat :=
  let c0_i32_21 : BitVec 32 := 0#32
  let c1_i32_23 : BitVec 32 := 1#32
  let arg15 : BitVec 32 := Scf.iv c0_i32_21 c1_i32_23 k0_t1
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let c0_i32_69 : BitVec 32 := 0#32
  let c0_i32_70 : BitVec 32 := 0#32
  ![v194.toNat, 0, 0]
def k0_off4 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c0_i32_21 : BitVec 32 := 0#32
  let c1_i32_23 : BitVec 32 := 1#32
  let arg15 : BitVec 32 := Scf.iv c0_i32_21 c1_i32_23 k0_t1
  let v195 : BitVec 32 := Scalar.addi v28 arg15
  let c0_i32_71 : BitVec 32 := 0#32
  let c0_i32_72 : BitVec 32 := 0#32
  ![arg0.toNat, v195.toNat, 0, 0]
def k0_cond2 (i : grid0.Coords) (k0_t1 : Fin (k0_t1_loop i).trips) : BitVec 1 :=
  let c0_i32_21 : BitVec 32 := 0#32
  let c1_i32_23 : BitVec 32 := 1#32
  let arg15 : BitVec 32 := Scf.iv c0_i32_21 c1_i32_23 k0_t1
  let arg1 : BitVec 32 := BitVec.ofNat 32 (i 1).val
  let v202 : BitVec 1 := Scalar.cmpi .slt arg15 arg1
  let v203 : BitVec 32 := Scalar.extui v202
  let c0_i32_73 : BitVec 32 := 0#32
  let v204 : BitVec 1 := Scalar.cmpi .ne v203 c0_i32_73
  v204

def k0_off5 (i : grid0.Coords) (k0_t1 : Fin (k0_t1_loop i).trips) : Fin 1 → Nat :=
  let c1_i32_98 : BitVec 32 := 1#32
  let c0_i32_21 : BitVec 32 := 0#32
  let c1_i32_23 : BitVec 32 := 1#32
  let arg15 : BitVec 32 := Scf.iv c0_i32_21 c1_i32_23 k0_t1
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v318 : BitVec 32 := Scalar.subi c1_i32_98 v194
  ![v318.toNat]
def k0_off6 (i : grid0.Coords) (k0_t1 : Fin (k0_t1_loop i).trips) : Fin 3 → Nat :=
  let c1_i32_98 : BitVec 32 := 1#32
  let c0_i32_21 : BitVec 32 := 0#32
  let c1_i32_23 : BitVec 32 := 1#32
  let arg15 : BitVec 32 := Scf.iv c0_i32_21 c1_i32_23 k0_t1
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v318 : BitVec 32 := Scalar.subi c1_i32_98 v194
  let c0_i32_100 : BitVec 32 := 0#32
  let c0_i32_101 : BitVec 32 := 0#32
  ![v318.toNat, 0, 0]
def k0_off7 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c0_i32_21 : BitVec 32 := 0#32
  let c1_i32_23 : BitVec 32 := 1#32
  let arg15 : BitVec 32 := Scf.iv c0_i32_21 c1_i32_23 k0_t1
  let c1_i32_99 : BitVec 32 := 1#32
  let v319 : BitVec 32 := Scalar.addi arg15 c1_i32_99
  let v320 : BitVec 32 := Scalar.addi v28 v319
  let c0_i32_102 : BitVec 32 := 0#32
  let c0_i32_103 : BitVec 32 := 0#32
  ![arg0.toNat, v320.toNat, 0, 0]
def k0_mult1 (i : grid0.Coords) (k0_t1 : Fin (k0_t1_loop i).trips) : BitVec 32 :=
  let c0_i32_21 : BitVec 32 := 0#32
  let c1_i32_23 : BitVec 32 := 1#32
  let arg15 : BitVec 32 := Scf.iv c0_i32_21 c1_i32_23 k0_t1
  let c512_i32_74 : BitVec 32 := 512#32
  let v205 : BitVec 32 := Scalar.muli arg15 c512_i32_74
  v205
def k0_off8 (i : grid0.Coords) (k0_t1 : Fin (k0_t1_loop i).trips) : Fin 3 → Nat :=
  let c0_i32_21 : BitVec 32 := 0#32
  let c1_i32_23 : BitVec 32 := 1#32
  let arg15 : BitVec 32 := Scf.iv c0_i32_21 c1_i32_23 k0_t1
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v207 : Index := Scalar.indexCast v194
  let c0_75 : Index := 0#32
  let c0_76 : Index := 0#32
  ![v207.toNat, 0, 0]
def k0_mult2 (i : grid0.Coords) (k0_t1 : Fin (k0_t1_loop i).trips) : BitVec 32 :=
  let c0_i32_21 : BitVec 32 := 0#32
  let c1_i32_23 : BitVec 32 := 1#32
  let arg15 : BitVec 32 := Scf.iv c0_i32_21 c1_i32_23 k0_t1
  let c512_i32_77 : BitVec 32 := 512#32
  let v210 : BitVec 32 := Scalar.muli arg15 c512_i32_77
  v210
def k0_off9 (i : grid0.Coords) (k0_t1 : Fin (k0_t1_loop i).trips) : Fin 2 → Nat :=
  let c0_i32_21 : BitVec 32 := 0#32
  let c1_i32_23 : BitVec 32 := 1#32
  let arg15 : BitVec 32 := Scf.iv c0_i32_21 c1_i32_23 k0_t1
  let c512_i32_77 : BitVec 32 := 512#32
  let v210 : BitVec 32 := Scalar.muli arg15 c512_i32_77
  let v211 : BitVec 32 := v210
  let v212 : Index := Scalar.indexCast v211
  let c0_78 : Index := 0#32
  ![v212.toNat, 0]
@[reducible] def k0_t2_loop (i : grid0.Coords) : Scf.Loop 32 :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let v39 : BitVec 32 := Scalar.addi c0_i32_21 v38
  let c1_i32_24 : BitVec 32 := 1#32
  ⟨v42, v39, c1_i32_24⟩
def k0_off10 (i : grid0.Coords) (k0_t2 : Fin (k0_t2_loop i).trips) : Fin 1 → Nat :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  ![v194.toNat]
def k0_off11 (i : grid0.Coords) (k0_t2 : Fin (k0_t2_loop i).trips) : Fin 3 → Nat :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let c0_i32_69 : BitVec 32 := 0#32
  let c0_i32_70 : BitVec 32 := 0#32
  ![v194.toNat, 0, 0]
def k0_off12 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c0_i32_21 : BitVec 32 := 0#32
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let v195 : BitVec 32 := Scalar.addi v28 arg15
  let c0_i32_71 : BitVec 32 := 0#32
  let c0_i32_72 : BitVec 32 := 0#32
  ![arg0.toNat, v195.toNat, 0, 0]
def k0_cond3 (i : grid0.Coords) (k0_t2 : Fin (k0_t2_loop i).trips) : BitVec 1 :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let v202 : BitVec 1 := Scalar.cmpi .slt arg15 arg1
  let v203 : BitVec 32 := Scalar.extui v202
  let c0_i32_73 : BitVec 32 := 0#32
  let v204 : BitVec 1 := Scalar.cmpi .ne v203 c0_i32_73
  v204

def k0_off13 (i : grid0.Coords) (k0_t2 : Fin (k0_t2_loop i).trips) : Fin 1 → Nat :=
  let c1_i32_98 : BitVec 32 := 1#32
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v318 : BitVec 32 := Scalar.subi c1_i32_98 v194
  ![v318.toNat]
def k0_off14 (i : grid0.Coords) (k0_t2 : Fin (k0_t2_loop i).trips) : Fin 3 → Nat :=
  let c1_i32_98 : BitVec 32 := 1#32
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v318 : BitVec 32 := Scalar.subi c1_i32_98 v194
  let c0_i32_100 : BitVec 32 := 0#32
  let c0_i32_101 : BitVec 32 := 0#32
  ![v318.toNat, 0, 0]
def k0_off15 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c0_i32_21 : BitVec 32 := 0#32
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c1_i32_99 : BitVec 32 := 1#32
  let v319 : BitVec 32 := Scalar.addi arg15 c1_i32_99
  let v320 : BitVec 32 := Scalar.addi v28 v319
  let c0_i32_102 : BitVec 32 := 0#32
  let c0_i32_103 : BitVec 32 := 0#32
  ![arg0.toNat, v320.toNat, 0, 0]
def k0_mult3 (i : grid0.Coords) (k0_t2 : Fin (k0_t2_loop i).trips) : BitVec 32 :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c512_i32_74 : BitVec 32 := 512#32
  let v205 : BitVec 32 := Scalar.muli arg15 c512_i32_74
  v205
def k0_off16 (i : grid0.Coords) (k0_t2 : Fin (k0_t2_loop i).trips) : Fin 3 → Nat :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c2_i32_63 : BitVec 32 := 2#32
  let c0_i32_64 : BitVec 32 := 0#32
  let v185 : BitVec 1 := Scalar.cmpi .eq c2_i32_63 c0_i32_64
  let c1_i32_65 : BitVec 32 := 1#32
  let v186 : BitVec 32 := Scalar.select v185 c1_i32_65 c2_i32_63
  let v187 : BitVec 32 := Scalar.remsi arg15 v186
  let c0_i32_67 : BitVec 32 := 0#32
  let v189 : BitVec 1 := Scalar.cmpi .slt v187 c0_i32_67
  let c0_i32_68 : BitVec 32 := 0#32
  let v190 : BitVec 1 := Scalar.cmpi .slt v186 c0_i32_68
  let v191 : BitVec 1 := Scalar.xori v189 v190
  let c0_i32_66 : BitVec 32 := 0#32
  let v188 : BitVec 1 := Scalar.cmpi .ne v187 c0_i32_66
  let v192 : BitVec 1 := Scalar.andi v191 v188
  let v193 : BitVec 32 := Scalar.addi v187 v186
  let v194 : BitVec 32 := Scalar.select v192 v193 v187
  let v207 : Index := Scalar.indexCast v194
  let c0_75 : Index := 0#32
  let c0_76 : Index := 0#32
  ![v207.toNat, 0, 0]
def k0_mult4 (i : grid0.Coords) (k0_t2 : Fin (k0_t2_loop i).trips) : BitVec 32 :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c512_i32_77 : BitVec 32 := 512#32
  let v210 : BitVec 32 := Scalar.muli arg15 c512_i32_77
  v210
def k0_off17 (i : grid0.Coords) (k0_t2 : Fin (k0_t2_loop i).trips) : Fin 2 → Nat :=
  let c0_i32_21 : BitVec 32 := 0#32
  let arg1 : BitVec 32 := BitVec.ofNat 32 (i 1).val
  let v38 : BitVec 32 := Scalar.subi arg1 c0_i32_21
  let c1_i32_22 : BitVec 32 := 1#32
  let v40 : BitVec 32 := Scalar.divsi v38 c1_i32_22
  let v41 : BitVec 32 := Scalar.muli v40 c1_i32_22
  let v42 : BitVec 32 := Scalar.addi c0_i32_21 v41
  let c1_i32_24 : BitVec 32 := 1#32
  let arg15 : BitVec 32 := Scf.iv v42 c1_i32_24 k0_t2
  let c512_i32_77 : BitVec 32 := 512#32
  let v210 : BitVec 32 := Scalar.muli arg15 c512_i32_77
  let v211 : BitVec 32 := v210
  let v212 : Index := Scalar.indexCast v211
  let c0_78 : Index := 0#32
  ![v212.toNat, 0]
def k0_off18 (i : grid0.Coords) : Fin 1 → Nat :=
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  ![v57.toNat]
def k0_off19 (i : grid0.Coords) : Fin 3 → Nat :=
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c0_i32_31 : BitVec 32 := 0#32
  let c0_i32_32 : BitVec 32 := 0#32
  ![v57.toNat, 0, 0]
def k0_off20 (i : grid0.Coords) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let v58 : BitVec 32 := Scalar.addi v28 arg1
  let c0_i32_33 : BitVec 32 := 0#32
  let c0_i32_34 : BitVec 32 := 0#32
  ![arg0.toNat, v58.toNat, 0, 0]
def k0_cond4 (i : grid0.Coords) : BitVec 1 :=
  let arg1 : BitVec 32 := BitVec.ofNat 32 (i 1).val
  let v65 : BitVec 1 := Scalar.cmpi .slt arg1 arg1
  let v66 : BitVec 32 := Scalar.extui v65
  let c0_i32_35 : BitVec 32 := 0#32
  let v67 : BitVec 1 := Scalar.cmpi .ne v66 c0_i32_35
  v67

def k0_off21 (i : grid0.Coords) : Fin 1 → Nat :=
  let c1_i32_63 : BitVec 32 := 1#32
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let v185 : BitVec 32 := Scalar.subi c1_i32_63 v57
  ![v185.toNat]
def k0_off22 (i : grid0.Coords) : Fin 3 → Nat :=
  let c1_i32_63 : BitVec 32 := 1#32
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let v185 : BitVec 32 := Scalar.subi c1_i32_63 v57
  let c0_i32_65 : BitVec 32 := 0#32
  let c0_i32_66 : BitVec 32 := 0#32
  ![v185.toNat, 0, 0]
def k0_off23 (i : grid0.Coords) : Fin 4 → Nat :=
  let arg0 : BitVec 32 := BitVec.ofNat 32 (i 0).val
  let arg1 : BitVec 32 := BitVec.ofNat 32 (i 1).val
  let c1_i32 : BitVec 32 := 1#32
  let v10 : BitVec 32 := Scalar.addi arg1 c1_i32
  let v11 : BitVec 32 := Scalar.muli arg1 v10
  let c0_i32_6 : BitVec 32 := 0#32
  let v13 : BitVec 1 := Scalar.cmpi .sgt v11 c0_i32_6
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi v11 c2_i32
  let c0_i32_10 : BitVec 32 := 0#32
  let v25 : BitVec 1 := Scalar.cmpi .ne v24 c0_i32_10
  let v26 : BitVec 1 := Scalar.andi v23 v25
  let v12 : BitVec 32 := Scalar.divsi v11 c2_i32
  let c1_i32_11 : BitVec 32 := 1#32
  let v27 : BitVec 32 := Scalar.subi v12 c1_i32_11
  let v28 : BitVec 32 := Scalar.select v26 v27 v12
  let c1_i32_64 : BitVec 32 := 1#32
  let v186 : BitVec 32 := Scalar.addi arg1 c1_i32_64
  let v187 : BitVec 32 := Scalar.addi v28 v186
  let c0_i32_67 : BitVec 32 := 0#32
  let c0_i32_68 : BitVec 32 := 0#32
  ![arg0.toNat, v187.toNat, 0, 0]
def k0_mult5 (i : grid0.Coords) : BitVec 32 :=
  let arg1 : BitVec 32 := BitVec.ofNat 32 (i 1).val
  let c512_i32 : BitVec 32 := 512#32
  let v68 : BitVec 32 := Scalar.muli arg1 c512_i32
  v68
def k0_off24 (i : grid0.Coords) : Fin 3 → Nat :=
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let v70 : Index := Scalar.indexCast v57
  let c0_36 : Index := 0#32
  let c0_37 : Index := 0#32
  ![v70.toNat, 0, 0]
def k0_mult6 (i : grid0.Coords) : BitVec 32 :=
  let arg1 : BitVec 32 := BitVec.ofNat 32 (i 1).val
  let c512_i32_38 : BitVec 32 := 512#32
  let v73 : BitVec 32 := Scalar.muli arg1 c512_i32_38
  v73
def k0_off25 (i : grid0.Coords) : Fin 2 → Nat :=
  let arg1 : BitVec 32 := BitVec.ofNat 32 (i 1).val
  let c512_i32_38 : BitVec 32 := 512#32
  let v73 : BitVec 32 := Scalar.muli arg1 c512_i32_38
  let v74 : BitVec 32 := v73
  let v75 : Index := Scalar.indexCast v74
  let c0_39 : Index := 0#32
  ![v75.toNat, 0]
def k0_cond5 (i : grid0.Coords) : BitVec 1 :=
  let arg1 : BitVec 32 := BitVec.ofNat 32 (i 1).val
  let c15_i32 : BitVec 32 := 15#32
  let v182 : BitVec 1 := Scalar.cmpi .eq arg1 c15_i32
  let v183 : BitVec 32 := Scalar.extui v182
  let c0_i32_62 : BitVec 32 := 0#32
  let v184 : BitVec 1 := Scalar.cmpi .ne v183 c0_i32_62
  v184

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "sb_query_scale" => some ((((Real.sqrt 128) * (Real.log 2))⁻¹ : ℝ) : EReal)
  | "sb_query_unscale" => some (((Real.sqrt 128) * (Real.log 2) : ℝ) : EReal)
  | "sb_scale" => some (((Real.sqrt 128)⁻¹ : ℝ) : EReal)
  | _ => none
-- ==== ReferenceIdeal.lean ====
abbrev S8192x2048 : Shape := ⟨2, ![8192, 2048]⟩
abbrev S8192x7168 : Shape := ⟨2, ![8192, 7168]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 181
  | .vmem => 0
  | .smem => 0
  | _ => 0

abbrev hbmTy0_0 (i : Nat) : BufTy := match i % 128 with
  | 0 => ⟨S8192x2048, .f32⟩
  | 1 => ⟨S8192x7168, .f32⟩
  | 2 => ⟨S8192x1024, .f32⟩
  | 3 => ⟨S8192x1024, .f32⟩
  | 4 => ⟨S8192x1024, .f32⟩
  | 5 => ⟨S8192x8x128, .f32⟩
  | 6 => ⟨S8x8192x128, .f32⟩
  | 7 => ⟨S8192x8x128, .f32⟩
  | 8 => ⟨S8x8192x128, .f32⟩
  | 9 => ⟨S8x8192x8192, .f32⟩
  | 10 => ⟨S_, .f32⟩
  | 11 => ⟨S_, .f32⟩
  | 12 => ⟨S8x8192x8192, .f32⟩
  | 13 => ⟨S8x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S8x8192x8192, .f32⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .i1⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .i1⟩
  | 39 => ⟨S_, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .i1⟩
  | 45 => ⟨S_, .f32⟩
  | 46 => ⟨S8x8192x8192, .f32⟩
  | 47 => ⟨S8x8192x8192, .f32⟩
  | 48 => ⟨S8x8192x8192, .f32⟩
  | 49 => ⟨S8x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x8192x8192, .f32⟩
  | 58 => ⟨S8x8192x8192, .i1⟩
  | 59 => ⟨S_, .f32⟩
  | 60 => ⟨S8x8192x8192, .f32⟩
  | 61 => ⟨S8x8192x8192, .f32⟩
  | 62 => ⟨S8x8192x8192, .f32⟩
  | 63 => ⟨S8x8192x8192, .f32⟩
  | 64 => ⟨S8x8192x8192, .f32⟩
  | 65 => ⟨S_, .f32⟩
  | 66 => ⟨S8x8192x8192, .f32⟩
  | 67 => ⟨S8x8192x8192, .f32⟩
  | 68 => ⟨S8x8192x8192, .f32⟩
  | 69 => ⟨S_, .f32⟩
  | 70 => ⟨S_, .f32⟩
  | 71 => ⟨S8x8192x8192, .i1⟩
  | 72 => ⟨S8x8192x8192, .f32⟩
  | 73 => ⟨S8x8192x8192, .f32⟩
  | 74 => ⟨S_, .f32⟩
  | 75 => ⟨S8x8192x8192, .f32⟩
  | 76 => ⟨S_, .f32⟩
  | 77 => ⟨S_, .f32⟩
  | 78 => ⟨S8x8192x8192, .f32⟩
  | 79 => ⟨S8x8192x8192, .f32⟩
  | 80 => ⟨S8x8192x8192, .f32⟩
  | 81 => ⟨S_, .f32⟩
  | 82 => ⟨S8x8192x8192, .f32⟩
  | 83 => ⟨S8x8192x8192, .f32⟩
  | 84 => ⟨S8x8192x8192, .f32⟩
  | 85 => ⟨S8x8192x8192, .f32⟩
  | 86 => ⟨S8x8192x8192, .i1⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S_, .f32⟩
  | 96 => ⟨S8x8192x8192, .f32⟩
  | 97 => ⟨S8x8192x8192, .i1⟩
  | 98 => ⟨S_, .f32⟩
  | 99 => ⟨S8x8192x8192, .f32⟩
  | 100 => ⟨S8x8192x8192, .f32⟩
  | 101 => ⟨S_, .f32⟩
  | 102 => ⟨S8x8192x8192, .f32⟩
  | 103 => ⟨S8x8192x8192, .i1⟩
  | 104 => ⟨S_, .f32⟩
  | 105 => ⟨S8x8192x8192, .f32⟩
  | 106 => ⟨S8x8192x8192, .f32⟩
  | 107 => ⟨S8x8192x8192, .f32⟩
  | 108 => ⟨S8x8192x8192, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x8192x8192, .f32⟩
  | 117 => ⟨S8x8192x8192, .i1⟩
  | 118 => ⟨S_, .f32⟩
  | 119 => ⟨S8x8192x8192, .f32⟩
  | 120 => ⟨S8x8192x8192, .f32⟩
  | 121 => ⟨S8x8192x8192, .f32⟩
  | 122 => ⟨S8x8192x8192, .f32⟩
  | 123 => ⟨S8x8192x8192, .f32⟩
  | 124 => ⟨S_, .f32⟩
  | 125 => ⟨S8x8192x8192, .f32⟩
  | 126 => ⟨S8x8192x8192, .f32⟩
  | 127 => ⟨S8x8192x8192, .f32⟩
  | _ => ⟨S8192x2048, .f32⟩

abbrev hbmTy0_1 (i : Nat) : BufTy := match i % 128 with
  | 0 => ⟨S8x8192x8192, .f32⟩
  | 1 => ⟨S8x8192x8192, .f32⟩
  | 2 => ⟨S_, .f32⟩
  | 3 => ⟨S_, .f32⟩
  | 4 => ⟨S8x8192x8192, .i1⟩
  | 5 => ⟨S8x8192x8192, .f32⟩
  | 6 => ⟨S8x8192x8192, .f32⟩
  | 7 => ⟨S_, .f32⟩
  | 8 => ⟨S8x8192x8192, .f32⟩
  | 9 => ⟨S8192x8x128, .f32⟩
  | 10 => ⟨S8x8192x128, .f32⟩
  | 11 => ⟨S8x8192x128, .f32⟩
  | 12 => ⟨S8192x8x128, .f32⟩
  | 13 => ⟨S8192x1024, .f32⟩
  | 14 => ⟨S8192x1024, .f32⟩
  | 15 => ⟨S8192x8x128, .f32⟩
  | 16 => ⟨S8x8192x128, .f32⟩
  | 17 => ⟨S8x128x8192, .f32⟩
  | 18 => ⟨S8x8192x128, .f32⟩
  | 19 => ⟨S8x8192x8192, .f32⟩
  | 20 => ⟨S8192x8x128, .f32⟩
  | 21 => ⟨S8192x1024, .f32⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S_, .f32⟩
  | 31 => ⟨S_, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S8x8192x8192, .f32⟩
  | 43 => ⟨S8x8192x8192, .f32⟩
  | 44 => ⟨S8x8192x128, .f32⟩
  | 45 => ⟨S8x8192x128, .f32⟩
  | 46 => ⟨S8192x8x128, .f32⟩
  | 47 => ⟨S8192x1024, .f32⟩
  | 48 => ⟨S8192x8x128, .f32⟩
  | 49 => ⟨S8192x1024, .f32⟩
  | 50 => ⟨S8192x1024, .bf16⟩
  | 51 => ⟨S8192x1024, .bf16⟩
  | 52 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩

abbrev nD : Nat := 1
abbrev τ : Topo := Topo.v7x

variable {F : FTy → Type} [FloatOps F]
-- ==== Kernel2.lean ====
abbrev S8x8192x704 : Shape := ⟨3, ![8, 8192, 704]⟩
abbrev S8192x2048 : Shape := ⟨2, ![8192, 2048]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8x8192x704 : Shape := ⟨3, ![8, 8192, 704]⟩
abbrev S8192x2048 : Shape := ⟨2, ![8192, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 10
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S_, .f32⟩
  | .hbm, ⟨3, _⟩ => ⟨S8x704x2048, .f32⟩
  | .hbm, ⟨4, _⟩ => ⟨S8x8192x704, .f32⟩
  | .hbm, ⟨5, _⟩ => ⟨S8192x2048, .f32⟩
  | .hbm, ⟨6, _⟩ => ⟨S8192x2048, .f32⟩
  | .hbm, ⟨7, _⟩ => ⟨S2048x8x704, .f32⟩
  | .hbm, ⟨8, _⟩ => ⟨S8x704x2048, .f32⟩
  | .hbm, ⟨9, _⟩ => ⟨S8x704x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8x8192x704 : Shape := ⟨3, ![8, 8192, 704]⟩
abbrev S8x704x2048 : Shape := ⟨3, ![8, 704, 2048]⟩
abbrev S8192x2048 : Shape := ⟨2, ![8192, 2048]⟩
abbrev S_ : Shape := ⟨0, ![]⟩
abbrev S1024x2048 : Shape := ⟨2, ![1024, 2048]⟩
abbrev S1x704x2048 : Shape := ⟨3, ![1, 704, 2048]⟩
abbrev S1x1024x704 : Shape := ⟨3, ![1, 1024, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 35
  | .vmem => 12
  | .smem => 0
  | _ => 0

abbrev bufTy : (tb : Table) → Fin (tcTables nBuf tb) → BufTy
  | .hbm, ⟨0, _⟩ => ⟨S8x8192x704, .f32⟩
  | .hbm, ⟨1, _⟩ => ⟨S8x8192x704, .f32⟩
  | .hbm, ⟨2, _⟩ => ⟨S8x704x2048, .bf16⟩
  | .hbm, ⟨3, _⟩ => ⟨S8192x2048, .bf16⟩
  | .hbm, ⟨4, _⟩ => ⟨S8x8192x704, .f32⟩
  | .hbm, ⟨5, _⟩ => ⟨S8x8192x704, .f32⟩
  | .hbm, ⟨6, _⟩ => ⟨S_, .f32⟩
  | .hbm, ⟨7, _⟩ => ⟨S8x8192x704, .f32⟩
  | .hbm, ⟨8, _⟩ => ⟨S8x8192x704, .f32⟩
  | .hbm, ⟨9, _⟩ => ⟨S_, .f32⟩
  | .hbm, ⟨10, _⟩ => ⟨S8x8192x704, .f32⟩
  | .hbm, ⟨11, _⟩ => ⟨S8x8192x704, .f32⟩
  | .hbm, ⟨12, _⟩ => ⟨S_, .f32⟩
  | .hbm, ⟨13, _⟩ => ⟨S8x8192x704, .f32⟩
  | .hbm, ⟨14, _⟩ => ⟨S8x8192x704, .f32⟩
  | .hbm, ⟨15, _⟩ => ⟨S8x8192x704, .f32⟩
  | .hbm, ⟨16, _⟩ => ⟨S8x8192x704, .f32⟩
  | .hbm, ⟨17, _⟩ => ⟨S_, .f32⟩
  | .hbm, ⟨18, _⟩ => ⟨S8x8192x704, .f32⟩
  | .hbm, ⟨19, _⟩ => ⟨S8x8192x704, .f32⟩
  | .hbm, ⟨20, _⟩ => ⟨S8x8192x704, .f32⟩
  | .hbm, ⟨21, _⟩ => ⟨S8x8192x704, .f32⟩
  | .hbm, ⟨22, _⟩ => ⟨S8x8192x704, .f32⟩
  | .hbm, ⟨23, _⟩ => ⟨S8x8192x704, .f32⟩
  | .hbm, ⟨24, _⟩ => ⟨S8x8192x704, .f32⟩
  | .hbm, ⟨25, _⟩ => ⟨S_, .f32⟩
  | .hbm, ⟨26, _⟩ => ⟨S8x8192x704, .f32⟩
  | .hbm, ⟨27, _⟩ => ⟨S8x8192x704, .f32⟩
  | .hbm, ⟨28, _⟩ => ⟨S_, .f32⟩
  | .hbm, ⟨29, _⟩ => ⟨S8x8192x704, .f32⟩
  | .hbm, ⟨30, _⟩ => ⟨S8x8192x704, .f32⟩
  | .hbm, ⟨31, _⟩ => ⟨S8x8192x704, .f32⟩
  | .hbm, ⟨32, _⟩ => ⟨S8x8192x704, .f32⟩
  | .hbm, ⟨33, _⟩ => ⟨S8x8192x704, .bf16⟩
  | .hbm, ⟨34, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8x8192x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_cst : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v2 : Ref sig .tc := ⟨.hbm, 22, rfl⟩
abbrev main_call2_v0 : Ref sig .tc := ⟨.hbm, 23, rfl⟩
abbrev main_call2_v1 : Ref sig .tc := ⟨.hbm, 24, rfl⟩
abbrev main_call2_cst : Ref sig .tc := ⟨.hbm, 25, rfl⟩
abbrev main_call2_v2 : Ref sig .tc := ⟨.hbm, 26, rfl⟩
abbrev main_call2_v3 : Ref sig .tc := ⟨.hbm, 27, rfl⟩
abbrev main_call2_cst_0 : Ref sig .tc := ⟨.hbm, 28, rfl⟩
abbrev main_call2_v4 : Ref sig .tc := ⟨.hbm, 29, rfl⟩
abbrev main_call2_v5 : Ref sig .tc := ⟨.hbm, 30, rfl⟩
abbrev main_v3 : Ref sig .tc := ⟨.hbm, 31, rfl⟩
abbrev main_v4 : Ref sig .tc := ⟨.hbm, 32, rfl⟩
abbrev main_v5_0 : Ref sig .tc := ⟨.hbm, 33, rfl⟩
abbrev main_v5_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x8192x704 : Shape := ⟨3, ![8, 8192, 704]⟩
abbrev S8x704x2048 : Shape := ⟨3, ![8, 704, 2048]⟩
abbrev S8192x2048 : Shape := ⟨2, ![8192, 2048]⟩
abbrev S_ : Shape := ⟨0, ![]⟩
abbrev S8192x8x704 : Shape := ⟨3, ![8192, 8, 704]⟩

abbrev nBuf : Space → Nat
  | .hbm => 31
  | .vmem => 0
  | .smem => 0
  | _ => 0

abbrev bufTy : (tb : Table) → Fin (tcTables nBuf tb) → BufTy
  | .hbm, ⟨0, _⟩ => ⟨S8x8192x704, .f32⟩
  | .hbm, ⟨1, _⟩ => ⟨S8x8192x704, .f32⟩
  | .hbm, ⟨2, _⟩ => ⟨S8x704x2048, .bf16⟩
  | .hbm, ⟨3, _⟩ => ⟨S8192x2048, .bf16⟩
  | .hbm, ⟨4, _⟩ => ⟨S8x8192x704, .f32⟩
  | .hbm, ⟨5, _⟩ => ⟨S8x8192x704, .f32⟩
  | .hbm, ⟨6, _⟩ => ⟨S_, .f32⟩
  | .hbm, ⟨7, _⟩ => ⟨S8x8192x704, .f32⟩
  | .hbm, ⟨8, _⟩ => ⟨S8x8192x704, .f32⟩
  | .hbm, ⟨9, _⟩ => ⟨S_, .f32⟩
  | .hbm, ⟨10, _⟩ => ⟨S8x8192x704, .f32⟩
  | .hbm, ⟨11, _⟩ => ⟨S8x8192x704, .f32⟩
  | .hbm, ⟨12, _⟩ => ⟨S_, .f32⟩
  | .hbm, ⟨13, _⟩ => ⟨S8x8192x704, .f32⟩
  | .hbm, ⟨14, _⟩ => ⟨S8x8192x704, .f32⟩
  | .hbm, ⟨15, _⟩ => ⟨S8x8192x704, .f32⟩
  | .hbm, ⟨16, _⟩ => ⟨S8x8192x704, .f32⟩
  | .hbm, ⟨17, _⟩ => ⟨S8x8192x704, .f32⟩
  | .hbm, ⟨18, _⟩ => ⟨S8x704x2048, .f32⟩
  | .hbm, ⟨19, _⟩ => ⟨S8192x2048, .f32⟩
  | .hbm, ⟨20, _⟩ => ⟨S8192x2048, .f32⟩
  | .hbm, ⟨21, _⟩ => ⟨S8192x8x704, .f32⟩
  | .hbm, ⟨22, _⟩ => ⟨S8x8192x704, .f32⟩
  | .hbm, ⟨23, _⟩ => ⟨S8x8192x704, .f32⟩
  | .hbm, ⟨24, _⟩ => ⟨S8x8192x704, .f32⟩
  | .hbm, ⟨25, _⟩ => ⟨S8x8192x704, .f32⟩
  | .hbm, ⟨26, _⟩ => ⟨S8x8192x704, .f32⟩
  | .hbm, ⟨27, _⟩ => ⟨S8x8192x704, .f32⟩
  | .hbm, ⟨28, _⟩ => ⟨S8x8192x704, .f32⟩
  | .hbm, ⟨29, _⟩ => ⟨S8x8192x704, .bf16⟩
  | .hbm, ⟨30, _⟩ => ⟨S8x8192x704, .bf16⟩
  | _, _ => ⟨S8x8192x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel4.lean ====
abbrev S8x8192x704 : Shape := ⟨3, ![8, 8192, 704]⟩
abbrev S8x2048x704 : Shape := ⟨3, ![8, 2048, 704]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x512x704 : Shape := ⟨3, ![1, 512, 704]⟩
abbrev S1x2048x704 : Shape := ⟨3, ![1, 2048, 704]⟩
abbrev S512x2048 : Shape := ⟨2, ![512, 2048]⟩
abbrev S512x1 : Shape := ⟨2, ![512, 1]⟩
abbrev S512x704 : Shape := ⟨2, ![512, 704]⟩
abbrev S2048x704 : Shape := ⟨2, ![2048, 704]⟩
abbrev S128x1 : Shape := ⟨2, ![128, 1]⟩
abbrev S128x2048 : Shape := ⟨2, ![128, 2048]⟩
abbrev S128 : Shape := ⟨1, ![128]⟩
abbrev S2048 : Shape := ⟨1, ![2048]⟩

abbrev nBuf : Space → Nat
  | .hbm => 21
  | .vmem => 21
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .bf16⟩
  | .hbm, ⟨20, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S512x2048, .f32⟩
  | .local _ .vmem, ⟨9, _⟩ => ⟨S512x2048, .f32⟩
  | .local _ .vmem, ⟨10, _⟩ => ⟨S512x1, .f32⟩
  | .local _ .vmem, ⟨11, _⟩ => ⟨S512x1, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_17 : BitVec 32 := 0#32
  let v21 : BitVec 1 := Scalar.cmpi .ne v20 c0_i32_17
  v21

def k0_cond3 (i : grid0.Coords) : BitVec 1 :=
  let arg0 : BitVec 32 := BitVec.ofNat 32 (i 0).val
  let c0_i32_18 : BitVec 32 := 0#32
  let v22 : BitVec 1 := Scalar.cmpi .eq arg0 c0_i32_18
  let v131 : BitVec 32 := Scalar.extui v22
  let c0_i32_78 : BitVec 32 := 0#32
  let v132 : BitVec 1 := Scalar.cmpi .ne v131 c0_i32_78
  v132

def k0_cond4 (i : grid0.Coords) : BitVec 1 :=
  let arg0 : BitVec 32 := BitVec.ofNat 32 (i 0).val
  let c0_i32_18 : BitVec 32 := 0#32
  let v22 : BitVec 1 := Scalar.cmpi .eq arg0 c0_i32_18
  let v_true : BitVec 1 := 1#1
  let v133 : BitVec 1 := Scalar.xori v22 v_true
  let v134 : BitVec 32 := Scalar.extui v133
  let c0_i32_79 : BitVec 32 := 0#32
  let v135 : BitVec 1 := Scalar.cmpi .ne v134 c0_i32_79
  v135

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference4Ideal.lean ====
abbrev S8x8192x704 : Shape := ⟨3, ![8, 8192, 704]⟩
abbrev S8x2048x704 : Shape := ⟨3, ![8, 2048, 704]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8x704x8192 : Shape := ⟨3, ![8, 704, 8192]⟩
abbrev S2048 : Shape := ⟨1, ![2048]⟩

abbrev nBuf : Space → Nat
  | .hbm => 64
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8x2048x704, .f32⟩
  | .hbm, ⟨8, _⟩ => ⟨S8x2048x704, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8x704x8192, .f32⟩
  | .hbm, ⟨29, _⟩ => ⟨S8x8192x704, .f32⟩
  | .hbm, ⟨30, _⟩ => ⟨S8x704x8192, .f32⟩
  | .hbm, ⟨31, _⟩ => ⟨S8x8192x704, .f32⟩
  | .hbm, ⟨32, _⟩ => ⟨S8x8192x704, .f32⟩
  | .hbm, ⟨33, _⟩ => ⟨S8x8192x704, .f32⟩
  | .hbm, ⟨34, _⟩ => ⟨S8x704x8192, .f32⟩
  | .hbm, ⟨35, _⟩ => ⟨S8192x2048, .f32⟩
  | .hbm, ⟨36, _⟩ => ⟨S8x704x8192, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel5.lean ====
abbrev S8192x2048 : Shape := ⟨2, ![8192, 2048]⟩
abbrev S8x2048x704 : Shape := ⟨3, ![8, 2048, 704]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S512x2048 : Shape := ⟨2, ![512, 2048]⟩
abbrev S2048x704 : Shape := ⟨2, ![2048, 704]⟩
abbrev S512x704 : Shape := ⟨2, ![512, 704]⟩
abbrev S1x512x704 : Shape := ⟨3, ![1, 512, 704]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8x8192x704, .f32⟩
  | .hbm, ⟨4, _⟩ => ⟨S8x8192x704, .f32⟩
  | .hbm, ⟨5, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S8x2048x704 : Shape := ⟨3, ![8, 2048, 704]⟩
abbrev S8x704x8192 : Shape := ⟨3, ![8, 704, 8192]⟩
abbrev S8x8192x704 : Shape := ⟨3, ![8, 8192, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8192x2048, .f32⟩
  | .hbm, ⟨4, _⟩ => ⟨S8x2048x704, .f32⟩
  | .hbm, ⟨5, _⟩ => ⟨S8x704x8192, .f32⟩
  | .hbm, ⟨6, _⟩ => ⟨S8x8192x704, .f32⟩
  | .hbm, ⟨7, _⟩ => ⟨S8192x2048, .f32⟩
  | .hbm, ⟨8, _⟩ => ⟨S8x2048x704, .f32⟩
  | .hbm, ⟨9, _⟩ => ⟨S8x704x8192, .f32⟩
  | .hbm, ⟨10, _⟩ => ⟨S8x8192x704, .f32⟩
  | .hbm, ⟨11, _⟩ => ⟨S8x8192x704, .f32⟩
  | .hbm, ⟨12, _⟩ => ⟨S8x8192x704, .f32⟩
  | .hbm, ⟨13, _⟩ => ⟨S_, .f32⟩
  | .hbm, ⟨14, _⟩ => ⟨S8x8192x704, .f32⟩
  | .hbm, ⟨15, _⟩ => ⟨S8x8192x704, .f32⟩
  | .hbm, ⟨16, _⟩ => ⟨S_, .f32⟩
  | .hbm, ⟨17, _⟩ => ⟨S8x8192x704, .f32⟩
  | .hbm, ⟨18, _⟩ => ⟨S8x8192x704, .f32⟩
  | .hbm, ⟨19, _⟩ => ⟨S_, .f32⟩
  | .hbm, ⟨20, _⟩ => ⟨S8x8192x704, .f32⟩
  | .hbm, ⟨21, _⟩ => ⟨S8x8192x704, .f32⟩
  | .hbm, ⟨22, _⟩ => ⟨S8x8192x704, .f32⟩
  | .hbm, ⟨23, _⟩ => ⟨S8x8192x704, .f32⟩
  | .hbm, ⟨24, _⟩ => ⟨S8x8192x704, .f32⟩
  | .hbm, ⟨25, _⟩ => ⟨S8x8192x704, .f32⟩
  | .hbm, ⟨26, _⟩ => ⟨S8x8192x704, .f32⟩
  | .hbm, ⟨27, _⟩ => ⟨S_, .f32⟩
  | .hbm, ⟨28, _⟩ => ⟨S8x8192x704, .f32⟩
  | .hbm, ⟨29, _⟩ => ⟨S8x8192x704, .f32⟩
  | .hbm, ⟨30, _⟩ => ⟨S_, .f32⟩
  | .hbm, ⟨31, _⟩ => ⟨S8x8192x704, .f32⟩
  | .hbm, ⟨32, _⟩ => ⟨S8x8192x704, .f32⟩
  | .hbm, ⟨33, _⟩ => ⟨S8x8192x704, .f32⟩
  | .hbm, ⟨34, _⟩ => ⟨S_, .f32⟩
  | .hbm, ⟨35, _⟩ => ⟨S8x8192x704, .f32⟩
  | .hbm, ⟨36, _⟩ => ⟨S8x8192x704, .f32⟩
  | .hbm, ⟨37, _⟩ => ⟨S8x8192x704, .f32⟩
  | .hbm, ⟨38, _⟩ => ⟨S8x8192x704, .f32⟩
  | .hbm, ⟨39, _⟩ => ⟨S8x8192x704, .f32⟩
  | .hbm, ⟨40, _⟩ => ⟨S8x8192x704, .f32⟩
  | .hbm, ⟨41, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== Kernel6.lean ====
abbrev S8x8192x704 : Shape := ⟨3, ![8, 8192, 704]⟩
abbrev S8x704x2048 : Shape := ⟨3, ![8, 704, 2048]⟩
abbrev S8192x2048 : Shape := ⟨2, ![8192, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8192x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S8x8192x704 : Shape := ⟨3, ![8, 8192, 704]⟩
abbrev S8x704x2048 : Shape := ⟨3, ![8, 704, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8x8192x704, .f32⟩
  | .hbm, ⟨4, _⟩ => ⟨S8x704x2048, .f32⟩
  | .hbm, ⟨5, _⟩ => ⟨S8192x2048, .f32⟩
  | .hbm, ⟨6, _⟩ => ⟨S8192x2048, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S8192x7168 : Shape := ⟨2, ![8192, 7168]⟩
abbrev S8x2048x896 : Shape := ⟨3, ![8, 2048, 896]⟩
abbrev S2048x2048 : Shape := ⟨2, ![2048, 2048]⟩
abbrev S2048x896 : Shape := ⟨2, ![2048, 896]⟩
abbrev S1x2048x896 : Shape := ⟨3, ![1, 2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S8x2048x896, .bf16⟩
  | .local _ .vmem, ⟨0, _⟩ => ⟨S2048x2048, .bf16⟩
  | .local _ .vmem, ⟨1, _⟩ => ⟨S2048x2048, .bf16⟩
  | .local _ .vmem, ⟨2, _⟩ => ⟨S2048x896, .bf16⟩
  | .local _ .vmem, ⟨3, _⟩ => ⟨S2048x896, .bf16⟩
  | .local _ .vmem, ⟨4, _⟩ => ⟨S1x2048x896, .bf16⟩
  | .local _ .vmem, ⟨5, _⟩ => ⟨S1x2048x896, .bf16⟩
  | .local _ .vmem, ⟨6, _⟩ => ⟨S2048x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x2048 : Shape := ⟨2, ![8192, 2048]⟩
abbrev S8192x7168 : Shape := ⟨2, ![8192, 7168]⟩
abbrev S_ : Shape := ⟨0, ![]⟩
abbrev S8x2048x896 : Shape := ⟨3, ![8, 2048, 896]⟩
abbrev S8192x8x896 : Shape := ⟨3, ![8192, 8, 896]⟩
abbrev S8x896x2048 : Shape := ⟨3, ![8, 896, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S_, .f32⟩
  | .hbm, ⟨3, _⟩ => ⟨S8x2048x896, .f32⟩
  | .hbm, ⟨4, _⟩ => ⟨S8192x2048, .f32⟩
  | .hbm, ⟨5, _⟩ => ⟨S8192x8x896, .f32⟩
  | .hbm, ⟨6, _⟩ => ⟨S8192x7168, .f32⟩
  | .hbm, ⟨7, _⟩ => ⟨S8192x7168, .f32⟩
  | .hbm, ⟨8, _⟩ => ⟨S8192x8x896, .f32⟩
  | .hbm, ⟨9, _⟩ => ⟨S8x896x2048, .f32⟩
  | .hbm, ⟨10, _⟩ => ⟨S8x2048x896, .f32⟩
  | .hbm, ⟨11, _⟩ => ⟨S8x2048x896, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S512x2048 : Shape := ⟨2, ![512, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x2048 : Shape := ⟨2, ![8192, 2048]⟩
abbrev S_ : Shape := ⟨0, ![]⟩
abbrev S4x512x512 : Shape := ⟨3, ![4, 512, 512]⟩
abbrev S8192x4x512 : Shape := ⟨3, ![8192, 4, 512]⟩
abbrev S4x512x8192 : Shape := ⟨3, ![4, 512, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S4x512x512, .f32⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x4x512, .f32⟩
  | .hbm, ⟨11, _⟩ => ⟨S4x512x8192, .f32⟩
  | .hbm, ⟨12, _⟩ => ⟨S4x512x512, .f32⟩
  | .hbm, ⟨13, _⟩ => ⟨S4x512x512, .f32⟩
  | .hbm, ⟨14, _⟩ => ⟨S4x512x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel11.lean ====
abbrev S8192x7168 : Shape := ⟨2, ![8192, 7168]⟩
abbrev S8x2048x896 : Shape := ⟨3, ![8, 2048, 896]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S512x896 : Shape := ⟨2, ![512, 896]⟩
abbrev S1x2048x896 : Shape := ⟨3, ![1, 2048, 896]⟩
abbrev S512x2048 : Shape := ⟨2, ![512, 2048]⟩
abbrev S512x1 : Shape := ⟨2, ![512, 1]⟩
abbrev S2048x896 : Shape := ⟨2, ![2048, 896]⟩
abbrev S128x1 : Shape := ⟨2, ![128, 1]⟩
abbrev S128x2048 : Shape := ⟨2, ![128, 2048]⟩
abbrev S128 : Shape := ⟨1, ![128]⟩
abbrev S2048 : Shape := ⟨1, ![2048]⟩

abbrev nBuf : Space → Nat
  | .hbm => 19
  | .vmem => 17
  | .smem => 0
  | _ => 0

abbrev bufTy : (tb : Table) → Fin (tcTables nBuf tb) → BufTy
  | .hbm, ⟨0, _⟩ => ⟨S8192x7168, .bf16⟩
  | .hbm, ⟨1, _⟩ => ⟨S8x2048x896, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .bf16⟩
  | .hbm, ⟨18, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_10 : BitVec 32 := 0#32
  let v15 : BitVec 1 := Scalar.cmpi .eq arg0 c0_i32_10
  let v124 : BitVec 32 := Scalar.extui v15
  let c0_i32_70 : BitVec 32 := 0#32
  let v125 : BitVec 1 := Scalar.cmpi .ne v124 c0_i32_70
  v125

def k0_cond4 (i : grid0.Coords) : BitVec 1 :=
  let arg0 : BitVec 32 := BitVec.ofNat 32 (i 0).val
  let c0_i32_10 : BitVec 32 := 0#32
  let v15 : BitVec 1 := Scalar.cmpi .eq arg0 c0_i32_10
  let v_true : BitVec 1 := 1#1
  let v126 : BitVec 1 := Scalar.xori v15 v_true
  let v127 : BitVec 32 := Scalar.extui v126
  let c0_i32_71 : BitVec 32 := 0#32
  let v128 : BitVec 1 := Scalar.cmpi .ne v127 c0_i32_71
  v128

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference11Ideal.lean ====
abbrev S8192x7168 : Shape := ⟨2, ![8192, 7168]⟩
abbrev S8x2048x896 : Shape := ⟨3, ![8, 2048, 896]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x8x896 : Shape := ⟨3, ![8192, 8, 896]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8x2048x896, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8x2048x896, .f32⟩
  | .hbm, ⟨25, _⟩ => ⟨S8192x8x896, .f32⟩
  | .hbm, ⟨26, _⟩ => ⟨S8192x7168, .f32⟩
  | .hbm, ⟨27, _⟩ => ⟨S8192x7168, .f32⟩
  | .hbm, ⟨28, _⟩ => ⟨S8192x8x896, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel12.lean ====
abbrev S8192x2048 : Shape := ⟨2, ![8192, 2048]⟩
abbrev S8x2048x896 : Shape := ⟨3, ![8, 2048, 896]⟩
abbrev S1x7168 : Shape := ⟨2, ![1, 7168]⟩
abbrev S8192x7168 : Shape := ⟨2, ![8192, 7168]⟩
abbrev S1024x2048 : Shape := ⟨2, ![1024, 2048]⟩
abbrev S1x2048x896 : Shape := ⟨3, ![1, 2048, 896]⟩
abbrev S1x896 : Shape := ⟨2, ![1, 896]⟩
abbrev S1024x896 : Shape := ⟨2, ![1024, 896]⟩
abbrev S8x128 : Shape := ⟨2, ![8, 128]⟩
abbrev S2048x896 : Shape := ⟨2, ![2048, 896]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8x2048x896, .bf16⟩
  | .hbm, ⟨2, _⟩ => ⟨S1x7168, .f32⟩
  | .hbm, ⟨3, _⟩ => ⟨S8192x7168, .f32⟩
  | .hbm, ⟨4, _⟩ => ⟨S8192x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1x896, .f32⟩
  | .local _ .vmem, ⟨5, _⟩ => ⟨S1x896, .f32⟩
  | .local _ .vmem, ⟨6, _⟩ => ⟨S1024x896, .f32⟩
  | .local _ .vmem, ⟨7, _⟩ => ⟨S1024x896, .f32⟩
  | .local _ .vmem, ⟨8, _⟩ => ⟨S1024x896, .bf16⟩
  | .local _ .vmem, ⟨9, _⟩ => ⟨S1024x896, .bf16⟩
  | .local _ .vmem, ⟨10, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference12Ideal.lean ====
abbrev S8192x2048 : Shape := ⟨2, ![8192, 2048]⟩
abbrev S8x2048x896 : Shape := ⟨3, ![8, 2048, 896]⟩
abbrev S1x7168 : Shape := ⟨2, ![1, 7168]⟩
abbrev S8192x8x896 : Shape := ⟨3, ![8192, 8, 896]⟩
abbrev S8192x7168 : Shape := ⟨2, ![8192, 7168]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x896, .bf16⟩
  | .hbm, ⟨2, _⟩ => ⟨S1x7168, .f32⟩
  | .hbm, ⟨3, _⟩ => ⟨S8192x2048, .f32⟩
  | .hbm, ⟨4, _⟩ => ⟨S8x2048x896, .f32⟩
  | .hbm, ⟨5, _⟩ => ⟨S8192x8x896, .f32⟩
  | .hbm, ⟨6, _⟩ => ⟨S8192x7168, .f32⟩
  | .hbm, ⟨7, _⟩ => ⟨S8192x7168, .f32⟩
  | .hbm, ⟨8, _⟩ => ⟨S8192x7168, .f32⟩
  | .hbm, ⟨9, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1x2048 : Shape := ⟨2, ![1, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S8192x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x1, .f32⟩
  | .local _ .vmem, ⟨11, _⟩ => ⟨S512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x1, .f32⟩
  | .local _ .vmem, ⟨6, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel15.lean ====
abbrev S8192x2048 : Shape := ⟨2, ![8192, 2048]⟩
abbrev S4x512x512 : Shape := ⟨3, ![4, 512, 512]⟩
abbrev S1x2048 : Shape := ⟨2, ![1, 2048]⟩
abbrev S512x2048 : Shape := ⟨2, ![512, 2048]⟩
abbrev S512x512 : Shape := ⟨2, ![512, 512]⟩
abbrev S1x512 : Shape := ⟨2, ![1, 512]⟩
abbrev S1x512x512 : Shape := ⟨3, ![1, 512, 512]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x512x512, .bf16⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S4x512x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_68 : BitVec 32 := 0#32
  let v71 : BitVec 1 := Scalar.cmpi .ne v70 c0_i32_68
  v71

def k0_cond2 (i : grid0.Coords) : BitVec 1 :=
  let arg0 : BitVec 32 := BitVec.ofNat 32 (i 0).val
  let c0_i32_69 : BitVec 32 := 0#32
  let v72 : BitVec 1 := Scalar.cmpi .sgt arg0 c0_i32_69
  let v73 : BitVec 32 := Scalar.extui v72
  let c0_i32_70 : BitVec 32 := 0#32
  let v74 : BitVec 1 := Scalar.cmpi .ne v73 c0_i32_70
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S4x512x8192 : Shape := ⟨3, ![4, 512, 8192]⟩
abbrev S_ : Shape := ⟨0, ![]⟩
abbrev S2048 : Shape := ⟨1, ![2048]⟩
abbrev S4x8192x512 : Shape := ⟨3, ![4, 8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x512x512, .bf16⟩
  | .hbm, ⟨3, _⟩ => ⟨S1x2048, .f32⟩
  | .hbm, ⟨4, _⟩ => ⟨S8192x2048, .f32⟩
  | .hbm, ⟨5, _⟩ => ⟨S4x512x512, .f32⟩
  | .hbm, ⟨6, _⟩ => ⟨S8192x4x512, .f32⟩
  | .hbm, ⟨7, _⟩ => ⟨S4x512x8192, .f32⟩
  | .hbm, ⟨8, _⟩ => ⟨S8192x4x512, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x4x512, .f32⟩
  | .hbm, ⟨20, _⟩ => ⟨S4x512x8192, .f32⟩
  | .hbm, ⟨21, _⟩ => ⟨S4x8192x512, .f32⟩
  | .hbm, ⟨22, _⟩ => ⟨S8192x4x512, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Proof.Names.lean ====
/-
  The ring of weight tiles of the gradient kernel: the names of the tiles, the two slots of the buffer and their two
  cells, and the closed forms of the offsets the kernel computes.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Ring
public import Idealize.ShloMosaic.Lib.Ring.Trips
public import Idealize.ShloMosaic.Lib.Affine
public import Idealize.ShloMosaic.Lib.Tactic
public import Idealize.ShloMosaic.Lib.Transfers
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

abbrev 𝒱₀ : Variants := Variants.none

/-! ## Names -/

abbrev wM : Memref sig .tc .hbm S8x136x512x512 .bf16 := Memref.whole main_v36
abbrev kaM : Memref sig .tc .vmem S8192x128 .f32 := Memref.whole cc0_scratch0
abbrev vaM : Memref sig .tc .vmem S8192x128 .f32 := Memref.whole cc0_scratch1
abbrev bufM : Memref sig .tc .vmem S2x512x512 .bf16 := Memref.whole cc0_scratch2

/-- A tile of the weights: its head and its number on or under the diagonal. -/
abbrev Tile : Type := Fin 8 × Fin 136

abbrev tileOff (b : Tile) : Fin 4 → Nat := ![b.1.val, b.2.val, 0, 0]
theorem tileOff_inb (b : Tile) : ∀ a, tileOff b a + S1x1x512x512.size a ≤ S8x136x512x512.size a := by
  obtain ⟨h, n⟩ := b
  have := h.isLt; have := n.isLt; intro a; fin_cases a
  · show h.val + 1 ≤ 8; omega
  · show n.val + 1 ≤ 136; omega
  · show 0 + 512 ≤ 512; omega
  · show 0 + 512 ≤ 512; omega
abbrev slotOff (s : Fin 2) : Fin 3 → Nat := ![s.val, 0, 0]
theorem slotOff_inb (s : Fin 2) : ∀ a, slotOff s a + S1x512x512.size a ≤ S2x512x512.size a := by
  have := s.isLt; intro a; fin_cases a
  · show s.val + 1 ≤ 2; omega
  · show 0 + 512 ≤ 512; omega
  · show 0 + 512 ≤ 512; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Tile `b` of the weights, as the body slices and squeezes it. -/
def tile (b : Tile) : Memref sig .tc .hbm S512x512 .bf16 :=
  (wM.slice (Rect.unit (s := S8x136x512x512) (tileOff b) S1x1x512x512.size (tileOff_inb b)) (fun _ => rfl)).squeeze S512x512 squeezes_S1x1x512x512_S512x512
/-- Slot `s` of the buffer, as the body slices and squeezes it. -/
def rslot (s : Fin 2) : Memref sig .tc .vmem S512x512 .bf16 :=
  (bufM.slice (Rect.unit (s := S2x512x512) (slotOff s) S1x512x512.size (slotOff_inb s)) (fun _ => rfl)).squeeze S512x512 squeezes_S1x512x512_S512x512
/-- Slot `s`'s cell. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Tile) : ClosedOff (tileOff b) := ⟨tileOff b, rfl⟩

/-! ## The offsets in closed form -/

/-- The number of row `n`'s first tile. -/
abbrev tri (n : ℕ) : ℕ := n * (n + 1) / 2
/-- The tile of trip `k` at a point. -/
abbrev tl (i : grid0.Coords) (k : ℕ) : Tile := (i 0, Ring.bk 136 (tri (i 1).val + k))

theorem coord1_lt (i : grid0.Coords) : (i 1).val < 16 := (i 1).isLt
theorem coord0_lt (i : grid0.Coords) : (i 0).val < 8 := (i 0).isLt
theorem trips_eq : ∀ i : grid0.Coords, (k0_t1_loop i).trips = (i 1).val := by decide +kernel
theorem k_lt (i : grid0.Coords) (k : Fin (k0_t1_loop i).trips) : k.val < (i 1).val := Nat.lt_of_lt_of_eq k.isLt (trips_eq i)

theorem off1_eq : ∀ i : grid0.Coords, k0_off1 i = tileOff (tl i 0) := by decide +kernel
theorem off2_eq : ∀ (i : grid0.Coords) (k : Fin (k0_t1_loop i).trips), k0_off2 i k = semOff (Ring.sl 2 k.val) := by decide +kernel
theorem off3_eq : ∀ (i : grid0.Coords) (k : Fin (k0_t1_loop i).trips), k0_off3 i k = slotOff (Ring.sl 2 k.val) := by decide +kernel
theorem off4_eq : ∀ (i : grid0.Coords) (k : Fin (k0_t1_loop i).trips), k0_off4 i k = tileOff (tl i k.val) := by decide +kernel
theorem off5_eq : ∀ (i : grid0.Coords) (k : Fin (k0_t1_loop i).trips), k0_off5 i k = semOff (Ring.sl 2 (k.val + 1)) := by decide +kernel
theorem off6_eq : ∀ (i : grid0.Coords) (k : Fin (k0_t1_loop i).trips), k0_off6 i k = slotOff (Ring.sl 2 (k.val + 1)) := by decide +kernel
theorem off7_eq : ∀ (i : grid0.Coords) (k : Fin (k0_t1_loop i).trips), k0_off7 i k = tileOff (tl i (k.val + 1)) := by decide +kernel
theorem off8_eq : ∀ (i : grid0.Coords) (k : Fin (k0_t1_loop i).trips), k0_off8 i k = slotOff (Ring.sl 2 k.val) := by decide +kernel
theorem off9_eq : ∀ (i : grid0.Coords) (k : Fin (k0_t1_loop i).trips), k0_off9 i k = ![512 * k.val, 0] := by decide +kernel
theorem cond2_eq : ∀ (i : grid0.Coords) (k : Fin (k0_t1_loop i).trips), k0_cond2 i k = 1#1 := by decide +kernel
theorem off18_eq : ∀ i : grid0.Coords, k0_off18 i = semOff (Ring.sl 2 (k0_t1_loop i).trips) := by decide +kernel
theorem off19_eq : ∀ i : grid0.Coords, k0_off19 i = slotOff (Ring.sl 2 (k0_t1_loop i).trips) := by decide +kernel
theorem off20_eq : ∀ i : grid0.Coords, k0_off20 i = tileOff (tl i (k0_t1_loop i).trips) := by decide +kernel
theorem off24_eq : ∀ i : grid0.Coords, k0_off24 i = slotOff (Ring.sl 2 (k0_t1_loop i).trips) := by decide +kernel
theorem off25_eq : ∀ i : grid0.Coords, k0_off25 i = ![512 * (i 1).val, 0] := by decide +kernel
theorem cond4_eq : ∀ i : grid0.Coords, ¬ k0_cond4 i = 1#1 := by decide +kernel
theorem cond5_iff : ∀ i : grid0.Coords, k0_cond5 i = 1#1 ↔ (i 1).val = 15 := by decide +kernel

theorem cond1_iff : ∀ i : grid0.Coords, Scalar.cmpi .ne (Scalar.extui (Scalar.cmpi .eq (BitVec.ofNat 32 (i 1).val) 0#32) : BitVec 32) 0#32 = 1#1 ↔ (i 1).val = 0 := by decide +kernel

instance (i : grid0.Coords) (k : Fin (k0_t1_loop i).trips) : ClosedOff (k0_off8 i k) := ⟨slotOff (Ring.sl 2 k.val), off8_eq i k⟩
instance (i : grid0.Coords) (k : Fin (k0_t1_loop i).trips) : ClosedOff (k0_off9 i k) := ⟨![512 * k.val, 0], off9_eq i k⟩
instance (i : grid0.Coords) : ClosedOff (k0_off24 i) := ⟨slotOff (Ring.sl 2 (k0_t1_loop i).trips), off24_eq i⟩
instance (i : grid0.Coords) : ClosedOff (k0_off25 i) := ⟨![512 * (i 1).val, 0], off25_eq i⟩

/-! ### The body's slices under those names -/

theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 2} (e : off = slotOff s) (hh hs) :
    (bufM.slice (Rect.unit (s := S2x512x512) off S1x512x512.size hh) hs).squeeze S512x512 squeezes_S1x512x512_S512x512 = rslot s :=
  congrArg (fun M : Memref sig .tc .vmem S1x512x512 .bf16 => M.squeeze S512x512 squeezes_S1x512x512_S512x512) (Memref.slice_unit_congr _ e _ _ _ _)
theorem tile_congr {off : Fin 4 → Nat} {b : Tile} (e : off = tileOff b) (hh hs) :
    (wM.slice (Rect.unit (s := S8x136x512x512) off S1x1x512x512.size hh) hs).squeeze S512x512 squeezes_S1x1x512x512_S512x512 = tile b :=
  congrArg (fun M : Memref sig .tc .hbm S1x1x512x512 .bf16 => M.squeeze S512x512 squeezes_S1x1x512x512_S512x512) (Memref.slice_unit_congr _ e _ _ _ _)

@[sl_canon] theorem semP (hh) : (cc0_scratch3.slice (Rect.unit (s := S2) ![0] S1.size hh)).squeeze S_ squeezes_S1_S_ = csm (Ring.sl 2 0) := csm_congr (by decide) _
@[sl_canon] theorem slotPr (hh hs) : (bufM.slice (Rect.unit (s := S2x512x512) ![0, 0, 0] S1x512x512.size hh) hs).squeeze S512x512 squeezes_S1x512x512_S512x512 = rslot (Ring.sl 2 0) := rslot_congr (by decide) _ _
@[sl_canon] theorem tileP (i : grid0.Coords) (hh hs) : (wM.slice (Rect.unit (s := S8x136x512x512) (k0_off1 i) S1x1x512x512.size hh) hs).squeeze S512x512 squeezes_S1x1x512x512_S512x512 = tile (tl i 0) := tile_congr (off1_eq i) _ _

@[sl_canon] theorem semK (i : grid0.Coords) (k : Fin (k0_t1_loop i).trips) (hh) :
    (cc0_scratch3.slice (Rect.unit (s := S2) (k0_off2 i k) S1.size hh)).squeeze S_ squeezes_S1_S_ = csm (Ring.sl 2 k.val) := csm_congr (off2_eq i k) _
@[sl_canon] theorem slotK (i : grid0.Coords) (k : Fin (k0_t1_loop i).trips) (hh hs) :
    (bufM.slice (Rect.unit (s := S2x512x512) (k0_off3 i k) S1x512x512.size hh) hs).squeeze S512x512 squeezes_S1x512x512_S512x512 = rslot (Ring.sl 2 k.val) := rslot_congr (off3_eq i k) _ _
@[sl_canon] theorem tileW (i : grid0.Coords) (k : Fin (k0_t1_loop i).trips) (hh hs) :
    (wM.slice (Rect.unit (s := S8x136x512x512) (k0_off4 i k) S1x1x512x512.size hh) hs).squeeze S512x512 squeezes_S1x1x512x512_S512x512 = tile (tl i k.val) := tile_congr (off4_eq i k) _ _
@[sl_canon] theorem semI (i : grid0.Coords) (k : Fin (k0_t1_loop i).trips) (hh) :
    (cc0_scratch3.slice (Rect.unit (s := S2) (k0_off5 i k) S1.size hh)).squeeze S_ squeezes_S1_S_ = csm (Ring.sl 2 (k.val + 1)) := csm_congr (off5_eq i k) _
@[sl_canon] theorem slotI (i : grid0.Coords) (k : Fin (k0_t1_loop i).trips) (hh hs) :
    (bufM.slice (Rect.unit (s := S2x512x512) (k0_off6 i k) S1x512x512.size hh) hs).squeeze S512x512 squeezes_S1x512x512_S512x512 = rslot (Ring.sl 2 (k.val + 1)) := rslot_congr (off6_eq i k) _ _
@[sl_canon] theorem tileI (i : grid0.Coords) (k : Fin (k0_t1_loop i).trips) (hh hs) :
    (wM.slice (Rect.unit (s := S8x136x512x512) (k0_off7 i k) S1x1x512x512.size hh) hs).squeeze S512x512 squeezes_S1x1x512x512_S512x512 = tile (tl i (k.val + 1)) := tile_congr (off7_eq i k) _ _

@[sl_canon] theorem semE (i : grid0.Coords) (hh) :
    (cc0_scratch3.slice (Rect.unit (s := S2) (k0_off18 i) S1.size hh)).squeeze S_ squeezes_S1_S_ = csm (Ring.sl 2 (k0_t1_loop i).trips) := csm_congr (off18_eq i) _
@[sl_canon] theorem slotE (i : grid0.Coords) (hh hs) :
    (bufM.slice (Rect.unit (s := S2x512x512) (k0_off19 i) S1x512x512.size hh) hs).squeeze S512x512 squeezes_S1x512x512_S512x512 = rslot (Ring.sl 2 (k0_t1_loop i).trips) := rslot_congr (off19_eq i) _ _
@[sl_canon] theorem tileE (i : grid0.Coords) (hh hs) :
    (wM.slice (Rect.unit (s := S8x136x512x512) (k0_off20 i) S1x1x512x512.size hh) hs).squeeze S512x512 squeezes_S1x1x512x512_S512x512 = tile (tl i (k0_t1_loop i).trips) := tile_congr (off20_eq i) _ _

theorem tl_ne (i : grid0.Coords) (k : ℕ) (hk : k < (i 1).val) : tl i (k + 1) ≠ tl i k := by
  have h1 := coord1_lt i
  have ht : tri (i 1).val + (k + 1) < 136 := by
    have : tri (i 1).val + (i 1).val < 136 := by
      generalize (i 1).val = n at h1; interval_cases n <;> decide
    omega
  intro e
  have e2 := congrArg (fun p : Tile => p.2.val) e
  simp only [Ring.bk_val ht, Ring.bk_val (show tri (i 1).val + k < 136 by omega)] at e2
  omega

/-! ## The pieces -/

section Pieces
variable (c : Dev nD) (XW : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Tile `b` at home: held on its elements at the weights' contents. -/
abbrev homeP (b : Tile) : sProp 𝕄 := (tile b).view.loc (c : Thread nD τ) ↦[(tile b).view.set]{fullShare} XW
/-- The tile's words as a slot's payload. -/
abbrev payload (b : Tile) : S512x512.Idx → Elt F .bf16 := ReadAs.same.apply ((tile b).view.read (Elt F) XW)
/-- What tile `b`'s transfer leaves in slot `s` over `f`. -/
abbrev landed (s : Fin 2) (b : Tile) (f : Buf (Elt F) ((rslot s).view.loc (c : Thread nD τ))) : Buf (Elt F) ((rslot s).view.loc (c : Thread nD τ)) :=
  (rslot s).view.writes (Elt F) f [⟨Rect.whole S512x512, payload c XW b⟩]
/-- What a tile's transfer pays on its cell. -/
abbrev NN : ℕ := 16384
/-- Slot `s` in flight with tile `b`, issued over `f`. -/
abbrev flightP (s : Fin 2) (b : Tile) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)
/-- Every tile but `b` at home. -/
abbrev homes (b : Tile) : sProp 𝕄 := bigSep (Finset.univ.erase b) (homeP c XW)
/-- Every tile but `b` and `b'` at home. -/
abbrev homes2 (b b' : Tile) : sProp 𝕄 := bigSep ((Finset.univ.erase b).erase b') (homeP c XW)

theorem homes_here (b b' : Tile) (h : b' ≠ b) : homes c XW b = iprop(homeP c XW b' ∗ homes2 c XW b b') := by
  unfold homes homes2
  conv_lhs => rw [← Finset.insert_erase (Finset.mem_erase.mpr ⟨h, Finset.mem_univ b'⟩), bigSep_insert (Finset.notMem_erase _ _)]
  rfl
theorem homes_next (b b' : Tile) (h : b' ≠ b) : homes c XW b' = iprop(homeP c XW b ∗ homes2 c XW b b') := by
  rw [homes_here c XW b' b h.symm]; unfold homes2; rw [Finset.erase_right_comm]
theorem homes_all (b : Tile) : bigSep Finset.univ (homeP c XW) = iprop(homeP c XW b ∗ homes c XW b) := by
  conv_lhs => rw [← Finset.insert_erase (Finset.mem_univ b), bigSep_insert (Finset.notMem_erase _ _)]
  rfl

theorem sl2_add2 (k : ℕ) : Ring.sl 2 (k + 1 + 1) = Ring.sl 2 k := by rw [show k + 1 + 1 = k + 2 from rfl, Ring.sl_add]

end Pieces

end Cert.KernelIdeal.Hand

end
-- ==== Proof.Trip.lean ====
/-
  One trip of the gradient kernel's loop over the tiles of a row.
-/
module

public import proofs.«01_k».proof.Proof.Names

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

/-! ## What one tile computes

Of the products `d` of the weights and their gradients, the scores `z`, and the row sums and the query's gradient carried so
far. -/

abbrev Car (F : FTy → Type) [FloatOps F] : Type := FVec F S512x1 .f32 × FVec F S512x128 .f32

/-- What a tile carries on: the row sums past the tile and the query's gradient with the tile's part. -/
def carOf (v9 : Vec F S256x128 .bf16) (d z : FVec F S512x512 .f32) (kb : Vec F S512x128 .bf16) (acc : Car F) : Car F :=
  (k0_pay44 v9 d (k0_pay16 v9 acc.1 d) (k0_pay17 d) (k0_pay18 d) (k0_pay19 d),
   k0_pay46 v9 acc.2 d (k0_pay9 z) (k0_pay12 v9 acc.1 z d) (k0_pay15 v9 acc.1 z d) (k0_pay16 v9 acc.1 d) (k0_pay17 d) (k0_pay18 d) (k0_pay19 d) kb)
/-- The tile's rows of the key's gradient with its part. -/
def dkOf (v6 : FVec F S512x128 .bf16) (v9 : Vec F S256x128 .bf16) (d z : FVec F S512x512 .f32) (run : FVec F S512x1 .f32) (old : Vec F S512x128 .f32) : FVec F S512x128 .f32 :=
  k0_pay47 v6 v9 d (k0_pay9 z) (k0_pay12 v9 run z d) (k0_pay15 v9 run z d) (k0_pay16 v9 run d) (k0_pay17 d) (k0_pay18 d) (k0_pay19 d) old

/-! ## One trip -/

section Trip
variable (c : Dev nD) (XW : Buf (Elt F) (wM.view.loc (c : Thread nD τ))) (i : grid0.Coords)
  (arg2 : Memref sig .tc .vmem S512x128 .f32) (harg2 : arg2.IsWhole) (arg3 : Memref sig .tc .vmem S512x128 .f32) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole) (arg8 : Memref sig .tc .vmem S512x128 .bf16) (harg8 : arg8.IsWhole)
  (arg9 : Memref sig .tc .vmem S8192x128 .bf16) (harg9 : arg9.IsWhole) (arg10 : Memref sig .tc .vmem S8192x128 .bf16) (harg10 : arg10.IsWhole)
  (arg1 : BitVec 32) (v6 : FVec F S512x128 .bf16) (v8 : FVec F S512x128 .bf16) (v9 : Vec F S256x128 .bf16) (v28 : BitVec 32)
  (fk : Buf (Elt F) (arg4.view.loc (c : Thread nD τ))) (fv : Buf (Elt F) (arg5.view.loc (c : Thread nD τ)))

/-- A memref's buffer held whole at `f`. -/
abbrev whP {sp : Space} {S : Shape} {e : EltTy} (M : Memref sig .tc sp S e) (f : Buf (Elt F) (M.view.loc (c : Thread nD τ))) : sProp 𝕄 :=
  M.view.loc (c : Thread nD τ) ↦[M.view.set]{fullShare} f

/-- The tile of trip `k` as the body loads it from its slot. -/
def wAt (k : Fin (k0_t1_loop i).trips) : Vec F S1x512x512 .bf16 :=
  bufM.view.readAt (Elt F) (Rect.unit (s := S2x512x512) (k0_off8 i k) S1x512x512.size (k0_off8_inb i k)).toLoadRect (landed c XW (Ring.sl 2 k.val) (tl i k.val) (rslot (Ring.sl 2 k.val)).view.junk)
/-- The rows of trip `k`'s tile. -/
abbrev rK (k : Fin (k0_t1_loop i).trips) : Rect S8192x128 := Rect.unit (s := S8192x128) (k0_off9 i k) S512x128.size (k0_off9_inb i k)

/-- The state a trip works on: what it carries and the two accumulators. -/
abbrev St : Type := Car F × Buf (Elt F) (kaM.view.loc (c : Thread nD τ)) × Buf (Elt F) (vaM.view.loc (c : Thread nD τ))

/-- The rows of a rectangle. -/
abbrev rowsAt {S : Shape} {e : EltTy} (R : Rect S) (a : S.Idx → Elt F e) : R.shape.Idx → Elt F e := fun x => a (R.toLoadRect.idx x)

/-- One trip's state to the next's, the keys and the values at `ak` and `av`. -/
def stepS (ak av : S8192x128.Idx → Elt F .bf16) (k : Fin (k0_t1_loop i).trips) (s : St (F := F) c) : St (F := F) c :=
  let kb : Vec F S512x128 .bf16 := rowsAt (rK i k) ak
  let z := k0_pay6 v6 kb
  let d := k0_pay7 v8 (wAt c XW i k) (rowsAt (rK i k) av)
  (carOf v9 d z kb s.1,
   kaM.view.writes (Elt F) s.2.1 [⟨rK i k, dkOf v6 v9 d z s.1.1 (kaM.view.readAt (Elt F) (rK i k).toLoadRect s.2.1)⟩],
   vaM.view.writes (Elt F) s.2.2 [⟨rK i k, k0_pay8 v8 (k0_pay5 (wAt c XW i k)) (vaM.view.readAt (Elt F) (rK i k).toLoadRect s.2.2)⟩])

/-- The state before trip `k`. -/
def stAt (ak av : S8192x128.Idx → Elt F .bf16) (fa : Buf (Elt F) (kaM.view.loc (c : Thread nD τ))) (fb : Buf (Elt F) (vaM.view.loc (c : Thread nD τ))) : ℕ → St (F := F) c
  | 0 => ((k0_pay39, k0_pay40), fa, fb)
  | k + 1 => if h : k < (k0_t1_loop i).trips then stepS c XW i v6 v8 v9 ak av ⟨k, h⟩ (stAt ak av fa fb k) else stAt ak av fa fb k

/-- The resources before trip `k`, the accumulators at `fa` and `fb`: tile `k` in flight, the other slot free, the other tiles
    at home. -/
def resAt (k : ℕ) (fa : Buf (Elt F) (kaM.view.loc (c : Thread nD τ))) (fb : Buf (Elt F) (vaM.view.loc (c : Thread nD τ))) : sProp 𝕄 :=
  iprop(whP c kaM fa ∗ whP c vaM fb ∗ whP c arg4 fk ∗ whP c arg5 fv ∗ (∃ W, owes (c : Thread nD τ) 0 W)
    ∗ homes c XW (tl i k) ∗ (∃ f, flightP c XW (Ring.sl 2 k) (tl i k) f) ∗ (∃ f, slotP c (Ring.sl 2 (k + 1)) f) ∗ cellP c (Ring.sl 2 (k + 1)))

abbrev tripG (k : Fin (k0_t1_loop i).trips) (acc : FVec F S512x1 .f32 × FVec F S512x128 .f32) :
    Prog (TpuEff nD τ sig (Elt F) Λ₀ .tc) (FVec F S512x1 .f32 × FVec F S512x128 .f32) :=
  k0_t1_body (F := F) i arg2 harg2 arg3 harg3 arg4 harg4 arg5 harg5 arg6 harg6 wM (Memref.isWhole_whole _) arg8 harg8 arg9 harg9 arg10 harg10
    kaM (Memref.isWhole_whole _) vaM (Memref.isWhole_whole _) bufM (Memref.isWhole_whole _) cc0_scratch3 arg1 v6 v8 v9 v28 k acc

set_option maxHeartbeats 4000000 in
/-- One trip: the tile's wait, the next tile's issue into the other slot, the tile's sums. -/
theorem tripRun (k : Fin (k0_t1_loop i).trips) (s : St (F := F) c) :
      resAt c XW i arg4 arg5 fk fv k s.2.1 s.2.2 ⊢ wp frame (wpE (defs₀ (F := F)) 𝒱₀ (c : Thread nD τ) none) Set.univ
        (tripG i arg2 harg2 arg3 harg3 arg4 harg4 arg5 harg5 arg6 harg6 arg8 harg8 arg9 harg9 arg10 harg10 arg1 v6 v8 v9 v28 k s.1)
        (fun a => iprop(⌜a = (stepS c XW i v6 v8 v9 (arg4.view.read (Elt F) fk) (arg5.view.read (Elt F) fv) k s).1⌝
          ∗ resAt c XW i arg4 arg5 fk fv (k.val + 1) (stepS c XW i v6 v8 v9 (arg4.view.read (Elt F) fk) (arg5.view.read (Elt F) fv) k s).2.1 (stepS c XW i v6 v8 v9 (arg4.view.read (Elt F) fk) (arg5.view.read (Elt F) fv) k s).2.2)) := by
  have hc : k0_cond2 i k = 1#1 := cond2_eq i k
  have hne := tl_ne i k.val (k_lt i k)
  obtain ⟨⟨run, dq⟩, fa, fb⟩ := s
  unfold resAt
  rw [homes_here c XW _ _ hne, homes_next c XW _ _ hne, sl2_add2]
  dsimp only [tripG]
  unfold k0_t1_body
  dsimp only
  simp only [k0_part1_eq_skeleton, k0_part2_eq_skeleton]
  unfold k0_part1_skel k0_part2_skel
  iintro ⟨HA, HB, HK, HV, ⟨%W, HW⟩, ⟨Hn, Hrest⟩, ⟨%f0, HF⟩, ⟨%f1, HS⟩, HC⟩
  sl_exec
  dsimp only
  sl_step
  isplitr; · ipureintro; rfl
  isplitl [HA]; · iexact HA
  isplitl [HB]; · iexact HB
  isplitl [HK]; · iexact HK
  isplitl [HV]; · iexact HV
  isplitl [HW]; · iexists _; iexact HW
  isplitl [HF_src Hrest]
  · isplitl [HF_src]; · iexact HF_src
    iexact Hrest
  isplitl [HC]; · iexists f1; iexact HC
  isplitl [HF_dst]; · iexists _; iexact HF_dst
  iexact HF

set_option warn.classDefReducibility false in
/-- The loop's invariant. -/
@[sl_loop] def loopInv1 (fa : Buf (Elt F) (kaM.view.loc (c : Thread nD τ))) (fb : Buf (Elt F) (vaM.view.loc (c : Thread nD τ))) :
    LoopInvTy_k0_t1 (F := F) Unit ℕ (Pipeline.UD sig nD τ) ℕ 𝒱₀ c none Set.univ i arg2 harg2 arg3 harg3 arg4 harg4 arg5 harg5 arg6 harg6 wM (Memref.isWhole_whole _) arg8 harg8 arg9 harg9 arg10 harg10
      kaM (Memref.isWhole_whole _) vaM (Memref.isWhole_whole _) bufM (Memref.isWhole_whole _) cc0_scratch3 arg1 v6 v8 v9 v28 (k0_pay39, k0_pay40) where
  inv k acc := iprop(⌜acc = (stAt c XW i v6 v8 v9 (arg4.view.read (Elt F) fk) (arg5.view.read (Elt F) fv) fa fb k).1⌝
    ∗ resAt c XW i arg4 arg5 fk fv k (stAt c XW i v6 v8 v9 (arg4.view.read (Elt F) fk) (arg5.view.read (Elt F) fv) fa fb k).2.1 (stAt c XW i v6 v8 v9 (arg4.view.read (Elt F) fk) (arg5.view.read (Elt F) fv) fa fb k).2.2)
  step k acc := by
    have e : stAt c XW i v6 v8 v9 (arg4.view.read (Elt F) fk) (arg5.view.read (Elt F) fv) fa fb (k.val + 1) = stepS c XW i v6 v8 v9 (arg4.view.read (Elt F) fk) (arg5.view.read (Elt F) fv) k (stAt c XW i v6 v8 v9 (arg4.view.read (Elt F) fk) (arg5.view.read (Elt F) fv) fa fb k) := by
      rw [stAt, dif_pos k.isLt]
    rw [e]
    iintro ⟨%ha, H⟩
    subst ha
    iapply (wp_wand_r Idealize.ShloMosaic.frame (wpE (defs₀ (F := F)) 𝒱₀ (c : Thread nD τ) none) Set.univ)
    isplitl [H]
    · iapply (tripRun c XW i arg2 harg2 arg3 harg3 arg4 harg4 arg5 harg5 arg6 harg6 arg8 harg8 arg9 harg9 arg10 harg10 arg1 v6 v8 v9 v28 fk fv k _); iexact H
    · iintro %_ H'
      iexact H'

end Trip

end Cert.KernelIdeal.Hand

end
-- ==== Proof.Body.lean ====
/-
  The gradient kernel's body at one grid point: the first tile's issue, the loop over the tiles left of the diagonal, the
  tile on the diagonal, and the stores of the results.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

theorem of_eq {P Q : sProp 𝕄} (e : P = Q) : P ⊢ Q := e ▸ .rfl

/-! ## The body at a point -/

theorem two_of_roles (P : Fin 2 → sProp 𝕄) (T : ℕ) : iprop(P (Ring.sl 2 T) ∗ P (Ring.sl 2 (T + 1))) ⊢ iprop(P (Ring.sl 2 0) ∗ P (Ring.sl 2 (0 + 1))) := by
  rcases Nat.mod_two_eq_zero_or_one T with h | h
  · have e0 : Ring.sl 2 T = Ring.sl 2 0 := Fin.ext (by simp [Ring.sl, Fin.ofNat, h])
    have e1 : Ring.sl 2 (T + 1) = Ring.sl 2 (0 + 1) := Fin.ext (by simp [Ring.sl, Fin.ofNat]; omega)
    rw [e0, e1]
  · have e0 : Ring.sl 2 T = Ring.sl 2 (0 + 1) := Fin.ext (by simp [Ring.sl, Fin.ofNat, h])
    have e1 : Ring.sl 2 (T + 1) = Ring.sl 2 0 := Fin.ext (by simp [Ring.sl, Fin.ofNat]; omega)
    rw [e0, e1]; iintro ⟨H1, H0⟩; isplitl [H0] <;> iassumption

theorem slot_sub {off : Fin 3 → Nat} {s : Fin 2} (e : off = slotOff s) (hh) :
    bufM.view.setOn (Rect.unit (s := S2x512x512) off S1x512x512.size hh).set ⊆ (rslot s).view.set := by
  subst e
  rw [show (rslot s).view.set = (Rect.unit (s := S2x512x512) (slotOff s) S1x512x512.size hh).set from (View.set_reshape _ _).trans (View.set_slice_whole _ _)]
  intro x hx
  obtain ⟨y, hy, rfl⟩ := Finset.mem_map.mp hx
  exact hy
theorem slotE_sub (i : grid0.Coords) : bufM.view.setOn (Rect.unit (s := S2x512x512) (k0_off24 i) S1x512x512.size (k0_off24_inb i)).set
    ⊆ (rslot (Ring.sl 2 (k0_t1_loop i).trips)).view.set := slot_sub (off24_eq i) _

section Body
variable (c : Dev nD) (XW : Buf (Elt F) (wM.view.loc (c : Thread nD τ))) (i : grid0.Coords)
  (arg2 : Memref sig .tc .vmem S512x128 .f32) (harg2 : arg2.IsWhole) (arg3 : Memref sig .tc .vmem S512x128 .f32) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole) (arg8 : Memref sig .tc .vmem S512x128 .bf16) (harg8 : arg8.IsWhole)
  (arg9 : Memref sig .tc .vmem S8192x128 .bf16) (harg9 : arg9.IsWhole) (arg10 : Memref sig .tc .vmem S8192x128 .bf16) (harg10 : arg10.IsWhole)

abbrev bodyG : Prog (TpuEff nD τ sig (Elt F) Λ₀ .tc) PUnit :=
  cc0_sb_bwd (F := F) i arg2 harg2 arg3 harg3 arg4 harg4 arg5 harg5 arg6 harg6 wM (Memref.isWhole_whole _) arg8 harg8 arg9 harg9 arg10 harg10
    kaM (Memref.isWhole_whole _) vaM (Memref.isWhole_whole _) bufM (Memref.isWhole_whole _) cc0_scratch3

abbrev rQ : Rect S512x128 := Rect.unit (s := S512x128) ![0, 0] S512x128.size inb_S512x128_S512x128_0_0
abbrev rH : Rect S8192x128 := Rect.unit (s := S8192x128) ![0, 0] S8192x128.size inb_S8192x128_S8192x128_0_0

/-- The scaled queries, the output's gradient and the table of ones the body reads. -/
abbrev q6 (a3 : S512x128.Idx → Elt F .f32) : FVec F S512x128 .bf16 := k0_pay37 (rowsAt rQ a3)
abbrev q8 (a2 : S512x128.Idx → Elt F .f32) : FVec F S512x128 .bf16 := k0_pay38 (rowsAt rQ a2)
abbrev q9 (a6 : S256x128.Idx → Elt F .bf16) : Vec F S256x128 .bf16 := rowsAt (Rect.unit (s := S256x128) ![0, 0] S256x128.size inb_S256x128_S256x128_0_0) a6

/-- The accumulators after the first conditional: zeroed at a head's first block. -/
def fa0 (fa : Buf (Elt F) (kaM.view.loc (c : Thread nD τ))) : Buf (Elt F) (kaM.view.loc (c : Thread nD τ)) :=
  if (i 1).val = 0 then kaM.view.writes (Elt F) kaM.view.junk [⟨Rect.unit (s := S8192x128) ![0, 0] S8192x128.size inb_S8192x128_S8192x128_0_0, k0_pay35 (F := F)⟩] else fa
def fb0 (fb : Buf (Elt F) (vaM.view.loc (c : Thread nD τ))) : Buf (Elt F) (vaM.view.loc (c : Thread nD τ)) :=
  if (i 1).val = 0 then vaM.view.writes (Elt F) vaM.view.junk [⟨Rect.unit (s := S8192x128) ![0, 0] S8192x128.size inb_S8192x128_S8192x128_0_0, k0_pay36 (F := F)⟩] else fb

/-- The diagonal tile as the body loads it from its slot. -/
def wE : Vec F S1x512x512 .bf16 :=
  bufM.view.readAt (Elt F) (Rect.unit (s := S2x512x512) (k0_off24 i) S1x512x512.size (k0_off24_inb i)).toLoadRect
    (landed c XW (Ring.sl 2 (k0_t1_loop i).trips) (tl i (k0_t1_loop i).trips) (rslot (Ring.sl 2 (k0_t1_loop i).trips)).view.junk)
/-- The diagonal tile's rows. -/
abbrev rE : Rect S8192x128 := Rect.unit (s := S8192x128) (k0_off25 i) S512x128.size (k0_off25_inb i)
/-- The diagonal tile's gradient of the scores. -/
def dbE (v6 v8 : FVec F S512x128 .bf16) (v9 : Vec F S256x128 .bf16) (run : FVec F S512x1 .f32) (w : Vec F S1x512x512 .bf16) (kb vb : Vec F S512x128 .bf16) : FVec F S512x512 .bf16 :=
  k0_pay65 v9 k0_pay55 (k0_pay57 v8 w vb) (k0_pay59 v6 kb) (k0_pay62 v6 v8 v9 run w kb vb) (k0_pay63 v8 v9 run w vb) (k0_pay64 v8 w vb)
/-- The diagonal's step of the accumulators, and the query's gradient, from the state past the trips. -/
def dqE (v6 v8 : FVec F S512x128 .bf16) (v9 : Vec F S256x128 .bf16) (ak av : S8192x128.Idx → Elt F .bf16) (s : St (F := F) c) : FVec F S512x128 .bf16 :=
  k0_pay2 s.1.2 (dbE v6 v8 v9 s.1.1 (wE c XW i) (rowsAt (rE i) ak) (rowsAt (rE i) av)) (k0_pay66 (rowsAt (rE i) ak)) (constant S512x128 .f32 0#32)
def kaE (v6 v8 : FVec F S512x128 .bf16) (v9 : Vec F S256x128 .bf16) (ak av : S8192x128.Idx → Elt F .bf16) (s : St (F := F) c) : Buf (Elt F) (kaM.view.loc (c : Thread nD τ)) :=
  kaM.view.writes (Elt F) s.2.1 [⟨rE i, k0_pay1 v6 (dbE v6 v8 v9 s.1.1 (wE c XW i) (rowsAt (rE i) ak) (rowsAt (rE i) av)) (kaM.view.readAt (Elt F) (rE i).toLoadRect s.2.1)⟩]
def vaE (v8 : FVec F S512x128 .bf16) (s : St (F := F) c) : Buf (Elt F) (vaM.view.loc (c : Thread nD τ)) :=
  vaM.view.writes (Elt F) s.2.2 [⟨rE i, k0_pay58 v8 (wE c XW i) (vaM.view.readAt (Elt F) (rE i).toLoadRect s.2.2)⟩]

/-- The state past the trips. -/
abbrev stN (a2 a3 : S512x128.Idx → Elt F .f32) (ak av : S8192x128.Idx → Elt F .bf16) (a6 : S256x128.Idx → Elt F .bf16)
    (fa : Buf (Elt F) (kaM.view.loc (c : Thread nD τ))) (fb : Buf (Elt F) (vaM.view.loc (c : Thread nD τ))) : St (F := F) c :=
  stAt c XW i (q6 a3) (q8 a2) (q9 a6) ak av (fa0 c i fa) (fb0 c i fb) (k0_t1_loop i).trips

/-- What the body leaves: the query's gradient, the accumulators past the block, and their stores at a head's last block. -/
def out8 (a2 a3 : S512x128.Idx → Elt F .f32) (ak av : S8192x128.Idx → Elt F .bf16) (a6 : S256x128.Idx → Elt F .bf16)
    (fa : Buf (Elt F) (kaM.view.loc (c : Thread nD τ))) (fb : Buf (Elt F) (vaM.view.loc (c : Thread nD τ))) : FVec F S512x128 .bf16 :=
  dqE c XW i (q6 a3) (q8 a2) (q9 a6) ak av (stN c XW i a2 a3 ak av a6 fa fb)
def outA (a2 a3 : S512x128.Idx → Elt F .f32) (ak av : S8192x128.Idx → Elt F .bf16) (a6 : S256x128.Idx → Elt F .bf16)
    (fa : Buf (Elt F) (kaM.view.loc (c : Thread nD τ))) (fb : Buf (Elt F) (vaM.view.loc (c : Thread nD τ))) : Buf (Elt F) (kaM.view.loc (c : Thread nD τ)) :=
  kaE c XW i (q6 a3) (q8 a2) (q9 a6) ak av (stN c XW i a2 a3 ak av a6 fa fb)
def outB (a2 a3 : S512x128.Idx → Elt F .f32) (ak av : S8192x128.Idx → Elt F .bf16) (a6 : S256x128.Idx → Elt F .bf16)
    (fa : Buf (Elt F) (kaM.view.loc (c : Thread nD τ))) (fb : Buf (Elt F) (vaM.view.loc (c : Thread nD τ))) : Buf (Elt F) (vaM.view.loc (c : Thread nD τ)) :=
  vaE c XW i (q8 a2) (stN c XW i a2 a3 ak av a6 fa fb)
def out9 (f9 : Buf (Elt F) (arg9.view.loc (c : Thread nD τ))) (fa : Buf (Elt F) (kaM.view.loc (c : Thread nD τ))) : Buf (Elt F) (arg9.view.loc (c : Thread nD τ)) :=
  if (i 1).val = 15 then arg9.view.writes (Elt F) f9 [⟨rH, k0_pay3 (kaM.view.readAt (Elt F) rH.toLoadRect fa)⟩] else f9
def out10 (f10 : Buf (Elt F) (arg10.view.loc (c : Thread nD τ))) (fb : Buf (Elt F) (vaM.view.loc (c : Thread nD τ))) : Buf (Elt F) (arg10.view.loc (c : Thread nD τ)) :=
  if (i 1).val = 15 then arg10.view.writes (Elt F) f10 [⟨rH, k0_pay4 (vaM.view.readAt (Elt F) rH.toLoadRect fb)⟩] else f10

/-- What the body is handed beside its results' buffers. -/
abbrev PRE (f2 : Buf (Elt F) (arg2.view.loc (c : Thread nD τ))) (f3 : Buf (Elt F) (arg3.view.loc (c : Thread nD τ)))
    (fk : Buf (Elt F) (arg4.view.loc (c : Thread nD τ))) (fv : Buf (Elt F) (arg5.view.loc (c : Thread nD τ))) (f6 : Buf (Elt F) (arg6.view.loc (c : Thread nD τ)))
    (fa : Buf (Elt F) (kaM.view.loc (c : Thread nD τ))) (fb : Buf (Elt F) (vaM.view.loc (c : Thread nD τ))) : sProp 𝕄 :=
  iprop(whP c arg2 f2 ∗ whP c arg3 f3 ∗ whP c arg4 fk ∗ whP c arg5 fv ∗ whP c arg6 f6 ∗ whP c kaM fa ∗ whP c vaM fb
    ∗ (∃ W, owes (c : Thread nD τ) 0 W) ∗ bigSep Finset.univ (homeP c XW)
    ∗ (∃ f, slotP c (Ring.sl 2 0) f) ∗ (∃ f, slotP c (Ring.sl 2 (0 + 1)) f) ∗ cellP c (Ring.sl 2 0) ∗ cellP c (Ring.sl 2 (0 + 1)))

set_option maxHeartbeats 4000000 in
theorem bodyMid (h0 : (i 1).val ≠ 0) (h15 : (i 1).val ≠ 15) (f2 f3 fk fv f6 fa fb f8 f9 f10) (Q : PUnit → sProp 𝕄) :
    iprop(PRE c XW arg2 arg3 arg4 arg5 arg6 f2 f3 fk fv f6 fa fb ∗ whP c arg8 f8 ∗ whP c arg9 f9 ∗ whP c arg10 f10
        ∗ (PRE c XW arg2 arg3 arg4 arg5 arg6 f2 f3 fk fv f6 (outA c XW i (arg2.view.read (Elt F) f2) (arg3.view.read (Elt F) f3) (arg4.view.read (Elt F) fk) (arg5.view.read (Elt F) fv) (arg6.view.read (Elt F) f6) fa fb) (outB c XW i (arg2.view.read (Elt F) f2) (arg3.view.read (Elt F) f3) (arg4.view.read (Elt F) fk) (arg5.view.read (Elt F) fv) (arg6.view.read (Elt F) f6) fa fb)
            ∗ whP c arg8 (arg8.view.writes (Elt F) f8 [⟨rQ, out8 c XW i (arg2.view.read (Elt F) f2) (arg3.view.read (Elt F) f3) (arg4.view.read (Elt F) fk) (arg5.view.read (Elt F) fv) (arg6.view.read (Elt F) f6) fa fb⟩])
            ∗ whP c arg9 (out9 c i arg9 f9 (outA c XW i (arg2.view.read (Elt F) f2) (arg3.view.read (Elt F) f3) (arg4.view.read (Elt F) fk) (arg5.view.read (Elt F) fv) (arg6.view.read (Elt F) f6) fa fb)) ∗ whP c arg10 (out10 c i arg10 f10 (outB c XW i (arg2.view.read (Elt F) f2) (arg3.view.read (Elt F) f3) (arg4.view.read (Elt F) fk) (arg5.view.read (Elt F) fv) (arg6.view.read (Elt F) f6) fa fb)) -∗ Q ⟨⟩))
      ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q := by
  have hc5 : ¬ k0_cond5 i = 1#1 := fun h => h15 ((cond5_iff i).mp h)
  have hc1 : ¬ Scalar.cmpi .ne (Scalar.extui (Scalar.cmpi .eq (BitVec.ofNat 32 (i 1).val) 0#32) : BitVec 32) 0#32 = 1#1 := fun h => h0 ((cond1_iff i).mp h)
  have hc4 : ¬ k0_cond4 i = 1#1 := cond4_eq i
  dsimp only [bodyG]
  simp only [cc0_sb_bwd_eq_skeleton, k0_part5_eq_skeleton, k0_part6_eq_skeleton, k0_part7_eq_skeleton, k0_part8_eq_skeleton]
  unfold cc0_sb_bwd_skel
  simp only [k0_part5_eq_skeleton, k0_part6_eq_skeleton, k0_part7_eq_skeleton, k0_part8_eq_skeleton]
  unfold k0_part5_skel k0_part6_skel k0_part7_skel k0_part8_skel
  unfold out8 outA outB stN
  rw [show fa0 c i fa = fa from if_neg h0, show fb0 c i fb = fb from if_neg h0]
  rw [show ∀ fa, out9 c i arg9 f9 fa = f9 from fun _ => if_neg h15, show ∀ fb, out10 c i arg10 f10 fb = f10 from fun _ => if_neg h15]
  have hin := slotE_sub i
  iintro ⟨⟨H2, H3, HK, HV, H6, HA, HB, ⟨%W, HW⟩, Hall, ⟨%s0, HS0⟩, ⟨%s1, HS1⟩, HC0, HC1⟩, H8, H9, H10, Hk⟩
  ihave Hall2 := (of_eq (homes_all c XW (tl i 0))) $$ Hall
  icases Hall2 with ⟨Hn, Hrest⟩
  sl_exec
  sl_rw [Prog.bind_assoc]
  sl_exec
  sl_rw [Prog.bind_assoc]
  sl_exec
  dsimp only
  sl_step
  iapply Hk
  isplitr [H8 H9 H10]
  · isplitl [H2]; · iexact H2
    isplitl [H3]; · iexact H3
    isplitl [HK]; · iexact HK
    isplitl [HV]; · iexact HV
    isplitl [H6]; · iexact H6
    isplitl [HA]; · iexact HA
    isplitl [HB]; · iexact HB
    isplitl [HW]; · iexists _; iexact HW
    isplitl [HC0_src Hrest]
    · iapply (of_eq (homes_all c XW (tl i (k0_t1_loop i).trips)).symm)
      isplitl [HC0_src]; · iexact HC0_src
      iexact Hrest
    ihave Hs := (two_of_roles (fun s => iprop(∃ f, slotP c s f)) (k0_t1_loop i).trips) $$ [HC0_dst HS1]
    · isplitl [HC0_dst]; · iexists _; iexact HC0_dst
      iexists _; iexact HS1
    icases Hs with ⟨Hs0, Hs1⟩
    ihave Hc := (two_of_roles (cellP c) (k0_t1_loop i).trips) $$ [HC0 HC1]
    · isplitl [HC0]; · iexact HC0
      iexact HC1
    icases Hc with ⟨Hc0', Hc1'⟩
    isplitl [Hs0]; · iexact Hs0
    isplitl [Hs1]; · iexact Hs1
    isplitl [Hc0']; · iexact Hc0'
    iexact Hc1'
  isplitl [H8]; · iexact H8
  isplitl [H9]; · iexact H9
  iexact H10

set_option maxHeartbeats 4000000 in
theorem bodyFirst (h0 : (i 1).val = 0) (f2 f3 fk fv f6 fa fb f8 f9 f10) (Q : PUnit → sProp 𝕄) :
    iprop(PRE c XW arg2 arg3 arg4 arg5 arg6 f2 f3 fk fv f6 fa fb ∗ whP c arg8 f8 ∗ whP c arg9 f9 ∗ whP c arg10 f10
        ∗ (PRE c XW arg2 arg3 arg4 arg5 arg6 f2 f3 fk fv f6 (outA c XW i (arg2.view.read (Elt F) f2) (arg3.view.read (Elt F) f3) (arg4.view.read (Elt F) fk) (arg5.view.read (Elt F) fv) (arg6.view.read (Elt F) f6) fa fb) (outB c XW i (arg2.view.read (Elt F) f2) (arg3.view.read (Elt F) f3) (arg4.view.read (Elt F) fk) (arg5.view.read (Elt F) fv) (arg6.view.read (Elt F) f6) fa fb)
            ∗ whP c arg8 (arg8.view.writes (Elt F) f8 [⟨rQ, out8 c XW i (arg2.view.read (Elt F) f2) (arg3.view.read (Elt F) f3) (arg4.view.read (Elt F) fk) (arg5.view.read (Elt F) fv) (arg6.view.read (Elt F) f6) fa fb⟩])
            ∗ whP c arg9 (out9 c i arg9 f9 (outA c XW i (arg2.view.read (Elt F) f2) (arg3.view.read (Elt F) f3) (arg4.view.read (Elt F) fk) (arg5.view.read (Elt F) fv) (arg6.view.read (Elt F) f6) fa fb)) ∗ whP c arg10 (out10 c i arg10 f10 (outB c XW i (arg2.view.read (Elt F) f2) (arg3.view.read (Elt F) f3) (arg4.view.read (Elt F) fk) (arg5.view.read (Elt F) fv) (arg6.view.read (Elt F) f6) fa fb)) -∗ Q ⟨⟩))
      ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q := by
  have h15 : (i 1).val ≠ 15 := by omega
  have hc5 : ¬ k0_cond5 i = 1#1 := fun h => h15 ((cond5_iff i).mp h)
  have hc1 : Scalar.cmpi .ne (Scalar.extui (Scalar.cmpi .eq (BitVec.ofNat 32 (i 1).val) 0#32) : BitVec 32) 0#32 = 1#1 := (cond1_iff i).mpr h0
  have hc4 : ¬ k0_cond4 i = 1#1 := cond4_eq i
  dsimp only [bodyG]
  simp only [cc0_sb_bwd_eq_skeleton, k0_part5_eq_skeleton, k0_part6_eq_skeleton, k0_part7_eq_skeleton, k0_part8_eq_skeleton]
  unfold cc0_sb_bwd_skel
  simp only [k0_part5_eq_skeleton, k0_part6_eq_skeleton, k0_part7_eq_skeleton, k0_part8_eq_skeleton]
  unfold k0_part5_skel k0_part6_skel k0_part7_skel k0_part8_skel
  unfold out8 outA outB stN
  rw [show fa0 c i fa = kaM.view.writes (Elt F) kaM.view.junk [⟨rH, k0_pay35 (F := F)⟩] from if_pos h0, show fb0 c i fb = vaM.view.writes (Elt F) vaM.view.junk [⟨rH, k0_pay36 (F := F)⟩] from if_pos h0]
  rw [show ∀ fa, out9 c i arg9 f9 fa = f9 from fun _ => if_neg h15, show ∀ fb, out10 c i arg10 f10 fb = f10 from fun _ => if_neg h15]
  have hin := slotE_sub i
  iintro ⟨⟨H2, H3, HK, HV, H6, HA, HB, ⟨%W, HW⟩, Hall, ⟨%s0, HS0⟩, ⟨%s1, HS1⟩, HC0, HC1⟩, H8, H9, H10, Hk⟩
  ihave Hall2 := (of_eq (homes_all c XW (tl i 0))) $$ Hall
  icases Hall2 with ⟨Hn, Hrest⟩
  sl_exec
  sl_rw [Prog.bind_assoc]
  try sl_exec
  ihave HA1 : iprop(∃ g, ⌜g = kaM.view.writes (Elt F) kaM.view.junk [⟨rH, k0_pay35 (F := F)⟩]⌝ ∗ whP c kaM g) $$ [HA]
  · iexists _; isplitr; · ipureintro; rfl
    iexact HA
  ihave HB1 : iprop(∃ g, ⌜g = vaM.view.writes (Elt F) vaM.view.junk [⟨rH, k0_pay36 (F := F)⟩]⌝ ∗ whP c vaM g) $$ [HB]
  · iexists _; isplitr; · ipureintro; rfl
    iexact HB
  icases HA1 with ⟨%ga, %hga, HA⟩
  icases HB1 with ⟨%gb, %hgb, HB⟩
  sl_exec
  sl_rw [Prog.bind_assoc]
  sl_exec
  dsimp only
  sl_step
  subst hga hgb
  iapply Hk
  isplitr [H8 H9 H10]
  · isplitl [H2]; · iexact H2
    isplitl [H3]; · iexact H3
    isplitl [HK]; · iexact HK
    isplitl [HV]; · iexact HV
    isplitl [H6]; · iexact H6
    isplitl [HA]; · iexact HA
    isplitl [HB]; · iexact HB
    isplitl [HW]; · iexists _; iexact HW
    isplitl [HC0_src Hrest]
    · iapply (of_eq (homes_all c XW (tl i (k0_t1_loop i).trips)).symm)
      isplitl [HC0_src]; · iexact HC0_src
      iexact Hrest
    ihave Hs := (two_of_roles (fun s => iprop(∃ f, slotP c s f)) (k0_t1_loop i).trips) $$ [HC0_dst HS1]
    · isplitl [HC0_dst]; · iexists _; iexact HC0_dst
      iexists _; iexact HS1
    icases Hs with ⟨Hs0, Hs1⟩
    ihave Hc := (two_of_roles (cellP c) (k0_t1_loop i).trips) $$ [HC0 HC1]
    · isplitl [HC0]; · iexact HC0
      iexact HC1
    icases Hc with ⟨Hc0', Hc1'⟩
    isplitl [Hs0]; · iexact Hs0
    isplitl [Hs1]; · iexact Hs1
    isplitl [Hc0']; · iexact Hc0'
    iexact Hc1'
  isplitl [H8]; · iexact H8
  isplitl [H9]; · iexact H9
  iexact H10

set_option maxHeartbeats 4000000 in
theorem bodyLast (h15 : (i 1).val = 15) (f2 f3 fk fv f6 fa fb f8 f9 f10) (Q : PUnit → sProp 𝕄) :
    iprop(PRE c XW arg2 arg3 arg4 arg5 arg6 f2 f3 fk fv f6 fa fb ∗ whP c arg8 f8 ∗ whP c arg9 f9 ∗ whP c arg10 f10
        ∗ (PRE c XW arg2 arg3 arg4 arg5 arg6 f2 f3 fk fv f6 (outA c XW i (arg2.view.read (Elt F) f2) (arg3.view.read (Elt F) f3) (arg4.view.read (Elt F) fk) (arg5.view.read (Elt F) fv) (arg6.view.read (Elt F) f6) fa fb) (outB c XW i (arg2.view.read (Elt F) f2) (arg3.view.read (Elt F) f3) (arg4.view.read (Elt F) fk) (arg5.view.read (Elt F) fv) (arg6.view.read (Elt F) f6) fa fb)
            ∗ whP c arg8 (arg8.view.writes (Elt F) f8 [⟨rQ, out8 c XW i (arg2.view.read (Elt F) f2) (arg3.view.read (Elt F) f3) (arg4.view.read (Elt F) fk) (arg5.view.read (Elt F) fv) (arg6.view.read (Elt F) f6) fa fb⟩])
            ∗ whP c arg9 (out9 c i arg9 f9 (outA c XW i (arg2.view.read (Elt F) f2) (arg3.view.read (Elt F) f3) (arg4.view.read (Elt F) fk) (arg5.view.read (Elt F) fv) (arg6.view.read (Elt F) f6) fa fb)) ∗ whP c arg10 (out10 c i arg10 f10 (outB c XW i (arg2.view.read (Elt F) f2) (arg3.view.read (Elt F) f3) (arg4.view.read (Elt F) fk) (arg5.view.read (Elt F) fv) (arg6.view.read (Elt F) f6) fa fb)) -∗ Q ⟨⟩))
      ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q := by
  have h0 : (i 1).val ≠ 0 := by omega
  have hc5 : k0_cond5 i = 1#1 := (cond5_iff i).mpr h15
  have hc1 : ¬ Scalar.cmpi .ne (Scalar.extui (Scalar.cmpi .eq (BitVec.ofNat 32 (i 1).val) 0#32) : BitVec 32) 0#32 = 1#1 := fun h => h0 ((cond1_iff i).mp h)
  have hc4 : ¬ k0_cond4 i = 1#1 := cond4_eq i
  dsimp only [bodyG]
  simp only [cc0_sb_bwd_eq_skeleton, k0_part5_eq_skeleton, k0_part6_eq_skeleton, k0_part7_eq_skeleton, k0_part8_eq_skeleton]
  unfold cc0_sb_bwd_skel
  simp only [k0_part5_eq_skeleton, k0_part6_eq_skeleton, k0_part7_eq_skeleton, k0_part8_eq_skeleton]
  unfold k0_part5_skel k0_part6_skel k0_part7_skel k0_part8_skel
  unfold out8 outA outB stN
  rw [show fa0 c i fa = fa from if_neg h0, show fb0 c i fb = fb from if_neg h0]
  rw [show ∀ fa, out9 c i arg9 f9 fa = arg9.view.writes (Elt F) f9 [⟨rH, k0_pay3 (kaM.view.readAt (Elt F) rH.toLoadRect fa)⟩] from fun _ => if_pos h15, show ∀ fb, out10 c i arg10 f10 fb = arg10.view.writes (Elt F) f10 [⟨rH, k0_pay4 (vaM.view.readAt (Elt F) rH.toLoadRect fb)⟩] from fun _ => if_pos h15]
  have hin := slotE_sub i
  iintro ⟨⟨H2, H3, HK, HV, H6, HA, HB, ⟨%W, HW⟩, Hall, ⟨%s0, HS0⟩, ⟨%s1, HS1⟩, HC0, HC1⟩, H8, H9, H10, Hk⟩
  ihave Hall2 := (of_eq (homes_all c XW (tl i 0))) $$ Hall
  icases Hall2 with ⟨Hn, Hrest⟩
  sl_exec
  sl_rw [Prog.bind_assoc]
  sl_exec
  sl_rw [Prog.bind_assoc]
  sl_exec
  dsimp only
  sl_step
  iapply Hk
  isplitr [H8 H9 H10]
  · isplitl [H2]; · iexact H2
    isplitl [H3]; · iexact H3
    isplitl [HK]; · iexact HK
    isplitl [HV]; · iexact HV
    isplitl [H6]; · iexact H6
    isplitl [HA]; · iexact HA
    isplitl [HB]; · iexact HB
    isplitl [HW]; · iexists _; iexact HW
    isplitl [HC0_src Hrest]
    · iapply (of_eq (homes_all c XW (tl i (k0_t1_loop i).trips)).symm)
      isplitl [HC0_src]; · iexact HC0_src
      iexact Hrest
    ihave Hs := (two_of_roles (fun s => iprop(∃ f, slotP c s f)) (k0_t1_loop i).trips) $$ [HC0_dst HS1]
    · isplitl [HC0_dst]; · iexists _; iexact HC0_dst
      iexists _; iexact HS1
    icases Hs with ⟨Hs0, Hs1⟩
    ihave Hc := (two_of_roles (cellP c) (k0_t1_loop i).trips) $$ [HC0 HC1]
    · isplitl [HC0]; · iexact HC0
      iexact HC1
    icases Hc with ⟨Hc0', Hc1'⟩
    isplitl [Hs0]; · iexact Hs0
    isplitl [Hs1]; · iexact Hs1
    isplitl [Hc0']; · iexact Hc0'
    iexact Hc1'
  isplitl [H8]; · iexact H8
  isplitl [H9]; · iexact H9
  iexact H10

/-- The body at any point. -/
theorem bodyRun (f2 f3 fk fv f6 fa fb f8 f9 f10) (Q : PUnit → sProp 𝕄) :
    iprop(PRE c XW arg2 arg3 arg4 arg5 arg6 f2 f3 fk fv f6 fa fb ∗ whP c arg8 f8 ∗ whP c arg9 f9 ∗ whP c arg10 f10
        ∗ (PRE c XW arg2 arg3 arg4 arg5 arg6 f2 f3 fk fv f6 (outA c XW i (arg2.view.read (Elt F) f2) (arg3.view.read (Elt F) f3) (arg4.view.read (Elt F) fk) (arg5.view.read (Elt F) fv) (arg6.view.read (Elt F) f6) fa fb) (outB c XW i (arg2.view.read (Elt F) f2) (arg3.view.read (Elt F) f3) (arg4.view.read (Elt F) fk) (arg5.view.read (Elt F) fv) (arg6.view.read (Elt F) f6) fa fb)
            ∗ whP c arg8 (arg8.view.writes (Elt F) f8 [⟨rQ, out8 c XW i (arg2.view.read (Elt F) f2) (arg3.view.read (Elt F) f3) (arg4.view.read (Elt F) fk) (arg5.view.read (Elt F) fv) (arg6.view.read (Elt F) f6) fa fb⟩])
            ∗ whP c arg9 (out9 c i arg9 f9 (outA c XW i (arg2.view.read (Elt F) f2) (arg3.view.read (Elt F) f3) (arg4.view.read (Elt F) fk) (arg5.view.read (Elt F) fv) (arg6.view.read (Elt F) f6) fa fb)) ∗ whP c arg10 (out10 c i arg10 f10 (outB c XW i (arg2.view.read (Elt F) f2) (arg3.view.read (Elt F) f3) (arg4.view.read (Elt F) fk) (arg5.view.read (Elt F) fv) (arg6.view.read (Elt F) f6) fa fb)) -∗ Q ⟨⟩))
      ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q := by
  by_cases h0 : (i 1).val = 0
  · exact bodyFirst c XW i arg2 harg2 arg3 harg3 arg4 harg4 arg5 harg5 arg6 harg6 arg8 harg8 arg9 harg9 arg10 harg10 h0 f2 f3 fk fv f6 fa fb f8 f9 f10 Q
  by_cases h15 : (i 1).val = 15
  · exact bodyLast c XW i arg2 harg2 arg3 harg3 arg4 harg4 arg5 harg5 arg6 harg6 arg8 harg8 arg9 harg9 arg10 harg10 h15 f2 f3 fk fv f6 fa fb f8 f9 f10 Q
  exact bodyMid c XW i arg2 harg2 arg3 harg3 arg4 harg4 arg5 harg5 arg6 harg6 arg8 harg8 arg9 harg9 arg10 harg10 h0 h15 f2 f3 fk fv f6 fa fb f8 f9 f10 Q

end Body

end Cert.KernelIdeal.Hand

end
-- ==== Proof.Run.lean ====
/-
  The launch of the gradient kernel: the tiles of the weights and the two slots cover their arrays, the two
  accumulators are carried from point to point, and the run leaves the three results at the values the body stores.
-/
module

public import proofs.«01_k».proof.Proof.Body
public import proofs.«01_k».proof.Proof.Gen.KernelIdeal.Launch
public import Idealize.ShloMosaic.Lib.WritesUnit
public import Idealize.ShloMosaic.Lib.VecWindow
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The element sets of the tiles and of the slots -/

abbrev TS (b : Tile) : Finset S8x136x512x512.Idx := (Rect.unit (s := S8x136x512x512) (tileOff b) S1x1x512x512.size (tileOff_inb b)).set
abbrev SS (s : Fin 2) : Finset S2x512x512.Idx := (Rect.unit (s := S2x512x512) (slotOff s) S1x512x512.size (slotOff_inb s)).set

theorem tile_set (b : Tile) : (tile b).view.set = TS b := (View.set_reshape _ _).trans (View.set_slice_whole _ _)
theorem rslot_set (s : Fin 2) : (rslot s).view.set = SS s := (View.set_reshape _ _).trans (View.set_slice_whole _ _)

theorem mem_TS (b : Tile) (y : S8x136x512x512.Idx) : y ∈ TS b ↔ (y 0).val = b.1.val ∧ (y 1).val = b.2.val := by
  rw [Rect.mem_set_unit]
  have h2 : (y 2).val < 512 := (y 2).isLt
  have h3 : (y 3).val < 512 := (y 3).isLt
  constructor
  · intro H
    have a0 : b.1.val ≤ (y 0).val ∧ (y 0).val < b.1.val + 1 := H 0
    have a1 : b.2.val ≤ (y 1).val ∧ (y 1).val < b.2.val + 1 := H 1
    omega
  · intro H i; fin_cases i
    · show b.1.val ≤ (y 0).val ∧ (y 0).val < b.1.val + 1; omega
    · show b.2.val ≤ (y 1).val ∧ (y 1).val < b.2.val + 1; omega
    · show 0 ≤ (y 2).val ∧ (y 2).val < 0 + 512; omega
    · show 0 ≤ (y 3).val ∧ (y 3).val < 0 + 512; omega
theorem mem_SS (s : Fin 2) (y : S2x512x512.Idx) : y ∈ SS s ↔ (y 0).val = s.val := by
  rw [Rect.mem_set_unit]
  have h1 : (y 1).val < 512 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 512; omega
theorem TS_disjoint : ∀ b b' : Tile, b ≠ b' → Disjoint (TS b) (TS b') := by
  intro b b' hne; rw [Finset.disjoint_left]; intro y hy hy'; rw [mem_TS] at hy hy'
  exact hne (Prod.ext (Fin.ext (hy.1.symm.trans hy'.1)) (Fin.ext (hy.2.symm.trans hy'.2)))
theorem TS_cover : (Finset.univ : Finset Tile).biUnion TS = Finset.univ := by
  ext y; simp only [Finset.mem_biUnion, Finset.mem_univ, true_and, iff_true]
  exact ⟨((y 0).cast (by decide), (y 1).cast (by decide)), by rw [mem_TS]; exact ⟨rfl, rfl⟩⟩
theorem SS_disjoint : ∀ s s' : Fin 2, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 2)).biUnion SS = Finset.univ := by
  ext y; simp only [Finset.mem_biUnion, Finset.mem_univ, true_and, iff_true]; exact ⟨(y 0).cast (by decide), by rw [mem_SS]; rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The weights whole are their tiles. -/
theorem w_eq (c : Dev nD) (XW : Buf (Elt F) (wM.view.loc (c : Thread nD τ))) :
    (((c : Thread nD τ).loc main_v36) ↦{fullShare} XW : sProp 𝕄) = bigSep Finset.univ (homeP c XW) := by
  rw [Ring.pointsTo_blocks (ℓ := (c : Thread nD τ).loc main_v36) TS TS_disjoint TS_cover]
  exact bigSep_congr fun b _ => by rw [← tile_set]; rfl

theorem slotP_eq (c : Dev nD) (s : Fin 2) (f) : slotP c s f = (((c : Thread nD τ).loc cc0_scratch2) ↦[SS s]{fullShare} f : sProp 𝕄) :=
  congrArg (fun S => (_ ↦[S]{fullShare} f : sProp 𝕄)) (rslot_set s)
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := Pipeline.UD sig nD τ) (Lvl := ℕ) (q := fullShare) (ℓ := (c : Thread nD τ).loc cc0_scratch2) SS SS_disjoint SS_cover f).trans (bigSep_two _))) $$ H
  icases H2 with ⟨H0, H1⟩
  isplitl [H0]
  · iexists f; iapply (of_eq (slotP_eq c 0 f).symm); iexact H0
  · iexists f; iapply (of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) SS SS_disjoint SS_cover f0)
  irw [bigSep_two]
  isplitl [H0]
  · iexists f0; iapply (of_eq (slotP_eq c 0 f0)); iexact H0
  · iexists f1; iapply (of_eq (slotP_eq c 1 f1)); iexact H1

/-! ## The kernel's own semaphores and the weights' array -/

abbrev osem0 : Fin 2 → SemLoc sig := fun s => .dma (csm s).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1) := by
  unfold Pipeline.ownSems0; rw [bigSep_two]
def H0 : Finset (Ref sig .tc) := {main_v36}
theorem H0_sub : H0 ⊆ Pipeline.restRefs sig spec0 := by decide
theorem hbmPts0_eq (c : Dev nD) :
    (bigSep H0 (fun b => ((c : Thread nD τ).loc b) ↦{fullShare} V m c b) : sProp 𝕄) = bigSep Finset.univ (homeP c (V m c main_v36)) := by
  rw [BI.bigSep_eq_bigSepL_of_eq [main_v36] (by decide) (by decide), ← w_eq]; rfl

theorem whP_whole (c : Dev nD) (b : Ref sig .tc) (f : Buf (Elt F) ((c : Thread nD τ).loc b)) :
    whP c (Memref.whole b) f = (((c : Thread nD τ).loc b) ↦{fullShare} f : sProp 𝕄) :=
  congrArg (fun S => (_ ↦[S]{fullShare} f : sProp 𝕄)) (View.set_whole b)

/-- What the launch lends the region and takes back. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)) ∗ (∃ r, prngReg c r)
          ∗ iprop(cellP c 0 ∗ cellP c 1)
          ∗ bigSep Finset.univ (homeP c (V m c main_v36))) := by
  rw [Pipeline.ΦD_eq, scopedRest0_eq, ownSems00_eq, hbmPts0_eq]

/-! ## The accumulators from point to point -/

/-- The two accumulators after the first `n` points. -/
def accN (c : Dev nD) : ℕ → Buf (Elt F) (kaM.view.loc (c : Thread nD τ)) × Buf (Elt F) (vaM.view.loc (c : Thread nD τ))
  | 0 => (kaM.view.junk, vaM.view.junk)
  | n + 1 => if h : n < grid0.N then
      (outA c (V m c main_v36) (grid0.coords ⟨n, h⟩) (iblk m c 0 ⟨n, h⟩) (iblk m c 1 ⟨n, h⟩) (iblk m c 2 ⟨n, h⟩) (iblk m c 3 ⟨n, h⟩) (iblk m c 4 ⟨n, h⟩) (accN c n).1 (accN c n).2,
        outB c (V m c main_v36) (grid0.coords ⟨n, h⟩) (iblk m c 0 ⟨n, h⟩) (iblk m c 1 ⟨n, h⟩) (iblk m c 2 ⟨n, h⟩) (iblk m c 3 ⟨n, h⟩) (iblk m c 4 ⟨n, h⟩) (accN c n).1 (accN c n).2)
    else accN c n

theorem accN_succ (c : Dev nD) (t : Fin cfg0.N) :
    accN m c (t.val + 1) = (outA c (V m c main_v36) (grid0.coords t) (iblk m c 0 t) (iblk m c 1 t) (iblk m c 2 t) (iblk m c 3 t) (iblk m c 4 t) (accN m c t.val).1 (accN m c t.val).2,
        outB c (V m c main_v36) (grid0.coords t) (iblk m c 0 t) (iblk m c 1 t) (iblk m c 2 t) (iblk m c 3 t) (iblk m c 4 t) (accN m c t.val).1 (accN m c t.val).2) := by
  rw [accN, dif_pos t.isLt]

/-- What the body stores in the query gradient's block at point `t`. -/
def dqAt (c : Dev nD) (t : Fin cfg0.N) : S512x128.Idx → Elt F .bf16 :=
  out8 c (V m c main_v36) (grid0.coords t) (iblk m c 0 t) (iblk m c 1 t) (iblk m c 2 t) (iblk m c 3 t) (iblk m c 4 t) (accN m c t.val).1 (accN m c t.val).2
def dkAt (c : Dev nD) (t : Fin cfg0.N) : S8192x128.Idx → Elt F .bf16 :=
  k0_pay3 (kaM.view.readAt (Elt F) rH.toLoadRect (accN m c (t.val + 1)).1)
def dvAt (c : Dev nD) (t : Fin cfg0.N) : S8192x128.Idx → Elt F .bf16 :=
  k0_pay4 (vaM.view.readAt (Elt F) rH.toLoadRect (accN m c (t.val + 1)).2)

/-- At a point of query block 0 the accumulators found do not matter. -/
theorem outA_first (c : Dev nD) (XW) (i : grid0.Coords) (h : (i 1).val = 0) (a2 a3 ak av a6) (fa fa' : Buf (Elt F) (kaM.view.loc (c : Thread nD τ))) (fb fb' : Buf (Elt F) (vaM.view.loc (c : Thread nD τ))) :
    outA c XW i a2 a3 ak av a6 fa fb = outA c XW i a2 a3 ak av a6 fa' fb' := by
  unfold outA stN fa0 fb0; rw [if_pos h, if_pos h, if_pos h, if_pos h]
theorem outB_first (c : Dev nD) (XW) (i : grid0.Coords) (h : (i 1).val = 0) (a2 a3 ak av a6) (fa fa' : Buf (Elt F) (kaM.view.loc (c : Thread nD τ))) (fb fb' : Buf (Elt F) (vaM.view.loc (c : Thread nD τ))) :
    outB c XW i a2 a3 ak av a6 fa fb = outB c XW i a2 a3 ak av a6 fa' fb' := by
  unfold outB stN fa0 fb0; rw [if_pos h, if_pos h, if_pos h, if_pos h]
theorem out8_first (c : Dev nD) (XW) (i : grid0.Coords) (h : (i 1).val = 0) (a2 a3 ak av a6) (fa fa' : Buf (Elt F) (kaM.view.loc (c : Thread nD τ))) (fb fb' : Buf (Elt F) (vaM.view.loc (c : Thread nD τ))) :
    out8 c XW i a2 a3 ak av a6 fa fb = out8 c XW i a2 a3 ak av a6 fa' fb' := by
  unfold out8 stN fa0 fb0; rw [if_pos h, if_pos h, if_pos h, if_pos h]

/-- The region's invariant before point `n`. -/
def PhiN (c : Dev nD) (n : ℕ) : sProp 𝕄 :=
  iprop((∃ fa fb, ⌜n ≠ 0 → fa = (accN m c n).1 ∧ fb = (accN m c n).2⌝ ∗ whP c kaM fa ∗ whP c vaM fb)
    ∗ (∃ f, slotP c (Ring.sl 2 0) f) ∗ (∃ f, slotP c (Ring.sl 2 (0 + 1)) f) ∗ (∃ r, prngReg c r)
    ∗ cellP c (Ring.sl 2 0) ∗ cellP c (Ring.sl 2 (0 + 1)) ∗ bigSep Finset.univ (homeP c (V m c main_v36)))

theorem PhiN_in (c : Dev nD) : (Pipeline.ΦD osem0 spec0 H0 (V m) c : sProp 𝕄) ⊢ PhiN m c 0 := by
  rw [PhiD0_eq]; unfold PhiN
  iintro ⟨⟨⟨%fa, HA⟩, ⟨%fb, HB⟩, HS⟩, Hg, ⟨Hc0, Hc1⟩, Hh⟩
  ihave Hs := (buf_split c) $$ HS
  icases Hs with ⟨Hs0, Hs1⟩
  isplitl [HA HB]
  · iexists fa, fb
    isplitr; · ipureintro; exact fun h => absurd rfl h
    isplitl [HA]
    · iapply (of_eq (whP_whole c cc0_scratch0 fa).symm); iexact HA
    · iapply (of_eq (whP_whole c cc0_scratch1 fb).symm); iexact HB
  isplitl [Hs0]; · iexact Hs0
  isplitl [Hs1]; · iexact Hs1
  isplitl [Hg]; · iexact Hg
  isplitl [Hc0]; · iexact Hc0
  isplitl [Hc1]; · iexact Hc1
  iexact Hh

theorem PhiN_out (c : Dev nD) (n : ℕ) : PhiN m c n ⊢ (Pipeline.ΦD osem0 spec0 H0 (V m) c : sProp 𝕄) := by
  rw [PhiD0_eq]; unfold PhiN
  iintro ⟨⟨%fa, %fb, -, HA, HB⟩, Hs0, Hs1, Hg, Hc0, Hc1, Hh⟩
  isplitl [HA HB Hs0 Hs1]
  · isplitl [HA]
    · iexists fa; iapply (of_eq (whP_whole c cc0_scratch0 fa)); iexact HA
    isplitl [HB]
    · iexists fb; iapply (of_eq (whP_whole c cc0_scratch1 fb)); iexact HB
    iapply (buf_join c)
    isplitl [Hs0]; · iexact Hs0
    iexact Hs1
  isplitl [Hg]; · iexact Hg
  isplitl [Hc0 Hc1]
  · isplitl [Hc0]; · iexact Hc0
    iexact Hc1
  iexact Hh

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t
    | ⟨7, _⟩ => dvAt m c t
  Φ n := PhiN m c n.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqAt m c t := by dsimp only [dats]
theorem after_6 (c : Dev nD) (t : Fin cfg0.N) : (dats m 0 c).after 6 t = dkAt m c t := by dsimp only [dats]
theorem after_7 (c : Dev nD) (t : Fin cfg0.N) : (dats m 0 c).after 7 t = dvAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

theorem coords_zero : ∀ t : Fin cfg0.N, t.val = 0 → ((grid0.coords t) 1).val = 0 :=
  (by decide +kernel : ∀ t : Fin grid0.N, t.val = 0 → ((grid0.coords t) 1).val = 0)

/-- What the body leaves in a window of the key and value gradients: at the last query block the whole accumulator,
    elsewhere what it found. -/
def keeps (c : Dev nD) (w : Fin cfg0.W) (t : Fin cfg0.N) : sProp 𝕄 :=
  if ((grid0.coords t) 1).val = 15 then owns (c : Thread nD τ) ((cfg0.win w).stage (cfg0.slots t w)) fullShare ((dats m 0 c).after w t)
  else iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ keeps m c 6 t ∗ keeps m c 7 t)

theorem owns_intro (c : Dev nD) {sp : Space} {S : Shape} {e : EltTy} (M : Memref sig .tc sp S e) (f : Buf (Elt F) (M.view.loc (c : Thread nD τ))) (X) (h : M.view.read (Elt F) f = X) :
    whP c M f ⊢ (owns (c : Thread nD τ) M fullShare X : sProp 𝕄) := by
  unfold owns
  iintro H; iexists f; isplitr; · ipureintro; exact h
  iexact H

theorem keeps_6 (c : Dev nD) (t : Fin cfg0.N) (d) (f9) (h9 : (st0_6 t).view.read (Elt F) f9 = (dats m 0 c).before 6 t d) :
    whP c (st0_6 t) (out9 c (grid0.coords t) (st0_6 t) f9 (accN m c (t.val + 1)).1) ⊢ (keeps m c 6 t : sProp 𝕄) := by
  unfold keeps out9
  by_cases h : ((grid0.coords t) 1).val = 15
  · rw [if_pos h, if_pos h]
    refine owns_intro c _ _ _ ?_
    rw [after_6]
    exact View.read_writes_full _ _ _ _ _
  · rw [if_neg h, if_neg h]
    iintro H; iexists d
    iapply (owns_intro c _ _ _ h9); iexact H
theorem keeps_7 (c : Dev nD) (t : Fin cfg0.N) (d) (f9) (h9 : (st0_7 t).view.read (Elt F) f9 = (dats m 0 c).before 7 t d) :
    whP c (st0_7 t) (out10 c (grid0.coords t) (st0_7 t) f9 (accN m c (t.val + 1)).2) ⊢ (keeps m c 7 t : sProp 𝕄) := by
  unfold keeps out10
  by_cases h : ((grid0.coords t) 1).val = 15
  · rw [if_pos h, if_pos h]
    refine owns_intro c _ _ _ ?_
    rw [after_7]
    exact View.read_writes_full _ _ _ _ _
  · rw [if_neg h, if_neg h]
    iintro H; iexists d
    iapply (owns_intro c _ _ _ h9); iexact H

set_option maxHeartbeats 2000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  simp only [before_0, before_1, before_2, before_3, before_4]
  rw [show (dats m 0 c).Φ t.castSucc = PhiN m c t.val from rfl, show (dats m 0 c).Φ t.succ = PhiN m c (t.val + 1) from rfl,
    after_0, after_1, after_2, after_3, after_4, after_5]
  unfold Dat.owesAt Pipeline.owesWithin
  rw [show (dats m 0 c).owed t.castSucc = 0 from rfl, show (dats m 0 c).owed t.succ = 0 from rfl]
  unfold PhiN
  iintro ⟨⟨⟨%fa, %fb, %hab, HA, HB⟩, Hs0, Hs1, Hg, Hc0, Hc1, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  unfold owns
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, -, H5⟩
  icases H6 with ⟨%f6, %e6, H6⟩
  icases H7 with ⟨%f7, %e7, H7⟩
  have hA : outA c (V m c main_v36) (grid0.coords t) (iblk m c 0 t) (iblk m c 1 t) (iblk m c 2 t) (iblk m c 3 t) (iblk m c 4 t) fa fb = (accN m c (t.val + 1)).1 := by
    rw [accN_succ]
    by_cases h : t.val = 0
    · exact outA_first c (V m c main_v36) (grid0.coords t) (coords_zero t h) (iblk m c 0 t) (iblk m c 1 t) (iblk m c 2 t) (iblk m c 3 t) (iblk m c 4 t) fa (accN m c t.val).1 fb (accN m c t.val).2
    · rw [(hab h).1, (hab h).2]
  have hB : outB c (V m c main_v36) (grid0.coords t) (iblk m c 0 t) (iblk m c 1 t) (iblk m c 2 t) (iblk m c 3 t) (iblk m c 4 t) fa fb = (accN m c (t.val + 1)).2 := by
    rw [accN_succ]
    by_cases h : t.val = 0
    · exact outB_first c (V m c main_v36) (grid0.coords t) (coords_zero t h) (iblk m c 0 t) (iblk m c 1 t) (iblk m c 2 t) (iblk m c 3 t) (iblk m c 4 t) fa (accN m c t.val).1 fb (accN m c t.val).2
    · rw [(hab h).1, (hab h).2]
  have h8 : out8 c (V m c main_v36) (grid0.coords t) (iblk m c 0 t) (iblk m c 1 t) (iblk m c 2 t) (iblk m c 3 t) (iblk m c 4 t) fa fb = dqAt m c t := by
    unfold dqAt
    by_cases h : t.val = 0
    · exact out8_first c (V m c main_v36) (grid0.coords t) (coords_zero t h) (iblk m c 0 t) (iblk m c 1 t) (iblk m c 2 t) (iblk m c 3 t) (iblk m c 4 t) fa (accN m c t.val).1 fb (accN m c t.val).2
    · rw [(hab h).1, (hab h).2]
  iapply (bodyRun c (V m c main_v36) (grid0.coords t) (st0_0 t) _ (st0_1 t) _ (st0_2 t) _ (st0_3 t) _ (st0_4 t) _ (st0_5 t) _ (st0_6 t) _ (st0_7 t) _ f0 f1 f2 f3 f4 fa fb f5 f6 f7 _)
  rw [e0, e1, e2, e3, e4, hA, hB, h8]
  isplitl [H0 H1 H2 H3 H4 HA HB HW Hh Hs0 Hs1 Hc0 Hc1]
  · isplitl [H0]; · iexact H0
    isplitl [H1]; · iexact H1
    isplitl [H2]; · iexact H2
    isplitl [H3]; · iexact H3
    isplitl [H4]; · iexact H4
    isplitl [HA]; · iexact HA
    isplitl [HB]; · iexact HB
    isplitl [HW]; · iexists W; iexact HW
    isplitl [Hh]; · iexact Hh
    isplitl [Hs0]; · iexact Hs0
    isplitl [Hs1]; · iexact Hs1
    isplitl [Hc0]; · iexact Hc0
    iexact Hc1
  isplitl [H5]; · iexact H5
  isplitl [H6]; · iexact H6
  isplitl [H7]; · iexact H7
  iintro ⟨⟨H0, H1, H2, H3, H4, HA, HB, ⟨%W', HW⟩, Hh, Hs0, Hs1, Hc0, Hc1⟩, H5, H6, H7⟩
  isplitl [HA HB Hs0 Hs1 Hg Hc0 Hc1 Hh]
  · isplitl [HA HB]
    · iexists _, _
      isplitr; · ipureintro; exact fun _ => ⟨rfl, rfl⟩
      isplitl [HA]; · iexact HA
      iexact HB
    isplitl [Hs0]; · iexact Hs0
    isplitl [Hs1]; · iexact Hs1
    isplitl [Hg]; · iexact Hg
    isplitl [Hc0]; · iexact Hc0
    isplitl [Hc1]; · iexact Hc1
    iexact Hh
  isplitl [HW]
  · iexists W'; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists ((st0_5 t).view.writes (Elt F) f5 [⟨rQ, dqAt m c t⟩]); isplitr; · ipureintro; exact View.read_writes_full _ _ _ _ _
    iexact H5
  isplitl [H6]
  · iapply (keeps_6 m c t d6 f6 e6); iexact H6
  iapply (keeps_7 m c t d7 f7 e7); iexact H7

theorem defs₀_row (t : Fin cfg0.N) : defs₀ (F := F) .tc cfg0.body (cfg0.bodyArgs t (cfg0.slots t)) = bodyAt0 t := by
  unfold defs₀; rw [Defs.onTc_tc]

theorem idle6 (t : Fin cfg0.N) : idle0 6 (grid0.coords t) = !decide (((grid0.coords t) 1).val = 15) := by
  show (!(k0_cond5 (grid0.coords t) == 1#1)) = _
  congr 1
  rw [Bool.eq_iff_iff]; simp only [beq_iff_eq, decide_eq_true_eq]; exact cond5_iff _
theorem idle7 (t : Fin cfg0.N) : idle0 7 (grid0.coords t) = !decide (((grid0.coords t) 1).val = 15) := by
  show (!(k0_cond5 (grid0.coords t) == 1#1)) = _
  congr 1
  rw [Bool.eq_iff_iff]; simp only [beq_iff_eq, decide_eq_true_eq]; exact cond5_iff _
theorem coords_last : ∀ t : Fin cfg0.N, ((grid0.coords t) 1).val = 15 ↔ t.val % 16 = 15 :=
  (by decide +kernel : ∀ t : Fin grid0.N, ((grid0.coords t) 1).val = 15 ↔ t.val % 16 = 15)
theorem flush6 (t : Fin cfg0.N) (h : ¬ ((grid0.coords t) 1).val = 15) : (win0 6).flush t = false := by
  rw [Bool.eq_false_iff]; exact fun hf => h ((coords_last t).mpr ((flush0_6 t).mp hf))
theorem flush7 (t : Fin cfg0.N) (h : ¬ ((grid0.coords t) 1).val = 15) : (win0 7).flush t = false := by
  rw [Bool.eq_false_iff]; exact fun hf => h ((coords_last t).mpr ((flush0_7 t).mp hf))

theorem body_obligation (c : Dev nD) :
    BodyObligation (dats (F := F) m 0 c) (defs₀ (F := F)) 𝒱₀ () Set.univ := fun t => by
  rw [bigSep_W0, bigSep_W0, defs₀_row]
  dsimp only
  rw [idle6]
  by_cases h : ((grid0.coords t) 1).val = 15
  · refine triple_restated (sound_body m c t) rfl .rfl fun _ => ?_
    unfold bodyPost keeps
    simp only [if_pos h, h, decide_true, Bool.not_true]
    exact .rfl
  · refine triple_restated (sound_body m c t) rfl .rfl fun _ => ?_
    unfold bodyPost keeps
    simp only [if_neg h, h, decide_false, Bool.not_false, flush6 t h, flush7 t h]
    exact .rfl

/-! ## The launch -/

set_option maxHeartbeats 800000 in
theorem hmainD : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option backward.isDefEq.respectTransparency.types false in
/-- Every run ends with the three results at the values the points left and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma_shared (Q' := _) cfgs (dats m) (0 : Fin 1) launch₀0 osem0 defs₀ 𝒱₀ ownSemFacts0 H0 H0_sub m ρ main
    (hbody := fun c => (body_obligation m c).loose) (hq := fun _ _ _ => rfl)
    (howed := fun _ _ => rfl) (V := V m) (hmain := hmainD m) (hA := A_eq m)
    (hin := fun c => PhiN_in m c) (hout := fun c => PhiN_out m c _)

/-- The arguments at the end are the arguments at the start. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩

end Cert.KernelIdeal.Hand

end
-- ==== Proof.Reals.lean ====
/-
  Vectors of extended reals whose every entry is a real number given by a formula of the entry's coordinates, and the
  vector operations on them.
-/
module

public import Idealize.ShloMosaic.PureOps
public import Idealize.ShloMosaic.PureOps.IdealRules
public import Idealize.ShloMosaic.Lib.Pointwise
public import Idealize.ShloMosaic.Lib.IdealHost
public import Idealize.ShloMosaic.Lib.MatmulPlain
public import Idealize.ShloMosaic.Lib.Affine

@[expose] public section

noncomputable section

namespace Cert.Hand

open Idealize.ShloMosaic Idealize.ShloMosaic.ValueIdx
open scoped BigOperators

variable {n m k : ℕ}

/-- Every entry of the matrix `v` is the real number `f` says. -/
def R2 (v : (⟨2, ![n, m]⟩ : Shape).Idx → EReal) (f : ℕ → ℕ → ℝ) : Prop := ∀ x, v x = ((f (x 0).val (x 1).val : ℝ) : EReal)

theorem coe_sum (N : ℕ) (f : Fin N → ℝ) : ∑ i, ((f i : ℝ) : EReal) = ((∑ i, f i : ℝ) : EReal) := by
  induction N with
  | zero => simp
  | succ N ih => rw [Fin.sum_univ_castSucc, Fin.sum_univ_castSucc, EReal.coe_add, ih]

theorem slt_ofNat {a b : ℕ} (ha : a < 2 ^ 31) (hb : b < 2 ^ 31) : IntOp.cmpi .slt (BitVec.ofNat 32 a) (BitVec.ofNat 32 b) = 1#1 ↔ a < b := by
  rw [IntOp.cmpi_slt, BitVec.toInt_ofNat', BitVec.toInt_ofNat', Int.bmod_eq_of_le (by omega) (by omega), Int.bmod_eq_of_le (by omega) (by omega)]
  omega

namespace R2
variable {v w : (⟨2, ![n, m]⟩ : Shape).Idx → EReal} {f g : ℕ → ℕ → ℝ}

theorem at_ (h : R2 v f) (r : Fin n) (c : Fin m) : v (ValueIdx.ix2 r c) = ((f r.val c.val : ℝ) : EReal) := h (ValueIdx.ix2 r c)
theorem congr (h : R2 v f) (e : ∀ r < n, ∀ c < m, f r c = g r c) : R2 v g :=
  fun x => by rw [h x, e _ (x 0).isLt _ (x 1).isLt]
theorem ext (hv : R2 v f) (hw : R2 w g) (e : ∀ r < n, ∀ c < m, f r c = g r c) : v = w :=
  funext fun x => by rw [hv x, hw x, e _ (x 0).isLt _ (x 1).isLt]

variable {φ ψ : FTy}

theorem add (a b : FVec Ideal ⟨2, ![n, m]⟩ φ) (ha : R2 a f) (hb : R2 b g) : R2 (addf a b) fun r c => f r c + g r c :=
  fun x => by show a x + b x = _; rw [ha x, hb x, EReal.coe_add]
theorem sub (a b : FVec Ideal ⟨2, ![n, m]⟩ φ) (ha : R2 a f) (hb : R2 b g) : R2 (subf a b) fun r c => f r c - g r c :=
  fun x => by show a x - b x = _; rw [ha x, hb x, EReal.coe_sub]
theorem mul (a b : FVec Ideal ⟨2, ![n, m]⟩ φ) (ha : R2 a f) (hb : R2 b g) : R2 (mulf a b) fun r c => f r c * g r c :=
  fun x => by show a x * b x = _; rw [ha x, hb x, EReal.coe_mul]
theorem bc (e : EReal) (r : ℝ) (h : e = (r : EReal)) : R2 (broadcast ⟨2, ![n, m]⟩ e) fun _ _ => r := fun x => h
theorem zero (b : FVec Ideal ⟨2, ![n, m]⟩ .f32) (h : b = fun _ => Ideal.ofBits .f32 0x00000000#32) : R2 b fun _ _ => 0 := fun x => by
  rw [h]; exact Ideal.ofBits_zero .f32

/-- The logistic function as the kernel computes it, by powers of two. -/
theorem sig (z : FVec Ideal ⟨2, ![n, m]⟩ .f32) (hz : R2 z f) :
    R2 (divf (broadcast ⟨2, ![n, m]⟩ (Scalar.ofBits (F := Ideal) .f32 0x3F800000#32)) (addf (broadcast ⟨2, ![n, m]⟩ (Scalar.ofBits (F := Ideal) .f32 0x3F800000#32))
      (exp2 (subf (broadcast ⟨2, ![n, m]⟩ (Scalar.ofBits (F := Ideal) .f32 0x00000000#32)) z)))) fun r c => 1 / (1 + (2 : ℝ) ^ (-f r c)) := fun x => by
  show Ideal.div (Ideal.ofBits .f32 0x3F800000#32) (Ideal.ofBits .f32 0x3F800000#32 + Ideal.exp2 (Ideal.ofBits .f32 0x00000000#32 - z x)) = _
  rw [hz x, Ideal.ofBits_one_f32, show Ideal.ofBits .f32 0x00000000#32 = ((0 : ℝ) : EReal) from Ideal.ofBits_zero .f32, ← EReal.coe_sub, Ideal.exp2_coe,
    ← EReal.coe_one, ← EReal.coe_add, Ideal.div_coe (by have := Real.rpow_pos_of_pos (show (0 : ℝ) < 2 by norm_num) (0 - f (x 0).val (x 1).val); exact ne_of_gt (by linarith [show Real.rpow 2 (0 - f (x 0).val (x 1).val) > 0 from this])), ← EReal.coe_mul, one_mul, zero_sub]
  rfl

/-- The product of two matrices. -/
theorem dot (prec) (a : FVec Ideal ⟨2, ![n, k]⟩ φ) (b : FVec Ideal ⟨2, ![k, m]⟩ ψ) (acc : FVec Ideal ⟨2, ![n, m]⟩ .f32)
    (hacc : acc = fun _ => Ideal.ofBits .f32 0x00000000#32) {f g : ℕ → ℕ → ℝ} (ha : R2 a f) (hb : R2 b g) :
    R2 (FloatOps.matmul (DotDims.plain n k m) prec a b acc) fun r c => ∑ i ∈ Finset.range k, f r i * g i c := fun x => by
  refine (Ideal.matmul_apply₁_of (DotDims.plain n k m) (K := k) rfl rfl a b acc x (fun i => ValueIdx.ix2 (x 0) i) (fun i => ValueIdx.ix2 i (x 1))
    (fun i => funext fun d => by fin_cases d <;> rfl) (fun i => funext fun d => by fin_cases d <;> rfl)).trans ?_
  subst hacc
  refine (congrArg (· + _) (Ideal.ofBits_zero .f32)).trans ((zero_add _).trans ?_)
  refine (Finset.sum_congr rfl fun i _ => (congrArg₂ (· * ·) (ha.at_ (x 0) i) (hb.at_ i (x 1))).trans (EReal.coe_mul _ _).symm).trans ((coe_sum k _).trans ?_)
  exact congrArg Real.toEReal (Finset.sum_range (fun i => f (x 0).val i * g i (x 1).val)).symm

/-- The product of a matrix and a matrix's transpose. -/
theorem dotT (prec) (a : FVec Ideal ⟨2, ![n, k]⟩ φ) (b : FVec Ideal ⟨2, ![m, k]⟩ ψ) (acc : FVec Ideal ⟨2, ![n, m]⟩ .f32)
    (hacc : acc = fun _ => Ideal.ofBits .f32 0x00000000#32) {f g : ℕ → ℕ → ℝ} (ha : R2 a f) (hb : R2 b g) :
    R2 (FloatOps.matmul (DotDims.transposedRhs n k m) prec a b acc) fun r c => ∑ i ∈ Finset.range k, f r i * g c i := fun x => by
  refine (Ideal.matmul_apply₁_of (DotDims.transposedRhs n k m) (K := k) rfl rfl a b acc x (fun i => ValueIdx.ix2 (x 0) i) (fun i => ValueIdx.ix2 (x 1) i)
    (fun i => funext fun d => by fin_cases d <;> rfl) (fun i => funext fun d => by fin_cases d <;> rfl)).trans ?_
  subst hacc
  refine (congrArg (· + _) (Ideal.ofBits_zero .f32)).trans ((zero_add _).trans ?_)
  refine (Finset.sum_congr rfl fun i _ => (congrArg₂ (· * ·) (ha.at_ (x 0) i) (hb.at_ (x 1) i)).trans (EReal.coe_mul _ _).symm).trans ((coe_sum k _).trans ?_)
  exact congrArg Real.toEReal (Finset.sum_range (fun i => f (x 0).val i * g (x 1).val i)).symm

/-- A block of a matrix. -/
theorem slice {n' m' : ℕ} (v : FVec Ideal ⟨2, ![n, m]⟩ φ) (off : Fin 2 → ℕ) (h : Shape.Slices (⟨2, ![n, m]⟩ : Shape) off ⟨2, ![n', m']⟩) (hv : R2 v f) :
    R2 (extractStridedSlice (⟨2, ![n', m']⟩ : Shape) off v h) fun r c => f (off 0 + r) (off 1 + c) := fun x => hv _

/-- A column repeated. -/
theorem col (v : FVec Ideal ⟨2, ![n, 1]⟩ φ) (h : Shape.Broadcasts (⟨2, ![n, 1]⟩ : Shape) ⟨2, ![n, m]⟩) (hn : n ≠ 1) (hv : R2 v f) :
    R2 (broadcastTo (⟨2, ![n, m]⟩ : Shape) v h) fun r _ => f r 0 := fun x => by
  refine (hv _).trans ?_
  have h0 : ¬ (⟨2, ![n, 1]⟩ : Shape).size 0 = 1 := hn
  have h1 : (⟨2, ![n, 1]⟩ : Shape).size 1 = 1 := rfl
  rw [dif_neg h0, dif_pos h1]
  rfl

/-- Matrices side by side. -/
theorem cat2 {m₁ m₂ : ℕ} (a : (⟨2, ![n, m₁]⟩ : Shape).Idx → EReal) (b : (⟨2, ![n, m₂]⟩ : Shape).Idx → EReal)
    (h : Shape.Concatenates [⟨2, ![n, m₁]⟩, ⟨2, ![n, m₂]⟩] (⟨2, ![n, m]⟩ : Shape) 1) (ha : R2 a f) (hb : R2 b g) :
    R2 (concatenate (⟨2, ![n, m]⟩ : Shape) 1 [⟨⟨2, ![n, m₁]⟩, a⟩, ⟨⟨2, ![n, m₂]⟩, b⟩] h) fun r c => if c < m₁ then f r c else g r (c - m₁) := fun x => by
  refine (concatenate_apply _ _ [⟨⟨2, ![n, m₁]⟩, a⟩, ⟨⟨2, ![n, m₂]⟩, b⟩] h x).trans ?_
  refine (concatenateAt_cons _ _ _ _ _ _ _ _).trans ?_
  split
  · rename_i h1; exact (ha _).trans (congrArg Real.toEReal (if_pos (show (x 1).val < m₁ from h1)).symm)
  rename_i h1
  refine (concatenateAt_singleton _ _ _ _ _ _).trans ((hb _).trans (congrArg Real.toEReal (if_neg (show ¬ (x 1).val < m₁ from h1)).symm))

theorem cat4 {m₁ m₂ m₃ m₄ : ℕ} (a : (⟨2, ![n, m₁]⟩ : Shape).Idx → EReal) (b : (⟨2, ![n, m₂]⟩ : Shape).Idx → EReal)
    (c : (⟨2, ![n, m₃]⟩ : Shape).Idx → EReal) (d : (⟨2, ![n, m₄]⟩ : Shape).Idx → EReal) {f₁ f₂ f₃ f₄ : ℕ → ℕ → ℝ}
    (h : Shape.Concatenates [⟨2, ![n, m₁]⟩, ⟨2, ![n, m₂]⟩, ⟨2, ![n, m₃]⟩, ⟨2, ![n, m₄]⟩] (⟨2, ![n, m]⟩ : Shape) 1) (ha : R2 a f₁) (hb : R2 b f₂) (hc : R2 c f₃) (hd : R2 d f₄) :
    R2 (concatenate (⟨2, ![n, m]⟩ : Shape) 1 [⟨⟨2, ![n, m₁]⟩, a⟩, ⟨⟨2, ![n, m₂]⟩, b⟩, ⟨⟨2, ![n, m₃]⟩, c⟩, ⟨⟨2, ![n, m₄]⟩, d⟩] h)
      fun r j => if j < m₁ then f₁ r j else if j - m₁ < m₂ then f₂ r (j - m₁) else if j - m₁ - m₂ < m₃ then f₃ r (j - m₁ - m₂) else f₄ r (j - m₁ - m₂ - m₃) := fun x => by
  refine (concatenate_apply _ _ [⟨⟨2, ![n, m₁]⟩, a⟩, ⟨⟨2, ![n, m₂]⟩, b⟩, ⟨⟨2, ![n, m₃]⟩, c⟩, ⟨⟨2, ![n, m₄]⟩, d⟩] h x).trans ?_
  refine (concatenateAt_cons _ _ _ _ _ _ _ _).trans ?_
  split
  · rename_i h1; exact (ha _).trans (congrArg Real.toEReal (if_pos (show (x 1).val < m₁ from h1)).symm)
  rename_i h1
  refine Eq.trans ?_ (congrArg Real.toEReal (if_neg (show ¬ (x 1).val < m₁ from h1)).symm)
  refine (concatenateAt_cons _ _ _ _ _ _ _ _).trans ?_
  split
  · rename_i h2; exact (hb _).trans (congrArg Real.toEReal (if_pos (show (x 1).val - m₁ < m₂ from h2)).symm)
  rename_i h2
  refine Eq.trans ?_ (congrArg Real.toEReal (if_neg (show ¬ (x 1).val - m₁ < m₂ from h2)).symm)
  refine (concatenateAt_cons _ _ _ _ _ _ _ _).trans ?_
  split
  · rename_i h3; exact (hc _).trans (congrArg Real.toEReal (if_pos (show (x 1).val - m₁ - m₂ < m₃ from h3)).symm)
  rename_i h3
  refine Eq.trans ?_ (congrArg Real.toEReal (if_neg (show ¬ (x 1).val - m₁ - m₂ < m₃ from h3)).symm)
  exact (concatenateAt_singleton _ _ _ _ _ _).trans (hd _)

end R2

/-- The product of a matrix's transpose and a matrix. -/
def dotL (K M N : ℕ) (h : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

theorem R2.dotL {φ ψ : FTy} (h) (prec) (a : FVec Ideal ⟨2, ![k, n]⟩ φ) (b : FVec Ideal ⟨2, ![k, m]⟩ ψ) (acc : FVec Ideal ⟨2, ![n, m]⟩ .f32)
    (hacc : acc = fun _ => Ideal.ofBits .f32 0x00000000#32) {f g : ℕ → ℕ → ℝ} (ha : R2 a f) (hb : R2 b g) :
    R2 (FloatOps.matmul (Cert.Hand.dotL k n m h) prec a b acc) fun r c => ∑ i ∈ Finset.range k, f i r * g i c := fun x => by
  refine (Ideal.matmul_apply₁_of (Cert.Hand.dotL k n m h) (K := k) rfl rfl a b acc x (fun i => ValueIdx.ix2 i (x 0)) (fun i => ValueIdx.ix2 i (x 1))
    (fun i => funext fun d => by fin_cases d <;> rfl) (fun i => funext fun d => by fin_cases d <;> rfl)).trans ?_
  subst hacc
  refine (congrArg (· + _) (Ideal.ofBits_zero .f32)).trans ((zero_add _).trans ?_)
  refine (Finset.sum_congr rfl fun i _ => (congrArg₂ (· * ·) (ha.at_ i (x 0)) (hb.at_ i (x 1))).trans (EReal.coe_mul _ _).symm).trans ((coe_sum k _).trans ?_)
  exact congrArg Real.toEReal (Finset.sum_range (fun i => f i (x 0).val * g i (x 1).val)).symm

end Cert.Hand

end
-- ==== Proof.Staged.lean ====
/-
  The reference program's tensors in stages: each definition is one array of the host program as a function of the
  arrays it is computed from, and the three results are these stages composed.
-/
module

public import proofs.«01_k».proof.Proof.Gen.ReferenceIdeal.Run
public import proofs.«01_k».proof.Proof.Reals

@[expose] public section

noncomputable section

namespace Cert.Staged

open Cert.ReferenceIdeal Cert.ReferenceIdeal.Gen Cert.ReferenceIdeal.Value Idealize.ShloMosaic Idealize.ShloMosaic.TcCoe Idealize.SL.Sem Idealize.ShloMosaic.StableHlo

/-- Columns split into heads. -/
def heads (x : FVec Ideal S8192x1024 .f32) : FVec Ideal S8x8192x128 .f32 :=
  transpose S8x8192x128 [1, 0, 2] (shapeCast S8192x8x128 x shapeCasts_S8192x1024_S8192x8x128) transposes_S8192x8x128_S8x8192x128_1_0_2

def qs (a1 : FVec Ideal S8192x7168 .f32) : FVec Ideal S8x8192x128 .f32 := heads (extractStridedSlice S8192x1024 ![0, 4096] a1 slices_S8192x7168_S8192x1024_0_4096)
def ks (a1 : FVec Ideal S8192x7168 .f32) : FVec Ideal S8x8192x128 .f32 := heads (extractStridedSlice S8192x1024 ![0, 5120] a1 slices_S8192x7168_S8192x1024_0_5120)
def vs (a1 : FVec Ideal S8192x7168 .f32) : FVec Ideal S8x8192x128 .f32 := heads (extractStridedSlice S8192x1024 ![0, 6144] a1 slices_S8192x7168_S8192x1024_0_6144)
def os (a0 : FVec Ideal S8192x2048 .f32) : FVec Ideal S8x8192x128 .f32 := heads (extractStridedSlice S8192x1024 ![0, 1024] a0 slices_S8192x2048_S8192x1024_0_1024)

/-- The constant `b` everywhere. -/
def const (b : BitVec 32) : FVec Ideal S8x8192x8192 .f32 := broadcastInDim S8x8192x8192 ![] bcast_S_S8x8192x8192 (constant (F := Ideal) S_ .f32 b)
/-- The square root of 128 everywhere. -/
def root : FVec Ideal S8x8192x8192 .f32 := broadcastInDim S8x8192x8192 ![] bcast_S_S8x8192x8192 (Host.sqrt (constant (F := Ideal) S_ .f32 0x43000000#32))

/-- The mask: column before row. -/
def msk : S8x8192x8192.Idx → BitVec 1 :=
  broadcastInDim S8x8192x8192 ![1, 2] bcast_S8192x8192_S8x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Scores: the products of rows over all pairs. -/
def pairs (a b : FVec Ideal S8x8192x128 .f32) : FVec Ideal S8x8192x8192 .f32 := Host.dotGeneral dot_S8x8192x128_S8x8192x128_S8x8192x8192_2_2_1_1_0_0 none a b

def z (a1 : FVec Ideal S8192x7168 .f32) : FVec Ideal S8x8192x8192 .f32 := Host.divf (pairs (qs a1) (ks a1)) root

/-- The softplus. -/
def sp (x : FVec Ideal S8x8192x8192 .f32) : FVec Ideal S8x8192x8192 .f32 :=
  select (cmpf .une (subf x (const 0x00000000#32)) (subf x (const 0x00000000#32))) (addf x (const 0x00000000#32))
    (addf (maximumf x (const 0x00000000#32)) (Host.log1p (Host.exp (Host.negf (Host.absf (subf x (const 0x00000000#32)))))))
/-- Its derivative. -/
def spd (x : FVec Ideal S8x8192x8192 .f32) : FVec Ideal S8x8192x8192 .f32 :=
  Host.exp (subf (select (cmpf .oeq x (const 0x7F800000#32)) (const 0x00000000#32) x) (select (cmpf .oeq (sp x) (const 0x7F800000#32)) (const 0x00000000#32) (sp x)))
/-- The logarithm of the logistic function. -/
def ls (x : FVec Ideal S8x8192x8192 .f32) : FVec Ideal S8x8192x8192 .f32 := Host.negf (sp (Host.negf x))

/-- The sums over the columns from this one on. -/
def suffix (x : FVec Ideal S8x8192x8192 .f32) : FVec Ideal S8x8192x8192 .f32 :=
  Host.reduceWindowAdd ![1, 1, 8192] ![1, 1, 1] ![0, 0, 0] ![0, 0, 8191] x (broadcastInDim S_ ![] bcast_S_S_ (constant (F := Ideal) S_ .f32 0x00000000#32)) reduceWindows_S8x8192x8192_S8x8192x8192_w1s1p0_0_w1s1p0_0_w8192s1p0_8191 h_S_
/-- The sums over the columns up to this one. -/
def prefix_ (x : FVec Ideal S8x8192x8192 .f32) : FVec Ideal S8x8192x8192 .f32 :=
  Host.reduceWindowAdd ![1, 1, 8192] ![1, 1, 1] ![0, 0, 8191] ![0, 0, 0] x (broadcastInDim S_ ![] bcast_S_S_ (constant (F := Ideal) S_ .f32 0x00000000#32)) reduceWindows_S8x8192x8192_S8x8192x8192_w1s1p0_0_w1s1p0_0_w8192s1p8191_0 h_S_

def masked (x : FVec Ideal S8x8192x8192 .f32) : FVec Ideal S8x8192x8192 .f32 := select msk x (const 0x00000000#32)

def rl (z : FVec Ideal S8x8192x8192 .f32) : FVec Ideal S8x8192x8192 .f32 := masked (ls (Host.negf z))
/-- The weights before the mask. -/
def we (z : FVec Ideal S8x8192x8192 .f32) : FVec Ideal S8x8192x8192 .f32 := Host.exp (addf (ls z) (subf (suffix (rl z)) (rl z)))
/-- The weights. -/
def w (z : FVec Ideal S8x8192x8192 .f32) : FVec Ideal S8x8192x8192 .f32 := masked (we z)
/-- The weights' cotangents times the weights. -/
def d (z : FVec Ideal S8x8192x8192 .f32) (o v : FVec Ideal S8x8192x128 .f32) : FVec Ideal S8x8192x8192 .f32 := mulf (masked (pairs o v)) (we z)
/-- The scores' cotangents. -/
def dz (z d : FVec Ideal S8x8192x8192 .f32) : FVec Ideal S8x8192x8192 .f32 :=
  Host.divf (addf (Host.negf (mulf (Host.negf d) (spd (Host.negf z))))
    (Host.negf (Host.negf (mulf (Host.negf (masked (addf (Host.negf d) (prefix_ d)))) (spd (Host.negf (Host.negf z))))))) root

/-- Heads joined into columns. -/
def join (x : FVec Ideal S8x8192x128 .f32) : FVec Ideal S8192x1024 .bf16 :=
  truncf .bf16 (shapeCast S8192x1024 (transpose S8192x8x128 [1, 0, 2] x transposes_S8x8192x128_S8192x8x128_1_0_2) shapeCasts_S8192x8x128_S8192x1024) bitsLt_bf16_f32

def dq (dz : FVec Ideal S8x8192x8192 .f32) (k : FVec Ideal S8x8192x128 .f32) : FVec Ideal S8192x1024 .bf16 :=
  join (Host.dotGeneral dot_S8x8192x8192_S8x8192x128_S8x8192x128_2_1_1_2_0_0 none dz k)
def dk (dz : FVec Ideal S8x8192x8192 .f32) (q : FVec Ideal S8x8192x128 .f32) : FVec Ideal S8192x1024 .bf16 :=
  join (Host.dotGeneral dot_S8x8192x8192_S8x8192x128_S8x8192x128_1_1_2_2_0_0 none dz q)
def dv (w : FVec Ideal S8x8192x8192 .f32) (o : FVec Ideal S8x8192x128 .f32) : FVec Ideal S8192x1024 .bf16 :=
  join (transpose S8x8192x128 [0, 2, 1] (Host.dotGeneral dot_S8x8192x128_S8x8192x8192_S8x128x8192_1_1_2_2_0_0 none o w) transposes_S8x128x8192_S8x8192x128_0_2_1)

variable (m : (ℓ : Loc nD τ sig) → Buf (Elt Ideal) ℓ) (c : Dev nD)

def arg0 : FVec Ideal S8192x2048 .f32 := m ((c.tc : Thread nD τ).loc main_arg0)
def arg1 : FVec Ideal S8192x7168 .f32 := m ((c.tc : Thread nD τ).loc main_arg1)

def dzs (a0 : FVec Ideal S8192x2048 .f32) (a1 : FVec Ideal S8192x7168 .f32) : FVec Ideal S8x8192x8192 .f32 := dz (z a1) (d (z a1) (os a0) (vs a1))

set_option maxRecDepth 8192 in
set_option maxHeartbeats 4000000 in
theorem res2 : res_main_v59 m c = dv (w (z (arg1 m c))) (os (arg0 m c)) := rfl
set_option maxRecDepth 8192 in
set_option maxHeartbeats 4000000 in
theorem res1 : res_main_v58 m c = dk (dzs (arg0 m c) (arg1 m c)) (qs (arg1 m c)) := rfl
set_option maxRecDepth 8192 in
set_option maxHeartbeats 4000000 in
theorem res0 : res_main_v57 m c = dq (dzs (arg0 m c) (arg1 m c)) (ks (arg1 m c)) := rfl

end Cert.Staged
-- ==== Proof.Vals.lean ====
/-
  What the gradient kernel computes at one tile, over the reals.
-/
module

public import proofs.«01_k».proof.Proof.Body
public import proofs.«01_k».proof.Proof.Reals

@[expose] public section

set_option maxRecDepth 16384

noncomputable section

namespace Cert.KernelIdeal.Hand

open Cert.Hand Cert.KernelIdeal Cert.KernelIdeal.Gen
open Idealize.ShloMosaic
open scoped BigOperators

/-! ## A block of 128 columns -/

section Block
variable {o : ℕ} {d z : ℕ → ℕ → ℝ} {ρ : ℕ → ℝ}

/-- The gradient of a score, of the products `d` along its row, the score `z` and the row's sum `ρ` left of the block. -/
def dzt (d z : ℕ → ℕ → ℝ) (ρ : ℕ → ℝ) (r c : ℕ) : ℝ :=
  d r c - 1 / (1 + (2 : ℝ) ^ (-z r c)) * (d r c + (ρ r + ∑ x ∈ Finset.range c, d r x))

/-- The table of the strict prefix sums. -/
def IsTab (t : FVec Ideal S256x128 .bf16) : Prop := R2 t fun r c => if r % 128 < c then 1 else 0

theorem lo0 (b : FVec Ideal S512x128 .f32) {f : ℕ → ℕ → ℝ} (hb : R2 b f) :
    R2 (truncf .bf16 (subf b (extf .f32 (truncf .bf16 b bitsLt_bf16_f32) bitsLt_bf16_f32)) bitsLt_bf16_f32) fun _ _ => 0 :=
  (R2.sub (φ := .f32) b b hb hb).congr fun r _ c _ => sub_self _

theorem sl {n' m' : ℕ} (v : FVec Ideal S512x512 .f32) (o : ℕ) (h : Shape.Slices S512x512 ![0, o] ⟨2, ![n', m']⟩) {f : ℕ → ℕ → ℝ} (hv : R2 v f) :
    R2 (extractStridedSlice (⟨2, ![n', m']⟩ : Shape) ![0, o] v h) fun r c => f r (o + c) :=
  (R2.slice v _ h hv).congr fun r _ c _ => by show f (0 + r) (o + c) = _; rw [zero_add]

theorem split_sum (f : ℕ → ℝ) (c : ℕ) (hc : c < 128) :
    ∑ i ∈ Finset.range 256, (if i < 128 then f i else 0) * (if i % 128 < c then (1 : ℝ) else 0) = ∑ x ∈ Finset.range c, f x := by
  rw [show (256 : ℕ) = 128 + 128 from rfl, Finset.sum_range_add]
  rw [show ∑ x ∈ Finset.range 128, (if 128 + x < 128 then f (128 + x) else 0) * (if (128 + x) % 128 < c then (1 : ℝ) else 0) = 0 from
    Finset.sum_eq_zero fun x _ => by rw [if_neg (by omega), zero_mul], add_zero]
  rw [show (128 : ℕ) = c + (128 - c) by omega, Finset.sum_range_add]
  rw [show ∑ x ∈ Finset.range (128 - c), (if c + x < c + (128 - c) then f (c + x) else 0) * (if (c + x) % (c + (128 - c)) < c then (1 : ℝ) else 0) = 0 from
    Finset.sum_eq_zero fun x hx => by
      have hx := Finset.mem_range.mp hx
      rw [if_neg (c := (c + x) % (c + (128 - c)) < c) (by rw [Nat.mod_eq_of_lt (by omega)]; omega), mul_zero], add_zero]
  refine Finset.sum_congr rfl fun x hx => ?_
  have hx := Finset.mem_range.mp hx
  rw [if_pos (by omega), if_pos (by rw [Nat.mod_eq_of_lt (by omega)]; omega), mul_one]

theorem pfx (t : FVec Ideal S256x128 .bf16) (run : FVec Ideal S512x1 .f32) (b b' : FVec Ideal S512x128 .bf16) (o : ℕ) (ht : IsTab t)
    (hrun : R2 run fun r _ => ρ r + ∑ x ∈ Finset.range o, d r x) (hb : R2 b fun r c => d r (o + c)) (hb' : R2 b' fun _ _ => 0) :
    R2 (addf (broadcastTo S512x128 run broadcasts_S512x1_S512x128)
      (matmul dot_S512x256_S256x128_S512x128_1_0_0_1_n_n none (concatenate S512x256 1 [⟨S512x128, b⟩, ⟨S512x128, b'⟩] concatenates_S512x128_S512x128_S512x256_d1) t
        (constant S512x128 .f32 0x00000000#32))) fun r c => ρ r + ∑ x ∈ Finset.range (o + c), d r x := by
  have h1 := R2.col (m := 128) run broadcasts_S512x1_S512x128 (by norm_num) hrun
  have h2 := R2.dot (φ := .bf16) none _ t (constant S512x128 .f32 0x00000000#32) rfl (R2.cat2 (m := 256) b b' concatenates_S512x128_S512x128_S512x256_d1 hb hb') ht
  refine (R2.add (φ := .f32) _ _ h1 h2).congr fun r _ c hc => ?_
  have e := split_sum (fun i => d r (o + i)) c hc
  rw [Finset.sum_range_add, ← add_assoc, ← e]

theorem runNext (P b : FVec Ideal S512x128 .f32) (o : ℕ) (hP : R2 P fun r c => ρ r + ∑ x ∈ Finset.range (o + c), d r x)
    (hb : R2 b fun r c => d r (o + c)) :
    R2 (addf (extractStridedSlice S512x1 ![0, 127] P slices_S512x128_o0_127_S512x1) (extractStridedSlice S512x1 ![0, 127] b slices_S512x128_o0_127_S512x1))
      fun r _ => ρ r + ∑ x ∈ Finset.range (o + 128), d r x :=
  (R2.add (φ := .f32) _ _ (R2.slice (n' := 512) (m' := 1) P _ slices_S512x128_o0_127_S512x1 hP) (R2.slice (n' := 512) (m' := 1) b _ slices_S512x128_o0_127_S512x1 hb)).congr fun r _ c hc => by
    obtain rfl : c = 0 := by omega
    show ρ (0 + r) + ∑ x ∈ Finset.range (o + 127), d (0 + r) x + d (0 + r) (o + 127) = _
    rw [zero_add, show o + 128 = (o + 127) + 1 from rfl, Finset.sum_range_succ _ (o + 127), add_assoc]

theorem dzBlock (P b s : FVec Ideal S512x128 .f32) (o : ℕ) (hP : R2 P fun r c => ρ r + ∑ x ∈ Finset.range (o + c), d r x)
    (hb : R2 b fun r c => d r (o + c)) (hs : R2 s fun r c => 1 / (1 + (2 : ℝ) ^ (-z r (o + c)))) :
    R2 (subf b (mulf s (addf b P))) fun r c => dzt d z ρ r (o + c) :=
  R2.sub (φ := .f32) _ _ hb (R2.mul (φ := .f32) _ _ hs (R2.add (φ := .f32) _ _ hb hP))

/-- Four blocks side by side. -/
theorem cat4z (a b c e : FVec Ideal S512x128 .f32) {f : ℕ → ℕ → ℝ} (ha : R2 a fun r j => f r (0 + j)) (hb : R2 b fun r j => f r (128 + j))
    (hc : R2 c fun r j => f r (256 + j)) (he : R2 e fun r j => f r (384 + j)) :
    R2 (concatenate S512x512 1 [⟨S512x128, a⟩, ⟨S512x128, b⟩, ⟨S512x128, c⟩, ⟨S512x128, e⟩] concatenates_S512x128_S512x128_S512x128_S512x128_S512x512_d1) f :=
  (R2.cat4 (m := 512) a b c e concatenates_S512x128_S512x128_S512x128_S512x128_S512x512_d1 ha hb hc he).congr fun r _ j hj => by
    split_ifs <;> congr 1 <;> omega

end Block

/-! ## The constants -/

/-- The score's scale, the factor on the query, and the factor that undoes it. -/
def kS : ℝ := (Real.sqrt 128)⁻¹
def kQ : ℝ := (Real.sqrt 128 * Real.log 2)⁻¹
def kU : ℝ := Real.sqrt 128 * Real.log 2

theorem named_q : Named.named (F := Ideal) (φ := .f32) κ "sb_query_scale" 0x3E0293EE#32 = ((kQ : ℝ) : EReal) := IdealRules.named_const.ideal_named_scalar κ _ _ _ rfl
theorem named_u : Named.named (F := Ideal) (φ := .f32) κ "sb_query_unscale" 0x40FAF233#32 = ((kU : ℝ) : EReal) := IdealRules.named_const.ideal_named_scalar κ _ _ _ rfl
theorem named_s : Named.named (F := Ideal) (φ := .f32) κ "sb_scale" 0x3DB504F3#32 = ((kS : ℝ) : EReal) := IdealRules.named_const.ideal_named_scalar κ _ _ _ rfl

/-! ## A tile left of the diagonal -/

section Tile
variable {d z : ℕ → ℕ → ℝ} {ρ : ℕ → ℝ} {q k v o w g old : ℕ → ℕ → ℝ}
variable (v6 v8 kb vb : FVec Ideal S512x128 .bf16) (v9 : FVec Ideal S256x128 .bf16) (W : FVec Ideal S1x512x512 .bf16)
  (D Z : FVec Ideal S512x512 .f32) (run : FVec Ideal S512x1 .f32) (acc : FVec Ideal S512x128 .f32)

theorem cast_W (h : R2 (k0_pay5 (F := Ideal) W) w) : R2 (k0_pay56 (F := Ideal) W) w := h

theorem pay6 (hq : R2 v6 q) (hk : R2 kb k) : R2 (k0_pay6 (F := Ideal) v6 kb) fun r c => ∑ i ∈ Finset.range 128, q r i * k c i := by
  have : shapeCast S512x128 kb shapeCasts_S512x128_S512x128 = kb := shapeCast_self _ _
  unfold k0_pay6; dsimp only; rw [this]
  exact R2.dotT none v6 kb _ rfl hq hk
theorem pay7 (ho : R2 v8 o) (hv : R2 vb v) (hw : R2 (k0_pay5 (F := Ideal) W) w) :
    R2 (k0_pay7 (F := Ideal) v8 W vb) fun r c => (∑ i ∈ Finset.range 128, o r i * v c i) * w r c := by
  have : shapeCast S512x128 vb shapeCasts_S512x128_S512x128 = vb := shapeCast_self _ _
  unfold k0_pay7; dsimp only; rw [this]
  exact R2.mul (φ := .f32) _ _ (R2.dotT none v8 vb _ rfl ho hv) hw
theorem pay8 (V : FVec Ideal S512x512 .bf16) (ho : R2 v8 o) (hw : R2 V w) (ha : R2 acc old) :
    R2 (k0_pay8 (F := Ideal) v8 V acc) fun r c => old r c + ∑ i ∈ Finset.range 512, w i r * o i c := by
  unfold k0_pay8; dsimp only; rw [shapeCast_self]
  exact R2.add (φ := .f32) _ _ ha (R2.dotL _ none V v8 _ rfl hw ho)

theorem pay9 (hz : R2 Z z) : R2 (k0_pay9 (F := Ideal) Z) fun r c => 1 / (1 + (2 : ℝ) ^ (-z r c)) := R2.sig Z hz

variable (hd : R2 D d) (hz : R2 Z z) (ht : IsTab v9) (hr : R2 run fun r _ => ρ r)
include hd
theorem pay10 : R2 (k0_pay10 (F := Ideal) D) fun r c => d r (0 + c) := sl D 0 slices_S512x512_o0_0_S512x128 hd
theorem pay13 : R2 (k0_pay13 (F := Ideal) D) fun r c => d r (128 + c) := sl D 128 slices_S512x512_o0_128_S512x128 hd
theorem pay17 : R2 (k0_pay17 (F := Ideal) D) fun r c => d r (256 + c) := sl D 256 slices_S512x512_o0_256_S512x128 hd
theorem pay42 : R2 (k0_pay42 (F := Ideal) D) fun r c => d r (384 + c) := sl D 384 slices_S512x512_o0_384_S512x128 hd
include ht hr
theorem pay11 : R2 (k0_pay11 (F := Ideal) v9 run D) fun r c => ρ r + ∑ x ∈ Finset.range (0 + c), d r x :=
  pfx v9 run _ _ 0 ht (hr.congr fun r _ c _ => by simp) (pay10 D hd) (lo0 _ (pay10 D hd))
theorem pay14 : R2 (k0_pay14 (F := Ideal) v9 run D) fun r c => ρ r + ∑ x ∈ Finset.range (128 + c), d r x :=
  pfx v9 _ _ _ 128 ht (runNext _ _ 0 (pay11 v9 D run hd ht hr) (pay10 D hd)) (pay13 D hd) (lo0 _ (pay13 D hd))
theorem pay16 : R2 (k0_pay16 (F := Ideal) v9 run D) fun r _ => ρ r + ∑ x ∈ Finset.range 256, d r x :=
  runNext _ _ 128 (pay14 v9 D run hd ht hr) (pay13 D hd)
theorem pay41 : R2 (k0_pay41 (F := Ideal) v9 (k0_pay16 v9 run D) (k0_pay18 D) (k0_pay19 D)) fun r c => ρ r + ∑ x ∈ Finset.range (256 + c), d r x :=
  pfx v9 _ _ _ 256 ht (pay16 v9 D run hd ht hr) (pay17 D hd) (lo0 _ (pay17 D hd))
theorem pay43 : R2 (k0_pay43 (F := Ideal) v9 D (k0_pay16 v9 run D) (k0_pay17 D) (k0_pay18 D) (k0_pay19 D)) fun r c => ρ r + ∑ x ∈ Finset.range (384 + c), d r x :=
  pfx v9 _ _ _ 384 ht (runNext _ _ 256 (pay41 v9 D run hd ht hr) (pay17 D hd)) (pay42 D hd) (lo0 _ (pay42 D hd))
/-- The row sums past the tile. -/
theorem pay44 : R2 (k0_pay44 (F := Ideal) v9 D (k0_pay16 v9 run D) (k0_pay17 D) (k0_pay18 D) (k0_pay19 D)) fun r _ => ρ r + ∑ x ∈ Finset.range 512, d r x :=
  runNext _ _ 384 (pay43 v9 D run hd ht hr) (pay42 D hd)
include hz
theorem pay12 : R2 (k0_pay12 (F := Ideal) v9 run Z D) fun r c => dzt d z ρ r (0 + c) :=
  dzBlock _ _ _ 0 (pay11 v9 D run hd ht hr) (pay10 D hd) (sl _ 0 slices_S512x512_o0_0_S512x128 (pay9 Z hz))
theorem pay15 : R2 (k0_pay15 (F := Ideal) v9 run Z D) fun r c => dzt d z ρ r (128 + c) :=
  dzBlock _ _ _ 128 (pay14 v9 D run hd ht hr) (pay13 D hd) (sl _ 128 slices_S512x512_o0_128_S512x128 (pay9 Z hz))
/-- The gradients of the tile's scores. -/
theorem pay45 : R2 (k0_pay45 (F := Ideal) v9 D (k0_pay9 Z) (k0_pay12 v9 run Z D) (k0_pay15 v9 run Z D) (k0_pay16 v9 run D) (k0_pay17 D) (k0_pay18 D) (k0_pay19 D))
    fun r c => dzt d z ρ r c * kS :=
  R2.mul (φ := .f32) _ _ (cat4z _ _ _ _ (pay12 v9 D Z run hd hz ht hr) (pay15 v9 D Z run hd hz ht hr)
    (dzBlock _ _ _ 256 (pay41 v9 D run hd ht hr) (pay17 D hd) (sl _ 256 slices_S512x512_o0_256_S512x128 (pay9 Z hz)))
    (dzBlock _ _ _ 384 (pay43 v9 D run hd ht hr) (pay42 D hd) (sl _ 384 slices_S512x512_o0_384_S512x128 (pay9 Z hz)))) (R2.bc _ kS named_s)

theorem carOf_1 (ac : Car Ideal) (h1 : ac.1 = run) : R2 (carOf v9 D Z kb ac).1 fun r _ => ρ r + ∑ x ∈ Finset.range 512, d r x := by
  subst h1; exact pay44 v9 D _ hd ht hr
theorem carOf_2 (ac : Car Ideal) (h1 : ac.1 = run) (hk : R2 kb k) (h2 : R2 ac.2 g) :
    R2 (carOf v9 D Z kb ac).2 fun r c => g r c + ∑ x ∈ Finset.range 512, dzt d z ρ r x * kS * k x c := by
  subst h1
  have : shapeCast S512x128 kb shapeCasts_S512x128_S512x128 = kb := shapeCast_self _ _
  unfold carOf k0_pay46; dsimp only; rw [this]
  exact R2.add (φ := .f32) _ _ h2 (R2.dot none _ kb _ rfl (pay45 v9 D Z _ hd hz ht hr) hk)
theorem dkOf_ (hq : R2 v6 q) (ha : R2 acc old) :
    R2 (dkOf v6 v9 D Z run acc) fun r c => old r c + ∑ i ∈ Finset.range 512, dzt d z ρ i r * kS * q i c := by
  unfold dkOf k0_pay47; dsimp only; rw [shapeCast_self]
  exact R2.add (φ := .f32) _ _ ha (R2.dotL _ none _ v6 _ rfl (pay45 v9 D Z _ hd hz ht hr) hq)

end Tile

/-! ## The tile on the diagonal -/

section Diag
variable {d z : ℕ → ℕ → ℝ} {ρ : ℕ → ℝ} {q k v o w g old : ℕ → ℕ → ℝ}
variable (v6 v8 kb vb : FVec Ideal S512x128 .bf16) (v9 : FVec Ideal S256x128 .bf16) (W : FVec Ideal S1x512x512 .bf16)
  (run : FVec Ideal S512x1 .f32) (acc : FVec Ideal S512x128 .f32)

theorem mask55 (x : S512x512.Idx) : k0_pay55 x = 1#1 ↔ (x 1).val < (x 0).val := by
  have h0 : (x 0).val < 512 := (x 0).isLt
  have h1 : (x 1).val < 512 := (x 1).isLt
  have e : k0_pay55 x = IntOp.cmpi .slt (BitVec.ofNat 32 (0 * 512 + (x 1).val)) (BitVec.ofNat 32 (0 * 512 + (x 0).val)) := rfl
  rw [e, zero_mul, zero_add, zero_add, slt_ofNat (by omega) (by omega)]

theorem dbE_ (hq : R2 v6 q) (hk : R2 kb k) (ho : R2 v8 o) (hv : R2 vb v) (hw : R2 (k0_pay5 (F := Ideal) W) w) (ht : IsTab v9) (hr : R2 run fun r _ => ρ r) :
    R2 (dbE v6 v8 v9 run W kb vb) fun r c => (if c < r then dzt (fun r c => (∑ i ∈ Finset.range 128, o r i * v c i) * w r c)
      (fun r c => ∑ i ∈ Finset.range 128, q r i * k c i) ρ r c else 0) * kS := by
  have hd := pay7 v8 vb W ho hv hw
  have hz := pay6 v6 kb hq hk
  have hs : R2 (k0_pay59 (F := Ideal) v6 kb) _ := pay9 _ hz
  have e57 : k0_pay57 (F := Ideal) v8 W vb = k0_pay7 v8 W vb := rfl
  have h65 := cat4z _ _ _ _ (pay12 v9 _ _ run hd hz ht hr) (pay15 v9 _ _ run hd hz ht hr)
    (dzBlock _ _ _ 256 (pay41 v9 _ run hd ht hr) (pay17 _ hd) (sl _ 256 slices_S512x512_o0_256_S512x128 (pay9 _ hz)))
    (dzBlock _ _ _ 384 (pay43 v9 _ run hd ht hr) (pay42 _ hd) (sl _ 384 slices_S512x512_o0_384_S512x128 (pay9 _ hz)))
  refine R2.mul (φ := .f32) _ _ (fun x => ?_) (R2.bc _ kS named_s)
  by_cases h : (x 1).val < (x 0).val
  · exact (if_pos ((mask55 x).mpr h)).trans ((h65 x).trans (congrArg Real.toEReal (if_pos h).symm))
  · exact (if_neg (mt (mask55 x).mp h)).trans ((Ideal.ofBits_zero .f32).trans (congrArg Real.toEReal (if_neg h).symm))

end Diag

end Cert.KernelIdeal.Hand

end
-- ==== Proof.Reads.lean ====
/-
  What the gradient kernel's loads read: a landed tile's words, and the rows of the accumulators.
-/
module

public import proofs.«01_k».proof.Proof.Vals
public import Idealize.ShloMosaic.Lib.WritesUnit

@[expose] public section

set_option maxRecDepth 16384

noncomputable section

namespace Cert.KernelIdeal.Hand

open Cert.Hand Cert.KernelIdeal Cert.KernelIdeal.Gen
open Idealize.ShloMosaic Idealize.ShloMosaic.TcCoe
open scoped BigOperators

section W
variable {F : FTy → Type} [FloatOps F] [Named F]
variable (c : Dev nD) (XW : Buf (Elt F) (wM.view.loc (c : Thread nD τ))) (i : grid0.Coords)

/-- The tile's entry among the weights. -/
theorem payload_at (b : Tile) (r s : Fin 512) : payload c XW b (ValueIdx.ix2 r s) = XW (ValueIdx.ix4 b.1 b.2 r s) := by
  show XW ((Rect.unit (s := S8x136x512x512) (tileOff b) S1x1x512x512.size (tileOff_inb b)).emb (Shape.reshapeEquiv _ (ValueIdx.ix2 r s))) = _
  rw [Shape.reshapeEquiv_eq_of_vals _ _ (ValueIdx.ix4 (0 : Fin 1) (0 : Fin 1) r s) _ _ (rowMajor_val4 _ 262144 262144 512 rfl rfl rfl) (rowMajor_val2 _ 512 rfl) (by show 0 * 262144 + 0 * 262144 + r.val * 512 + s.val = r.val * 512 + s.val; omega)]
  congr 1
  funext a; apply Fin.ext
  fin_cases a
  · show b.1.val + 1 * 0 = b.1.val; omega
  · show b.2.val + 1 * 0 = b.2.val; omega
  · show 0 + 1 * r.val = r.val; omega
  · show 0 + 1 * s.val = s.val; omega

theorem slot_read (s : Fin 2) (off : Fin 3 → ℕ) (e : off = slotOff s) (inb) (f : Buf (Elt F) ((rslot s).view.loc (c : Thread nD τ))) :
    k0_pay5 (bufM.view.readAt (Elt F) (Rect.unit (s := S2x512x512) off S1x512x512.size inb).toLoadRect f) = (rslot s).view.read (Elt F) f := by
  subst e; rfl

theorem wAt_eq (k : Fin (k0_t1_loop i).trips) : k0_pay5 (wAt c XW i k) = payload c XW (tl i k.val) :=
  (slot_read c (Ring.sl 2 k.val) _ (off8_eq i k) _ _).trans (View.read_writes_whole _ _ _)
theorem wE_eq : k0_pay5 (wE c XW i) = payload c XW (tl i (k0_t1_loop i).trips) :=
  (slot_read c (Ring.sl 2 (k0_t1_loop i).trips) _ (off24_eq i) _ _).trans (View.read_writes_whole _ _ _)
end W

/-! ## The accumulators' rows -/

section Acc

/-- Rows `512 n` to `512 n + 511` of a matrix of 8192. -/
theorem rows_R2 {off : Fin 2 → ℕ} {n : ℕ} (e : off = ![512 * n, 0]) (inb) (a : S8192x128.Idx → EReal) {f : ℕ → ℕ → ℝ} (h : R2 a f) :
    R2 (n := 512) (m := 128) (fun x => a ((Rect.unit (s := S8192x128) off S512x128.size inb).toLoadRect.idx x)) fun r j => f (512 * n + r) j := by
  subst e
  intro x
  refine (h _).trans ?_
  congr 2
  · show 512 * n + 1 * (x 0).val = _; omega
  · show 0 + 1 * (x 1).val = _; omega

/-- A store of those rows: the rows stored, and the others kept. -/
theorem write_R2 (v : View sig .tc .vmem S8192x128 .f32) (b : v.ty.Contents (Elt Ideal)) {off : Fin 2 → ℕ} {n : ℕ} (e : off = ![512 * n, 0]) (inb) (w : S512x128.Idx → EReal) {f g : ℕ → ℕ → ℝ}
    (hb : R2 (n := 8192) (m := 128) (v.read (Elt Ideal) b) f) (hw : R2 (n := 512) (m := 128) w g) :
    R2 (n := 8192) (m := 128) (v.read (Elt Ideal) (v.writes (Elt Ideal) b [⟨Rect.unit (s := S8192x128) off S512x128.size inb, w⟩]))
      fun r j => if 512 * n ≤ r ∧ r < 512 * n + 512 then g (r - 512 * n) j else f r j := by
  intro x
  have h1 : (x 1).val < 128 := (x 1).isLt
  by_cases h : 512 * n ≤ (x 0).val ∧ (x 0).val < 512 * n + 512
  · refine (View.read_writes_cons_rows_of_mem v b inb w [] x (ValueIdx.ix2 (⟨(x 0).val - 512 * n, by omega⟩ : Fin 512) (⟨(x 1).val, h1⟩ : Fin 128)) e ?_ rfl).trans ?_
    · show (x 0).val = 512 * n + ((x 0).val - 512 * n); omega
    · exact (hw _).trans (congrArg Real.toEReal (if_pos h).symm)
  · refine (View.read_writes_cons_rows_of_not_mem (W := 512) v b inb w [] x e rfl (by omega)).trans ?_
    exact (hb x).trans (congrArg Real.toEReal (if_neg h).symm)

end Acc

end Cert.KernelIdeal.Hand

end
-- ==== Proof.Points.lean ====
/-
  One grid point of the gradient kernel over the reals: the loop over the tiles left of the diagonal, the diagonal tile,
  and what the point leaves.
-/
module

public import proofs.«01_k».proof.Proof.Reads

@[expose] public section

set_option maxRecDepth 16384

noncomputable section

namespace Cert.KernelIdeal.Hand

open Cert.Hand Cert.KernelIdeal Cert.KernelIdeal.Gen
open Idealize.ShloMosaic Idealize.ShloMosaic.TcCoe
open scoped BigOperators

/-- One head's queries, keys, values, output gradient and weights. -/
structure Head where
  Q : ℕ → ℕ → ℝ
  K : ℕ → ℕ → ℝ
  V : ℕ → ℕ → ℝ
  O : ℕ → ℕ → ℝ
  W : ℕ → ℕ → ℝ

namespace Head
variable (H : Head)
/-- The score in units of `log 2`, and the product of a weight and its gradient. -/
def z (t s : ℕ) : ℝ := ∑ i ∈ Finset.range 128, H.Q t i * kQ * H.K s i
def d (t s : ℕ) : ℝ := (∑ i ∈ Finset.range 128, H.O t i * H.V s i) * H.W t s
/-- The gradient of a score. -/
def dz (t s : ℕ) : ℝ := if s < t then dzt H.d H.z (fun _ => 0) t s else 0
/-- What a query row and a key row give each other's gradients. -/
def gq (t s c : ℕ) : ℝ := H.dz t s * kS * H.K s c
def gk (t s c : ℕ) : ℝ := H.dz t s * kS * (H.Q t c * kQ)
def gv (t s c : ℕ) : ℝ := H.W t s * H.O t c

theorem dzt_tile (a b r c : ℕ) :
    dzt (fun r c => H.d (a + r) (b + c)) (fun r c => H.z (a + r) (b + c)) (fun r => ∑ x ∈ Finset.range b, H.d (a + r) x) r c
      = dzt H.d H.z (fun _ => 0) (a + r) (b + c) := by
  unfold dzt
  rw [zero_add, Finset.sum_range_add]
end Head

theorem pay1 (v6 : FVec Ideal S512x128 .bf16) (db : FVec Ideal S512x512 .bf16) (acc : FVec Ideal S512x128 .f32) {q old b : ℕ → ℕ → ℝ} (hb : R2 (n := 512) (m := 512) db b)
    (hq : R2 (n := 512) (m := 128) v6 q) (ha : R2 (n := 512) (m := 128) acc old) :
    R2 (n := 512) (m := 128) (k0_pay1 (F := Ideal) v6 db acc) fun r c => old r c + ∑ i ∈ Finset.range 512, b i r * q i c := by
  unfold k0_pay1; dsimp only; rw [shapeCast_self]
  exact R2.add (φ := .f32) _ _ ha (R2.dotL _ none _ v6 _ rfl hb hq)

section Point
variable (c : Dev nD) (XW : Buf (Elt Ideal) (wM.view.loc (c : Thread nD τ))) (i : grid0.Coords) (H : Head)
  (v6 v8 : FVec Ideal S512x128 .bf16) (v9 : Vec Ideal S256x128 .bf16) (ak av : S8192x128.Idx → EReal)
  (A B : ℕ → ℕ → ℝ)

/-- What a point reads. -/
structure Reads : Prop where
  h6 : R2 (n := 512) (m := 128) v6 fun r j => H.Q (512 * (i 1).val + r) j * kQ
  h8 : R2 (n := 512) (m := 128) v8 fun r j => H.O (512 * (i 1).val + r) j
  h9 : IsTab v9
  hk : R2 (n := 8192) (m := 128) ak H.K
  hv : R2 (n := 8192) (m := 128) av H.V
  hW : ∀ k ≤ (i 1).val, R2 (n := 512) (m := 512) (payload (F := Ideal) c XW (tl i k)) fun r s => H.W (512 * (i 1).val + r) (512 * k + s)

/-- The state past `k` tiles. -/
structure Past (k : ℕ) (s : St (F := Ideal) c) : Prop where
  run : R2 (n := 512) (m := 1) s.1.1 fun r _ => ∑ x ∈ Finset.range (512 * k), H.d (512 * (i 1).val + r) x
  dq : R2 (n := 512) (m := 128) s.1.2 fun r j => ∑ x ∈ Finset.range (512 * k), H.gq (512 * (i 1).val + r) x j
  ka : R2 (n := 8192) (m := 128) (kaM.view.read (Elt Ideal) s.2.1) fun x j => A x j + if x < 512 * k then ∑ r ∈ Finset.range 512, H.gk (512 * (i 1).val + r) x j else 0
  va : R2 (n := 8192) (m := 128) (vaM.view.read (Elt Ideal) s.2.2) fun x j => B x j + if x < 512 * k then ∑ r ∈ Finset.range 512, H.gv (512 * (i 1).val + r) x j else 0

variable {c XW i H v6 v8 v9 ak av A B}

theorem acc_step (k x : ℕ) (a g : ℝ) :
    (if 512 * k ≤ x ∧ x < 512 * k + 512 then (a + if x < 512 * k then g else 0) + g else a + if x < 512 * k then g else 0)
      = a + if x < 512 * (k + 1) then g else 0 := by
  by_cases h1 : 512 * k ≤ x ∧ x < 512 * k + 512
  · rw [if_pos h1, if_neg (by omega), if_pos (by omega)]; ring
  · by_cases h2 : x < 512 * k
    · rw [if_neg h1, if_pos h2, if_pos (by omega)]
    · rw [if_neg h1, if_neg h2, if_neg (by omega)]

theorem sum_tile (f : ℕ → ℝ) (k : ℕ) : ∑ x ∈ Finset.range (512 * k), f x + ∑ x ∈ Finset.range 512, f (512 * k + x) = ∑ x ∈ Finset.range (512 * (k + 1)), f x := by
  rw [show 512 * (k + 1) = 512 * k + 512 by ring, Finset.sum_range_add]

set_option maxHeartbeats 2000000 in
theorem stepS_past (hr : Reads c XW i H v6 v8 v9 ak av) (k : Fin (k0_t1_loop i).trips) (s : St (F := Ideal) c) (hs : Past c i H A B k.val s) :
    Past c i H A B (k.val + 1) (stepS c XW i v6 v8 v9 ak av k s) := by
  have hkn := k_lt i k
  have hkb : R2 (n := 512) (m := 128) (rowsAt (F := Ideal) (e := .bf16) (rK i k) ak) fun r j => H.K (512 * k.val + r) j := rows_R2 (off9_eq i k) _ ak hr.hk
  have hvb : R2 (n := 512) (m := 128) (rowsAt (F := Ideal) (e := .bf16) (rK i k) av) fun r j => H.V (512 * k.val + r) j := rows_R2 (off9_eq i k) _ av hr.hv
  have hw : R2 (n := 512) (m := 512) (k0_pay5 (F := Ideal) (wAt c XW i k)) fun r s => H.W (512 * (i 1).val + r) (512 * k.val + s) := by
    rw [wAt_eq]; exact hr.hW k.val (by omega)
  have hz : R2 (n := 512) (m := 512) _ fun r s => H.z (512 * (i 1).val + r) (512 * k.val + s) := pay6 v6 _ hr.h6 hkb
  have hd : R2 (n := 512) (m := 512) _ fun r s => H.d (512 * (i 1).val + r) (512 * k.val + s) := pay7 v8 _ _ hr.h8 hvb hw
  have hka : R2 (n := 512) (m := 128) (kaM.view.readAt (Elt Ideal) (rK i k).toLoadRect s.2.1) _ := rows_R2 (off9_eq i k) _ _ hs.ka
  have hva : R2 (n := 512) (m := 128) (vaM.view.readAt (Elt Ideal) (rK i k).toLoadRect s.2.2) _ := rows_R2 (off9_eq i k) _ _ hs.va
  have hdz : ∀ r < 512, ∀ x < 512, dzt (fun r s => H.d (512 * (i 1).val + r) (512 * k.val + s)) (fun r s => H.z (512 * (i 1).val + r) (512 * k.val + s))
      (fun r => ∑ x ∈ Finset.range (512 * k.val), H.d (512 * (i 1).val + r) x) r x = H.dz (512 * (i 1).val + r) (512 * k.val + x) := fun r hr x hx => by
    rw [Head.dzt_tile, Head.dz, if_pos (by omega)]
  refine ⟨?_, ?_, ?_, ?_⟩
  · refine (carOf_1 _ v9 _ _ s.1.1 hd hz hr.h9 hs.run s.1 rfl).congr fun r _ _ _ => ?_
    exact sum_tile (fun x => H.d (512 * (i 1).val + r) x) k.val
  · refine (carOf_2 _ v9 _ _ s.1.1 hd hz hr.h9 hs.run s.1 rfl hkb hs.dq).congr fun r hr' j _ => ?_
    rw [← sum_tile]
    refine congrArg _ (Finset.sum_congr rfl fun x hx => ?_)
    rw [hdz r hr' x (Finset.mem_range.mp hx)]; rfl
  · refine (write_R2 kaM.view s.2.1 (off9_eq i k) _ _ hs.ka (dkOf_ v6 v9 _ _ s.1.1 _ hd hz hr.h9 hs.run hr.h6 hka)).congr fun x hx j _ => ?_
    rw [← acc_step]
    by_cases h1 : 512 * k.val ≤ x ∧ x < 512 * k.val + 512
    · have ex : 512 * k.val + (x - 512 * k.val) = x := by omega
      simp only [if_pos h1, ex]
      refine congrArg _ (Finset.sum_congr rfl fun r hx => ?_)
      rw [hdz r (Finset.mem_range.mp hx) (x - 512 * k.val) (by omega), ex]; rfl
    · simp only [if_neg h1]
  · refine (write_R2 vaM.view s.2.2 (off9_eq i k) _ _ hs.va (pay8 v8 _ _ hr.h8 hw hva)).congr fun x hx j _ => ?_
    rw [← acc_step]
    by_cases h1 : 512 * k.val ≤ x ∧ x < 512 * k.val + 512
    · have ex : 512 * k.val + (x - 512 * k.val) = x := by omega
      simp only [if_pos h1, ex]
      rfl
    · simp only [if_neg h1]

theorem stAt_past (hr : Reads c XW i H v6 v8 v9 ak av) (fa : Buf (Elt Ideal) (kaM.view.loc (c : Thread nD τ))) (fb : Buf (Elt Ideal) (vaM.view.loc (c : Thread nD τ)))
    (hfa : R2 (n := 8192) (m := 128) (kaM.view.read (Elt Ideal) fa) A) (hfb : R2 (n := 8192) (m := 128) (vaM.view.read (Elt Ideal) fb) B) :
    ∀ k ≤ (k0_t1_loop i).trips, Past c i H A B k (stAt c XW i v6 v8 v9 ak av fa fb k)
  | 0, _ => ⟨(R2.bc _ 0 (Ideal.ofBits_zero .f32)).congr fun r _ _ _ => by simp, (R2.bc _ 0 (Ideal.ofBits_zero .f32)).congr fun r _ _ _ => by simp,
      hfa.congr fun r _ _ _ => by simp, hfb.congr fun r _ _ _ => by simp⟩
  | k + 1, hk => by
    rw [stAt, dif_pos (by omega)]
    exact stepS_past hr ⟨k, by omega⟩ _ (stAt_past hr fa fb hfa hfb k (by omega))

/-- The query's gradient past the diagonal tile. -/
theorem diag (hr : Reads c XW i H v6 v8 v9 ak av) (s : St (F := Ideal) c) (hs : Past c i H A B (i 1).val s) :
    R2 (n := 512) (m := 128) (dqE c XW i v6 v8 v9 ak av s) (fun r j => ∑ x ∈ Finset.range (512 * ((i 1).val + 1)), H.gq (512 * (i 1).val + r) x j)
    ∧ R2 (n := 8192) (m := 128) (kaM.view.read (Elt Ideal) (kaE c XW i v6 v8 v9 ak av s))
        (fun x j => A x j + if x < 512 * ((i 1).val + 1) then ∑ r ∈ Finset.range 512, H.gk (512 * (i 1).val + r) x j else 0)
    ∧ R2 (n := 8192) (m := 128) (vaM.view.read (Elt Ideal) (vaE c XW i v8 s))
        (fun x j => B x j + if x < 512 * ((i 1).val + 1) then ∑ r ∈ Finset.range 512, H.gv (512 * (i 1).val + r) x j else 0) := by
  have hkb : R2 (n := 512) (m := 128) (rowsAt (F := Ideal) (e := .bf16) (rE i) ak) fun r j => H.K (512 * (i 1).val + r) j := rows_R2 (off25_eq i) _ ak hr.hk
  have hvb : R2 (n := 512) (m := 128) (rowsAt (F := Ideal) (e := .bf16) (rE i) av) fun r j => H.V (512 * (i 1).val + r) j := rows_R2 (off25_eq i) _ av hr.hv
  have hw : R2 (n := 512) (m := 512) (k0_pay5 (F := Ideal) (wE c XW i)) fun r s => H.W (512 * (i 1).val + r) (512 * (i 1).val + s) := by
    rw [wE_eq, trips_eq]; exact hr.hW _ le_rfl
  have hka : R2 (n := 512) (m := 128) (kaM.view.readAt (Elt Ideal) (rE i).toLoadRect s.2.1) _ := rows_R2 (off25_eq i) _ _ hs.ka
  have hva : R2 (n := 512) (m := 128) (vaM.view.readAt (Elt Ideal) (rE i).toLoadRect s.2.2) _ := rows_R2 (off25_eq i) _ _ hs.va
  have hdb : R2 (n := 512) (m := 512) (dbE v6 v8 v9 s.1.1 (wE c XW i) (rowsAt (F := Ideal) (e := .bf16) (rE i) ak) (rowsAt (F := Ideal) (e := .bf16) (rE i) av))
      fun r x => H.dz (512 * (i 1).val + r) (512 * (i 1).val + x) * kS :=
    (dbE_ v6 v8 _ _ v9 _ s.1.1 hr.h6 hkb hr.h8 hvb hw hr.h9 hs.run).congr fun r _ x _ => by
      refine congrArg (· * kS) ?_
      have e := H.dzt_tile (512 * (i 1).val) (512 * (i 1).val) r x
      by_cases h : x < r
      · rw [if_pos h, Head.dz, if_pos (by omega)]; exact e
      · rw [if_neg h, Head.dz, if_neg (by omega)]
  have e66 : k0_pay66 (F := Ideal) (rowsAt (F := Ideal) (e := .bf16) (rE i) ak) = rowsAt (F := Ideal) (e := .bf16) (rE i) ak := shapeCast_self _ _
  refine ⟨?_, ?_, ?_⟩
  · unfold dqE k0_pay2; dsimp only; rw [e66]
    refine (R2.add (φ := .f32) _ _ hs.dq (R2.dot none _ _ _ rfl hdb hkb)).congr fun r _ j _ => ?_
    rw [← sum_tile]; rfl
  · have h1 := pay1 v6 _ (kaM.view.readAt (Elt Ideal) (rE i).toLoadRect s.2.1) hdb hr.h6 hka
    refine (write_R2 kaM.view s.2.1 (off25_eq i) _ _ hs.ka h1).congr fun x hx j _ => ?_
    rw [← acc_step]
    by_cases h1 : 512 * (i 1).val ≤ x ∧ x < 512 * (i 1).val + 512
    · have ex : 512 * (i 1).val + (x - 512 * (i 1).val) = x := by omega
      simp only [if_pos h1, ex]
      rfl
    · simp only [if_neg h1]
  · refine (write_R2 vaM.view s.2.2 (off25_eq i) _ _ hs.va (pay8 v8 _ _ hr.h8 hw hva)).congr fun x hx j _ => ?_
    rw [← acc_step]
    by_cases h1 : 512 * (i 1).val ≤ x ∧ x < 512 * (i 1).val + 512
    · have ex : 512 * (i 1).val + (x - 512 * (i 1).val) = x := by omega
      simp only [if_pos h1, ex]
      rfl
    · simp only [if_neg h1]

end Point

end Cert.KernelIdeal.Hand

end
-- ==== Proof.Acc.lean ====
/-
  The kernel's points one after the other over the reals: what the accumulators hold after each, and the blocks of the
  three gradients.
-/
module

public import proofs.«01_k».proof.Proof.Points
public import proofs.«01_k».proof.Proof.Run

@[expose] public section

set_option maxRecDepth 16384

noncomputable section

namespace Cert.KernelIdeal.Hand

open Cert.Hand Cert.KernelIdeal Cert.KernelIdeal.Gen
open Idealize.ShloMosaic Idealize.ShloMosaic.TcCoe
open scoped BigOperators

/-! ## One point -/

section Point
variable {c : Dev nD} {XW : Buf (Elt Ideal) (wM.view.loc (c : Thread nD τ))} {i : grid0.Coords} {H : Head}
  {a2 a3 : S512x128.Idx → EReal} {ak av : S8192x128.Idx → EReal} {a6 : S256x128.Idx → EReal} {A B : ℕ → ℕ → ℝ}
  {fa : Buf (Elt Ideal) (kaM.view.loc (c : Thread nD τ))} {fb : Buf (Elt Ideal) (vaM.view.loc (c : Thread nD τ))}

theorem zeroK : R2 (n := 8192) (m := 128) (k0_pay35 (F := Ideal)) fun _ _ => 0 := by
  unfold k0_pay35; dsimp only; rw [shapeCast_self]; exact R2.bc _ 0 (Ideal.ofBits_zero .f32)
theorem zeroV : R2 (n := 8192) (m := 128) (k0_pay36 (F := Ideal)) fun _ _ => 0 := by
  unfold k0_pay36; dsimp only; rw [shapeCast_self]; exact R2.bc _ 0 (Ideal.ofBits_zero .f32)

theorem fa0_ (h : (i 1).val ≠ 0 → R2 (n := 8192) (m := 128) (kaM.view.read (Elt Ideal) fa) A) (h0 : (i 1).val = 0 → ∀ x j, A x j = 0) :
    R2 (n := 8192) (m := 128) (kaM.view.read (Elt Ideal) (fa0 c i fa)) A := by
  unfold fa0
  by_cases e : (i 1).val = 0
  · rw [if_pos e, View.read_writes_full]
    exact zeroK.congr fun r _ j _ => (h0 e r j).symm
  · rw [if_neg e]; exact h e
theorem fb0_ (h : (i 1).val ≠ 0 → R2 (n := 8192) (m := 128) (vaM.view.read (Elt Ideal) fb) B) (h0 : (i 1).val = 0 → ∀ x j, B x j = 0) :
    R2 (n := 8192) (m := 128) (vaM.view.read (Elt Ideal) (fb0 c i fb)) B := by
  unfold fb0
  by_cases e : (i 1).val = 0
  · rw [if_pos e, View.read_writes_full]
    exact zeroV.congr fun r _ j _ => (h0 e r j).symm
  · rw [if_neg e]; exact h e

theorem point (hr : Reads c XW i H (q6 (F := Ideal) a3) (q8 (F := Ideal) a2) (q9 (F := Ideal) a6) ak av)
    (hA : R2 (n := 8192) (m := 128) (kaM.view.read (Elt Ideal) (fa0 c i fa)) A) (hB : R2 (n := 8192) (m := 128) (vaM.view.read (Elt Ideal) (fb0 c i fb)) B) :
    R2 (n := 512) (m := 128) (out8 (F := Ideal) c XW i a2 a3 ak av a6 fa fb) (fun r j => ∑ x ∈ Finset.range (512 * ((i 1).val + 1)), H.gq (512 * (i 1).val + r) x j)
    ∧ R2 (n := 8192) (m := 128) (kaM.view.read (Elt Ideal) (outA (F := Ideal) c XW i a2 a3 ak av a6 fa fb))
        (fun x j => A x j + if x < 512 * ((i 1).val + 1) then ∑ r ∈ Finset.range 512, H.gk (512 * (i 1).val + r) x j else 0)
    ∧ R2 (n := 8192) (m := 128) (vaM.view.read (Elt Ideal) (outB (F := Ideal) c XW i a2 a3 ak av a6 fa fb))
        (fun x j => B x j + if x < 512 * ((i 1).val + 1) then ∑ r ∈ Finset.range 512, H.gv (512 * (i 1).val + r) x j else 0) :=
  diag hr _ (by have h := stAt_past hr (fa0 c i fa) (fb0 c i fb) hA hB _ le_rfl; rw [trips_eq i] at h; unfold stN; rw [trips_eq i]; exact h)
end Point

/-! ## The blocks a point reads -/

variable (m : (ℓ : Loc nD τ sig) → Buf (Elt Ideal) ℓ) (c : Dev nD)

/-- What the launch finds, head by head. -/
structure Found (Hd : ℕ → Head) : Prop where
  o : ∀ x : S8192x2048.Idx, ∀ h k, h < 8 → k < 128 → (x 1).val = 1024 + 128 * h + k → (V m c main_arg0 : S8192x2048.Idx → EReal) x = (((Hd h).O (x 0).val k : ℝ) : EReal)
  q : ∀ x : S8192x7168.Idx, ∀ h k, h < 8 → k < 128 → (x 1).val = 4096 + 128 * h + k → (V m c main_arg1 : S8192x7168.Idx → EReal) x = (((Hd h).Q (x 0).val k : ℝ) : EReal)
  k : ∀ x : S8192x7168.Idx, ∀ h k, h < 8 → k < 128 → (x 1).val = 5120 + 128 * h + k → (V m c main_v0 : S8192x7168.Idx → EReal) x = (((Hd h).K (x 0).val k : ℝ) : EReal)
  v : ∀ x : S8192x7168.Idx, ∀ h k, h < 8 → k < 128 → (x 1).val = 6144 + 128 * h + k → (V m c main_v0 : S8192x7168.Idx → EReal) x = (((Hd h).V (x 0).val k : ℝ) : EReal)
  tab : IsTab (V m c main_cst : S256x128.Idx → EReal)
  w : ∀ x : S8x136x512x512.Idx, ∀ i j, i < 16 → j ≤ i → (x 1).val = tri i + j → (V m c main_v36 : S8x136x512x512.Idx → EReal) x = (((Hd (x 0).val).W (512 * i + (x 2).val) (512 * j + (x 3).val) : ℝ) : EReal)
  w0 : ∀ h t s, t ≤ s → (Hd h).W t s = 0

theorem idx_all : ∀ t : Fin cfg0.N, win0_0.index t = ![(grid0.coords t 1).val, 8 + (grid0.coords t 0).val] ∧ win0_1.index t = ![(grid0.coords t 1).val, 32 + (grid0.coords t 0).val]
    ∧ win0_2.index t = ![0, 40 + (grid0.coords t 0).val] ∧ win0_3.index t = ![0, 48 + (grid0.coords t 0).val] ∧ win0_4.index t = ![0, 0]
    ∧ win0_5.index t = ![(grid0.coords t 1).val, (grid0.coords t 0).val] ∧ win0_6.index t = ![0, (grid0.coords t 0).val] ∧ win0_7.index t = ![0, (grid0.coords t 0).val] :=
  (by decide +kernel : ∀ t : Fin grid0.N, win0_0.index t = ![(grid0.coords t 1).val, 8 + (grid0.coords t 0).val] ∧ win0_1.index t = ![(grid0.coords t 1).val, 32 + (grid0.coords t 0).val]
    ∧ win0_2.index t = ![0, 40 + (grid0.coords t 0).val] ∧ win0_3.index t = ![0, 48 + (grid0.coords t 0).val] ∧ win0_4.index t = ![0, 0]
    ∧ win0_5.index t = ![(grid0.coords t 1).val, (grid0.coords t 0).val] ∧ win0_6.index t = ![0, (grid0.coords t 0).val] ∧ win0_7.index t = ![0, (grid0.coords t 0).val])

theorem lt8 (t : Fin cfg0.N) : (grid0.coords t 0).val < 8 := (grid0.coords t 0).isLt
theorem lt16 (t : Fin cfg0.N) : (grid0.coords t 1).val < 16 := (grid0.coords t 1).isLt

section Blocks
variable {m c} {Hd : ℕ → Head} (hf : Found m c Hd) (t : Fin cfg0.N)
include hf

theorem blk0 : R2 (n := 512) (m := 128) (iblk m c 0 t) fun r j => (Hd (grid0.coords t 0).val).O (512 * (grid0.coords t 1).val + r) j := fun x => by
  have e0 : (((win0_0.rect t).emb x) 0).val = 512 * (grid0.coords t 1).val + (x 0).val := by
    rw [win0_0.rect_emb_val t x 0, (idx_all t).1]; show (grid0.coords t 1).val * 512 + _ = _; omega
  have e1 : (((win0_0.rect t).emb x) 1).val = 1024 + 128 * (grid0.coords t 0).val + (x 1).val := by
    rw [win0_0.rect_emb_val t x 1, (idx_all t).1]; show (8 + (grid0.coords t 0).val) * 128 + _ = _; omega
  refine (hf.o ((win0_0.rect t).emb x) _ _ (lt8 t) (x 1).isLt e1).trans ?_
  rw [e0]
theorem blk1 : R2 (n := 512) (m := 128) (iblk m c 1 t) fun r j => (Hd (grid0.coords t 0).val).Q (512 * (grid0.coords t 1).val + r) j := fun x => by
  have e0 : (((win0_1.rect t).emb x) 0).val = 512 * (grid0.coords t 1).val + (x 0).val := by
    rw [win0_1.rect_emb_val t x 0, (idx_all t).2.1]; show (grid0.coords t 1).val * 512 + _ = _; omega
  have e1 : (((win0_1.rect t).emb x) 1).val = 4096 + 128 * (grid0.coords t 0).val + (x 1).val := by
    rw [win0_1.rect_emb_val t x 1, (idx_all t).2.1]; show (32 + (grid0.coords t 0).val) * 128 + _ = _; omega
  refine (hf.q ((win0_1.rect t).emb x) _ _ (lt8 t) (x 1).isLt e1).trans ?_
  rw [e0]
theorem blk2 : R2 (n := 8192) (m := 128) (iblk m c 2 t) (Hd (grid0.coords t 0).val).K := fun x => by
  have e0 : (((win0_2.rect t).emb x) 0).val = (x 0).val := by
    rw [win0_2.rect_emb_val t x 0, (idx_all t).2.2.1]; show 0 * 8192 + _ = _; omega
  have e1 : (((win0_2.rect t).emb x) 1).val = 5120 + 128 * (grid0.coords t 0).val + (x 1).val := by
    rw [win0_2.rect_emb_val t x 1, (idx_all t).2.2.1]; show (40 + (grid0.coords t 0).val) * 128 + _ = _; omega
  refine (hf.k ((win0_2.rect t).emb x) _ _ (lt8 t) (x 1).isLt e1).trans ?_
  rw [e0]
theorem blk3 : R2 (n := 8192) (m := 128) (iblk m c 3 t) (Hd (grid0.coords t 0).val).V := fun x => by
  have e0 : (((win0_3.rect t).emb x) 0).val = (x 0).val := by
    rw [win0_3.rect_emb_val t x 0, (idx_all t).2.2.2.1]; show 0 * 8192 + _ = _; omega
  have e1 : (((win0_3.rect t).emb x) 1).val = 6144 + 128 * (grid0.coords t 0).val + (x 1).val := by
    rw [win0_3.rect_emb_val t x 1, (idx_all t).2.2.2.1]; show (48 + (grid0.coords t 0).val) * 128 + _ = _; omega
  refine (hf.v ((win0_3.rect t).emb x) _ _ (lt8 t) (x 1).isLt e1).trans ?_
  rw [e0]
theorem blk4 : IsTab (iblk m c 4 t) := fun x => by
  have e0 : (((win0_4.rect t).emb x) 0).val = (x 0).val := by
    rw [win0_4.rect_emb_val t x 0, (idx_all t).2.2.2.2.1]; show 0 * 256 + _ = _; omega
  have e1 : (((win0_4.rect t).emb x) 1).val = (x 1).val := by
    rw [win0_4.rect_emb_val t x 1, (idx_all t).2.2.2.2.1]; show 0 * 128 + _ = _; omega
  refine (hf.tab ((win0_4.rect t).emb x)).trans ?_
  rw [e0, e1]

omit hf in
theorem whole_R2 {n k : ℕ} (a : (⟨2, ![n, k]⟩ : Shape).Idx → EReal) {f : ℕ → ℕ → ℝ} (h : R2 a f) (inb) :
    R2 (n := n) (m := k) (fun x => a ((Rect.unit (s := (⟨2, ![n, k]⟩ : Shape)) ![0, 0] ![n, k] inb).toLoadRect.idx x)) f := fun x => by
  refine (h _).trans ?_
  congr 2
  · show 0 + 1 * (x 0).val = _; omega
  · show 0 + 1 * (x 1).val = _; omega

theorem reads : Reads c (V m c main_v36) (grid0.coords t) (Hd (grid0.coords t 0).val) (q6 (F := Ideal) (iblk m c 1 t)) (q8 (F := Ideal) (iblk m c 0 t)) (q9 (F := Ideal) (iblk m c 4 t))
    (iblk m c 2 t) (iblk m c 3 t) where
  h6 := R2.mul (φ := .f32) _ _ (whole_R2 _ (blk1 hf t) _) (R2.bc _ kQ named_q)
  h8 := whole_R2 _ (blk0 hf t) _
  h9 := whole_R2 _ (blk4 hf t) _
  hk := blk2 hf t
  hv := blk3 hf t
  hW k hk := fun x => by
    have hi := lt16 t
    have hb : tri (grid0.coords t 1).val + k < 136 := by unfold tri; have : (grid0.coords t 1).val * ((grid0.coords t 1).val + 1) ≤ 15 * 16 := Nat.mul_le_mul (by omega) (by omega); omega
    rw [show x = ValueIdx.ix2 (⟨(x 0).val, (x 0).isLt⟩ : Fin 512) (⟨(x 1).val, (x 1).isLt⟩ : Fin 512) from by funext a; fin_cases a <;> rfl, payload_at]
    refine hf.w _ (grid0.coords t 1).val k hi hk ?_
    show (Ring.bk 136 (tri (grid0.coords t 1).val + k)).val = _
    rw [Ring.bk_val]; exact hb

omit hf in
/-- The accumulators after a point: what the rows up to its last gave. -/
theorem step_sum (H : Head) (g : ℕ → ℕ → ℕ → ℝ) (hg : ∀ t x j, t ≤ x → g t x j = 0) (n x j : ℕ) :
    (∑ t ∈ Finset.range (512 * n), g t x j + if x < 512 * (n + 1) then ∑ r ∈ Finset.range 512, g (512 * n + r) x j else 0)
      = ∑ t ∈ Finset.range (512 * (n + 1)), g t x j := by
  rw [← sum_tile (fun t => g t x j) n]
  congr 1
  by_cases h : x < 512 * (n + 1)
  · rw [if_pos h]
  · rw [if_neg h]; exact (Finset.sum_eq_zero fun r hr => hg _ _ _ (by have := Finset.mem_range.mp hr; omega)).symm

omit hf in
theorem gk_zero (H : Head) (t x j : ℕ) (h : t ≤ x) : H.gk t x j = 0 := by unfold Head.gk Head.dz; rw [if_neg (by omega)]; ring
theorem gv_zero (h t x j : ℕ) (e : t ≤ x) : (Hd h).gv t x j = 0 := by unfold Head.gv; rw [hf.w0 _ _ _ e]; ring

omit hf in
theorem coords_step : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- What the accumulators hold after the first `n` points. -/
def Accd (n : ℕ) : Prop :=
  R2 (n := 8192) (m := 128) (kaM.view.read (Elt Ideal) (accN m c (n + 1)).1) (fun x j => ∑ t ∈ Finset.range (512 * (n % 16 + 1)), (Hd (n / 16)).gk t x j)
  ∧ R2 (n := 8192) (m := 128) (vaM.view.read (Elt Ideal) (accN m c (n + 1)).2) (fun x j => ∑ t ∈ Finset.range (512 * (n % 16 + 1)), (Hd (n / 16)).gv t x j)
end Blocks

end Cert.KernelIdeal.Hand

end
-- ==== Proof.Host.lean ====
/-
  What the host prepares before the launch, named by the reference's own stages: the weights cut into tiles, the table
  and the rounded keys and values.
-/
module

public import proofs.«01_k».proof.Proof.Staged
public import Idealize.ShloMosaic.Lib.Claim
public import proofs.«01_k».proof.Proof.Acc

@[expose] public section

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

def karg1 : FVec Ideal S8192x7168 .f32 := m ((c.tc : Thread nD τ).loc main_arg1)

set_option maxRecDepth 8192 in
set_option maxHeartbeats 40000000 in
theorem V_v0 : V m c main_v0 = karg1 m c := by
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

set_option maxRecDepth 8192 in
set_option maxHeartbeats 40000000 in
theorem V_v25 : V m c main_v25 = Cert.Staged.w (Cert.Staged.z (karg1 m c)) := by
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

set_option maxRecDepth 8192 in
set_option maxHeartbeats 40000000 in
theorem V_cst : V m c main_cst = fun i => Ideal.ofBits .bf16 (lit1 (S256x128.rowMajor i)) := by
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

/-- The numbers of the tiles kept. -/
def tiles : S136x1.Idx → BitVec 32 :=
  broadcastInDim S136x1 ![0] bcast_S136_S136x1_0 (select (cmpi .slt (fun i => lit0 (S136.rowMajor i)) (broadcastInDim S136 ![] bcast_S_S136 (constantI S_ 32 0#32)))
    (addi (fun i => lit0 (S136.rowMajor i)) (broadcastInDim S136 ![] bcast_S_S136 (constantI S_ 32 256#32))) (fun i => lit0 (S136.rowMajor i)))

/-- The weights cut into tiles. -/
def cut (w : FVec Ideal S8x8192x8192 .f32) : FVec Ideal S8x256x512x512 .bf16 :=
  shapeCast S8x256x512x512 (transpose S8x16x16x512x512 [0, 1, 3, 2, 4] (shapeCast S8x16x512x16x512 (truncf (F := Ideal) .bf16 w bitsLt_bf16_f32) shapeCasts_S8x8192x8192_S8x16x512x16x512) transposes_S8x16x512x16x512_S8x16x16x512x512_0_1_3_2_4) shapeCasts_S8x16x16x512x512_S8x256x512x512

set_option maxRecDepth 8192 in
set_option maxHeartbeats 40000000 in
theorem V_v36 : V m c main_v36 = Host.gather gather_S8x256x512x512_S136x1_S8x136x512x512_023_1_n_n_1_1_81512512 (cut (Cert.Staged.w (Cert.Staged.z (karg1 m c)))) tiles := by
  dsimp only [V]
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

end Cert.KernelIdeal.Hand
-- ==== Proof.Tensors.lean ====
/-
  The reference's stages on arrays of real numbers: what each stage does to the formulas of its operands' entries.
-/
module

public import proofs.«01_k».proof.Proof.Staged

@[expose] public section

noncomputable section

namespace Cert.Staged

open Cert.ReferenceIdeal Cert.ReferenceIdeal.Gen Idealize.ShloMosaic Cert.Hand
open scoped BigOperators

/-- Every entry of `v` is the real number `g` says. -/
def P {s : Shape} (v : s.Idx → EReal) (g : s.Idx → ℝ) : Prop := ∀ x, v x = ((g x : ℝ) : EReal)

/-- The same, the formula in the coordinates of an array of three axes. -/
def R3 {a b c : ℕ} (v : (⟨3, ![a, b, c]⟩ : Shape).Idx → EReal) (f : ℕ → ℕ → ℕ → ℝ) : Prop := P v fun x => f (x 0).val (x 1).val (x 2).val

theorem R3.congr {a b c : ℕ} {v : (⟨3, ![a, b, c]⟩ : Shape).Idx → EReal} {f g : ℕ → ℕ → ℕ → ℝ} (h : R3 v f)
    (e : ∀ i < a, ∀ j < b, ∀ k < c, f i j k = g i j k) : R3 v g :=
  fun x => (h x).trans (congrArg Real.toEReal (e _ (x 0).isLt _ (x 1).isLt _ (x 2).isLt))

theorem R3.at_ {a b c : ℕ} {v : (⟨3, ![a, b, c]⟩ : Shape).Idx → EReal} {f : ℕ → ℕ → ℕ → ℝ} (h : R3 v f) (i : Fin a) (j : Fin b) (k : Fin c) :
    v (ValueIdx.ix3 i j k) = ((f i.val j.val k.val : ℝ) : EReal) := h (ValueIdx.ix3 i j k)

theorem coe_max' (a b : ℝ) : ((max a b : ℝ) : EReal) = max (a : EReal) (b : EReal) := EReal.coe_strictMono.monotone.map_max

theorem top_bits : Ideal.ofBits .f32 0x7F800000#32 = ⊤ := by simp [Ideal.ofBits, Ideal.ieee]

namespace P
variable {s : Shape} {v w : FVec Ideal s .f32} {f g : s.Idx → ℝ}

theorem add (hv : P v f) (hw : P w g) : P (addf v w) fun x => f x + g x := fun x => by
  show v x + w x = _; rw [hv x, hw x, EReal.coe_add]
theorem sub (hv : P v f) (hw : P w g) : P (subf v w) fun x => f x - g x := fun x => by
  show v x - w x = _; rw [hv x, hw x, EReal.coe_sub]
theorem mul (hv : P v f) (hw : P w g) : P (mulf v w) fun x => f x * g x := fun x => by
  show v x * w x = _; rw [hv x, hw x, EReal.coe_mul]
theorem neg (hv : P v f) : P (Host.negf v) fun x => -f x := fun x => by
  show -(v x) = _; rw [hv x, EReal.coe_neg]
theorem exp (hv : P v f) : P (Host.exp v) fun x => Real.exp (f x) := fun x => by
  show Ideal.exp (v x) = _; rw [hv x, Ideal.exp_coe]
theorem div (hv : P v f) (hw : P w g) (h0 : ∀ x, g x ≠ 0) : P (Host.divf v w) fun x => f x / g x := fun x => by
  show Ideal.div (v x) (w x) = _; rw [hv x, hw x, Ideal.div_coe (h0 x), ← EReal.coe_mul, mul_one_div]
end P

theorem const_zero : P (const 0x00000000#32) fun _ => 0 := fun x => Ideal.ofBits_zero .f32
theorem const_top (x : S8x8192x8192.Idx) : const 0x7F800000#32 x = ⊤ := top_bits

/-- The square root of 128. -/
theorem root_val : P root fun _ => Real.sqrt 128 := fun x => by
  show Ideal.sqrt (Ideal.ofBits .f32 0x43000000#32) = _
  have e : Ideal.ofBits .f32 0x43000000#32 = ((128 : ℝ) : EReal) := by
    simp [Ideal.ofBits, Ideal.ieee]
    norm_cast
    try norm_num
  rw [e, Ideal.sqrt_coe, if_neg (by norm_num)]

/-- The softplus of a real number. -/
def spR (x : ℝ) : ℝ := max x 0 + Real.log (1 + Real.exp (-|x|))

theorem exp_sub_spR (x : ℝ) : Real.exp (x - spR x) = 1 / (1 + Real.exp (-x)) := by
  have h1 : 0 < 1 + Real.exp (-|x|) := by positivity
  unfold spR
  rw [← sub_sub, Real.exp_sub, Real.exp_log h1]
  rcases le_total 0 x with h | h
  · rw [max_eq_left h, abs_of_nonneg h, sub_self, Real.exp_zero]
  · rw [max_eq_right h, abs_of_nonpos h, sub_zero, neg_neg, Real.exp_neg, eq_div_iff (by positivity), div_mul_eq_mul_div, div_eq_iff (by positivity)]
    have := Real.exp_pos x
    field_simp
    try ring

section
variable {v : FVec Ideal S8x8192x8192 .f32} {f : S8x8192x8192.Idx → ℝ}

theorem sp_val (hv : P v f) : P (sp v) fun x => spR (f x) := fun x => by
  have h0 : const 0x00000000#32 x = ((0 : ℝ) : EReal) := const_zero x
  have e1 : (subf v (const 0x00000000#32)) x = ((f x : ℝ) : EReal) := by show v x - const 0x00000000#32 x = _; rw [hv x, h0, ← EReal.coe_sub, sub_zero]
  show (if Ideal.cmp .une ((subf v (const 0x00000000#32)) x) ((subf v (const 0x00000000#32)) x) = 1 then _ else
    max (v x) (const 0x00000000#32 x) + Ideal.log (1 + Ideal.exp (-(max ((subf v (const 0x00000000#32)) x) (-((subf v (const 0x00000000#32)) x)))))) = _
  rw [if_neg (by simp [Ideal.cmp]), e1, h0, hv x, ← EReal.coe_neg, ← coe_max', ← coe_max', ← EReal.coe_neg, Ideal.exp_coe, ← EReal.coe_one, ← EReal.coe_add, Ideal.log_coe,
    if_neg (not_le.mpr (by positivity)), ← EReal.coe_add]
  rfl

theorem spd_val (hv : P v f) : P (spd v) fun x => 1 / (1 + Real.exp (-f x)) := fun x => by
  show Ideal.exp ((if Ideal.cmp .oeq (v x) (const 0x7F800000#32 x) = 1 then _ else v x) - (if Ideal.cmp .oeq (sp v x) (const 0x7F800000#32 x) = 1 then _ else sp v x)) = _
  rw [const_top, hv x, sp_val hv x, if_neg (by simp [Ideal.cmp]), if_neg (by simp [Ideal.cmp]), ← EReal.coe_sub, Ideal.exp_coe, exp_sub_spR]

theorem ls_val (hv : P v f) : P (ls v) fun x => -spR (-f x) := (sp_val hv.neg).neg

theorem msk_val (x : S8x8192x8192.Idx) : msk x = 1#1 ↔ (x 2).val < (x 1).val := by
  show IntOp.cmpi .slt (BitVec.ofNat 32 (x 2).val) (BitVec.ofNat 32 (x 1).val) = 1#1 ↔ _
  exact slt_ofNat (lt_trans (x 2).isLt (by decide)) (lt_trans (x 1).isLt (by decide))

theorem masked_val (hv : P v f) : P (masked v) fun x => if (x 2).val < (x 1).val then f x else 0 := fun x => by
  show (if msk x = 1 then v x else const 0x00000000#32 x) = _
  by_cases h : (x 2).val < (x 1).val
  · rw [if_pos (show msk x = 1 from (msk_val x).mpr h), hv x]; exact congrArg Real.toEReal (if_pos h).symm
  · rw [if_neg (show ¬ msk x = 1 from fun e => h ((msk_val x).mp e))]; exact (const_zero x).trans (congrArg Real.toEReal (if_neg h).symm)

end

/-! ## Layouts -/

theorem heads_val {x : FVec Ideal S8192x1024 .f32} {f : ℕ → ℕ → ℝ} (hx : R2 (n := 8192) (m := 1024) x f) : R3 (heads x) fun h t i => f t (128 * h + i) := fun j => by
  have h0 := (j 0).isLt; have h1 := (j 1).isLt; have h2 := (j 2).isLt
  change (j 0).val < 8 at h0; change (j 1).val < 8192 at h1; change (j 2).val < 128 at h2
  exact (congrArg x (Shape.reshapeEquiv_eq_of_vals _ _ (ValueIdx.ix2 (⟨(j 1).val, h1⟩ : Fin 8192) (⟨128 * (j 0).val + (j 2).val, by omega⟩ : Fin 1024)) _ _ (rowMajor_val2 _ 1024 rfl)
    (rowMajor_val3 _ 1024 128 rfl rfl) (by show (j 1).val * 1024 + (128 * (j 0).val + (j 2).val) = (j 1).val * 1024 + (j 0).val * 128 + (j 2).val; omega))).trans (hx _)

theorem join_val {x : FVec Ideal S8x8192x128 .f32} {f : ℕ → ℕ → ℕ → ℝ} (hx : R3 x f) : R2 (n := 8192) (m := 1024) (join x) fun t c => f (c / 128) t (c % 128) := fun j => by
  have h0 := (j 0).isLt; have h1 := (j 1).isLt
  change (j 0).val < 8192 at h0; change (j 1).val < 1024 at h1
  refine (congrArg (transpose S8192x8x128 [1, 0, 2] x transposes_S8x8192x128_S8192x8x128_1_0_2) (Shape.reshapeEquiv_eq_of_vals _ _
    (ValueIdx.ix3 (⟨(j 0).val, h0⟩ : Fin 8192) (⟨(j 1).val / 128, by omega⟩ : Fin 8) (⟨(j 1).val % 128, by omega⟩ : Fin 128)) _ _ (rowMajor_val3 _ 1024 128 rfl rfl)
    (rowMajor_val2 _ 1024 rfl) (by show (j 0).val * 1024 + (j 1).val / 128 * 128 + (j 1).val % 128 = (j 0).val * 1024 + (j 1).val; omega))).trans (hx _)

theorem slice_val {W : ℕ} (o : ℕ) (x : FVec Ideal ⟨2, ![8192, W]⟩ .f32) (h : Shape.Slices (⟨2, ![8192, W]⟩ : Shape) ![0, o] S8192x1024) {f : ℕ → ℕ → ℝ}
    (hx : R2 x f) : R2 (n := 8192) (m := 1024) (extractStridedSlice S8192x1024 ![0, o] x h) fun t c => f t (o + c) :=
  (R2.slice (φ := .f32) x ![0, o] h hx).congr fun r _ c _ => by simp

/-! ## Products -/

theorem pairs_val {a b : FVec Ideal S8x8192x128 .f32} {f g : ℕ → ℕ → ℕ → ℝ} (ha : R3 a f) (hb : R3 b g) :
    R3 (pairs a b) fun h t s => ∑ i ∈ Finset.range 128, f h t i * g h s i := fun x => by
  refine (Ideal.matmul_apply₁_of dot_S8x8192x128_S8x8192x128_S8x8192x8192_2_2_1_1_0_0 (K := 128) rfl rfl a b (fun _ => 0) x (fun i => ValueIdx.ix3 (x 0) (x 1) i) (fun i => ValueIdx.ix3 (x 0) (x 2) i)
    (fun i => funext fun d => by fin_cases d <;> rfl) (fun i => funext fun d => by fin_cases d <;> rfl)).trans ?_
  refine (zero_add _).trans ((Finset.sum_congr rfl fun i _ => (congrArg₂ (· * ·) (ha.at_ (x 0) (x 1) i) (hb.at_ (x 0) (x 2) i)).trans (EReal.coe_mul _ _).symm).trans ((coe_sum 128 _).trans ?_))
  exact congrArg Real.toEReal (Finset.sum_range (fun i => f (x 0).val (x 1).val i * g (x 0).val (x 2).val i)).symm

theorem rows_val {a : FVec Ideal S8x8192x8192 .f32} {b : FVec Ideal S8x8192x128 .f32} {f g : ℕ → ℕ → ℕ → ℝ} (ha : R3 a f) (hb : R3 b g) :
    R3 (Host.dotGeneral dot_S8x8192x8192_S8x8192x128_S8x8192x128_2_1_1_2_0_0 none a b : FVec Ideal S8x8192x128 .f32) fun h t c => ∑ s ∈ Finset.range 8192, f h t s * g h s c := fun x => by
  refine (Ideal.matmul_apply₁_of dot_S8x8192x8192_S8x8192x128_S8x8192x128_2_1_1_2_0_0 (K := 8192) rfl rfl a b (fun _ => 0) x (fun i => ValueIdx.ix3 (x 0) (x 1) i) (fun i => ValueIdx.ix3 (x 0) i (x 2))
    (fun i => funext fun d => by fin_cases d <;> rfl) (fun i => funext fun d => by fin_cases d <;> rfl)).trans ?_
  refine (zero_add _).trans ((Finset.sum_congr rfl fun i _ => (congrArg₂ (· * ·) (ha.at_ (x 0) (x 1) i) (hb.at_ (x 0) i (x 2))).trans (EReal.coe_mul _ _).symm).trans ((coe_sum 8192 _).trans ?_))
  exact congrArg Real.toEReal (Finset.sum_range (fun i => f (x 0).val (x 1).val i * g (x 0).val i (x 2).val)).symm

theorem cols_val {a : FVec Ideal S8x8192x8192 .f32} {b : FVec Ideal S8x8192x128 .f32} {f g : ℕ → ℕ → ℕ → ℝ} (ha : R3 a f) (hb : R3 b g) :
    R3 (Host.dotGeneral dot_S8x8192x8192_S8x8192x128_S8x8192x128_1_1_2_2_0_0 none a b : FVec Ideal S8x8192x128 .f32) fun h s c => ∑ t ∈ Finset.range 8192, f h t s * g h t c := fun x => by
  refine (Ideal.matmul_apply₁_of dot_S8x8192x8192_S8x8192x128_S8x8192x128_1_1_2_2_0_0 (K := 8192) rfl rfl a b (fun _ => 0) x (fun i => ValueIdx.ix3 (x 0) i (x 1)) (fun i => ValueIdx.ix3 (x 0) i (x 2))
    (fun i => funext fun d => by fin_cases d <;> rfl) (fun i => funext fun d => by fin_cases d <;> rfl)).trans ?_
  refine (zero_add _).trans ((Finset.sum_congr rfl fun i _ => (congrArg₂ (· * ·) (ha.at_ (x 0) i (x 1)) (hb.at_ (x 0) i (x 2))).trans (EReal.coe_mul _ _).symm).trans ((coe_sum 8192 _).trans ?_))
  exact congrArg Real.toEReal (Finset.sum_range (fun i => f (x 0).val i (x 1).val * g (x 0).val i (x 2).val)).symm

theorem outs_val {a : FVec Ideal S8x8192x128 .f32} {b : FVec Ideal S8x8192x8192 .f32} {f g : ℕ → ℕ → ℕ → ℝ} (ha : R3 a f) (hb : R3 b g) :
    R3 (transpose S8x8192x128 [0, 2, 1] (Host.dotGeneral dot_S8x8192x128_S8x8192x8192_S8x128x8192_1_1_2_2_0_0 none a b : FVec Ideal S8x128x8192 .f32) transposes_S8x128x8192_S8x8192x128_0_2_1)
      fun h s c => ∑ t ∈ Finset.range 8192, f h t c * g h t s := fun x => by
  refine (congrArg (Host.dotGeneral dot_S8x8192x128_S8x8192x8192_S8x128x8192_1_1_2_2_0_0 none a b : FVec Ideal S8x128x8192 .f32) (show Shape.Transposes.src transposes_S8x128x8192_S8x8192x128_0_2_1 x = ValueIdx.ix3 (x 0) (x 2) (x 1) from
    funext fun d => by fin_cases d <;> rfl)).trans ?_
  refine (Ideal.matmul_apply₁_of dot_S8x8192x128_S8x8192x8192_S8x128x8192_1_1_2_2_0_0 (K := 8192) rfl rfl a b (fun _ => 0) (ValueIdx.ix3 (x 0) (x 2) (x 1)) (fun i => ValueIdx.ix3 (x 0) i (x 2)) (fun i => ValueIdx.ix3 (x 0) i (x 1))
    (fun i => funext fun d => by fin_cases d <;> rfl) (fun i => funext fun d => by fin_cases d <;> rfl)).trans ?_
  refine (zero_add _).trans ((Finset.sum_congr rfl fun i _ => (congrArg₂ (· * ·) (ha.at_ (x 0) i (x 2)) (hb.at_ (x 0) i (x 1))).trans (EReal.coe_mul _ _).symm).trans ((coe_sum 8192 _).trans ?_))
  exact congrArg Real.toEReal (Finset.sum_range (fun i => f (x 0).val i (x 2).val * g (x 0).val i (x 1).val)).symm

/-! ## Running sums -/

theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

theorem map_sum_finRange (N : ℕ) (f : Fin N → EReal) : ((List.finRange N).map f).sum = ∑ n, f n := by
  rw [← List.ofFn_eq_map, List.sum_ofFn]

/-- The window's positions are its last coordinate's. -/
def lastEquiv (N : ℕ) : Fin N ≃ (⟨3, ![1, 1, N]⟩ : Shape).Idx where
  toFun n := ValueIdx.ix3 (0 : Fin 1) (0 : Fin 1) n
  invFun w := w 2
  left_inv n := rfl
  right_inv w := funext fun a => by
    fin_cases a
    · exact Subsingleton.elim (α := Fin 1) _ _
    · exact Subsingleton.elim (α := Fin 1) _ _
    · rfl

/-- A windowed sum, as a sum over the window's positions. -/
theorem windows_sum {s t u : Shape} (window strides lo hi : Fin s.rank → ℕ) (x : FVec Ideal s .f32) (init : u.Idx → EReal) (h : s.ReduceWindows window strides lo hi t) (hu : 0 < u.numel) (j : t.Idx) :
    Host.reduceWindowAdd (F := Ideal) (φ := .f32) window strides lo hi x init h hu j = init (Shape.Idx.first hu) + ∑ w : (⟨s.rank, window⟩ : Shape).Idx,
      (if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else init (Shape.Idx.first hu)) := by
  simp only [Host.reduceWindowAdd, Ideal.hostReduceWindowAdd_def, Ideal.hostReduceWindowAdd, Host.reduceWindow]
  rw [foldl_sum, map_sum_finRange]
  refine congrArg _ (Fintype.sum_equiv (⟨s.rank, window⟩ : Shape).rowMajor.symm _ _ (fun n => ?_))
  congr

/-- A windowed sum along the last axis is a sum over the window's positions. -/
theorem window_sum (lo hi : ℕ) (h : S8x8192x8192.ReduceWindows ![1, 1, 8192] ![1, 1, 1] ![0, 0, lo] ![0, 0, hi] S8x8192x8192) (x : FVec Ideal S8x8192x8192 .f32) (f : ℕ → ℕ → ℕ → ℝ) (hx : R3 x f)
    (init : S_.Idx → EReal) (h0 : init (Shape.Idx.first h_S_) = 0) (j : S8x8192x8192.Idx) :
    Host.reduceWindowAdd ![1, 1, 8192] ![1, 1, 1] ![0, 0, lo] ![0, 0, hi] x init h h_S_ j
      = ((∑ n ∈ Finset.range 8192, if lo ≤ (j 2).val + n ∧ (j 2).val + n - lo < 8192 then f (j 0).val (j 1).val ((j 2).val + n - lo) else 0 : ℝ) : EReal) := by
  let p : (⟨3, ![1, 1, 8192]⟩ : Shape).Idx → Fin 3 → ℕ := fun w a => (j a).val * (![1, 1, 1] : Fin 3 → ℕ) a + (w a).val
  let G : (⟨3, ![1, 1, 8192]⟩ : Shape).Idx → EReal := fun w =>
    if hin : ∀ a : Fin 3, (![0, 0, lo] : Fin 3 → ℕ) a ≤ p w a ∧ p w a - (![0, 0, lo] : Fin 3 → ℕ) a < S8x8192x8192.size a then x (fun a => ⟨p w a - (![0, 0, lo] : Fin 3 → ℕ) a, (hin a).2⟩) else init (Shape.Idx.first h_S_)
  refine (windows_sum (s := S8x8192x8192) ![1, 1, 8192] ![1, 1, 1] ![0, 0, lo] ![0, 0, hi] x init h h_S_ j).trans ?_
  rw [h0, zero_add]
  refine (Fintype.sum_equiv (lastEquiv 8192) (fun n => G (lastEquiv 8192 n)) _ (fun n => by rw [← h0]; rfl)).symm.trans ?_
  refine (Finset.sum_congr rfl fun n _ => ?_).trans ((coe_sum 8192 (fun n => if lo ≤ (j 2).val + n.val ∧ (j 2).val + n.val - lo < 8192 then f (j 0).val (j 1).val ((j 2).val + n.val - lo) else 0)).trans
    (congrArg Real.toEReal (Finset.sum_range (fun n => if lo ≤ (j 2).val + n ∧ (j 2).val + n - lo < 8192 then f (j 0).val (j 1).val ((j 2).val + n - lo) else 0)).symm))
  have p0 : p (lastEquiv 8192 n) 0 = (j 0).val := by show (j 0).val * 1 + 0 = _; omega
  have p1 : p (lastEquiv 8192 n) 1 = (j 1).val := by show (j 1).val * 1 + 0 = _; omega
  have p2 : p (lastEquiv 8192 n) 2 = (j 2).val + n.val := by show (j 2).val * 1 + n.val = _; omega
  by_cases hc : lo ≤ (j 2).val + n.val ∧ (j 2).val + n.val - lo < 8192
  · rw [if_pos hc]
    have hin : ∀ a : Fin 3, (![0, 0, lo] : Fin 3 → ℕ) a ≤ p (lastEquiv 8192 n) a ∧ p (lastEquiv 8192 n) a - (![0, 0, lo] : Fin 3 → ℕ) a < S8x8192x8192.size a := fun a => by
      fin_cases a
      · exact ⟨Nat.zero_le _, by show p (lastEquiv 8192 n) 0 - 0 < 8; rw [p0]; exact (j 0).isLt⟩
      · exact ⟨Nat.zero_le _, by show p (lastEquiv 8192 n) 1 - 0 < 8192; rw [p1]; exact (j 1).isLt⟩
      · exact ⟨by show lo ≤ p (lastEquiv 8192 n) 2; rw [p2]; exact hc.1, by show p (lastEquiv 8192 n) 2 - lo < 8192; rw [p2]; exact hc.2⟩
    refine (dif_pos hin).trans ((hx _).trans ?_)
    show ((f (p (lastEquiv 8192 n) 0 - 0) (p (lastEquiv 8192 n) 1 - 0) (p (lastEquiv 8192 n) 2 - lo) : ℝ) : EReal) = _
    rw [p0, p1, p2]; rfl
  · rw [if_neg hc]
    refine (dif_neg fun hin => hc ?_).trans h0
    have := hin 2
    have a1 : lo ≤ p (lastEquiv 8192 n) 2 := this.1
    have a2 : p (lastEquiv 8192 n) 2 - lo < 8192 := this.2
    rw [p2] at a1 a2
    exact ⟨a1, a2⟩

theorem suffix_val {x : FVec Ideal S8x8192x8192 .f32} {f : ℕ → ℕ → ℕ → ℝ} (hx : R3 x f) :
    R3 (suffix x) fun h t s => ∑ n ∈ Finset.range 8192, if 0 ≤ s + n ∧ s + n - 0 < 8192 then f h t (s + n - 0) else 0 :=
  fun j => window_sum 0 8191 _ x f hx _ (Ideal.ofBits_zero .f32) j

theorem prefix_val {x : FVec Ideal S8x8192x8192 .f32} {f : ℕ → ℕ → ℕ → ℝ} (hx : R3 x f) : R3 (prefix_ x) fun h t s => ∑ r ∈ Finset.range (s + 1), f h t r := by
  refine R3.congr (f := fun h t s => ∑ n ∈ Finset.range 8192, if 8191 ≤ s + n ∧ s + n - 8191 < 8192 then f h t (s + n - 8191) else 0) (fun j => window_sum 8191 0 _ x f hx _ (Ideal.ofBits_zero .f32) j) fun h _ t _ s hs => ?_
  rw [← Finset.sum_filter]
  refine Finset.sum_bij (fun n _ => s + n - 8191) (fun n hn => ?_) (fun a ha b hb e => ?_) (fun r hr => ⟨r + 8191 - s, ?_, ?_⟩) (fun n hn => rfl)
  · simp only [Finset.mem_filter, Finset.mem_range] at hn ⊢; omega
  · simp only [Finset.mem_filter, Finset.mem_range] at ha hb; omega
  · simp only [Finset.mem_filter, Finset.mem_range] at hr ⊢; omega
  · simp only [Finset.mem_range] at hr; omega

end Cert.Staged
-- ==== Proof.Ends.lean ====
/-
  The three arrays at the end of the kernel over the reals.
-/
module

public import proofs.«01_k».proof.Proof.Acc
public import Idealize.ShloMosaic.Lib.Pipeline.ValueKit
public import Idealize.ShloMosaic.Lib.Pipeline.Value

@[expose] public section

set_option maxRecDepth 16384

noncomputable section

namespace Cert.KernelIdeal.Hand

open Cert.Hand Cert.KernelIdeal Cert.KernelIdeal.Gen
open Idealize.ShloMosaic Idealize.ShloMosaic.TcCoe
open Idealize.ShloMosaic.Pipeline (Dat)
open scoped BigOperators

variable {m : (ℓ : Loc nD τ sig) → Buf (Elt Ideal) ℓ} {c : Dev nD} {Hd : ℕ → Head} (hf : Found m c Hd)
include hf

/-- What a point finds in the accumulators, read past the first conditional: what the rows above its block gave. -/
theorem before_pt (t : Fin cfg0.N) (h : t.val % 16 ≠ 0 → Accd (m := m) (c := c) (Hd := Hd) (t.val - 1)) :
    R2 (n := 8192) (m := 128) (kaM.view.read (Elt Ideal) (fa0 c (grid0.coords t) (accN m c t.val).1)) (fun x j => ∑ s ∈ Finset.range (512 * (t.val % 16)), (Hd (t.val / 16)).gk s x j)
    ∧ R2 (n := 8192) (m := 128) (vaM.view.read (Elt Ideal) (fb0 c (grid0.coords t) (accN m c t.val).2)) (fun x j => ∑ s ∈ Finset.range (512 * (t.val % 16)), (Hd (t.val / 16)).gv s x j) := by
  have e := (coords_step t).2
  have hz : ((grid0.coords t) 1).val = 0 → t.val % 16 = 0 := fun h => by omega
  have hs : t.val % 16 ≠ 0 → t.val - 1 + 1 = t.val ∧ (t.val - 1) % 16 + 1 = t.val % 16 ∧ (t.val - 1) / 16 = t.val / 16 := fun h => by omega
  refine ⟨fa0_ (fun h0 => ?_) (fun h0 x j => ?_), fb0_ (fun h0 => ?_) (fun h0 x j => ?_)⟩
  · have ht : t.val % 16 ≠ 0 := fun h' => h0 (by omega)
    have := (h ht).1
    rw [(hs ht).1, (hs ht).2.1, (hs ht).2.2] at this; exact this
  · rw [hz h0]; simp
  · have ht : t.val % 16 ≠ 0 := fun h' => h0 (by omega)
    have := (h ht).2
    rw [(hs ht).1, (hs ht).2.1, (hs ht).2.2] at this; exact this
  · rw [hz h0]; simp

theorem pt (t : Fin cfg0.N) (h : t.val % 16 ≠ 0 → Accd (m := m) (c := c) (Hd := Hd) (t.val - 1)) :
    R2 (n := 512) (m := 128) (dqAt m c t) (fun r j => ∑ x ∈ Finset.range (512 * (t.val % 16 + 1)), (Hd (t.val / 16)).gq (512 * (t.val % 16) + r) x j)
    ∧ Accd (m := m) (c := c) (Hd := Hd) t.val := by
  obtain ⟨hA, hB⟩ := before_pt hf t h
  obtain ⟨p1, p2, p3⟩ := point (reads hf t) hA hB
  rw [(coords_step t).1, (coords_step t).2] at p1 p2 p3
  have e := accN_succ m c t
  have e1 := congrArg Prod.fst e
  have e2 := congrArg Prod.snd e
  dsimp only at e1 e2
  rw [← e1] at p2
  rw [← e2] at p3
  exact ⟨p1, R2.congr p2 fun x _ j _ => step_sum (Hd (t.val / 16)) (Hd (t.val / 16)).gk (gk_zero _) (t.val % 16) x j,
    R2.congr p3 fun x _ j _ => step_sum (Hd (t.val / 16)) (Hd (t.val / 16)).gv (gv_zero hf _) (t.val % 16) x j⟩

theorem accd : ∀ n, n < cfg0.N → Accd (m := m) (c := c) (Hd := Hd) n
  | 0, h => (pt hf ⟨0, h⟩ fun e => absurd rfl e).2
  | n + 1, h => (pt hf ⟨n + 1, h⟩ fun _ => accd n (by omega)).2

theorem dq_pt (t : Fin cfg0.N) :
    R2 (n := 512) (m := 128) (dqAt m c t) (fun r j => ∑ x ∈ Finset.range (512 * (t.val % 16 + 1)), (Hd (t.val / 16)).gq (512 * (t.val % 16) + r) x j) :=
  (pt hf t fun e => accd hf _ (by have := t.isLt; omega)).1

/-! ## The arrays -/

/-- The closed forms. -/
def dqG (Hd : ℕ → Head) (t c : ℕ) : ℝ := ∑ x ∈ Finset.range 8192, (Hd (c / 128)).gq t x (c % 128)
def dkG (Hd : ℕ → Head) (s c : ℕ) : ℝ := (∑ t ∈ Finset.range 8192, (Hd (c / 128)).gk t s (c % 128)) * kU
def dvG (Hd : ℕ → Head) (s c : ℕ) : ℝ := ∑ t ∈ Finset.range 8192, (Hd (c / 128)).gv t s (c % 128)

omit hf in
theorem gq_zero (H : Head) (t x j : ℕ) (h : t ≤ x) : H.gq t x j = 0 := by unfold Head.gq Head.dz; rw [if_neg (by omega)]; ring

omit hf in
theorem gq_sum (H : Head) (t j n : ℕ) (h : t < n) (hn : n ≤ 8192) : ∑ x ∈ Finset.range n, H.gq t x j = ∑ x ∈ Finset.range 8192, H.gq t x j :=
  Finset.sum_subset (Finset.range_mono hn) fun x _ hx => gq_zero H t x j (by have := Finset.mem_range.not.mp hx; omega)

theorem last_pt (t : Fin cfg0.N) (h : t.val % 16 = 15) :
    R2 (n := 8192) (m := 128) (dkAt m c t) (fun x j => (∑ s ∈ Finset.range 8192, (Hd (t.val / 16)).gk s x j) * kU)
    ∧ R2 (n := 8192) (m := 128) (dvAt m c t) (fun x j => ∑ s ∈ Finset.range 8192, (Hd (t.val / 16)).gv s x j) := by
  obtain ⟨hA, hB⟩ := accd hf t.val t.isLt
  rw [h] at hA hB
  exact ⟨R2.mul (φ := .f32) _ _ (whole_R2 _ hA _) (R2.bc _ kU named_u), whole_R2 _ hB _⟩

theorem dq_end : R2 (n := 8192) (m := 1024) ((dats m 0 c).arrAt 5 cfg0.N) (dqG Hd) := by
  have key : ∀ i : S8192x1024.Idx, (dats m 0 c).arrAt 5 cfg0.N i = ((dqG Hd (i 0).val (i 1).val : ℝ) : EReal) := by
    refine (dats m 0 c).arrAt_forall_of_cover 5 (fun i v => v = ((dqG Hd (i 0).val (i 1).val : ℝ) : EReal)) ?_ ?_
    · intro t hfl x
      have ht : t.val < 128 := t.isLt
      have h1 : (x 1).val < 128 := (x 1).isLt
      have h0 : (x 0).val < 512 := (x 0).isLt
      have e0 : (((win0_5.rect t).emb x) 0).val = 512 * (t.val % 16) + (x 0).val := by
        rw [win0_5.rect_emb_val t x 0, (idx_all t).2.2.2.2.2.1, (coords_step t).2]; show (t.val % 16) * 512 + _ = _; omega
      have e1 : (((win0_5.rect t).emb x) 1).val = 128 * (t.val / 16) + (x 1).val := by
        rw [win0_5.rect_emb_val t x 1, (idx_all t).2.2.2.2.2.1, (coords_step t).1]; show (t.val / 16) * 128 + _ = _; omega
      refine (dq_pt hf t x).trans (congrArg Real.toEReal ?_)
      show _ = dqG Hd (((win0_5.rect t).emb x) 0).val (((win0_5.rect t).emb x) 1).val
      rw [e0, e1]
      unfold dqG
      rw [show (128 * (t.val / 16) + (x 1).val) / 128 = t.val / 16 by omega, show (128 * (t.val / 16) + (x 1).val) % 128 = (x 1).val by omega]
      exact gq_sum _ _ _ _ (by omega) (by omega)
    · intro i
      have h0 : (i 0).val < 8192 := (i 0).isLt
      have h1 : (i 1).val < 1024 := (i 1).isLt
      have hN : (i 1).val / 128 * 16 + (i 0).val / 512 < cfg0.N := by show _ < 128; omega
      refine ⟨⟨(i 1).val / 128 * 16 + (i 0).val / 512, hN⟩, flush0_5 _, ?_⟩
      mem_blk [(idx_all ⟨(i 1).val / 128 * 16 + (i 0).val / 512, hN⟩).2.2.2.2.2.1]
      rw [(coords_step ⟨_, hN⟩).1, (coords_step ⟨_, hN⟩).2]
      show (((i 1).val / 128 * 16 + (i 0).val / 512) % 16 * 512 ≤ (i 0).val ∧ (i 0).val < ((i 1).val / 128 * 16 + (i 0).val / 512) % 16 * 512 + 512)
        ∧ ((i 1).val / 128 * 16 + (i 0).val / 512) / 16 * 128 ≤ (i 1).val ∧ (i 1).val < ((i 1).val / 128 * 16 + (i 0).val / 512) / 16 * 128 + 128
      omega
  exact key

theorem dk_end : R2 (n := 8192) (m := 1024) ((dats m 0 c).arrAt 6 cfg0.N) (dkG Hd) := by
  have key : ∀ i : S8192x1024.Idx, (dats m 0 c).arrAt 6 cfg0.N i = ((dkG Hd (i 0).val (i 1).val : ℝ) : EReal) := by
    refine (dats m 0 c).arrAt_forall_of_cover 6 (fun i v => v = ((dkG Hd (i 0).val (i 1).val : ℝ) : EReal)) ?_ ?_
    · intro t hfl x
      have hq : t.val % 16 = 15 := (flush0_6 t).mp hfl
      have ht : t.val < 128 := t.isLt
      have h1 : (x 1).val < 128 := (x 1).isLt
      have h0 : (x 0).val < 8192 := (x 0).isLt
      have e0 : (((win0_6.rect t).emb x) 0).val = (x 0).val := by
        rw [win0_6.rect_emb_val t x 0, (idx_all t).2.2.2.2.2.2.1]; show 0 * 8192 + _ = _; omega
      have e1 : (((win0_6.rect t).emb x) 1).val = 128 * (t.val / 16) + (x 1).val := by
        rw [win0_6.rect_emb_val t x 1, (idx_all t).2.2.2.2.2.2.1, (coords_step t).1]; show (t.val / 16) * 128 + _ = _; omega
      refine ((last_pt hf t hq).1 x).trans (congrArg Real.toEReal ?_)
      show _ = dkG Hd (((win0_6.rect t).emb x) 0).val (((win0_6.rect t).emb x) 1).val
      rw [e0, e1]
      unfold dkG
      rw [show (128 * (t.val / 16) + (x 1).val) / 128 = t.val / 16 by omega, show (128 * (t.val / 16) + (x 1).val) % 128 = (x 1).val by omega]
    · intro i
      have h0 : (i 0).val < 8192 := (i 0).isLt
      have h1 : (i 1).val < 1024 := (i 1).isLt
      have hN : (i 1).val / 128 * 16 + 15 < cfg0.N := by show _ < 128; omega
      refine ⟨⟨(i 1).val / 128 * 16 + 15, hN⟩, (flush0_6 _).mpr (by show ((i 1).val / 128 * 16 + 15) % 16 = 15; omega), ?_⟩
      mem_blk [(idx_all ⟨(i 1).val / 128 * 16 + 15, hN⟩).2.2.2.2.2.2.1]
      rw [(coords_step ⟨_, hN⟩).1]
      show (_ ∧ _) ∧ ((i 1).val / 128 * 16 + 15) / 16 * 128 ≤ (i 1).val ∧ (i 1).val < ((i 1).val / 128 * 16 + 15) / 16 * 128 + 128
      refine ⟨?_, by omega⟩
      omega
  exact key

theorem dv_end : R2 (n := 8192) (m := 1024) ((dats m 0 c).arrAt 7 cfg0.N) (dvG Hd) := by
  have key : ∀ i : S8192x1024.Idx, (dats m 0 c).arrAt 7 cfg0.N i = ((dvG Hd (i 0).val (i 1).val : ℝ) : EReal) := by
    refine (dats m 0 c).arrAt_forall_of_cover 7 (fun i v => v = ((dvG Hd (i 0).val (i 1).val : ℝ) : EReal)) ?_ ?_
    · intro t hfl x
      have hq : t.val % 16 = 15 := (flush0_7 t).mp hfl
      have ht : t.val < 128 := t.isLt
      have h1 : (x 1).val < 128 := (x 1).isLt
      have h0 : (x 0).val < 8192 := (x 0).isLt
      have e0 : (((win0_7.rect t).emb x) 0).val = (x 0).val := by
        rw [win0_7.rect_emb_val t x 0, (idx_all t).2.2.2.2.2.2.2]; show 0 * 8192 + _ = _; omega
      have e1 : (((win0_7.rect t).emb x) 1).val = 128 * (t.val / 16) + (x 1).val := by
        rw [win0_7.rect_emb_val t x 1, (idx_all t).2.2.2.2.2.2.2, (coords_step t).1]; show (t.val / 16) * 128 + _ = _; omega
      refine ((last_pt hf t hq).2 x).trans (congrArg Real.toEReal ?_)
      show _ = dvG Hd (((win0_7.rect t).emb x) 0).val (((win0_7.rect t).emb x) 1).val
      rw [e0, e1]
      unfold dvG
      rw [show (128 * (t.val / 16) + (x 1).val) / 128 = t.val / 16 by omega, show (128 * (t.val / 16) + (x 1).val) % 128 = (x 1).val by omega]
    · intro i
      have h0 : (i 0).val < 8192 := (i 0).isLt
      have h1 : (i 1).val < 1024 := (i 1).isLt
      have hN : (i 1).val / 128 * 16 + 15 < cfg0.N := by show _ < 128; omega
      refine ⟨⟨(i 1).val / 128 * 16 + 15, hN⟩, (flush0_7 _).mpr (by show ((i 1).val / 128 * 16 + 15) % 16 = 15; omega), ?_⟩
      mem_blk [(idx_all ⟨(i 1).val / 128 * 16 + 15, hN⟩).2.2.2.2.2.2.2]
      rw [(coords_step ⟨_, hN⟩).1]
      show (_ ∧ _) ∧ ((i 1).val / 128 * 16 + 15) / 16 * 128 ≤ (i 1).val ∧ (i 1).val < ((i 1).val / 128 * 16 + 15) / 16 * 128 + 128
      refine ⟨?_, by omega⟩
      omega
  exact key

end Cert.KernelIdeal.Hand

end
-- ==== Proof.RefVals.lean ====
/-
  The reference's results on real arguments: the same closed forms as the kernel's.
-/
module

public import proofs.«01_k».proof.Proof.Tensors
public import proofs.«01_k».proof.Proof.Ends

@[expose] public section

noncomputable section

namespace Cert.Staged

open Cert.ReferenceIdeal Cert.ReferenceIdeal.Gen Idealize.ShloMosaic Cert.Hand
open Cert.KernelIdeal.Hand (Head dqG dkG dvG dzt kQ kS kU)
open scoped BigOperators

variable (f0 f1 : ℕ → ℕ → ℝ)

/-- The scores. -/
def zR (h t s : ℕ) : ℝ := (∑ i ∈ Finset.range 128, f1 t (4096 + (128 * h + i)) * f1 s (5120 + (128 * h + i))) / Real.sqrt 128
/-- The logarithms that the weights sum. -/
def lR (h t s : ℕ) : ℝ := if s < t then -spR (-(-zR f1 h t s)) else 0
/-- The logarithm of a weight. -/
def uR (h t s : ℕ) : ℝ := -spR (-zR f1 h t s) + ((∑ n ∈ Finset.range 8192, if 0 ≤ s + n ∧ s + n - 0 < 8192 then lR f1 h t (s + n - 0) else 0) - lR f1 h t s)

/-- One head's arrays, from the arguments. -/
def headOf (h : ℕ) : Head where
  Q t i := f1 t (4096 + (128 * h + i))
  K t i := f1 t (5120 + (128 * h + i))
  V t i := f1 t (6144 + (128 * h + i))
  O t i := f0 t (1024 + (128 * h + i))
  W t s := if s < t then Real.exp (uR f1 h t s) else 0

variable {f0 f1} {a0 : FVec Ideal S8192x2048 .f32} {a1 : FVec Ideal S8192x7168 .f32}

section
variable (h1 : R2 (n := 8192) (m := 7168) a1 f1)
include h1

theorem qs_val : R3 (qs a1) fun h => (headOf f0 f1 h).Q := heads_val (slice_val 4096 a1 _ h1)
theorem ks_val : R3 (ks a1) fun h => (headOf f0 f1 h).K := heads_val (slice_val 5120 a1 _ h1)
theorem vs_val : R3 (vs a1) fun h => (headOf f0 f1 h).V := heads_val (slice_val 6144 a1 _ h1)
theorem z_val : R3 (z a1) (zR f1) := (pairs_val (qs_val (f0 := fun _ _ => 0) h1) (ks_val (f0 := fun _ _ => 0) h1)).div root_val fun _ => by positivity
theorem rl_val : R3 (rl (z a1)) (lR f1) := masked_val (ls_val (z_val h1).neg)
theorem we_val : R3 (we (z a1)) fun h t s => Real.exp (uR f1 h t s) :=
  ((ls_val (z_val h1)).add ((suffix_val (rl_val h1)).sub (rl_val h1))).exp
theorem w_val : R3 (w (z a1)) fun h => (headOf f0 f1 h).W := masked_val (we_val h1)
end

theorem os_val (h0 : R2 (n := 8192) (m := 2048) a0 f0) : R3 (os a0) fun h => (headOf f0 f1 h).O := heads_val (slice_val 1024 a0 _ h0)

theorem d_val (h0 : R2 (n := 8192) (m := 2048) a0 f0) (h1 : R2 (n := 8192) (m := 7168) a1 f1) : R3 (d (z a1) (os a0) (vs a1)) fun h => (headOf f0 f1 h).d := by
  have := (masked_val (pairs_val (os_val (f1 := f1) h0) (vs_val (f0 := f0) h1))).mul (we_val h1)
  refine R3.congr (f := fun h t s => (if s < t then ∑ i ∈ Finset.range 128, (headOf f0 f1 h).O t i * (headOf f0 f1 h).V s i else 0) * Real.exp (uR f1 h t s)) this fun h _ t _ s _ => ?_
  show _ = (∑ i ∈ Finset.range 128, (headOf f0 f1 h).O t i * (headOf f0 f1 h).V s i) * (if s < t then Real.exp (uR f1 h t s) else 0)
  by_cases hs : s < t
  · rw [if_pos hs, if_pos hs]
  · rw [if_neg hs, if_neg hs, zero_mul, mul_zero]

/-- A power of two of a score in units of `log 2` is an exponential of the score. -/
theorem two_pow (h t s : ℕ) : (2 : ℝ) ^ (-(headOf f0 f1 h).z t s) = Real.exp (-zR f1 h t s) := by
  have l2 : Real.log 2 ≠ 0 := ne_of_gt (Real.log_pos (by norm_num))
  have r : Real.sqrt 128 ≠ 0 := by positivity
  have e : (headOf f0 f1 h).z t s * Real.log 2 = zR f1 h t s := by
    show (∑ i ∈ Finset.range 128, f1 t (4096 + (128 * h + i)) * kQ * f1 s (5120 + (128 * h + i))) * Real.log 2 = (∑ i ∈ Finset.range 128, f1 t (4096 + (128 * h + i)) * f1 s (5120 + (128 * h + i))) / Real.sqrt 128
    rw [Finset.sum_mul, Finset.sum_div]
    refine Finset.sum_congr rfl fun i _ => ?_
    unfold kQ; field_simp
  rw [Real.rpow_def_of_pos (by norm_num), ← e]
  congr 1; ring

theorem dz_val (h0 : R2 (n := 8192) (m := 2048) a0 f0) (h1 : R2 (n := 8192) (m := 7168) a1 f1) : R3 (dzs a0 a1) fun h t s => (headOf f0 f1 h).dz t s * kS := by
  have hd := d_val h0 h1
  have hz := z_val h1
  have := (((hd.neg.mul (spd_val hz.neg)).neg).add (((masked_val (hd.neg.add (prefix_val hd))).neg.mul (spd_val hz.neg.neg)).neg.neg)).div root_val fun _ => by positivity
  refine R3.congr (f := fun h t s => (-(-(headOf f0 f1 h).d t s * (1 / (1 + Real.exp (-(-zR f1 h t s))))) +
      -(-(-(if s < t then -(headOf f0 f1 h).d t s + ∑ r ∈ Finset.range (s + 1), (headOf f0 f1 h).d t r else 0) * (1 / (1 + Real.exp (-(-(-zR f1 h t s)))))))) / Real.sqrt 128) this fun h _ t _ s _ => ?_
  have r : Real.sqrt 128 ≠ 0 := by positivity
  unfold Head.dz kS dzt
  by_cases hs : s < t
  · rw [if_pos hs, if_pos hs, two_pow, Finset.sum_range_succ, neg_neg, zero_add]
    have e1 := Real.exp_pos (zR f1 h t s)
    rw [Real.exp_neg]
    field_simp
    ring
  · have : (headOf f0 f1 h).d t s = 0 := by
      show _ * (if s < t then Real.exp (uR f1 h t s) else 0) = 0
      rw [if_neg hs, mul_zero]
    rw [if_neg hs, if_neg hs, this]; simp

theorem dq_val (h0 : R2 (n := 8192) (m := 2048) a0 f0) (h1 : R2 (n := 8192) (m := 7168) a1 f1) : R2 (n := 8192) (m := 1024) (dq (dzs a0 a1) (ks a1)) (dqG (headOf f0 f1)) :=
  (join_val (rows_val (dz_val h0 h1) (ks_val (f0 := f0) h1))).congr fun t _ c _ => Finset.sum_congr rfl fun i _ => rfl

theorem dk_val (h0 : R2 (n := 8192) (m := 2048) a0 f0) (h1 : R2 (n := 8192) (m := 7168) a1 f1) : R2 (n := 8192) (m := 1024) (dk (dzs a0 a1) (qs a1)) (dkG (headOf f0 f1)) :=
  (join_val (cols_val (dz_val h0 h1) (qs_val (f0 := f0) h1))).congr fun t _ c _ => by
    have l2 : Real.log 2 ≠ 0 := ne_of_gt (Real.log_pos (by norm_num))
    have r : Real.sqrt 128 ≠ 0 := by positivity
    unfold dkG Head.gk
    rw [Finset.sum_mul]
    refine Finset.sum_congr rfl fun i _ => ?_
    unfold kQ kU; field_simp

theorem dv_val (h0 : R2 (n := 8192) (m := 2048) a0 f0) (h1 : R2 (n := 8192) (m := 7168) a1 f1) : R2 (n := 8192) (m := 1024) (dv (w (z a1)) (os a0)) (dvG (headOf f0 f1)) :=
  (join_val (outs_val (os_val (f1 := f1) h0) (w_val (f0 := f0) h1))).congr fun t _ c _ => Finset.sum_congr rfl fun i _ => mul_comm _ _

end Cert.Staged
-- ==== Proof.Table0.lean ====
/-
  The table of the launch, rows 0 to 63: an entry is one exactly where its column passes its row.
-/
module

public import proofs.«01_k».proof.Proof.Host

@[expose] public section

namespace Cert.KernelIdeal.Hand

open Cert.KernelIdeal

theorem rows_0 : ∀ (a : Fin 16) (b : Fin 128), lit1 ⟨(a.val + 16 * 0) * 128 + b.val, by have := a.isLt; have := b.isLt; omega⟩ = if (a.val + 16 * 0) % 128 < b.val then 0x3F80#16 else 0x0000#16 := by decide +kernel

theorem rows_1 : ∀ (a : Fin 16) (b : Fin 128), lit1 ⟨(a.val + 16 * 1) * 128 + b.val, by have := a.isLt; have := b.isLt; omega⟩ = if (a.val + 16 * 1) % 128 < b.val then 0x3F80#16 else 0x0000#16 := by decide +kernel

theorem rows_2 : ∀ (a : Fin 16) (b : Fin 128), lit1 ⟨(a.val + 16 * 2) * 128 + b.val, by have := a.isLt; have := b.isLt; omega⟩ = if (a.val + 16 * 2) % 128 < b.val then 0x3F80#16 else 0x0000#16 := by decide +kernel

theorem rows_3 : ∀ (a : Fin 16) (b : Fin 128), lit1 ⟨(a.val + 16 * 3) * 128 + b.val, by have := a.isLt; have := b.isLt; omega⟩ = if (a.val + 16 * 3) % 128 < b.val then 0x3F80#16 else 0x0000#16 := by decide +kernel

end Cert.KernelIdeal.Hand
-- ==== Proof.Table1.lean ====
/-
  The table of the launch, rows 64 to 127: an entry is one exactly where its column passes its row.
-/
module

public import proofs.«01_k».proof.Proof.Host

@[expose] public section

namespace Cert.KernelIdeal.Hand

open Cert.KernelIdeal

theorem rows_4 : ∀ (a : Fin 16) (b : Fin 128), lit1 ⟨(a.val + 16 * 4) * 128 + b.val, by have := a.isLt; have := b.isLt; omega⟩ = if (a.val + 16 * 4) % 128 < b.val then 0x3F80#16 else 0x0000#16 := by decide +kernel

theorem rows_5 : ∀ (a : Fin 16) (b : Fin 128), lit1 ⟨(a.val + 16 * 5) * 128 + b.val, by have := a.isLt; have := b.isLt; omega⟩ = if (a.val + 16 * 5) % 128 < b.val then 0x3F80#16 else 0x0000#16 := by decide +kernel

theorem rows_6 : ∀ (a : Fin 16) (b : Fin 128), lit1 ⟨(a.val + 16 * 6) * 128 + b.val, by have := a.isLt; have := b.isLt; omega⟩ = if (a.val + 16 * 6) % 128 < b.val then 0x3F80#16 else 0x0000#16 := by decide +kernel

theorem rows_7 : ∀ (a : Fin 16) (b : Fin 128), lit1 ⟨(a.val + 16 * 7) * 128 + b.val, by have := a.isLt; have := b.isLt; omega⟩ = if (a.val + 16 * 7) % 128 < b.val then 0x3F80#16 else 0x0000#16 := by decide +kernel

end Cert.KernelIdeal.Hand
-- ==== Proof.Table2.lean ====
/-
  The table of the launch, rows 128 to 191: an entry is one exactly where its column passes its row.
-/
module

public import proofs.«01_k».proof.Proof.Host

@[expose] public section

namespace Cert.KernelIdeal.Hand

open Cert.KernelIdeal

theorem rows_8 : ∀ (a : Fin 16) (b : Fin 128), lit1 ⟨(a.val + 16 * 8) * 128 + b.val, by have := a.isLt; have := b.isLt; omega⟩ = if (a.val + 16 * 8) % 128 < b.val then 0x3F80#16 else 0x0000#16 := by decide +kernel

theorem rows_9 : ∀ (a : Fin 16) (b : Fin 128), lit1 ⟨(a.val + 16 * 9) * 128 + b.val, by have := a.isLt; have := b.isLt; omega⟩ = if (a.val + 16 * 9) % 128 < b.val then 0x3F80#16 else 0x0000#16 := by decide +kernel

theorem rows_10 : ∀ (a : Fin 16) (b : Fin 128), lit1 ⟨(a.val + 16 * 10) * 128 + b.val, by have := a.isLt; have := b.isLt; omega⟩ = if (a.val + 16 * 10) % 128 < b.val then 0x3F80#16 else 0x0000#16 := by decide +kernel

theorem rows_11 : ∀ (a : Fin 16) (b : Fin 128), lit1 ⟨(a.val + 16 * 11) * 128 + b.val, by have := a.isLt; have := b.isLt; omega⟩ = if (a.val + 16 * 11) % 128 < b.val then 0x3F80#16 else 0x0000#16 := by decide +kernel

end Cert.KernelIdeal.Hand
-- ==== Proof.Table3.lean ====
/-
  The table of the launch, rows 192 to 255: an entry is one exactly where its column passes its row.
-/
module

public import proofs.«01_k».proof.Proof.Host

@[expose] public section

namespace Cert.KernelIdeal.Hand

open Cert.KernelIdeal

theorem rows_12 : ∀ (a : Fin 16) (b : Fin 128), lit1 ⟨(a.val + 16 * 12) * 128 + b.val, by have := a.isLt; have := b.isLt; omega⟩ = if (a.val + 16 * 12) % 128 < b.val then 0x3F80#16 else 0x0000#16 := by decide +kernel

theorem rows_13 : ∀ (a : Fin 16) (b : Fin 128), lit1 ⟨(a.val + 16 * 13) * 128 + b.val, by have := a.isLt; have := b.isLt; omega⟩ = if (a.val + 16 * 13) % 128 < b.val then 0x3F80#16 else 0x0000#16 := by decide +kernel

theorem rows_14 : ∀ (a : Fin 16) (b : Fin 128), lit1 ⟨(a.val + 16 * 14) * 128 + b.val, by have := a.isLt; have := b.isLt; omega⟩ = if (a.val + 16 * 14) % 128 < b.val then 0x3F80#16 else 0x0000#16 := by decide +kernel

theorem rows_15 : ∀ (a : Fin 16) (b : Fin 128), lit1 ⟨(a.val + 16 * 15) * 128 + b.val, by have := a.isLt; have := b.isLt; omega⟩ = if (a.val + 16 * 15) % 128 < b.val then 0x3F80#16 else 0x0000#16 := by decide +kernel

end Cert.KernelIdeal.Hand
-- ==== Proof.Tiles.lean ====
/-
  The arrays the launch finds, entry by entry: the tiles of the weights, the table, the arguments.
-/
module

public import proofs.«01_k».proof.Proof.Host
public import proofs.«01_k».proof.Proof.RefVals
public import proofs.«01_k».proof.Proof.Table0
public import proofs.«01_k».proof.Proof.Table1
public import proofs.«01_k».proof.Proof.Table2
public import proofs.«01_k».proof.Proof.Table3

@[expose] public section

noncomputable section

namespace Cert.KernelIdeal.Hand

open Cert.Hand Cert.KernelIdeal Cert.KernelIdeal.Gen
open Idealize.ShloMosaic Idealize.ShloMosaic.TcCoe

/-! ## The table -/

/-- A table whose rows come in sixteen blocks of sixteen. -/
theorem blocks (L : Fin 32768 → BitVec 16)
    (h0 : ∀ (a : Fin 16) (b : Fin 128), L ⟨(a.val + 16 * 0) * 128 + b.val, by have := a.isLt; have := b.isLt; omega⟩ = if (a.val + 16 * 0) % 128 < b.val then 0x3F80#16 else 0x0000#16)
    (h1 : ∀ (a : Fin 16) (b : Fin 128), L ⟨(a.val + 16 * 1) * 128 + b.val, by have := a.isLt; have := b.isLt; omega⟩ = if (a.val + 16 * 1) % 128 < b.val then 0x3F80#16 else 0x0000#16)
    (h2 : ∀ (a : Fin 16) (b : Fin 128), L ⟨(a.val + 16 * 2) * 128 + b.val, by have := a.isLt; have := b.isLt; omega⟩ = if (a.val + 16 * 2) % 128 < b.val then 0x3F80#16 else 0x0000#16)
    (h3 : ∀ (a : Fin 16) (b : Fin 128), L ⟨(a.val + 16 * 3) * 128 + b.val, by have := a.isLt; have := b.isLt; omega⟩ = if (a.val + 16 * 3) % 128 < b.val then 0x3F80#16 else 0x0000#16)
    (h4 : ∀ (a : Fin 16) (b : Fin 128), L ⟨(a.val + 16 * 4) * 128 + b.val, by have := a.isLt; have := b.isLt; omega⟩ = if (a.val + 16 * 4) % 128 < b.val then 0x3F80#16 else 0x0000#16)
    (h5 : ∀ (a : Fin 16) (b : Fin 128), L ⟨(a.val + 16 * 5) * 128 + b.val, by have := a.isLt; have := b.isLt; omega⟩ = if (a.val + 16 * 5) % 128 < b.val then 0x3F80#16 else 0x0000#16)
    (h6 : ∀ (a : Fin 16) (b : Fin 128), L ⟨(a.val + 16 * 6) * 128 + b.val, by have := a.isLt; have := b.isLt; omega⟩ = if (a.val + 16 * 6) % 128 < b.val then 0x3F80#16 else 0x0000#16)
    (h7 : ∀ (a : Fin 16) (b : Fin 128), L ⟨(a.val + 16 * 7) * 128 + b.val, by have := a.isLt; have := b.isLt; omega⟩ = if (a.val + 16 * 7) % 128 < b.val then 0x3F80#16 else 0x0000#16)
    (h8 : ∀ (a : Fin 16) (b : Fin 128), L ⟨(a.val + 16 * 8) * 128 + b.val, by have := a.isLt; have := b.isLt; omega⟩ = if (a.val + 16 * 8) % 128 < b.val then 0x3F80#16 else 0x0000#16)
    (h9 : ∀ (a : Fin 16) (b : Fin 128), L ⟨(a.val + 16 * 9) * 128 + b.val, by have := a.isLt; have := b.isLt; omega⟩ = if (a.val + 16 * 9) % 128 < b.val then 0x3F80#16 else 0x0000#16)
    (h10 : ∀ (a : Fin 16) (b : Fin 128), L ⟨(a.val + 16 * 10) * 128 + b.val, by have := a.isLt; have := b.isLt; omega⟩ = if (a.val + 16 * 10) % 128 < b.val then 0x3F80#16 else 0x0000#16)
    (h11 : ∀ (a : Fin 16) (b : Fin 128), L ⟨(a.val + 16 * 11) * 128 + b.val, by have := a.isLt; have := b.isLt; omega⟩ = if (a.val + 16 * 11) % 128 < b.val then 0x3F80#16 else 0x0000#16)
    (h12 : ∀ (a : Fin 16) (b : Fin 128), L ⟨(a.val + 16 * 12) * 128 + b.val, by have := a.isLt; have := b.isLt; omega⟩ = if (a.val + 16 * 12) % 128 < b.val then 0x3F80#16 else 0x0000#16)
    (h13 : ∀ (a : Fin 16) (b : Fin 128), L ⟨(a.val + 16 * 13) * 128 + b.val, by have := a.isLt; have := b.isLt; omega⟩ = if (a.val + 16 * 13) % 128 < b.val then 0x3F80#16 else 0x0000#16)
    (h14 : ∀ (a : Fin 16) (b : Fin 128), L ⟨(a.val + 16 * 14) * 128 + b.val, by have := a.isLt; have := b.isLt; omega⟩ = if (a.val + 16 * 14) % 128 < b.val then 0x3F80#16 else 0x0000#16)
    (h15 : ∀ (a : Fin 16) (b : Fin 128), L ⟨(a.val + 16 * 15) * 128 + b.val, by have := a.isLt; have := b.isLt; omega⟩ = if (a.val + 16 * 15) % 128 < b.val then 0x3F80#16 else 0x0000#16)
    (b : Fin 128) : ∀ (q r : ℕ) (hq : q < 16) (hr : r < 16), L ⟨(r + 16 * q) * 128 + b.val, by omega⟩ = if (r + 16 * q) % 128 < b.val then 0x3F80#16 else 0x0000#16
  | 0, r, _, hr => h0 ⟨r, hr⟩ b
  | 1, r, _, hr => h1 ⟨r, hr⟩ b
  | 2, r, _, hr => h2 ⟨r, hr⟩ b
  | 3, r, _, hr => h3 ⟨r, hr⟩ b
  | 4, r, _, hr => h4 ⟨r, hr⟩ b
  | 5, r, _, hr => h5 ⟨r, hr⟩ b
  | 6, r, _, hr => h6 ⟨r, hr⟩ b
  | 7, r, _, hr => h7 ⟨r, hr⟩ b
  | 8, r, _, hr => h8 ⟨r, hr⟩ b
  | 9, r, _, hr => h9 ⟨r, hr⟩ b
  | 10, r, _, hr => h10 ⟨r, hr⟩ b
  | 11, r, _, hr => h11 ⟨r, hr⟩ b
  | 12, r, _, hr => h12 ⟨r, hr⟩ b
  | 13, r, _, hr => h13 ⟨r, hr⟩ b
  | 14, r, _, hr => h14 ⟨r, hr⟩ b
  | 15, r, _, hr => h15 ⟨r, hr⟩ b
  | n + 16, _, hq, _ => absurd hq (by omega)

theorem row_of (L : Fin 32768 → BitVec 16) (b : Fin 128)
    (h : ∀ (q r : ℕ) (hq : q < 16) (hr : r < 16), L ⟨(r + 16 * q) * 128 + b.val, by omega⟩ = if (r + 16 * q) % 128 < b.val then 0x3F80#16 else 0x0000#16) (a : Fin 256) :
    L ⟨a.val * 128 + b.val, by omega⟩ = if a.val % 128 < b.val then 0x3F80#16 else 0x0000#16 := by
  have e : a.val % 16 + 16 * (a.val / 16) = a.val := by omega
  have := h (a.val / 16) (a.val % 16) (by omega) (by omega)
  simp only [e] at this
  exact this

theorem lit1_val (a : Fin 256) (b : Fin 128) : lit1 ⟨a.val * 128 + b.val, by omega⟩ = if a.val % 128 < b.val then 0x3F80#16 else 0x0000#16 :=
  row_of lit1 b (blocks lit1 rows_0 rows_1 rows_2 rows_3 rows_4 rows_5 rows_6 rows_7 rows_8 rows_9 rows_10 rows_11 rows_12 rows_13 rows_14 rows_15 b) a

/-! ## The tiles -/

/-- The number of the tile at position `n`. -/
def tv (n : Fin 136) : BitVec 32 := Scalar.select (IntOp.cmpi .slt (lit0 n) 0#32) (IntOp.addi (lit0 n) 256#32) (lit0 n)

theorem tv_val : ∀ i j : Fin 16, j ≤ i → min (tv (Fin.ofNat 136 (tri i.val + j.val))).toInt.toNat 255 = 16 * i.val + j.val := by decide +kernel

theorem rm136 (x : S136.Idx) : (S136.rowMajor x : Fin 136) = x 0 := Fin.ext (rowMajor_val1 x)

theorem tiles_val (x : S136x1.Idx) : tiles x = tv (x 0) := by
  have : ∀ n n' : Fin 136, n = n' → Scalar.select (IntOp.cmpi .slt (lit0 n) 0#32) (IntOp.addi (lit0 n) 256#32) (lit0 n) = tv n' := fun n n' e => by subst e; rfl
  exact this _ _ ((rm136 _).trans rfl)

theorem cut_val (w : FVec Ideal S8x8192x8192 .f32) (h : Fin 8) (n : Fin 256) (r s : Fin 512) :
    cut w (ValueIdx.ix4 h n r s) = w (ValueIdx.ix3 h (⟨512 * (n.val / 16) + r.val, by omega⟩ : Fin 8192) (⟨512 * (n.val % 16) + s.val, by omega⟩ : Fin 8192)) := by
  refine (congrArg (transpose S8x16x16x512x512 [0, 1, 3, 2, 4] (shapeCast S8x16x512x16x512 (truncf (F := Ideal) .bf16 w bitsLt_bf16_f32) shapeCasts_S8x8192x8192_S8x16x512x16x512) transposes_S8x16x512x16x512_S8x16x16x512x512_0_1_3_2_4)
    (Shape.reshapeEquiv_eq_of_vals _ _ (ValueIdx.ix5 h (⟨n.val / 16, by omega⟩ : Fin 16) (⟨n.val % 16, by omega⟩ : Fin 16) r s) _ _
      (rowMajor_val5 _ 67108864 4194304 262144 512 rfl rfl rfl rfl) (rowMajor_val4 _ 67108864 262144 512 rfl rfl rfl)
      (by show h.val * 67108864 + n.val / 16 * 4194304 + n.val % 16 * 262144 + r.val * 512 + s.val = h.val * 67108864 + n.val * 262144 + r.val * 512 + s.val; omega))).trans ?_
  exact congrArg w (Shape.reshapeEquiv_eq_of_vals _ _ (ValueIdx.ix3 h (⟨512 * (n.val / 16) + r.val, by omega⟩ : Fin 8192) (⟨512 * (n.val % 16) + s.val, by omega⟩ : Fin 8192)) _ _
      (rowMajor_val3 _ 67108864 8192 rfl rfl) (rowMajor_val5 _ 67108864 4194304 8192 512 rfl rfl rfl rfl)
      (by show h.val * 67108864 + (512 * (n.val / 16) + r.val) * 8192 + (512 * (n.val % 16) + s.val) = h.val * 67108864 + n.val / 16 * 4194304 + r.val * 8192 + n.val % 16 * 512 + s.val; omega))

theorem gather_val {α : Type} (x : S8x256x512x512.Idx → α) (t : S136x1.Idx → BitVec 32) (j : S8x136x512x512.Idx) (p : Fin 136) (hp : j 1 = p) :
    Host.gather gather_S8x256x512x512_S136x1_S8x136x512x512_023_1_n_n_1_1_81512512 x t j
      = x (ValueIdx.ix4 (j 0 : Fin 8) (⟨min (t (ValueIdx.ix2 p (0 : Fin 1))).toInt.toNat 255, by omega⟩ : Fin 256) (j 2 : Fin 512) (j 3 : Fin 512)) := by
  subst hp
  unfold Host.gather
  congr 1
  funext a
  apply Fin.ext
  fin_cases a
  · show 0 + 0 + (j 0).val = (j 0).val; omega
  · show min (t _).toInt.toNat (256 - 1) + 0 + 0 = min (t _).toInt.toNat 255
    have : (GatherDims.siIdx gather_S8x256x512x512_S136x1_S8x136x512x512_023_1_n_n_1_1_81512512 j ⟨0, by decide⟩) = ValueIdx.ix2 (j 1 : Fin 136) (0 : Fin 1) := by
      funext b; fin_cases b <;> rfl
    exact congrArg (fun q => min (t q).toInt.toNat 255) this
  · show 0 + 0 + (j 2).val = (j 2).val; omega
  · show 0 + 0 + (j 3).val = (j 3).val; omega

variable {m : (ℓ : Loc nD τ sig) → Buf (Elt Ideal) ℓ} {c : Dev nD} {f0 f1 : ℕ → ℕ → ℝ}

/-- What the launch finds, when the arguments are real numbers. -/
theorem found (h0 : R2 (n := 8192) (m := 2048) (m ((c.tc : Thread nD τ).loc main_arg0)) f0) (h1 : R2 (n := 8192) (m := 7168) (m ((c.tc : Thread nD τ).loc main_arg1)) f1) :
    Found m c (Cert.Staged.headOf f0 f1) where
  o x h k hh hk e := by
    rw [V_main_arg0]
    refine (h0 x).trans (congrArg Real.toEReal ?_)
    show _ = f0 (x 0).val (1024 + (128 * h + k)); rw [e, Nat.add_assoc]
  q x h k hh hk e := by
    rw [V_main_arg1]
    refine (h1 x).trans (congrArg Real.toEReal ?_)
    show _ = f1 (x 0).val (4096 + (128 * h + k)); rw [e, Nat.add_assoc]
  k x h k hh hk e := by
    rw [V_v0]
    refine (h1 x).trans (congrArg Real.toEReal ?_)
    show _ = f1 (x 0).val (5120 + (128 * h + k)); rw [e, Nat.add_assoc]
  v x h k hh hk e := by
    rw [V_v0]
    refine (h1 x).trans (congrArg Real.toEReal ?_)
    show _ = f1 (x 0).val (6144 + (128 * h + k)); rw [e, Nat.add_assoc]
  tab := fun x => by
    rw [V_cst]
    have h0 := (x 0).isLt; have h1 := (x 1).isLt
    change (x 0).val < 256 at h0; change (x 1).val < 128 at h1
    have hx : (x 0).val * 128 + (x 1).val < 32768 := by revert h0 h1; generalize (x 0).val = p; generalize (x 1).val = q; omega
    have e : (S256x128.rowMajor x : Fin 32768) = ⟨(x 0).val * 128 + (x 1).val, hx⟩ := Fin.ext (rowMajor_val2 x 128 rfl)
    have e2 : lit1 (S256x128.rowMajor x) = if (x 0).val % 128 < (x 1).val then 0x3F80#16 else 0x0000#16 := (congrArg lit1 e).trans (lit1_val ⟨(x 0).val, h0⟩ ⟨(x 1).val, h1⟩)
    show Ideal.ofBits .bf16 (lit1 (S256x128.rowMajor x)) = _
    refine (congrArg (Ideal.ofBits .bf16) e2).trans ?_
    by_cases hc : (x 0).val % 128 < (x 1).val
    · refine (congrArg (Ideal.ofBits .bf16) (if_pos hc)).trans (Ideal.ofBits_one_bf16.trans ?_)
      exact (congrArg Real.toEReal (if_pos hc : (if (x 0).val % 128 < (x 1).val then (1 : ℝ) else 0) = 1)).symm
    · refine (congrArg (Ideal.ofBits .bf16) (if_neg hc)).trans (Ideal.ofBits_zero_bf16.trans ?_)
      exact (congrArg Real.toEReal (if_neg hc : (if (x 0).val % 128 < (x 1).val then (1 : ℝ) else 0) = 0)).symm
  w x i j hi hj e := by
    rw [V_v36]
    have hlt := (x 1).isLt
    change (x 1).val < 136 at hlt
    rw [e] at hlt
    refine (gather_val _ _ x ⟨tri i + j, hlt⟩ (Fin.ext e)).trans ((cut_val _ _ _ _ _).trans ?_)
    refine (Cert.Staged.w_val (f0 := f0) (a1 := karg1 m c) h1 _).trans (congrArg Real.toEReal ?_)
    have t1 : tiles (ValueIdx.ix2 (⟨tri i + j, hlt⟩ : Fin 136) (0 : Fin 1)) = tv (Fin.ofNat 136 (tri i + j)) :=
      (tiles_val _).trans (congrArg tv (Fin.ext (Nat.mod_eq_of_lt (hlt)).symm))
    have t2 : min (tiles (ValueIdx.ix2 (⟨tri i + j, hlt⟩ : Fin 136) (0 : Fin 1))).toInt.toNat 255 = 16 * i + j := by
      rw [t1]; exact tv_val ⟨i, hi⟩ ⟨j, by omega⟩ hj
    show (Cert.Staged.headOf f0 f1 (x 0).val).W (512 * (min (tiles (ValueIdx.ix2 (⟨tri i + j, hlt⟩ : Fin 136) (0 : Fin 1))).toInt.toNat 255 / 16) + (x 2).val)
      (512 * (min (tiles (ValueIdx.ix2 (⟨tri i + j, hlt⟩ : Fin 136) (0 : Fin 1))).toInt.toNat 255 % 16) + (x 3).val) = _
    rw [t2, show (16 * i + j) / 16 = i by omega, show (16 * i + j) % 16 = j by omega]
  w0 h t s hts := if_neg (by omega)

end Cert.KernelIdeal.Hand
-- ==== Proof.Values.lean ====
/-
  The values: the kernel's three gradients are the reference's, where the arguments are real numbers.
-/
module

public import proofs.«01_k».proof.Defs
public import proofs.«01_k».proof.Proof.Tiles

@[expose] public section

noncomputable section

namespace Cert.Proof

open Cert.Hand Idealize.ShloMosaic Idealize.ShloMosaic.TcCoe Idealize.SL.Sem

instance finiteFacts : Cert.Pre_finite.Facts := ⟨by decide, by decide⟩

/-- What the precondition says of one entry. -/
theorem real_of_abs (x : EReal) (h : FloatOps.cmpf (F := Ideal) (φ := .f32) .olt (FloatOps.hostAbsf (F := Ideal) (φ := .f32) x) (Ideal.ofBits .f32 0x7F800000#32) = 1#1) : x = ((x.toReal : ℝ) : EReal) := by
  rw [Cert.Staged.top_bits] at h
  have h2 : max x (-x) < ⊤ := by
    by_contra hc
    have : Ideal.cmp .olt (max x (-x)) ⊤ = 1#1 := h
    simp [Ideal.cmp, hc] at this
  have ht : x ≠ ⊤ := fun e => by rw [e] at h2; simp at h2
  have hb : x ≠ ⊥ := fun e => by rw [e] at h2; simp at h2
  exact (EReal.coe_toReal ht hb).symm

/-- A matrix of real numbers by its entries' numbers. -/
def entries {n k : ℕ} (v : (⟨2, ![n, k]⟩ : Shape).Idx → EReal) (r c : ℕ) : ℝ :=
  if h : r < n ∧ c < k then (v (ValueIdx.ix2 (⟨r, h.1⟩ : Fin n) (⟨c, h.2⟩ : Fin k))).toReal else 0

theorem entries_val {n k : ℕ} (v : (⟨2, ![n, k]⟩ : Shape).Idx → EReal) (h : ∀ x, v x = (((v x).toReal : ℝ) : EReal)) : R2 v (entries v) := fun x => by
  have e : entries v (x 0).val (x 1).val = (v x).toReal := (dif_pos ⟨(x 0).isLt, (x 1).isLt⟩).trans (congrArg (fun y => (v y).toReal) (ValueIdx.eq_ix2 x).symm)
  rw [e]; exact h x

theorem algebraic : Cert.algebraic_KernelIdeal_ReferenceIdeal_pre_finite := fun m g m' g' hpre hargs => by
  have real0 : ∀ c : Dev Cert.KernelIdeal.nD, R2 (n := 8192) (m := 2048) (m ((c.tc : Thread Cert.KernelIdeal.nD Cert.KernelIdeal.τ).loc Cert.KernelIdeal.main_arg0)) (entries (n := 8192) (k := 2048) (m ((c.tc : Thread Cert.KernelIdeal.nD Cert.KernelIdeal.τ).loc Cert.KernelIdeal.main_arg0))) :=
    fun c => entries_val _ fun x => real_of_abs _ (congrFun (hpre c).1 x)
  have real1 : ∀ c : Dev Cert.KernelIdeal.nD, R2 (n := 8192) (m := 7168) (m ((c.tc : Thread Cert.KernelIdeal.nD Cert.KernelIdeal.τ).loc Cert.KernelIdeal.main_arg1)) (entries (n := 8192) (k := 7168) (m ((c.tc : Thread Cert.KernelIdeal.nD Cert.KernelIdeal.τ).loc Cert.KernelIdeal.main_arg1))) :=
    fun c => entries_val _ fun x => real_of_abs _ (congrFun (hpre c).2 x)
  refine ⟨fun c => (Cert.KernelIdeal.Hand.dats m 0 c).arrAt 5 Cert.KernelIdeal.cfg0.N, fun c => (Cert.KernelIdeal.Hand.dats m 0 c).arrAt 6 Cert.KernelIdeal.cfg0.N,
    fun c => (Cert.KernelIdeal.Hand.dats m 0 c).arrAt 7 Cert.KernelIdeal.cfg0.N, ?_, ?_⟩
  · exact (θ_run Cert.KernelIdeal.defs _ _).mono (fun r h c => ⟨(h.1 c).1 5, (h.1 c).1 6, (h.1 c).1 7, Cert.KernelIdeal.Hand.args_kept m h.1 c⟩)
      (Cert.KernelIdeal.Hand.run_main (F := Ideal) m g)
  · refine (θ_run Cert.ReferenceIdeal.defs _ _).mono (fun r h c => ?_) (Cert.ReferenceIdeal.Value.run (F := Ideal) m' g')
    have a0 : Cert.Staged.arg0 m' c = m ((c.tc : Thread Cert.KernelIdeal.nD Cert.KernelIdeal.τ).loc Cert.KernelIdeal.main_arg0) := (hargs c).1
    have a1 : Cert.Staged.arg1 m' c = m ((c.tc : Thread Cert.KernelIdeal.nD Cert.KernelIdeal.τ).loc Cert.KernelIdeal.main_arg1) := (hargs c).2
    have r0 := real0 c; have r1 := real1 c
    have hf := Cert.KernelIdeal.Hand.found r0 r1
    obtain ⟨e0, e1, e2, k0, k1⟩ := h c
    refine ⟨e0.trans ((Cert.Staged.res0 m' c).trans ?_), e1.trans ((Cert.Staged.res1 m' c).trans ?_), e2.trans ((Cert.Staged.res2 m' c).trans ?_), k0, k1⟩
    · exact R2.ext (Cert.Staged.dq_val (a0 ▸ r0) (a1 ▸ r1)) (Cert.KernelIdeal.Hand.dq_end hf) fun _ _ _ _ => rfl
    · exact R2.ext (Cert.Staged.dk_val (a0 ▸ r0) (a1 ▸ r1)) (Cert.KernelIdeal.Hand.dk_end hf) fun _ _ _ _ => rfl
    · exact R2.ext (Cert.Staged.dv_val (a0 ▸ r0) (a1 ▸ r1)) (Cert.KernelIdeal.Hand.dv_end hf) fun _ _ _ _ => rfl

end Cert.Proof

end
-- ==== Proof.Weight.lean ====
/-
  The gradient of a layer's weights: the kernel adds the products of four blocks of 2048 rows in its scratch, and the
  sum is the product over all 8192 rows.
-/
module

public import proofs.«01_k».proof.Proof.Tensors
public import proofs.«01_k».proof.Proof.Gen.Kernel2Ideal.Value
public import proofs.«01_k».proof.Proof.Gen.Reference2Ideal.Run

@[expose] public section

set_option maxRecDepth 16384

noncomputable section

namespace Cert.Hand

open Idealize.ShloMosaic

/-- A matrix's entries by their numbers. -/
def num2 {a b : ℕ} (v : (⟨2, ![a, b]⟩ : Shape).Idx → EReal) (i j : ℕ) : EReal :=
  if h : i < a ∧ j < b then v (ValueIdx.ix2 (⟨i, h.1⟩ : Fin a) (⟨j, h.2⟩ : Fin b)) else 0

theorem num2_val {a b : ℕ} (v : (⟨2, ![a, b]⟩ : Shape).Idx → EReal) (x) : v x = num2 v (x 0).val (x 1).val :=
  ((dif_pos (⟨(x 0).isLt, (x 1).isLt⟩ : (x 0).val < a ∧ (x 1).val < b)).trans (congrArg v (ValueIdx.eq_ix2 x).symm)).symm

/-- The entries of an array of three axes by their numbers. -/
def num3 {a b c : ℕ} (v : (⟨3, ![a, b, c]⟩ : Shape).Idx → EReal) (i j k : ℕ) : EReal :=
  if h : i < a ∧ j < b ∧ k < c then v (ValueIdx.ix3 (⟨i, h.1⟩ : Fin a) (⟨j, h.2.1⟩ : Fin b) (⟨k, h.2.2⟩ : Fin c)) else 0

theorem num3_val {a b c : ℕ} (v : (⟨3, ![a, b, c]⟩ : Shape).Idx → EReal) (x) : v x = num3 v (x 0).val (x 1).val (x 2).val :=
  ((dif_pos (⟨(x 0).isLt, (x 1).isLt, (x 2).isLt⟩ : (x 0).val < a ∧ (x 1).val < b ∧ (x 2).val < c)).trans (congrArg v (ValueIdx.eq_ix3 x).symm)).symm

end Cert.Hand

namespace Cert.Kernel2Ideal.Hand

open Cert.Kernel2Ideal Cert.Kernel2Ideal.Gen Cert.Hand Idealize.ShloMosaic Idealize.ShloMosaic.TcCoe Idealize.SL.Sem
open Idealize.ShloMosaic.Pipeline (Dat)

/-! ## What a point leaves -/

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1x2048x704 .bf16) (h2 : a2.IsWhole) (a3 : Memref sig .tc .vmem S2048x2048 .bf16) (h3 : a3.IsWhole)
  (a4 : Memref sig .tc .vmem S1x704x2048 .bf16) (h4 : a4.IsWhole) (a5 : Memref sig .tc .vmem S704x2048 .f32) (h5 : a5.IsWhole)
  (x0 : Vec F S1x2048x704 .bf16) (x1 : Vec F S2048x2048 .bf16) (xs : Vec F S704x2048 .f32)

theorem left_A (hc0 : cond0_0 i) (hc1 : ¬cond0_1 i) : sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S704x2048) hz2, View.readCov_unit_zero (S := S704x2048) _ hz2]
  simp only [View.readAt_eq_ld, h2.read_unread, h3.read_unread, View.ld_unit_zero (S := S1x2048x704) hz3, View.ld_unit_zero (S := S2048x2048) hz2]

theorem left_B (hc0 : ¬cond0_0 i) (hc1 : ¬cond0_1 i) : sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S704x2048) hz2]
  simp only [View.readAt_eq_ld, h2.read_unread, h3.read_unread, h5.read_unread, View.ld_unit_zero (S := S1x2048x704) hz3, View.ld_unit_zero (S := S2048x2048) hz2,
    View.ld_unit_zero (S := S704x2048) hz2]

theorem out_C (hc0 : ¬cond0_0 i) (hc1 : cond0_1 i) : out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x704x2048) hz3, View.readCov_unit_zero (S := S704x2048) _ hz2]
  simp only [View.readAt_eq_ld, h2.read_unread, h3.read_unread, h5.read_unread, View.ld_unit_zero (S := S1x2048x704) hz3, View.ld_unit_zero (S := S2048x2048) hz2,
    View.ld_unit_zero (S := S704x2048) hz2]

end

/-! ## Its entries -/

theorem pay1_val (x : S704x2048.Idx) : k0_pay1 (F := Ideal) x = 0 := by
  unfold k0_pay1
  exact (congrFun (shapeCast_self _ _) x).trans (Ideal.ofBits_zero .f32)

theorem pay2_val (v3 : Vec Ideal S1x2048x704 .bf16) (v5 : Vec Ideal S2048x2048 .bf16) (v7 : Vec Ideal S704x2048 .f32) {f g : ℕ → ℕ → EReal}
    (e3 : ∀ x, v3 x = f (x 1).val (x 2).val) (e5 : ∀ x, v5 x = g (x 0).val (x 1).val) (x : S704x2048.Idx) :
    k0_pay2 v3 v5 v7 x = v7 x + ∑ n ∈ Finset.range 2048, f n (x 0).val * g n (x 1).val := by
  unfold k0_pay2
  refine (congrFun (shapeCast_self _ _) x).trans ?_
  refine congrArg (v7 x + ·) ?_
  refine (Ideal.matmul_apply₁_of dot_S2048x704_S2048x2048_S704x2048_0_0_1_1_n_n (K := 2048) rfl rfl (shapeCast S2048x704 v3 shapeCasts_S1x2048x704_S2048x704) v5 _ x
    (fun n => ValueIdx.ix2 n (x 0)) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  refine (Finset.sum_congr rfl fun n _ => congrArg₂ (· * ·) ?_ (e5 _)).trans (Finset.sum_range (fun n => f n (x 0).val * g n (x 1).val)).symm
  refine (congrArg v3 (Shape.reshapeEquiv_eq_of_vals _ _ (ValueIdx.ix3 (0 : Fin 1) n (x 0)) _ _ (rowMajor_val3 _ 1441792 704 rfl rfl) (rowMajor_val2 _ 704 rfl) ?_)).trans (e3 _)
  show 0 * 1441792 + n.val * 704 + (x 0).val = n.val * 704 + (x 0).val
  omega

theorem pay3_val (v : Vec Ideal S704x2048 .f32) (x : S1x704x2048.Idx) : k0_pay3 v x = v (ValueIdx.ix2 (x 1) (x 2)) := by
  unfold k0_pay3
  have h0 := (x 0).isLt
  change (x 0).val < 1 at h0
  refine congrArg v (Shape.reshapeEquiv_eq_of_vals _ _ (ValueIdx.ix2 (x 1) (x 2)) _ _ (rowMajor_val2 _ 2048 rfl) (rowMajor_val3 _ 1441792 2048 rfl rfl) ?_)
  show (x 1).val * 2048 + (x 2).val = (x 0).val * 1441792 + (x 1).val * 2048 + (x 2).val
  omega

/-! ## The sum over the points -/

variable (m : (ℓ : Loc nD τ sig) → Buf (Elt Ideal) ℓ) (c : Dev nD)

/-- The two arguments' entries. -/
abbrev A : ℕ → ℕ → ℕ → EReal := num3 (a := 8) (b := 8192) (c := 704) (m ((c.tc : Thread nD τ).loc main_arg0))
abbrev D : ℕ → ℕ → EReal := num2 (a := 8192) (b := 2048) (m ((c.tc : Thread nD τ).loc main_arg1))

theorem idx_all : ∀ t : Fin cfg0.N, win0_0.index t = ![t.val / 4, t.val % 4, 0] ∧ win0_1.index t = ![t.val % 4, 0] ∧ win0_2.index t = ![t.val / 4, 0, 0] := by
  decide +kernel

theorem block0 (t : Fin cfg0.N) (x : S1x2048x704.Idx) : (iblk m c 0 t : Vec Ideal S1x2048x704 .bf16) x = A m c (t.val / 4) (2048 * (t.val % 4) + (x 1).val) (x 2).val := by
  have h0 := (x 0).isLt
  change (x 0).val < 1 at h0
  have e0 : (((win0_0.rect t).emb x) 0).val = t.val / 4 := by
    rw [win0_0.rect_emb_val t x 0, (idx_all t).1]; show t.val / 4 * 1 + (x 0).val = _; omega
  have e1 : (((win0_0.rect t).emb x) 1).val = 2048 * (t.val % 4) + (x 1).val := by
    rw [win0_0.rect_emb_val t x 1, (idx_all t).1]; show t.val % 4 * 2048 + _ = _; omega
  have e2 : (((win0_0.rect t).emb x) 2).val = (x 2).val := by
    rw [win0_0.rect_emb_val t x 2, (idx_all t).1]; show 0 * 704 + _ = _; omega
  refine (num3_val (a := 8) (b := 8192) (c := 704) (m ((c.tc : Thread nD τ).loc main_arg0)) ((win0_0.rect t).emb x)).trans ?_
  rw [e0, e1, e2]

theorem block1 (t : Fin cfg0.N) (x : S2048x2048.Idx) : (iblk m c 1 t : Vec Ideal S2048x2048 .bf16) x = D m c (2048 * (t.val % 4) + (x 0).val) (x 1).val := by
  have e0 : (((win0_1.rect t).emb x) 0).val = 2048 * (t.val % 4) + (x 0).val := by
    rw [win0_1.rect_emb_val t x 0, (idx_all t).2.1]; show t.val % 4 * 2048 + _ = _; omega
  have e1 : (((win0_1.rect t).emb x) 1).val = (x 1).val := by
    rw [win0_1.rect_emb_val t x 1, (idx_all t).2.1]; show 0 * 2048 + _ = _; omega
  refine (num2_val (a := 8192) (b := 2048) (m ((c.tc : Thread nD τ).loc main_arg1)) ((win0_1.rect t).emb x)).trans ?_
  rw [e0, e1]

/-- The sum over the first `n` rows. -/
def upto (j n r d : ℕ) : EReal := ∑ i ∈ Finset.range n, A m c j i r * D m c i d

theorem upto_add (j n k r d : ℕ) : upto m c j (n + k) r d = upto m c j n r d + ∑ i ∈ Finset.range k, A m c j (n + i) r * D m c (n + i) d :=
  Finset.sum_range_add _ n k

theorem step (t : Fin cfg0.N) (v : Vec Ideal S704x2048 .f32) (hv : ∀ x, v x = upto m c (t.val / 4) (2048 * (t.val % 4)) (x 0).val (x 1).val) (x : S704x2048.Idx) :
    k0_pay2 (iblk m c 0 t) (iblk m c 1 t) v x = upto m c (t.val / 4) (2048 * (t.val % 4 + 1)) (x 0).val (x 1).val := by
  refine (pay2_val _ _ v (f := fun n r => A m c (t.val / 4) (2048 * (t.val % 4) + n) r) (g := fun n d => D m c (2048 * (t.val % 4) + n) d) (block0 m c t) (block1 m c t) x).trans ?_
  rw [hv x, Nat.mul_add, upto_add]

theorem held : ∀ (n : ℕ) (h : n < cfg0.N) (hn : n % 4 ≠ 3) (x : S704x2048.Idx), (outsAt0 m c n h).2 x = upto m c (n / 4) (2048 * (n % 4 + 1)) (x 0).val (x 1).val := by
  intro n
  induction n with
  | zero =>
    intro h hn x
    rw [outsAt0_A m c ⟨0, h⟩ rfl (by show ¬ 0 % 4 = 3; decide)]
    dsimp only
    rw [left_A]
    exact step m c ⟨0, h⟩ _ (fun x => (pay1_val x).trans (by simp [upto])) x
  | succ n ih =>
    intro h hn x
    by_cases h0 : (n + 1) % 4 = 0
    · rw [outsAt0_A m c ⟨n + 1, h⟩ h0 hn]
      dsimp only
      rw [left_A]
      exact step m c ⟨n + 1, h⟩ _ (fun x => (pay1_val x).trans (by simp [upto, h0])) x
    · rw [outsAt0_B m c ⟨n + 1, h⟩ h0 hn]
      dsimp only
      rw [left_B]
      refine step m c ⟨n + 1, h⟩ _ (fun x => (ih (Nat.lt_of_succ_lt h) (by omega) x).trans ?_) x
      show _ = upto m c ((n + 1) / 4) (2048 * ((n + 1) % 4)) _ _
      rw [show (n + 1) / 4 = n / 4 by omega, show (n + 1) % 4 = n % 4 + 1 by omega]

theorem given (t : Fin cfg0.N) (h : t.val % 4 = 3) (x : S1x704x2048.Idx) : (outsAt0 m c t.val t.isLt).1 x = upto m c (t.val / 4) 8192 (x 1).val (x 2).val := by
  have h0 : ¬ t.val % 4 = 0 := by omega
  rw [outsAt0_C m c t h0 h]
  dsimp only
  rw [out_C]
  refine (pay3_val _ x).trans ((step m c t _ (fun x => (held m c (t.val - 1) (by have := t.isLt; omega) (by omega) x).trans ?_) (ValueIdx.ix2 (x 1) (x 2))).trans ?_)
  · rw [show (t.val - 1) / 4 = t.val / 4 by omega, show (t.val - 1) % 4 + 1 = t.val % 4 by omega]
  · rw [h]

/-- The array the kernel ends with. -/
theorem array_end (i : S8x704x2048.Idx) : Value.G2 m c i = upto m c (i 0).val 8192 (i 1).val (i 2).val := by
  have h0 : (i 0).val < 8 := (i 0).isLt
  have h1 : (i 1).val < 704 := (i 1).isLt
  have h2 : (i 2).val < 2048 := (i 2).isLt
  have hr : Value.run2Of i = (i 0).val := by show 1 * ((i 0).val / 1 - 0) + 1 * ((i 1).val / 704 - 0) + 1 * ((i 2).val / 2048 - 0) = _; omega
  have hp : Value.pt2Of i < cfg0.N := by show 4 * Value.run2Of i + 3 < 32; omega
  unfold Value.G2
  rw [dif_pos hp, ← Value.outsAt0_sweep m c (Value.pt2Of i) hp]
  refine (given m c ⟨Value.pt2Of i, hp⟩ (by show (4 * Value.run2Of i + 3) % 4 = 3; omega) (Value.loc2Of i)).trans ?_
  show upto m c ((4 * Value.run2Of i + 3) / 4) 8192 ((i 1).val % 704) ((i 2).val % 2048) = _
  rw [hr, Nat.mod_eq_of_lt h1, Nat.mod_eq_of_lt h2, show (4 * (i 0).val + 3) / 4 = (i 0).val by omega]

end Cert.Kernel2Ideal.Hand

namespace Cert.Reference2Ideal.Hand

open Cert.Reference2Ideal Cert.Reference2Ideal.Gen Cert.Hand Idealize.ShloMosaic Idealize.ShloMosaic.TcCoe Idealize.SL.Sem

/-- The reference's product, read at an index. -/
theorem product (a : FVec Ideal S8x8192x704 .bf16) (dy : FVec Ideal S8192x2048 .bf16) (x : S8x704x2048.Idx) :
    (truncf .bf16 (transpose S8x704x2048 [1, 2, 0] (Host.dotGeneral dot_S8192x2048_S8x8192x704_S2048x8x704_0_1_1_02_n_n none (extf .f32 dy bitsLt_bf16_f32) (extf .f32 a bitsLt_bf16_f32)
      : FVec Ideal S2048x8x704 .f32) transposes_S2048x8x704_S8x704x2048_1_2_0) bitsLt_bf16_f32 : FVec Ideal S8x704x2048 .bf16) x
      = ∑ n ∈ Finset.range 8192, num3 (a := 8) (b := 8192) (c := 704) a (x 0).val n (x 1).val * num2 (a := 8192) (b := 2048) dy n (x 2).val := by
  refine (congrArg (Host.dotGeneral dot_S8192x2048_S8x8192x704_S2048x8x704_0_1_1_02_n_n none (extf .f32 dy bitsLt_bf16_f32) (extf .f32 a bitsLt_bf16_f32) : FVec Ideal S2048x8x704 .f32)
    (show Shape.Transposes.src transposes_S2048x8x704_S8x704x2048_1_2_0 x = ValueIdx.ix3 (x 2) (x 0) (x 1) from funext fun d => by fin_cases d <;> rfl)).trans ?_
  refine (Ideal.matmul_apply₁_of dot_S8192x2048_S8x8192x704_S2048x8x704_0_1_1_02_n_n (K := 8192) rfl rfl (extf .f32 dy bitsLt_bf16_f32) (extf .f32 a bitsLt_bf16_f32) (fun _ => 0) (ValueIdx.ix3 (x 2) (x 0) (x 1))
    (fun n => ValueIdx.ix2 n (x 2)) (fun n => ValueIdx.ix3 (x 0) n (x 1)) (fun n => funext fun d => by fin_cases d <;> rfl) (fun n => funext fun d => by fin_cases d <;> rfl)).trans ?_
  refine (zero_add _).trans ((Finset.sum_congr rfl fun n _ => (mul_comm _ _).trans (congrArg₂ (· * ·) (num3_val (a := 8) (b := 8192) (c := 704) a _) (num2_val (a := 8192) (b := 2048) dy _))).trans ?_)
  exact (Finset.sum_range (fun n => num3 (a := 8) (b := 8192) (c := 704) a (x 0).val n (x 1).val * num2 (a := 8192) (b := 2048) dy n (x 2).val)).symm

end Cert.Reference2Ideal.Hand

end
-- ==== Proof.Gate.lean ====
/-
  The gradients of a gated layer's two factors: each block of rows is one product with the transposed weights, times the
  gate or its slope.
-/
module

public import proofs.«01_k».proof.Proof.Tensors
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Hand

open Idealize.ShloMosaic Cert.Staged

/-- A matrix under a first axis of one. -/
theorem R3.drop {n k : ℕ} {φ : FTy} (v : FVec Ideal ⟨3, ![1, n, k]⟩ φ) (h : Shape.ShapeCasts (⟨3, ![1, n, k]⟩ : Shape) ⟨2, ![n, k]⟩) {f : ℕ → ℕ → ℝ}
    (hv : R3 v fun _ => f) : R2 (shapeCast (⟨2, ![n, k]⟩ : Shape) v h) f := fun x =>
  (congrArg v (Shape.reshapeEquiv_eq_of_vals _ _ (ValueIdx.ix3 (0 : Fin 1) (x 0) (x 1)) _ _ (rowMajor_val3 _ (n * k) k rfl rfl) (rowMajor_val2 _ k rfl)
    (by show 0 * (n * k) + (x 0).val * k + (x 1).val = (x 0).val * k + (x 1).val; omega))).trans (hv _)

theorem R2.lift {n k : ℕ} {φ : FTy} (v : FVec Ideal ⟨2, ![n, k]⟩ φ) (h : Shape.ShapeCasts (⟨2, ![n, k]⟩ : Shape) ⟨3, ![1, n, k]⟩) {f : ℕ → ℕ → ℝ}
    (hv : R2 v f) : R3 (shapeCast (⟨3, ![1, n, k]⟩ : Shape) v h) fun _ => f := fun x =>
  (congrArg v (Shape.reshapeEquiv_eq_of_vals _ _ (ValueIdx.ix2 (x 1) (x 2)) _ _ (rowMajor_val2 _ k rfl) (rowMajor_val3 _ (n * k) k rfl rfl)
    (by have h0 : (x 0).val < 1 := (x 0).isLt
        show (x 1).val * k + (x 2).val = (x 0).val * (n * k) + (x 1).val * k + (x 2).val
        rw [show (x 0).val = 0 by omega]; omega))).trans (hv _)

/-- The logistic function. -/
def sg (x : ℝ) : ℝ := 1 / (1 + Real.exp (-x))

/-- Its product with its argument, and that product's slope. -/
def gate (x : ℝ) : ℝ := x * sg x
def gateSlope (x : ℝ) : ℝ := sg x + x * (sg x * (1 - sg x))

theorem one_add_exp_ne (x : ℝ) : 1 + Real.exp (-x) ≠ 0 := ne_of_gt (by have := Real.exp_pos (-x); linarith)

end Cert.Hand

namespace Cert.Kernel3Ideal.Hand

open Cert.Kernel3Ideal Cert.Kernel3Ideal.Gen Cert.Hand Cert.Staged Idealize.ShloMosaic Idealize.ShloMosaic.TcCoe Idealize.SL.Sem
open Idealize.ShloMosaic.Pipeline (Dat)

/-! ## What a point leaves -/

section
variable {f g h : ℕ → ℕ → ℝ}

theorem part_val (v0 : Vec Ideal S512x2048 .bf16) (v1 : Vec Ideal S1x704x2048 .bf16) (e0 : R2 (n := 512) (m := 2048) v0 f) (e1 : R3 (a := 1) (b := 704) (c := 2048) v1 fun _ => g) :
    R2 (n := 512) (m := 704) (k0_pay3 v0 v1) fun s n => ∑ d ∈ Finset.range 2048, f s d * g n d := by
  unfold k0_pay3
  exact R2.dotT none v0 _ _ rfl e0 (R3.drop (φ := .bf16) v1 shapeCasts_S1x704x2048_S704x2048 e1)

theorem times_val (p : FVec Ideal S512x704 .f32) (v : Vec Ideal S1x512x704 .f32) (hp : R2 (n := 512) (m := 704) p f) (hv : R3 (a := 1) (b := 512) (c := 704) v fun _ => g) :
    R3 (a := 1) (b := 512) (c := 704) (k0_pay2 p v) fun _ s n => f s n * g s n := by
  unfold k0_pay2
  exact R2.lift (φ := .bf16) _ shapeCasts_S512x704_S1x512x704 (R2.mul (φ := .f32) _ _ hp (R3.drop (φ := .f32) v shapeCasts_S1x512x704_S512x704 hv))

end

section
variable {f g h : ℕ → ℕ → ℝ} (x0 : Vec Ideal S1024x2048 .bf16) (x1 : Vec Ideal S1x704x2048 .bf16) (x2 : Vec Ideal S1x1024x704 .f32) (x3 : Vec Ideal S1x1024x704 .f32)
  (e0 : R2 (n := 1024) (m := 2048) x0 f) (e1 : R3 (a := 1) (b := 704) (c := 2048) x1 fun _ => g)
include e0 e1

theorem top_val (v : Vec Ideal S1x1024x704 .f32) (e : R3 (a := 1) (b := 1024) (c := 704) v fun _ => h) :
    R3 (a := 1) (b := 512) (c := 704) (k0_pay2 (k0_pay3 (View.ld x0 r0_0) (View.ld x1 r0_1)) (View.ld v r0_2)) fun _ s n => (∑ d ∈ Finset.range 2048, f s d * g n d) * h s n := by
  refine times_val _ _ (part_val _ _ (fun x => (e0 _).trans ?_) (fun x => (e1 _).trans ?_)) (fun x => (e _).trans ?_)
  · show ((f (0 + 1 * (x 0).val) (0 + 1 * (x 1).val) : ℝ) : EReal) = _; simp
  · show ((g (0 + 1 * (x 1).val) (0 + 1 * (x 2).val) : ℝ) : EReal) = _; simp
  · show ((h (0 + 1 * (x 1).val) (0 + 1 * (x 2).val) : ℝ) : EReal) = _; simp

theorem low_val (v : Vec Ideal S1x1024x704 .f32) (e : R3 (a := 1) (b := 1024) (c := 704) v fun _ => h) :
    R3 (a := 1) (b := 512) (c := 704) (k0_pay2 (k0_pay3 (View.ld x0 r0_3) (View.ld x1 r0_1)) (View.ld v r0_4)) fun _ s n => (∑ d ∈ Finset.range 2048, f (512 + s) d * g n d) * h (512 + s) n := by
  refine times_val _ _ (part_val _ _ (f := fun s d => f (512 + s) d) (fun x => (e0 _).trans ?_) (fun x => (e1 _).trans ?_)) (g := fun s n => h (512 + s) n) (fun x => (e _).trans ?_)
  · show ((f (512 + 1 * (x 0).val) (0 + 1 * (x 1).val) : ℝ) : EReal) = _; simp
  · show ((g (0 + 1 * (x 1).val) (0 + 1 * (x 2).val) : ℝ) : EReal) = _; simp
  · show ((h (512 + 1 * (x 1).val) (0 + 1 * (x 2).val) : ℝ) : EReal) = _; simp

theorem both_val (L : List (View.Piece (Elt Ideal) S1x1024x704 .bf16)) (v : Vec Ideal S1x1024x704 .f32) (e : R3 (a := 1) (b := 1024) (c := 704) v fun _ => h)
    (hL : L = [⟨r0_4, k0_pay2 (k0_pay3 (View.ld x0 r0_3) (View.ld x1 r0_1)) (View.ld v r0_4)⟩, ⟨r0_2, k0_pay2 (k0_pay3 (View.ld x0 r0_0) (View.ld x1 r0_1)) (View.ld v r0_2)⟩]) :
    R3 (a := 1) (b := 1024) (c := 704) (View.canon L) fun _ s n => (∑ d ∈ Finset.range 2048, f s d * g n d) * h s n := by
  subst hL
  intro y
  refine View.canon_apply_of_pieces (show S1x1024x704.Idx → Elt Ideal .bf16 from fun y => (((∑ d ∈ Finset.range 2048, f (y 1).val d * g (y 2).val d) * h (y 1).val (y 2).val : ℝ) : EReal)) _ ?_ y (cover0_4 _ _ y)
  intro p hp x
  rcases List.mem_cons.mp hp with rfl | hp
  · refine (low_val x0 x1 e0 e1 v e x).trans ?_
    show _ = (((∑ d ∈ Finset.range 2048, f (512 + 1 * (x 1).val) d * g (0 + 1 * (x 2).val) d) * h (512 + 1 * (x 1).val) (0 + 1 * (x 2).val) : ℝ) : EReal)
    simp
  · obtain rfl := List.mem_singleton.mp hp
    refine (top_val x0 x1 e0 e1 v e x).trans ?_
    show _ = (((∑ d ∈ Finset.range 2048, f (0 + 1 * (x 1).val) d * g (0 + 1 * (x 2).val) d) * h (0 + 1 * (x 1).val) (0 + 1 * (x 2).val) : ℝ) : EReal)
    simp

theorem out4_val (e3 : R3 (a := 1) (b := 1024) (c := 704) x3 fun _ => h) :
    R3 (a := 1) (b := 1024) (c := 704) (out0_4 x0 x1 x2 x3) fun _ s n => (∑ d ∈ Finset.range 2048, f s d * g n d) * h s n :=
  both_val x0 x1 e0 e1 _ x3 e3 rfl

theorem out5_val (e2 : R3 (a := 1) (b := 1024) (c := 704) x2 fun _ => h) :
    R3 (a := 1) (b := 1024) (c := 704) (out0_5 x0 x1 x2 x3) fun _ s n => (∑ d ∈ Finset.range 2048, f s d * g n d) * h s n :=
  both_val x0 x1 e0 e1 _ x2 e2 rfl

end

/-! ## The arrays -/

variable (m : (ℓ : Loc nD τ sig) → Buf (Elt Ideal) ℓ) (c : Dev nD)

theorem idx_all : ∀ t : Fin cfg0.N, win0_0.index t = ![t.val % 8, 0] ∧ win0_1.index t = ![t.val / 8, 0, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0] := by
  decide +kernel

/-- What the host prepares: the gate and the other factor times the gate's slope. -/
def sgd (g : FVec Ideal S8x8192x704 .f32) : FVec Ideal S8x8192x704 .f32 :=
  Host.divf (broadcastInDim S8x8192x704 ![] bcast_S_S8x8192x704 (constant S_ .f32 0x3F800000#32)) (addf (broadcastInDim S8x8192x704 ![] bcast_S_S8x8192x704 (constant S_ .f32 0x3F800000#32)) (Host.exp (Host.negf g)))

theorem sgd_val {g : FVec Ideal S8x8192x704 .f32} {f : S8x8192x704.Idx → ℝ} (hg : P g f) : P (sgd g) fun x => sg (f x) :=
  P.div (fun _ => Ideal.ofBits_one_f32) (P.add (fun _ => Ideal.ofBits_one_f32) hg.neg.exp) fun x => one_add_exp_ne _

set_option maxHeartbeats 4000000 in
theorem V_gate : V m c main_v3 = mulf (m ((c.tc : Thread nD τ).loc main_arg0)) (sgd (m ((c.tc : Thread nD τ).loc main_arg0))) := by
  dsimp only [V]
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 4000000 in
theorem V_slope : V m c main_v4 = mulf (m ((c.tc : Thread nD τ).loc main_arg1))
    (addf (mulf (broadcastInDim S8x8192x704 ![] bcast_S_S8x8192x704 (constant S_ .f32 0x3F800000#32)) (sgd (m ((c.tc : Thread nD τ).loc main_arg0))))
      (mulf (mulf (m ((c.tc : Thread nD τ).loc main_arg0)) (broadcastInDim S8x8192x704 ![] bcast_S_S8x8192x704 (constant S_ .f32 0x3F800000#32)))
        (mulf (sgd (m ((c.tc : Thread nD τ).loc main_arg0))) (subf (broadcastInDim S8x8192x704 ![] bcast_S_S8x8192x704 (constant S_ .f32 0x3F800000#32)) (sgd (m ((c.tc : Thread nD τ).loc main_arg0))))))) := by
  dsimp only [V]
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

section
variable {m c} {G U W : ℕ → ℕ → ℕ → ℝ} {Y : ℕ → ℕ → ℝ}
  (hG : R3 (a := 8) (b := 8192) (c := 704) (m ((c.tc : Thread nD τ).loc main_arg0)) G) (hU : R3 (a := 8) (b := 8192) (c := 704) (m ((c.tc : Thread nD τ).loc main_arg1)) U)
  (hW : R3 (a := 8) (b := 704) (c := 2048) (m ((c.tc : Thread nD τ).loc main_arg2)) W) (hY : R2 (n := 8192) (m := 2048) (m ((c.tc : Thread nD τ).loc main_arg3)) Y)

include hG in
theorem gate_val : R3 (a := 8) (b := 8192) (c := 704) (V m c main_v3) fun j s n => gate (G j s n) := by
  rw [V_gate]; exact P.mul hG (sgd_val hG)

include hG hU in
theorem slope_val : R3 (a := 8) (b := 8192) (c := 704) (V m c main_v4) fun j s n => U j s n * gateSlope (G j s n) := by
  rw [V_slope]
  intro x
  refine (P.mul hU (P.add (P.mul (fun _ => Ideal.ofBits_one_f32) (sgd_val hG))
    (P.mul (P.mul hG fun _ => Ideal.ofBits_one_f32) (P.mul (sgd_val hG) (P.sub (fun _ => Ideal.ofBits_one_f32) (sgd_val hG))))) x).trans (congrArg Real.toEReal ?_)
  show _ = _ * gateSlope _
  unfold gateSlope; ring

include hY in
theorem block0 (t : Fin cfg0.N) : R2 (n := 1024) (m := 2048) (iblk m c 0 t) fun s d => Y (1024 * (t.val % 8) + s) d := fun x => by
  have e0 : (((win0_0.rect t).emb x) 0).val = 1024 * (t.val % 8) + (x 0).val := by
    rw [win0_0.rect_emb_val t x 0, (idx_all t).1]; show t.val % 8 * 1024 + _ = _; omega
  have e1 : (((win0_0.rect t).emb x) 1).val = (x 1).val := by
    rw [win0_0.rect_emb_val t x 1, (idx_all t).1]; show 0 * 2048 + _ = _; omega
  refine (congrFun (V_main_arg3 m c) ((win0_0.rect t).emb x)).trans ((hY ((win0_0.rect t).emb x)).trans ?_)
  dsimp only
  rw [e0, e1]

include hW in
theorem block1 (t : Fin cfg0.N) : R3 (a := 1) (b := 704) (c := 2048) (iblk m c 1 t) fun _ => W (t.val / 8) := fun x => by
  have h0 := (x 0).isLt
  change (x 0).val < 1 at h0
  have e0 : (((win0_1.rect t).emb x) 0).val = t.val / 8 := by
    rw [win0_1.rect_emb_val t x 0, (idx_all t).2.1]; show t.val / 8 * 1 + (x 0).val = _; omega
  have e1 : (((win0_1.rect t).emb x) 1).val = (x 1).val := by
    rw [win0_1.rect_emb_val t x 1, (idx_all t).2.1]; show 0 * 704 + _ = _; omega
  have e2 : (((win0_1.rect t).emb x) 2).val = (x 2).val := by
    rw [win0_1.rect_emb_val t x 2, (idx_all t).2.1]; show 0 * 2048 + _ = _; omega
  refine (congrFun (V_main_arg2 m c) ((win0_1.rect t).emb x)).trans ((hW ((win0_1.rect t).emb x)).trans ?_)
  dsimp only
  rw [e0, e1, e2]

include hG in
theorem block2 (t : Fin cfg0.N) : R3 (a := 1) (b := 1024) (c := 704) (iblk m c 2 t) fun _ s n => gate (G (t.val / 8) (1024 * (t.val % 8) + s) n) := fun x => by
  have h0 := (x 0).isLt
  change (x 0).val < 1 at h0
  have e0 : (((win0_2.rect t).emb x) 0).val = t.val / 8 := by
    rw [win0_2.rect_emb_val t x 0, (idx_all t).2.2.1]; show t.val / 8 * 1 + (x 0).val = _; omega
  have e1 : (((win0_2.rect t).emb x) 1).val = 1024 * (t.val % 8) + (x 1).val := by
    rw [win0_2.rect_emb_val t x 1, (idx_all t).2.2.1]; show t.val % 8 * 1024 + _ = _; omega
  have e2 : (((win0_2.rect t).emb x) 2).val = (x 2).val := by
    rw [win0_2.rect_emb_val t x 2, (idx_all t).2.2.1]; show 0 * 704 + _ = _; omega
  refine (gate_val hG ((win0_2.rect t).emb x)).trans ?_
  dsimp only
  rw [e0, e1, e2]

include hG hU in
theorem block3 (t : Fin cfg0.N) : R3 (a := 1) (b := 1024) (c := 704) (iblk m c 3 t)
    fun _ s n => U (t.val / 8) (1024 * (t.val % 8) + s) n * gateSlope (G (t.val / 8) (1024 * (t.val % 8) + s) n) := fun x => by
  have h0 := (x 0).isLt
  change (x 0).val < 1 at h0
  have e0 : (((win0_3.rect t).emb x) 0).val = t.val / 8 := by
    rw [win0_3.rect_emb_val t x 0, (idx_all t).2.2.2.1]; show t.val / 8 * 1 + (x 0).val = _; omega
  have e1 : (((win0_3.rect t).emb x) 1).val = 1024 * (t.val % 8) + (x 1).val := by
    rw [win0_3.rect_emb_val t x 1, (idx_all t).2.2.2.1]; show t.val % 8 * 1024 + _ = _; omega
  have e2 : (((win0_3.rect t).emb x) 2).val = (x 2).val := by
    rw [win0_3.rect_emb_val t x 2, (idx_all t).2.2.2.1]; show 0 * 704 + _ = _; omega
  refine (slope_val hG hU ((win0_3.rect t).emb x)).trans ?_
  dsimp only
  rw [e0, e1, e2]

theorem end4 {K : ℕ → ℕ → ℕ → ℝ} (h : ∀ t : Fin cfg0.N, R3 (a := 1) (b := 1024) (c := 704) ((dats m 0 c).after 4 t) fun _ s n => K (t.val / 8) (1024 * (t.val % 8) + s) n) :
    R3 (a := 8) (b := 8192) (c := 704) ((dats m 0 c).arrAt 4 cfg0.N) K := by
  have key : ∀ i : S8x8192x704.Idx, (dats m 0 c).arrAt 4 cfg0.N i = ((K (i 0).val (i 1).val (i 2).val : ℝ) : EReal) := by
    refine (dats m 0 c).arrAt_forall_of_cover 4 (fun i v => v = ((K (i 0).val (i 1).val (i 2).val : ℝ) : EReal)) ?_ ?_
    · intro t hfl x
      have h0 : (x 0).val < 1 := (x 0).isLt
      have e0 : (((win0_4.rect t).emb x) 0).val = t.val / 8 := by
        rw [win0_4.rect_emb_val t x 0, (idx_all t).2.2.2.2.1]; show t.val / 8 * 1 + (x 0).val = _; omega
      have e1 : (((win0_4.rect t).emb x) 1).val = 1024 * (t.val % 8) + (x 1).val := by
        rw [win0_4.rect_emb_val t x 1, (idx_all t).2.2.2.2.1]; show t.val % 8 * 1024 + _ = _; omega
      have e2 : (((win0_4.rect t).emb x) 2).val = (x 2).val := by
        rw [win0_4.rect_emb_val t x 2, (idx_all t).2.2.2.2.1]; show 0 * 704 + _ = _; omega
      refine (h t x).trans (congrArg Real.toEReal ?_)
      show _ = K (((win0_4.rect t).emb x) 0).val (((win0_4.rect t).emb x) 1).val (((win0_4.rect t).emb x) 2).val
      rw [e0, e1, e2]
    · intro i
      have h0 : (i 0).val < 8 := (i 0).isLt
      have h1 : (i 1).val < 8192 := (i 1).isLt
      have h2 : (i 2).val < 704 := (i 2).isLt
      have hN : (i 0).val * 8 + (i 1).val / 1024 < cfg0.N := by show _ < 64; omega
      refine ⟨⟨(i 0).val * 8 + (i 1).val / 1024, hN⟩, flush0_4 _, ?_⟩
      mem_blk [(idx_all ⟨(i 0).val * 8 + (i 1).val / 1024, hN⟩).2.2.2.2.1]
      show (((i 0).val * 8 + (i 1).val / 1024) / 8 ≤ (i 0).val ∧ (i 0).val < ((i 0).val * 8 + (i 1).val / 1024) / 8 + 1)
        ∧ (((i 0).val * 8 + (i 1).val / 1024) % 8 * 1024 ≤ (i 1).val ∧ (i 1).val < ((i 0).val * 8 + (i 1).val / 1024) % 8 * 1024 + 1024)
        ∧ 0 ≤ (i 2).val ∧ (i 2).val < 704
      omega
  exact key

theorem end5 {K : ℕ → ℕ → ℕ → ℝ} (h : ∀ t : Fin cfg0.N, R3 (a := 1) (b := 1024) (c := 704) ((dats m 0 c).after 5 t) fun _ s n => K (t.val / 8) (1024 * (t.val % 8) + s) n) :
    R3 (a := 8) (b := 8192) (c := 704) ((dats m 0 c).arrAt 5 cfg0.N) K := by
  have key : ∀ i : S8x8192x704.Idx, (dats m 0 c).arrAt 5 cfg0.N i = ((K (i 0).val (i 1).val (i 2).val : ℝ) : EReal) := by
    refine (dats m 0 c).arrAt_forall_of_cover 5 (fun i v => v = ((K (i 0).val (i 1).val (i 2).val : ℝ) : EReal)) ?_ ?_
    · intro t hfl x
      have h0 : (x 0).val < 1 := (x 0).isLt
      have e0 : (((win0_5.rect t).emb x) 0).val = t.val / 8 := by
        rw [win0_5.rect_emb_val t x 0, (idx_all t).2.2.2.2.2]; show t.val / 8 * 1 + (x 0).val = _; omega
      have e1 : (((win0_5.rect t).emb x) 1).val = 1024 * (t.val % 8) + (x 1).val := by
        rw [win0_5.rect_emb_val t x 1, (idx_all t).2.2.2.2.2]; show t.val % 8 * 1024 + _ = _; omega
      have e2 : (((win0_5.rect t).emb x) 2).val = (x 2).val := by
        rw [win0_5.rect_emb_val t x 2, (idx_all t).2.2.2.2.2]; show 0 * 704 + _ = _; omega
      refine (h t x).trans (congrArg Real.toEReal ?_)
      show _ = K (((win0_5.rect t).emb x) 0).val (((win0_5.rect t).emb x) 1).val (((win0_5.rect t).emb x) 2).val
      rw [e0, e1, e2]
    · intro i
      have h0 : (i 0).val < 8 := (i 0).isLt
      have h1 : (i 1).val < 8192 := (i 1).isLt
      have h2 : (i 2).val < 704 := (i 2).isLt
      have hN : (i 0).val * 8 + (i 1).val / 1024 < cfg0.N := by show _ < 64; omega
      refine ⟨⟨(i 0).val * 8 + (i 1).val / 1024, hN⟩, flush0_5 _, ?_⟩
      mem_blk [(idx_all ⟨(i 0).val * 8 + (i 1).val / 1024, hN⟩).2.2.2.2.2]
      show (((i 0).val * 8 + (i 1).val / 1024) / 8 ≤ (i 0).val ∧ (i 0).val < ((i 0).val * 8 + (i 1).val / 1024) / 8 + 1)
        ∧ (((i 0).val * 8 + (i 1).val / 1024) % 8 * 1024 ≤ (i 1).val ∧ (i 1).val < ((i 0).val * 8 + (i 1).val / 1024) % 8 * 1024 + 1024)
        ∧ 0 ≤ (i 2).val ∧ (i 2).val < 704
      omega
  exact key

include hG hW hY

include hU in
/-- The first array at the end: the gradient of the gate's argument. -/
theorem dg_end : R3 (a := 8) (b := 8192) (c := 704) ((dats m 0 c).arrAt 4 cfg0.N)
    fun j s n => (∑ d ∈ Finset.range 2048, Y s d * W j n d) * (U j s n * gateSlope (G j s n)) :=
  end4 fun t => by
    rw [after0_4]
    exact out4_val _ _ (iblk m c 2 t) _ (block0 hY t) (block1 hW t) (block3 hG hU t)

/-- The second: the gradient of the other factor. -/
theorem du_end : R3 (a := 8) (b := 8192) (c := 704) ((dats m 0 c).arrAt 5 cfg0.N)
    fun j s n => (∑ d ∈ Finset.range 2048, Y s d * W j n d) * gate (G j s n) :=
  end5 fun t => by
    rw [after0_5]
    exact out5_val _ _ _ (iblk m c 3 t) (block0 hY t) (block1 hW t) (block2 hG t)

end

end Cert.Kernel3Ideal.Hand

namespace Cert.Reference3Ideal.Hand

open Cert.Reference3Ideal Cert.Reference3Ideal.Gen Cert.Hand Cert.Staged Idealize.ShloMosaic Idealize.ShloMosaic.TcCoe

def da (w : FVec Ideal S8x704x2048 .bf16) (dy : FVec Ideal S8192x2048 .bf16) : FVec Ideal S8x8192x704 .f32 :=
  transpose S8x8192x704 [1, 0, 2] (Host.dotGeneral dot_S8192x2048_S8x704x2048_S8192x8x704_1_2_0_01_n_n none (extf (F := Ideal) .f32 dy bitsLt_bf16_f32) (extf (F := Ideal) .f32 w bitsLt_bf16_f32)) transposes_S8192x8x704_S8x8192x704_1_0_2

theorem da_val {w : FVec Ideal S8x704x2048 .bf16} {dy : FVec Ideal S8192x2048 .bf16} {W : ℕ → ℕ → ℕ → ℝ} {Y : ℕ → ℕ → ℝ}
    (hW : R3 (a := 8) (b := 704) (c := 2048) w W) (hY : R2 (n := 8192) (m := 2048) dy Y) :
    R3 (a := 8) (b := 8192) (c := 704) (da w dy) fun j s n => ∑ d ∈ Finset.range 2048, Y s d * W j n d := fun x => by
  have hidx : Shape.Transposes.src transposes_S8192x8x704_S8x8192x704_1_0_2 x = ValueIdx.ix3 (x 1) (x 0) (x 2) := by
    funext d; fin_cases d <;> rfl
  unfold da transpose
  rw [hidx]
  refine (Ideal.matmul_apply₁_of dot_S8192x2048_S8x704x2048_S8192x8x704_1_2_0_01_n_n (K := 2048) rfl rfl _ _ _ _
    (fun n => ValueIdx.ix2 (x 1) n) (fun n => ValueIdx.ix3 (x 0) (x 2) n)
    (fun n => funext fun d => by fin_cases d <;> rfl) (fun n => funext fun d => by fin_cases d <;> rfl)).trans ?_
  refine (zero_add _).trans ((Finset.sum_congr rfl fun i _ => (congrArg₂ (· * ·) (hY.at_ (x 1) i) (hW.at_ (x 0) (x 2) i)).trans (EReal.coe_mul _ _).symm).trans ((coe_sum 2048 _).trans ?_))
  exact congrArg Real.toEReal (Finset.sum_range (fun d => Y (x 1).val d * W (x 0).val (x 2).val d)).symm

def one : FVec Ideal S8x8192x704 .f32 := broadcastInDim S8x8192x704 ![] bcast_S_S8x8192x704 (constant S_ .f32 0x3F800000#32)
def sgd (g : FVec Ideal S8x8192x704 .f32) : FVec Ideal S8x8192x704 .f32 := Host.divf one (addf one (Host.exp (Host.negf g)))

theorem one_val : P one fun _ => 1 := fun _ => Ideal.ofBits_one_f32
theorem sgd_val {g : FVec Ideal S8x8192x704 .f32} {f : S8x8192x704.Idx → ℝ} (hg : P g f) : P (sgd g) fun x => sg (f x) :=
  P.div one_val (P.add one_val hg.neg.exp) fun x => one_add_exp_ne _

section
variable {g u : FVec Ideal S8x8192x704 .f32} {w : FVec Ideal S8x704x2048 .bf16} {dy : FVec Ideal S8192x2048 .bf16} {G U W : ℕ → ℕ → ℕ → ℝ} {Y : ℕ → ℕ → ℝ}
  (hG : R3 (a := 8) (b := 8192) (c := 704) g G) (hU : R3 (a := 8) (b := 8192) (c := 704) u U) (hW : R3 (a := 8) (b := 704) (c := 2048) w W) (hY : R2 (n := 8192) (m := 2048) dy Y)
include hG hU hW hY

theorem dg_val : R3 (a := 8) (b := 8192) (c := 704) (addf (mulf (mulf (da w dy) u) (sgd g)) (mulf (mulf g (mulf (da w dy) u)) (mulf (sgd g) (subf one (sgd g)))))
    fun j s n => (∑ d ∈ Finset.range 2048, Y s d * W j n d) * (U j s n * gateSlope (G j s n)) := fun x => by
  have hd := da_val hW hY
  refine (P.add (P.mul (P.mul hd hU) (sgd_val hG)) (P.mul (P.mul hG (P.mul hd hU)) (P.mul (sgd_val hG) (P.sub one_val (sgd_val hG)))) x).trans (congrArg Real.toEReal ?_)
  dsimp only
  unfold gateSlope; ring

omit hU in
theorem du_val : R3 (a := 8) (b := 8192) (c := 704) (mulf (mulf g (sgd g)) (da w dy)) fun j s n => (∑ d ∈ Finset.range 2048, Y s d * W j n d) * gate (G j s n) := fun x => by
  refine (P.mul (P.mul hG (sgd_val hG)) (da_val hW hY) x).trans (congrArg Real.toEReal ?_)
  dsimp only
  unfold gate; ring

end

end Cert.Reference3Ideal.Hand

end
-- ==== Proof.Hidden.lean ====
/-
  The gated hidden layer: each block of rows is two products with the weights, the gate of the first, the second times
  that gate's slope, and the product of the gate and the second.
-/
module

public import proofs.«01_k».proof.Proof.Gate
public import proofs.«01_k».proof.Proof.Gen.Kernel5Ideal.Value
public import proofs.«01_k».proof.Proof.Gen.Reference5Ideal.Run

@[expose] public section

set_option maxRecDepth 16384

noncomputable section

namespace Cert.Hand

open Idealize.ShloMosaic Cert.Staged

/-- The logistic function as the kernel computes it. -/
theorem R2.sge {n k : ℕ} {f : ℕ → ℕ → ℝ} (z : FVec Ideal ⟨2, ![n, k]⟩ .f32) (hz : R2 z f) :
    R2 (divf (broadcast ⟨2, ![n, k]⟩ (Scalar.ofBits (F := Ideal) .f32 0x3F800000#32)) (addf (broadcast ⟨2, ![n, k]⟩ (Scalar.ofBits (F := Ideal) .f32 0x3F800000#32))
      (exp (subf (broadcast ⟨2, ![n, k]⟩ (Scalar.ofBits (F := Ideal) .f32 0x00000000#32)) z)))) fun r c => sg (f r c) := fun x => by
  show Ideal.div (Ideal.ofBits .f32 0x3F800000#32) (Ideal.ofBits .f32 0x3F800000#32 + Ideal.exp (Ideal.ofBits .f32 0x00000000#32 - z x)) = _
  rw [hz x, Ideal.ofBits_one_f32, show Ideal.ofBits .f32 0x00000000#32 = ((0 : ℝ) : EReal) from Ideal.ofBits_zero .f32, ← EReal.coe_sub, Ideal.exp_coe, zero_sub,
    ← EReal.coe_one, ← EReal.coe_add, Ideal.div_coe (one_add_exp_ne _), ← EReal.coe_mul, one_mul]
  rfl

end Cert.Hand

namespace Cert.Kernel5Ideal.Hand

open Cert.Kernel5Ideal Cert.Kernel5Ideal.Gen Cert.Hand Cert.Staged Idealize.ShloMosaic Idealize.ShloMosaic.TcCoe Idealize.SL.Sem
open Idealize.ShloMosaic.Pipeline (Dat)

/-! ## What a point leaves -/

section
variable {f p q : ℕ → ℕ → ℝ} (v0 : Vec Ideal S512x2048 .bf16) (v1 v4 : Vec Ideal S1x2048x704 .bf16)
  (e0 : R2 (n := 512) (m := 2048) v0 f) (e1 : R3 (a := 1) (b := 2048) (c := 704) v1 fun _ => p) (e4 : R3 (a := 1) (b := 2048) (c := 704) v4 fun _ => q)
include e0 e1

theorem prod_val : R2 (n := 512) (m := 704) (k0_pay2 v0 v1) fun s n => ∑ d ∈ Finset.range 2048, f s d * p d n := by
  unfold k0_pay2
  exact R2.dot none v0 _ _ rfl e0 (R3.drop (φ := .bf16) v1 shapeCasts_S1x2048x704_S2048x704 e1)

theorem sgd_val : R2 (n := 512) (m := 704) (k0_pay4 v0 v1) fun s n => sg (∑ d ∈ Finset.range 2048, f s d * p d n) := by
  unfold k0_pay4
  exact R2.sge _ (prod_val v0 v1 e0 e1)

theorem gated_val : R2 (n := 512) (m := 704) (k0_pay5 v0 v1) fun s n => gate (∑ d ∈ Finset.range 2048, f s d * p d n) := by
  unfold k0_pay5
  exact R2.mul (φ := .f32) _ _ (prod_val v0 v1 e0 e1) (sgd_val v0 v1 e0 e1)

theorem pay6_val : R3 (a := 1) (b := 512) (c := 704) (k0_pay6 v0 v1) fun _ s n => gate (∑ d ∈ Finset.range 2048, f s d * p d n) := by
  unfold k0_pay6
  exact R2.lift (φ := .f32) _ shapeCasts_S512x704_S1x512x704 (gated_val v0 v1 e0 e1)

include e4

theorem pay7_val : R3 (a := 1) (b := 512) (c := 704) (k0_pay7 v0 v1 v4)
    fun _ s n => (∑ d ∈ Finset.range 2048, f s d * q d n) * gateSlope (∑ d ∈ Finset.range 2048, f s d * p d n) := by
  unfold k0_pay7
  have one := R2.bc (n := 512) (m := 704) (Scalar.ofBits (F := Ideal) .f32 0x3F800000#32) 1 Ideal.ofBits_one_f32
  have hs := sgd_val v0 v1 e0 e1
  refine R2.lift (φ := .f32) _ shapeCasts_S512x704_S1x512x704 (R2.congr (R2.mul (φ := .f32) _ _ (prod_val v0 v4 e0 e4)
    (R2.mul (φ := .f32) _ _ hs (R2.add (φ := .f32) _ _ one (R2.mul (φ := .f32) _ _ (prod_val v0 v1 e0 e1) (R2.sub (φ := .f32) _ _ one hs))))) fun s _ n _ => ?_)
  unfold gateSlope; ring

theorem pay9_val : R3 (a := 1) (b := 512) (c := 704) (k0_pay9 (k0_pay8 v0 v1 v4))
    fun _ s n => gate (∑ d ∈ Finset.range 2048, f s d * p d n) * ∑ d ∈ Finset.range 2048, f s d * q d n := by
  unfold k0_pay9 k0_pay8
  exact R2.lift (φ := .bf16) _ shapeCasts_S512x704_S1x512x704 (R2.mul (φ := .f32) _ _ (gated_val v0 v1 e0 e1) (prod_val v0 v4 e0 e4))

end

/-- Two pieces of 512 rows each, every one the function's. -/
theorem both_val {K : ℕ → ℕ → ℝ} (A B : Vec Ideal S1x512x704 .f32)
    (hA : R3 (a := 1) (b := 512) (c := 704) A fun _ s n => K s n) (hB : R3 (a := 1) (b := 512) (c := 704) B fun _ s n => K (512 + s) n) :
    R3 (a := 1) (b := 1024) (c := 704) (View.canon (Val := Elt Ideal) [⟨r0_4, B⟩, ⟨r0_2, A⟩] : Vec Ideal S1x1024x704 .f32) fun _ s n => K s n := by
  intro y
  refine View.canon_apply_of_pieces (show S1x1024x704.Idx → Elt Ideal .f32 from fun y => ((K (y 1).val (y 2).val : ℝ) : EReal)) _ ?_ y (cover0_3 _ _ y)
  intro p hp x
  rcases List.mem_cons.mp hp with rfl | hp
  · refine (hB x).trans ?_
    show _ = ((K (512 + 1 * (x 1).val) (0 + 1 * (x 2).val) : ℝ) : EReal)
    simp
  · obtain rfl := List.mem_singleton.mp hp
    refine (hA x).trans ?_
    show _ = ((K (0 + 1 * (x 1).val) (0 + 1 * (x 2).val) : ℝ) : EReal)
    simp

section
variable {f p q : ℕ → ℕ → ℝ} (x0 : Vec Ideal S1024x2048 .bf16) (x1 x2 : Vec Ideal S1x2048x704 .bf16)
  (e0 : R2 (n := 1024) (m := 2048) x0 f) (e1 : R3 (a := 1) (b := 2048) (c := 704) x1 fun _ => p) (e2 : R3 (a := 1) (b := 2048) (c := 704) x2 fun _ => q)

include e0 in
theorem top_rows : R2 (n := 512) (m := 2048) (View.ld x0 r0_0) f := fun x => (e0 _).trans (by
  show ((f (0 + 1 * (x 0).val) (0 + 1 * (x 1).val) : ℝ) : EReal) = _; simp)
include e0 in
theorem low_rows : R2 (n := 512) (m := 2048) (View.ld x0 r0_3) fun s => f (512 + s) := fun x => (e0 _).trans (by
  show ((f (512 + 1 * (x 0).val) (0 + 1 * (x 1).val) : ℝ) : EReal) = _; simp)
include e1 in
theorem weights_all : R3 (a := 1) (b := 2048) (c := 704) (View.ld x1 r0_1) fun _ => p := fun x => (e1 _).trans (by
  show ((p (0 + 1 * (x 1).val) (0 + 1 * (x 2).val) : ℝ) : EReal) = _; simp)

include e0 e1
theorem out3_val : R3 (a := 1) (b := 1024) (c := 704) (out0_3 x0 x1 x2) fun _ s n => gate (∑ d ∈ Finset.range 2048, f s d * p d n) :=
  both_val (K := fun s n => gate (∑ d ∈ Finset.range 2048, f s d * p d n)) _ _
    (pay6_val _ _ (top_rows x0 e0) (weights_all x1 e1)) (pay6_val _ _ (low_rows x0 e0) (weights_all x1 e1))
include e2
theorem out4_val : R3 (a := 1) (b := 1024) (c := 704) (out0_4 x0 x1 x2)
    fun _ s n => (∑ d ∈ Finset.range 2048, f s d * q d n) * gateSlope (∑ d ∈ Finset.range 2048, f s d * p d n) :=
  both_val (K := fun s n => (∑ d ∈ Finset.range 2048, f s d * q d n) * gateSlope (∑ d ∈ Finset.range 2048, f s d * p d n)) _ _
    (pay7_val _ _ _ (top_rows x0 e0) (weights_all x1 e1) (weights_all x2 e2)) (pay7_val _ _ _ (low_rows x0 e0) (weights_all x1 e1) (weights_all x2 e2))
theorem out5_val : R3 (a := 1) (b := 1024) (c := 704) (out0_5 x0 x1 x2)
    fun _ s n => gate (∑ d ∈ Finset.range 2048, f s d * p d n) * ∑ d ∈ Finset.range 2048, f s d * q d n :=
  both_val (K := fun s n => gate (∑ d ∈ Finset.range 2048, f s d * p d n) * ∑ d ∈ Finset.range 2048, f s d * q d n) _ _
    (pay9_val _ _ _ (top_rows x0 e0) (weights_all x1 e1) (weights_all x2 e2)) (pay9_val _ _ _ (low_rows x0 e0) (weights_all x1 e1) (weights_all x2 e2))

end

/-! ## The arrays -/

theorem idx_all : ∀ t : Fin cfg0.N, win0_0.index t = ![t.val % 8, 0] ∧ win0_1.index t = ![t.val / 8, 0, 0] ∧ win0_2.index t = ![t.val / 8, 0, 0]
    ∧ win0_3.index t = ![t.val / 8, t.val % 8, 0] ∧ win0_4.index t = ![t.val / 8, t.val % 8, 0] ∧ win0_5.index t = ![t.val / 8, t.val % 8, 0] := by
  decide +kernel

section
variable {m : (ℓ : Loc nD τ sig) → Buf (Elt Ideal) ℓ} {c : Dev nD} {H : ℕ → ℕ → ℝ} {P Q : ℕ → ℕ → ℕ → ℝ}
  (hH : R2 (n := 8192) (m := 2048) (m ((c.tc : Thread nD τ).loc main_arg0)) H)
  (hP : R3 (a := 8) (b := 2048) (c := 704) (m ((c.tc : Thread nD τ).loc main_arg1)) P) (hQ : R3 (a := 8) (b := 2048) (c := 704) (m ((c.tc : Thread nD τ).loc main_arg2)) Q)

include hH in
theorem block0 (t : Fin cfg0.N) : R2 (n := 1024) (m := 2048) (iblk m c 0 t) fun s d => H (1024 * (t.val % 8) + s) d := fun x => by
  have e0 : (((win0_0.rect t).emb x) 0).val = 1024 * (t.val % 8) + (x 0).val := by
    rw [win0_0.rect_emb_val t x 0, (idx_all t).1]; show t.val % 8 * 1024 + _ = _; omega
  have e1 : (((win0_0.rect t).emb x) 1).val = (x 1).val := by
    rw [win0_0.rect_emb_val t x 1, (idx_all t).1]; show 0 * 2048 + _ = _; omega
  refine (hH ((win0_0.rect t).emb x)).trans ?_
  rw [e0, e1]

include hP in
theorem block1 (t : Fin cfg0.N) : R3 (a := 1) (b := 2048) (c := 704) (iblk m c 1 t) fun _ => P (t.val / 8) := fun x => by
  have h0 := (x 0).isLt
  change (x 0).val < 1 at h0
  have e0 : (((win0_1.rect t).emb x) 0).val = t.val / 8 := by
    rw [win0_1.rect_emb_val t x 0, (idx_all t).2.1]; show t.val / 8 * 1 + (x 0).val = _; omega
  have e1 : (((win0_1.rect t).emb x) 1).val = (x 1).val := by
    rw [win0_1.rect_emb_val t x 1, (idx_all t).2.1]; show 0 * 2048 + _ = _; omega
  have e2 : (((win0_1.rect t).emb x) 2).val = (x 2).val := by
    rw [win0_1.rect_emb_val t x 2, (idx_all t).2.1]; show 0 * 704 + _ = _; omega
  refine (hP ((win0_1.rect t).emb x)).trans ?_
  dsimp only
  rw [e0, e1, e2]

include hQ in
theorem block2 (t : Fin cfg0.N) : R3 (a := 1) (b := 2048) (c := 704) (iblk m c 2 t) fun _ => Q (t.val / 8) := fun x => by
  have h0 := (x 0).isLt
  change (x 0).val < 1 at h0
  have e0 : (((win0_2.rect t).emb x) 0).val = t.val / 8 := by
    rw [win0_2.rect_emb_val t x 0, (idx_all t).2.2.1]; show t.val / 8 * 1 + (x 0).val = _; omega
  have e1 : (((win0_2.rect t).emb x) 1).val = (x 1).val := by
    rw [win0_2.rect_emb_val t x 1, (idx_all t).2.2.1]; show 0 * 2048 + _ = _; omega
  have e2 : (((win0_2.rect t).emb x) 2).val = (x 2).val := by
    rw [win0_2.rect_emb_val t x 2, (idx_all t).2.2.1]; show 0 * 704 + _ = _; omega
  refine (hQ ((win0_2.rect t).emb x)).trans ?_
  dsimp only
  rw [e0, e1, e2]

theorem end3 {K : ℕ → ℕ → ℕ → ℝ} (h : ∀ t : Fin cfg0.N, R3 (a := 1) (b := 1024) (c := 704) ((dats m 0 c).after 3 t) fun _ s n => K (t.val / 8) (1024 * (t.val % 8) + s) n) :
    R3 (a := 8) (b := 8192) (c := 704) ((dats m 0 c).arrAt 3 cfg0.N) K := by
  have key : ∀ i : S8x8192x704.Idx, (dats m 0 c).arrAt 3 cfg0.N i = ((K (i 0).val (i 1).val (i 2).val : ℝ) : EReal) := by
    refine (dats m 0 c).arrAt_forall_of_cover 3 (fun i v => v = ((K (i 0).val (i 1).val (i 2).val : ℝ) : EReal)) ?_ ?_
    · intro t hfl x
      have h0 : (x 0).val < 1 := (x 0).isLt
      have e0 : (((win0_3.rect t).emb x) 0).val = t.val / 8 := by
        rw [win0_3.rect_emb_val t x 0, (idx_all t).2.2.2.1]; show t.val / 8 * 1 + (x 0).val = _; omega
      have e1 : (((win0_3.rect t).emb x) 1).val = 1024 * (t.val % 8) + (x 1).val := by
        rw [win0_3.rect_emb_val t x 1, (idx_all t).2.2.2.1]; show t.val % 8 * 1024 + _ = _; omega
      have e2 : (((win0_3.rect t).emb x) 2).val = (x 2).val := by
        rw [win0_3.rect_emb_val t x 2, (idx_all t).2.2.2.1]; show 0 * 704 + _ = _; omega
      refine (h t x).trans (congrArg Real.toEReal ?_)
      show _ = K (((win0_3.rect t).emb x) 0).val (((win0_3.rect t).emb x) 1).val (((win0_3.rect t).emb x) 2).val
      rw [e0, e1, e2]
    · intro i
      have h0 : (i 0).val < 8 := (i 0).isLt
      have h1 : (i 1).val < 8192 := (i 1).isLt
      have h2 : (i 2).val < 704 := (i 2).isLt
      have hN : (i 0).val * 8 + (i 1).val / 1024 < cfg0.N := by show _ < 64; omega
      refine ⟨⟨(i 0).val * 8 + (i 1).val / 1024, hN⟩, flush0_3 _, ?_⟩
      mem_blk [(idx_all ⟨(i 0).val * 8 + (i 1).val / 1024, hN⟩).2.2.2.1]
      show (((i 0).val * 8 + (i 1).val / 1024) / 8 ≤ (i 0).val ∧ (i 0).val < ((i 0).val * 8 + (i 1).val / 1024) / 8 + 1)
        ∧ (((i 0).val * 8 + (i 1).val / 1024) % 8 * 1024 ≤ (i 1).val ∧ (i 1).val < ((i 0).val * 8 + (i 1).val / 1024) % 8 * 1024 + 1024)
        ∧ 0 ≤ (i 2).val ∧ (i 2).val < 704
      omega
  exact key

theorem end4 {K : ℕ → ℕ → ℕ → ℝ} (h : ∀ t : Fin cfg0.N, R3 (a := 1) (b := 1024) (c := 704) ((dats m 0 c).after 4 t) fun _ s n => K (t.val / 8) (1024 * (t.val % 8) + s) n) :
    R3 (a := 8) (b := 8192) (c := 704) ((dats m 0 c).arrAt 4 cfg0.N) K := by
  have key : ∀ i : S8x8192x704.Idx, (dats m 0 c).arrAt 4 cfg0.N i = ((K (i 0).val (i 1).val (i 2).val : ℝ) : EReal) := by
    refine (dats m 0 c).arrAt_forall_of_cover 4 (fun i v => v = ((K (i 0).val (i 1).val (i 2).val : ℝ) : EReal)) ?_ ?_
    · intro t hfl x
      have h0 : (x 0).val < 1 := (x 0).isLt
      have e0 : (((win0_4.rect t).emb x) 0).val = t.val / 8 := by
        rw [win0_4.rect_emb_val t x 0, (idx_all t).2.2.2.2.1]; show t.val / 8 * 1 + (x 0).val = _; omega
      have e1 : (((win0_4.rect t).emb x) 1).val = 1024 * (t.val % 8) + (x 1).val := by
        rw [win0_4.rect_emb_val t x 1, (idx_all t).2.2.2.2.1]; show t.val % 8 * 1024 + _ = _; omega
      have e2 : (((win0_4.rect t).emb x) 2).val = (x 2).val := by
        rw [win0_4.rect_emb_val t x 2, (idx_all t).2.2.2.2.1]; show 0 * 704 + _ = _; omega
      refine (h t x).trans (congrArg Real.toEReal ?_)
      show _ = K (((win0_4.rect t).emb x) 0).val (((win0_4.rect t).emb x) 1).val (((win0_4.rect t).emb x) 2).val
      rw [e0, e1, e2]
    · intro i
      have h0 : (i 0).val < 8 := (i 0).isLt
      have h1 : (i 1).val < 8192 := (i 1).isLt
      have h2 : (i 2).val < 704 := (i 2).isLt
      have hN : (i 0).val * 8 + (i 1).val / 1024 < cfg0.N := by show _ < 64; omega
      refine ⟨⟨(i 0).val * 8 + (i 1).val / 1024, hN⟩, flush0_4 _, ?_⟩
      mem_blk [(idx_all ⟨(i 0).val * 8 + (i 1).val / 1024, hN⟩).2.2.2.2.1]
      show (((i 0).val * 8 + (i 1).val / 1024) / 8 ≤ (i 0).val ∧ (i 0).val < ((i 0).val * 8 + (i 1).val / 1024) / 8 + 1)
        ∧ (((i 0).val * 8 + (i 1).val / 1024) % 8 * 1024 ≤ (i 1).val ∧ (i 1).val < ((i 0).val * 8 + (i 1).val / 1024) % 8 * 1024 + 1024)
        ∧ 0 ≤ (i 2).val ∧ (i 2).val < 704
      omega
  exact key

theorem end5 {K : ℕ → ℕ → ℕ → ℝ} (h : ∀ t : Fin cfg0.N, R3 (a := 1) (b := 1024) (c := 704) ((dats m 0 c).after 5 t) fun _ s n => K (t.val / 8) (1024 * (t.val % 8) + s) n) :
    R3 (a := 8) (b := 8192) (c := 704) ((dats m 0 c).arrAt 5 cfg0.N) K := by
  have key : ∀ i : S8x8192x704.Idx, (dats m 0 c).arrAt 5 cfg0.N i = ((K (i 0).val (i 1).val (i 2).val : ℝ) : EReal) := by
    refine (dats m 0 c).arrAt_forall_of_cover 5 (fun i v => v = ((K (i 0).val (i 1).val (i 2).val : ℝ) : EReal)) ?_ ?_
    · intro t hfl x
      have h0 : (x 0).val < 1 := (x 0).isLt
      have e0 : (((win0_5.rect t).emb x) 0).val = t.val / 8 := by
        rw [win0_5.rect_emb_val t x 0, (idx_all t).2.2.2.2.2]; show t.val / 8 * 1 + (x 0).val = _; omega
      have e1 : (((win0_5.rect t).emb x) 1).val = 1024 * (t.val % 8) + (x 1).val := by
        rw [win0_5.rect_emb_val t x 1, (idx_all t).2.2.2.2.2]; show t.val % 8 * 1024 + _ = _; omega
      have e2 : (((win0_5.rect t).emb x) 2).val = (x 2).val := by
        rw [win0_5.rect_emb_val t x 2, (idx_all t).2.2.2.2.2]; show 0 * 704 + _ = _; omega
      refine (h t x).trans (congrArg Real.toEReal ?_)
      show _ = K (((win0_5.rect t).emb x) 0).val (((win0_5.rect t).emb x) 1).val (((win0_5.rect t).emb x) 2).val
      rw [e0, e1, e2]
    · intro i
      have h0 : (i 0).val < 8 := (i 0).isLt
      have h1 : (i 1).val < 8192 := (i 1).isLt
      have h2 : (i 2).val < 704 := (i 2).isLt
      have hN : (i 0).val * 8 + (i 1).val / 1024 < cfg0.N := by show _ < 64; omega
      refine ⟨⟨(i 0).val * 8 + (i 1).val / 1024, hN⟩, flush0_5 _, ?_⟩
      mem_blk [(idx_all ⟨(i 0).val * 8 + (i 1).val / 1024, hN⟩).2.2.2.2.2]
      show (((i 0).val * 8 + (i 1).val / 1024) / 8 ≤ (i 0).val ∧ (i 0).val < ((i 0).val * 8 + (i 1).val / 1024) / 8 + 1)
        ∧ (((i 0).val * 8 + (i 1).val / 1024) % 8 * 1024 ≤ (i 1).val ∧ (i 1).val < ((i 0).val * 8 + (i 1).val / 1024) % 8 * 1024 + 1024)
        ∧ 0 ≤ (i 2).val ∧ (i 2).val < 704
      omega
  exact key

include hH hP

/-- The gate. -/
theorem gate_end : R3 (a := 8) (b := 8192) (c := 704) ((dats m 0 c).arrAt 3 cfg0.N) fun j s n => gate (∑ d ∈ Finset.range 2048, H s d * P j d n) :=
  end3 fun t => by
    rw [after0_3]
    exact out3_val _ _ (iblk m c 2 t) (block0 hH t) (block1 hP t)

include hQ

/-- The second product times the gate's slope. -/
theorem slope_end : R3 (a := 8) (b := 8192) (c := 704) ((dats m 0 c).arrAt 4 cfg0.N)
    fun j s n => (∑ d ∈ Finset.range 2048, H s d * Q j d n) * gateSlope (∑ d ∈ Finset.range 2048, H s d * P j d n) :=
  end4 fun t => by
    rw [after0_4]
    exact out4_val _ _ _ (block0 hH t) (block1 hP t) (block2 hQ t)

/-- The hidden layer. -/
theorem act_end : R3 (a := 8) (b := 8192) (c := 704) ((dats m 0 c).arrAt 5 cfg0.N)
    fun j s n => gate (∑ d ∈ Finset.range 2048, H s d * P j d n) * ∑ d ∈ Finset.range 2048, H s d * Q j d n :=
  end5 fun t => by
    rw [after0_5]
    exact out5_val _ _ _ (block0 hH t) (block1 hP t) (block2 hQ t)

end

end Cert.Kernel5Ideal.Hand

namespace Cert.Reference5Ideal.Hand

open Cert.Reference5Ideal Cert.Reference5Ideal.Gen Cert.Hand Cert.Staged Idealize.ShloMosaic Idealize.ShloMosaic.TcCoe

def into (h : FVec Ideal S8192x2048 .bf16) (w : FVec Ideal S8x2048x704 .bf16) : FVec Ideal S8x8192x704 .f32 :=
  transpose S8x8192x704 [0, 2, 1] (Host.dotGeneral dot_S8x2048x704_S8192x2048_S8x704x8192_1_1_02_0_n_n none (extf (F := Ideal) .f32 w bitsLt_bf16_f32) (extf (F := Ideal) .f32 h bitsLt_bf16_f32)) transposes_S8x704x8192_S8x8192x704_0_2_1

theorem into_val {h : FVec Ideal S8192x2048 .bf16} {w : FVec Ideal S8x2048x704 .bf16} {W : ℕ → ℕ → ℕ → ℝ} {H : ℕ → ℕ → ℝ}
    (hH : R2 (n := 8192) (m := 2048) h H) (hW : R3 (a := 8) (b := 2048) (c := 704) w W) :
    R3 (a := 8) (b := 8192) (c := 704) (into h w) fun j s n => ∑ d ∈ Finset.range 2048, H s d * W j d n := fun x => by
  have hidx : Shape.Transposes.src transposes_S8x704x8192_S8x8192x704_0_2_1 x = ValueIdx.ix3 (x 0) (x 2) (x 1) := by
    funext d; fin_cases d <;> rfl
  unfold into transpose
  rw [hidx]
  refine (Ideal.matmul_apply₁_of dot_S8x2048x704_S8192x2048_S8x704x8192_1_1_02_0_n_n (K := 2048) rfl rfl _ _ _ _
    (fun n => ValueIdx.ix3 (x 0) n (x 2)) (fun n => ValueIdx.ix2 (x 1) n)
    (fun n => funext fun d => by fin_cases d <;> rfl) (fun n => funext fun d => by fin_cases d <;> rfl)).trans ?_
  refine (zero_add _).trans ((Finset.sum_congr rfl fun i _ => (mul_comm _ _).trans ((congrArg₂ (· * ·) (hH.at_ (x 1) i) (hW.at_ (x 0) i (x 2))).trans (EReal.coe_mul _ _).symm)).trans ((coe_sum 2048 _).trans ?_))
  exact congrArg Real.toEReal (Finset.sum_range (fun d => H (x 1).val d * W (x 0).val d (x 2).val)).symm

def one : FVec Ideal S8x8192x704 .f32 := broadcastInDim S8x8192x704 ![] bcast_S_S8x8192x704 (constant S_ .f32 0x3F800000#32)
def sgd (g : FVec Ideal S8x8192x704 .f32) : FVec Ideal S8x8192x704 .f32 := Host.divf one (addf one (Host.exp (Host.negf g)))

theorem one_val : P one fun _ => 1 := fun _ => Ideal.ofBits_one_f32
theorem sgd_val {g : FVec Ideal S8x8192x704 .f32} {f : S8x8192x704.Idx → ℝ} (hg : P g f) : P (sgd g) fun x => sg (f x) :=
  P.div one_val (P.add one_val hg.neg.exp) fun x => one_add_exp_ne _

section
variable {h : FVec Ideal S8192x2048 .bf16} {p q : FVec Ideal S8x2048x704 .bf16} {A B : ℕ → ℕ → ℕ → ℝ} {H : ℕ → ℕ → ℝ}
  (hH : R2 (n := 8192) (m := 2048) h H) (hA : R3 (a := 8) (b := 2048) (c := 704) p A) (hB : R3 (a := 8) (b := 2048) (c := 704) q B)
include hH hA

theorem gate_val : R3 (a := 8) (b := 8192) (c := 704) (mulf (into h p) (sgd (into h p))) fun j s n => gate (∑ d ∈ Finset.range 2048, H s d * A j d n) :=
  P.mul (into_val hH hA) (sgd_val (into_val hH hA))

include hB

theorem slope_val : R3 (a := 8) (b := 8192) (c := 704)
    (addf (mulf (mulf one (into h q)) (sgd (into h p))) (mulf (mulf (into h p) (mulf one (into h q))) (mulf (sgd (into h p)) (subf one (sgd (into h p))))))
    fun j s n => (∑ d ∈ Finset.range 2048, H s d * B j d n) * gateSlope (∑ d ∈ Finset.range 2048, H s d * A j d n) := fun x => by
  have hg := into_val hH hA
  have hu := into_val hH hB
  refine (P.add (P.mul (P.mul one_val hu) (sgd_val hg)) (P.mul (P.mul hg (P.mul one_val hu)) (P.mul (sgd_val hg) (P.sub one_val (sgd_val hg)))) x).trans (congrArg Real.toEReal ?_)
  dsimp only
  unfold gateSlope; ring

theorem act_val : R3 (a := 8) (b := 8192) (c := 704) (mulf (mulf (into h p) (sgd (into h p))) (into h q))
    fun j s n => gate (∑ d ∈ Finset.range 2048, H s d * A j d n) * ∑ d ∈ Finset.range 2048, H s d * B j d n :=
  P.mul (gate_val hH hA) (into_val hH hB)

end

end Cert.Reference5Ideal.Hand

end
-- ==== Proof.Further.lean ====
/-
  The claims of the further calls: their frames, and that over the reals the kernel's arrays are the reference's.
-/
module

public import proofs.«01_k».proof.Defs
public import proofs.«01_k».proof.Proof.Gen.Kernel2
public import proofs.«01_k».proof.Proof.Gen.Kernel3
public import proofs.«01_k».proof.Proof.Gen.Kernel5
public import proofs.«01_k».proof.Proof.Values
public import proofs.«01_k».proof.Proof.Weight
public import proofs.«01_k».proof.Proof.Gate
public import proofs.«01_k».proof.Proof.Hidden

@[expose] public section

set_option maxRecDepth 16384

noncomputable section

namespace Cert.Proof

open Idealize.ShloMosaic Idealize.SL.Sem Cert.Staged Cert.Hand

instance finite3Facts : Cert.Pre_finite3.Facts := ⟨by decide, by decide, by decide, by decide⟩
instance finite5Facts : Cert.Pre_finite5.Facts := ⟨by decide, by decide, by decide⟩

/-- An array of three axes whose entries are real numbers, by those numbers. -/
theorem entries3_val {a b c : ℕ} (v : (⟨3, ![a, b, c]⟩ : Shape).Idx → EReal) (h : ∀ x, v x = (((v x).toReal : ℝ) : EReal)) :
    R3 (a := a) (b := b) (c := c) v fun j s n => (num3 v j s n).toReal := fun x =>
  (h x).trans (congrArg (fun y : EReal => ((y.toReal : ℝ) : EReal)) (num3_val v x))

/-- The two printings of the program have the same bodies. -/
theorem bodies2 {F : FTy → Type} [FloatOps F] : @Cert.Kernel2.defs F _ _ = @Cert.Kernel2Ideal.defs F _ _ :=
  congrArg (Pipeline.defs (Cert.Kernel2Ideal.pcfgs (F := F))) (congrArg Defs.onTc (funext fun l => match l with | 0 => rfl))

theorem frame_kernel2 : Cert.quiescent_Kernel2 := fun m ρ _ => by
  rw [bodies2]
  exact Cert.Kernel2Ideal.Gen.frame (F := Bits) m ρ

theorem frame_kernel2_ideal : Cert.quiescent_Kernel2Ideal := fun m ρ _ => Cert.Kernel2Ideal.Gen.frame (F := Ideal) m ρ

theorem frame_reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m g m' g' _ hargs => by
  refine ⟨fun c => Cert.Kernel2Ideal.Value.G2 m c, Cert.Kernel2Ideal.Value.run (F := Ideal) m g, ?_⟩
  refine (θ_run Cert.Reference2Ideal.defs _ _).mono (fun r h c => ?_) (Cert.Reference2Ideal.Value.run (F := Ideal) m' g')
  obtain ⟨e0, k⟩ := h c
  refine ⟨e0.trans (funext fun x => (Cert.Reference2Ideal.Hand.product _ _ x).trans ((Cert.Kernel2Ideal.Hand.array_end m c x).trans ?_).symm), k⟩
  rw [(hargs c).1, (hargs c).2]
  rfl

/-- The two printings of the program have the same bodies. -/
theorem bodies3 {F : FTy → Type} [FloatOps F] : @Cert.Kernel3.defs F _ _ = @Cert.Kernel3Ideal.defs F _ _ :=
  congrArg (Pipeline.defs (Cert.Kernel3Ideal.pcfgs (F := F))) (congrArg Defs.onTc (funext fun l => match l with | 0 => rfl))

theorem frame_kernel3 : Cert.quiescent_Kernel3 := fun m ρ _ => by
  rw [bodies3]
  exact Cert.Kernel3Ideal.Gen.frame (F := Bits) m ρ

theorem frame_kernel3_ideal : Cert.quiescent_Kernel3Ideal := fun m ρ _ => Cert.Kernel3Ideal.Gen.frame (F := Ideal) m ρ

theorem frame_reference3_ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal_pre_finite3 := fun m g m' g' hpre hargs => by
  have r0 := fun c : Dev Cert.Kernel3Ideal.nD => entries3_val (a := 8) (b := 8192) (c := 704) (m ((c.tc : Thread Cert.Kernel3Ideal.nD Cert.Kernel3Ideal.τ).loc Cert.Kernel3Ideal.main_arg0)) (fun x => real_of_abs _ (congrFun (hpre c).1 x))
  have r1 := fun c : Dev Cert.Kernel3Ideal.nD => entries3_val (a := 8) (b := 8192) (c := 704) (m ((c.tc : Thread Cert.Kernel3Ideal.nD Cert.Kernel3Ideal.τ).loc Cert.Kernel3Ideal.main_arg1)) (fun x => real_of_abs _ (congrFun (hpre c).2.1 x))
  have r2 := fun c : Dev Cert.Kernel3Ideal.nD => entries3_val (a := 8) (b := 704) (c := 2048) (m ((c.tc : Thread Cert.Kernel3Ideal.nD Cert.Kernel3Ideal.τ).loc Cert.Kernel3Ideal.main_arg2)) (fun x => real_of_abs _ (congrFun (hpre c).2.2.1 x))
  have r3 := fun c : Dev Cert.Kernel3Ideal.nD => entries_val (n := 8192) (k := 2048) (m ((c.tc : Thread Cert.Kernel3Ideal.nD Cert.Kernel3Ideal.τ).loc Cert.Kernel3Ideal.main_arg3)) (fun x => real_of_abs _ (congrFun (hpre c).2.2.2 x))
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    Cert.Kernel3Ideal.Value.run_blocks (F := Ideal) m g, ?_⟩
  refine (θ_run Cert.Reference3Ideal.defs _ _).mono (fun r h c => ?_) (Cert.Reference3Ideal.Value.run (F := Ideal) m' g')
  obtain ⟨e0, e1, k⟩ := h c
  rw [(hargs c).1, (hargs c).2.1, (hargs c).2.2.1, (hargs c).2.2.2] at e0
  rw [(hargs c).1, (hargs c).2.2.1, (hargs c).2.2.2] at e1
  exact ⟨e0.trans (funext fun x => (Cert.Reference3Ideal.Hand.dg_val (r0 c) (r1 c) (r2 c) (r3 c) x).trans (Cert.Kernel3Ideal.Hand.dg_end (r0 c) (r1 c) (r2 c) (r3 c) x).symm),
    e1.trans (funext fun x => (Cert.Reference3Ideal.Hand.du_val (r0 c) (r2 c) (r3 c) x).trans (Cert.Kernel3Ideal.Hand.du_end (r0 c) (r2 c) (r3 c) x).symm), k⟩

/-- The two printings of the program have the same bodies. -/
theorem bodies5 {F : FTy → Type} [FloatOps F] : @Cert.Kernel5.defs F _ _ = @Cert.Kernel5Ideal.defs F _ _ :=
  congrArg (Pipeline.defs (Cert.Kernel5Ideal.pcfgs (F := F))) (congrArg Defs.onTc (funext fun l => match l with | 0 => rfl))

theorem frame_kernel5 : Cert.quiescent_Kernel5 := fun m ρ _ => by
  rw [bodies5]
  exact Cert.Kernel5Ideal.Gen.frame (F := Bits) m ρ

theorem frame_kernel5_ideal : Cert.quiescent_Kernel5Ideal := fun m ρ _ => Cert.Kernel5Ideal.Gen.frame (F := Ideal) m ρ

theorem frame_reference5_ideal : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic5 : Cert.algebraic_Kernel5Ideal_Reference5Ideal_pre_finite5 := fun m g m' g' hpre hargs => by
  have r0 := fun c : Dev Cert.Kernel5Ideal.nD => entries_val (n := 8192) (k := 2048) (m ((c.tc : Thread Cert.Kernel5Ideal.nD Cert.Kernel5Ideal.τ).loc Cert.Kernel5Ideal.main_arg0)) (fun x => real_of_abs _ (congrFun (hpre c).1 x))
  have r1 := fun c : Dev Cert.Kernel5Ideal.nD => entries3_val (a := 8) (b := 2048) (c := 704) (m ((c.tc : Thread Cert.Kernel5Ideal.nD Cert.Kernel5Ideal.τ).loc Cert.Kernel5Ideal.main_arg1)) (fun x => real_of_abs _ (congrFun (hpre c).2.1 x))
  have r2 := fun c : Dev Cert.Kernel5Ideal.nD => entries3_val (a := 8) (b := 2048) (c := 704) (m ((c.tc : Thread Cert.Kernel5Ideal.nD Cert.Kernel5Ideal.τ).loc Cert.Kernel5Ideal.main_arg2)) (fun x => real_of_abs _ (congrFun (hpre c).2.2 x))
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    fun c => (Cert.Kernel5Ideal.Gen.dats m 0 c).arrAt 5 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨e0, e1, e2, k⟩ := h c
  rw [(hargs c).1, (hargs c).2.1] at e0
  rw [(hargs c).1, (hargs c).2.1, (hargs c).2.2] at e1
  rw [(hargs c).1, (hargs c).2.1, (hargs c).2.2] at e2
  exact ⟨e0.trans (funext fun x => (Cert.Reference5Ideal.Hand.gate_val (r0 c) (r1 c) x).trans (Cert.Kernel5Ideal.Hand.gate_end (r0 c) (r1 c) x).symm),
    e1.trans (funext fun x => (Cert.Reference5Ideal.Hand.slope_val (r0 c) (r1 c) (r2 c) x).trans (Cert.Kernel5Ideal.Hand.slope_end (r0 c) (r1 c) (r2 c) x).symm),
    e2.trans (funext fun x => (Cert.Reference5Ideal.Hand.act_val (r0 c) (r1 c) (r2 c) x).trans (Cert.Kernel5Ideal.Hand.act_end (r0 c) (r1 c) (r2 c) x).symm), k⟩

end Cert.Proof

end
-- ==== Proof.Tile.lean ====
/-
  The gradient through a row's normalization, for 128 rows at a time: what the kernel computes of the rows' entries.
-/
module

public import proofs.«01_k».proof.Proof.Weight
public import proofs.«01_k».proof.Proof.Gen.Kernel4Ideal.Value

@[expose] public section

set_option maxRecDepth 16384

noncomputable section

namespace Cert.Hand

open Idealize.ShloMosaic

theorem bits_2048 : Ideal.ofBits .f32 0x45000000#32 = ((2048 : ℝ) : EReal) := by
  simp [Ideal.ofBits, Ideal.ieee]
  norm_cast
  try norm_num

/-- Every entry of the matrix `v` is what `f` says of its coordinates. -/
def E2 {n m : ℕ} (v : (⟨2, ![n, m]⟩ : Shape).Idx → EReal) (f : ℕ → ℕ → EReal) : Prop := ∀ x, v x = f (x 0).val (x 1).val
def E3 {a b c : ℕ} (v : (⟨3, ![a, b, c]⟩ : Shape).Idx → EReal) (f : ℕ → ℕ → ℕ → EReal) : Prop := ∀ x, v x = f (x 0).val (x 1).val (x 2).val

/-- The share of one entry in a mean over 2048. -/
abbrev part2048 : EReal := ((1 / 2048 : ℝ) : EReal)

namespace E2
variable {n m k : ℕ} {φ ψ : FTy} {f g : ℕ → ℕ → EReal}

theorem congr {v : (⟨2, ![n, m]⟩ : Shape).Idx → EReal} (h : E2 v f) (e : ∀ r < n, ∀ c < m, f r c = g r c) : E2 v g :=
  fun x => by rw [h x, e _ (x 0).isLt _ (x 1).isLt]
theorem add (a b : FVec Ideal ⟨2, ![n, m]⟩ φ) (ha : E2 a f) (hb : E2 b g) : E2 (addf a b) fun r c => f r c + g r c := fun x => congrArg₂ (· + ·) (ha x) (hb x)
theorem sub (a b : FVec Ideal ⟨2, ![n, m]⟩ φ) (ha : E2 a f) (hb : E2 b g) : E2 (subf a b) fun r c => f r c - g r c := fun x => congrArg₂ (· - ·) (ha x) (hb x)
theorem mul (a b : FVec Ideal ⟨2, ![n, m]⟩ φ) (ha : E2 a f) (hb : E2 b g) : E2 (mulf a b) fun r c => f r c * g r c := fun x => congrArg₂ (· * ·) (ha x) (hb x)
theorem bc (e r : EReal) (h : e = r) : E2 (n := n) (m := m) (broadcast ⟨2, ![n, m]⟩ e) fun _ _ => r := fun _ => h

/-- The product of a matrix and a matrix's transpose. -/
theorem dotT (prec) (a : FVec Ideal ⟨2, ![n, k]⟩ φ) (b : FVec Ideal ⟨2, ![m, k]⟩ ψ) (acc : FVec Ideal ⟨2, ![n, m]⟩ .f32)
    (hacc : acc = fun _ => Ideal.ofBits .f32 0x00000000#32) (ha : E2 a f) (hb : E2 b g) :
    E2 (FloatOps.matmul (DotDims.transposedRhs n k m) prec a b acc) fun r c => ∑ i ∈ Finset.range k, f r i * g c i := fun x => by
  refine (Ideal.matmul_apply₁_of (DotDims.transposedRhs n k m) (K := k) rfl rfl a b acc x (fun i => ValueIdx.ix2 (x 0) i) (fun i => ValueIdx.ix2 (x 1) i)
    (fun i => funext fun d => by fin_cases d <;> rfl) (fun i => funext fun d => by fin_cases d <;> rfl)).trans ?_
  subst hacc
  refine (congrArg (· + _) (Ideal.ofBits_zero .f32)).trans ((zero_add _).trans ?_)
  refine (Finset.sum_congr rfl fun i _ => congrArg₂ (· * ·) (ha _) (hb _)).trans ?_
  exact (Finset.sum_range (fun i => f (x 0).val i * g (x 1).val i)).symm

theorem col (v : FVec Ideal ⟨2, ![n, 1]⟩ φ) (h : Shape.Broadcasts (⟨2, ![n, 1]⟩ : Shape) ⟨2, ![n, m]⟩) (hn : n ≠ 1) (hv : E2 v f) :
    E2 (broadcastTo (⟨2, ![n, m]⟩ : Shape) v h) fun r _ => f r 0 := fun x => by
  refine (hv _).trans ?_
  have h0 : ¬ (⟨2, ![n, 1]⟩ : Shape).size 0 = 1 := hn
  have h1 : (⟨2, ![n, 1]⟩ : Shape).size 1 = 1 := rfl
  rw [dif_neg h0, dif_pos h1]
  rfl

theorem row (v : FVec Ideal ⟨2, ![1, m]⟩ φ) (h : Shape.Broadcasts (⟨2, ![1, m]⟩ : Shape) ⟨2, ![n, m]⟩) (hm : m ≠ 1) (hv : E2 v f) :
    E2 (broadcastTo (⟨2, ![n, m]⟩ : Shape) v h) fun _ c => f 0 c := fun x => by
  refine (hv _).trans ?_
  have h0 : (⟨2, ![1, m]⟩ : Shape).size 0 = 1 := rfl
  have h1 : ¬ (⟨2, ![1, m]⟩ : Shape).size 1 = 1 := hm
  rw [dif_pos h0, dif_neg h1]
  rfl

theorem same (v : FVec Ideal ⟨2, ![n, m]⟩ φ) (h : Shape.ShapeCasts (⟨2, ![n, m]⟩ : Shape) ⟨2, ![n, m]⟩) (hv : E2 v f) : E2 (shapeCast (⟨2, ![n, m]⟩ : Shape) v h) f :=
  fun x => (congrFun (shapeCast_self v h) x).trans (hv x)

theorem mean (v w : FVec Ideal ⟨2, ![n, m]⟩ φ) (hv : E2 v f) (hw : ∀ x, w x = ((2048 : ℝ) : EReal)) : E2 (divf v w) fun r c => f r c * part2048 := fun x => by
  show Ideal.div (v x) (w x) = _
  rw [hv x, hw x, Ideal.div_coe (by norm_num)]

end E2

/-- A matrix under a first axis of one. -/
theorem E3.drop {n k : ℕ} {φ : FTy} (v : FVec Ideal ⟨3, ![1, n, k]⟩ φ) (h : Shape.ShapeCasts (⟨3, ![1, n, k]⟩ : Shape) ⟨2, ![n, k]⟩) {f : ℕ → ℕ → EReal}
    (hv : E3 v fun _ => f) : E2 (shapeCast (⟨2, ![n, k]⟩ : Shape) v h) f := fun x =>
  (congrArg v (Shape.reshapeEquiv_eq_of_vals _ _ (ValueIdx.ix3 (0 : Fin 1) (x 0) (x 1)) _ _ (rowMajor_val3 _ (n * k) k rfl rfl) (rowMajor_val2 _ k rfl)
    (by show 0 * (n * k) + (x 0).val * k + (x 1).val = (x 0).val * k + (x 1).val; omega))).trans (hv _)

end Cert.Hand

namespace Cert.Kernel4Ideal.Hand

open Cert.Kernel4Ideal Cert.Kernel4Ideal.Gen Cert.Hand Idealize.ShloMosaic

theorem rowSums {f : ℕ → ℕ → EReal} (v : FVec Ideal S128x2048 .f32) (hv : E2 (n := 128) (m := 2048) v f) :
    E2 (n := 128) (m := 1) (shapeCast S128x1 (multiReduction .add [1] S128 v 0x00000000#32 reduces_S128x2048_S128 (.inl rfl) rfl) shapeCasts_S128_S128x1)
      fun r _ => ∑ c ∈ Finset.range 2048, f r c := fun x => by
  have h1 : (x 1).val < 1 := (x 1).isLt
  refine (congrArg (multiReduction .add [1] S128 v 0x00000000#32 reduces_S128x2048_S128 (.inl rfl) rfl)
    (Shape.reshapeEquiv_eq_of_vals _ _ (ValueIdx.ix1 (x 0)) _ _ (rowMajor_val1 _) (rowMajor_val2 _ 1 rfl) ?_)).trans ?_
  · show (x 0).val = (x 0).val * 1 + (x 1).val
    omega
  · refine (Ideal.reduceAdd_r2_a1 reduces_S128x2048_S128 v (ValueIdx.ix1 (x 0))).trans ?_
    refine (Finset.sum_congr rfl fun k _ => hv _).trans ?_
    exact (Finset.sum_range (fun k => f (x 0).val k)).symm

theorem colSums {f : ℕ → ℕ → EReal} (v : FVec Ideal S128x2048 .f32) (hv : E2 (n := 128) (m := 2048) v f) :
    E2 (n := 1) (m := 2048) (shapeCast S1x2048 (multiReduction .add [0] S2048 v 0x00000000#32 reduces_S128x2048_S2048 (.inl rfl) rfl) shapeCasts_S2048_S1x2048)
      fun _ d => ∑ s ∈ Finset.range 128, f s d := fun x => by
  have h0 : (x 0).val < 1 := (x 0).isLt
  refine (congrArg (multiReduction .add [0] S2048 v 0x00000000#32 reduces_S128x2048_S2048 (.inl rfl) rfl)
    (Shape.reshapeEquiv_eq_of_vals _ _ (ValueIdx.ix1 (x 1)) _ _ (rowMajor_val1 _) (rowMajor_val2 _ 2048 rfl) ?_)).trans ?_
  · show (x 1).val = (x 0).val * 2048 + (x 1).val
    omega
  · refine (Ideal.reduceAdd_r2_a0 reduces_S128x2048_S2048 v (ValueIdx.ix1 (x 1))).trans ?_
    refine (Finset.sum_congr rfl fun k _ => hv _).trans ?_
    exact (Finset.sum_range (fun k => f k (x 1).val)).symm

/-- The gradient of an entry: `h` the gradient after the gain, `x` the row, `r` its factor, `g` the gain, `b` what is added to it. -/
def back (h x : ℕ → ℕ → EReal) (r g : ℕ → EReal) (b : ℕ → ℕ → EReal) (s d : ℕ) : EReal :=
  b s d + r s * (h s d * g d - x s d * r s * ((∑ e ∈ Finset.range 2048, h s e * g e * (x s e * r s)) * part2048))

section
variable {h x b : ℕ → ℕ → EReal} {r g : ℕ → EReal} (v23 : Vec Ideal S1x2048 .f32) (v24 : Vec Ideal S128x1 .f32) (v26 v29 v32 : Vec Ideal S128x2048 .f32)
  (e23 : E2 (n := 1) (m := 2048) v23 fun _ d => g d) (e24 : E2 (n := 128) (m := 1) v24 fun s _ => r s) (e26 : E2 (n := 128) (m := 2048) v26 x)
  (e29 : E2 (n := 128) (m := 2048) v29 h) (e32 : E2 (n := 128) (m := 2048) v32 b)
include e24

theorem factor_val : E2 (n := 128) (m := 2048) (broadcastTo S128x2048 (k0_pay4 v24) broadcasts_S128x1_S128x2048) fun s _ => r s :=
  E2.col (φ := .f32) _ broadcasts_S128x1_S128x2048 (by decide) (E2.same (φ := .f32) v24 shapeCasts_S128x1_S128x1 e24)

include e26

theorem scaled_val : E2 (n := 128) (m := 2048) (k0_pay5 v24 v26) fun s d => x s d * r s :=
  E2.mul (φ := .f32) _ _ e26 (factor_val v24 e24)

include e29

theorem gains_val : E2 (n := 1) (m := 2048) (k0_pay8 v24 v26 v29) fun _ d => ∑ s ∈ Finset.range 128, h s d * (x s d * r s) :=
  colSums _ (E2.mul (φ := .f32) _ _ e29 (scaled_val v24 v26 e24 e26))

include e23 e32

theorem back_val : E2 (n := 128) (m := 2048) (k0_pay6 v23 v24 v26 v29 v32) (back h x r g b) := by
  have hx := scaled_val v24 v26 e24 e26
  have hg : E2 (n := 128) (m := 2048) _ fun s d => h s d * g d := E2.mul (φ := .f32) v29 _ e29 (E2.row (φ := .f32) v23 broadcasts_S1x2048_S128x2048 (by decide) e23)
  have hm := E2.mean (φ := .f32) _ (broadcast S128x1 (Ideal.ofBits .f32 0x45000000#32)) (rowSums _ (E2.mul (φ := .f32) _ _ hg hx)) (fun _ => bits_2048)
  exact E2.add (φ := .f32) _ _ e32 (E2.mul (φ := .f32) _ _ (factor_val v24 e24) (E2.sub (φ := .f32) _ _ hg (E2.mul (φ := .f32) _ _ hx (E2.col (φ := .f32) _ broadcasts_S128x1_S128x2048 (by decide) hm))))

end

end Cert.Kernel4Ideal.Hand

end
-- ==== Proof.Input.lean ====
/-
  The gradient of the layer's input: the kernel adds the products of eight blocks of the hidden gradients in its
  scratch, and after the eighth takes the rows through their normalization.
-/
module

public import proofs.«01_k».proof.Proof.Tile

@[expose] public section

set_option maxRecDepth 16384

noncomputable section

namespace Cert.Kernel4Ideal.Hand

open Cert.Kernel4Ideal Cert.Kernel4Ideal.Gen Cert.Hand Idealize.ShloMosaic Idealize.ShloMosaic.TcCoe Idealize.SL.Sem
open Idealize.ShloMosaic.Pipeline (Dat)

/-! ## What a point leaves -/

/-- Rows `o` to `o + 128` of a block. -/
abbrev wide (o : ℕ) (h : o + 128 ≤ 512) : Rect S512x2048 := Rect.unit (s := S512x2048) ![o, 0] S128x2048.size (fun a => by fin_cases a <;> [exact h; exact Nat.le_refl _])
abbrev thin (o : ℕ) (h : o + 128 ≤ 512) : Rect S512x1 := Rect.unit (s := S512x1) ![o, 0] S128x1.size (fun a => by fin_cases a <;> [exact h; exact Nat.le_refl _])

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rows from `o` of what goes out, and what they add to the gain's gradient. -/
abbrev rows (x4 : Vec F S512x2048 .f32) (x5 : Vec F S512x1 .f32) (x6 : Vec F S1x2048 .f32) (x7 acc : Vec F S512x2048 .f32) (o : ℕ) (h : o + 128 ≤ 512) : FVec F S128x2048 .f32 :=
  k0_pay6 x6 (View.ld x5 (thin o h)) (View.ld x4 (wide o h)) (View.ld acc (wide o h)) (View.ld x7 (wide o h))
abbrev part (x4 : Vec F S512x2048 .f32) (x5 : Vec F S512x1 .f32) (acc : Vec F S512x2048 .f32) (o : ℕ) (h : o + 128 ≤ 512) : FVec F S1x2048 .f32 :=
  k0_pay8 (View.ld x5 (thin o h)) (View.ld x4 (wide o h)) (View.ld acc (wide o h))
abbrev parts (x4 : Vec F S512x2048 .f32) (x5 : Vec F S512x1 .f32) (acc : Vec F S512x2048 .f32) : FVec F S1x2048 .f32 :=
  addf (addf (addf (part x4 x5 acc 0 (by decide)) (part x4 x5 acc 128 (by decide))) (part x4 x5 acc 256 (by decide))) (part x4 x5 acc 384 (by decide))
abbrev wides (x4 : Vec F S512x2048 .f32) (x5 : Vec F S512x1 .f32) (x6 : Vec F S1x2048 .f32) (x7 acc : Vec F S512x2048 .f32) : List (View.Piece (Elt F) S512x2048 .f32) :=
  [⟨wide 384 (by decide), rows x4 x5 x6 x7 acc 384 (by decide)⟩, ⟨wide 256 (by decide), rows x4 x5 x6 x7 acc 256 (by decide)⟩,
   ⟨wide 128 (by decide), rows x4 x5 x6 x7 acc 128 (by decide)⟩, ⟨wide 0 (by decide), rows x4 x5 x6 x7 acc 0 (by decide)⟩]
abbrev widesN (x4 : Vec F S512x2048 .f32) (x5 : Vec F S512x1 .f32) (x6 : Vec F S1x2048 .f32) (x7 acc : Vec F S512x2048 .f32) : List (View.Piece (Elt F) S512x2048 .bf16) :=
  [⟨wide 384 (by decide), truncf .bf16 (rows x4 x5 x6 x7 acc 384 (by decide)) bitsLt_bf16_f32⟩, ⟨wide 256 (by decide), truncf .bf16 (rows x4 x5 x6 x7 acc 256 (by decide)) bitsLt_bf16_f32⟩,
   ⟨wide 128 (by decide), truncf .bf16 (rows x4 x5 x6 x7 acc 128 (by decide)) bitsLt_bf16_f32⟩, ⟨wide 0 (by decide), truncf .bf16 (rows x4 x5 x6 x7 acc 0 (by decide)) bitsLt_bf16_f32⟩]

variable (c : Dev nD) (i : grid0.Coords) (a2 : Memref sig .tc .vmem S1x512x704 .bf16) (h2 : a2.IsWhole) (a3 : Memref sig .tc .vmem S1x512x704 .bf16) (h3 : a3.IsWhole)
  (a4 : Memref sig .tc .vmem S1x2048x704 .bf16) (h4 : a4.IsWhole) (a5 : Memref sig .tc .vmem S1x2048x704 .bf16) (h5 : a5.IsWhole)
  (a6 : Memref sig .tc .vmem S512x2048 .f32) (h6 : a6.IsWhole) (a7 : Memref sig .tc .vmem S512x1 .f32) (h7 : a7.IsWhole)
  (a8 : Memref sig .tc .vmem S1x2048 .f32) (h8 : a8.IsWhole) (a9 : Memref sig .tc .vmem S512x2048 .f32) (h9 : a9.IsWhole)
  (a10 : Memref sig .tc .vmem S512x2048 .f32) (h10 : a10.IsWhole) (a11 : Memref sig .tc .vmem S512x2048 .bf16) (h11 : a11.IsWhole)
  (a12 : Memref sig .tc .vmem S1x2048 .f32) (h12 : a12.IsWhole) (a13 : Memref sig .tc .vmem S512x2048 .f32) (h13 : a13.IsWhole)
  (x0 x1 : Vec F S1x512x704 .bf16) (x2 x3 : Vec F S1x2048x704 .bf16) (x4 : Vec F S512x2048 .f32) (x5 : Vec F S512x1 .f32) (x6 : Vec F S1x2048 .f32) (x7 : Vec F S512x2048 .f32)
  (xo : Vec F S1x2048 .f32) (xs : Vec F S512x2048 .f32)

theorem left_A (hc0 : cond0_0 i) (hc1 : ¬cond0_1 i) :
    sout0_A_0 c i a2 h2 a3 h3 a4 h4 a5 h5 a6 h6 a7 h7 a8 h8 a9 h9 a10 h10 a11 h11 a12 h12 a13 h13 hc0 hc1 x0 x1 x2 x3 x4 x5 x6 x7 = k0_pay2 x0 x2 x1 x3 (k0_pay1 (F := F)) := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S512x2048) hz2, View.readCov_unit_zero (S := S512x2048) _ hz2]
  simp only [View.readAt_eq_ld, h2.read_unread, h3.read_unread, h4.read_unread, h5.read_unread, View.ld_unit_zero (S := S1x512x704) hz3, View.ld_unit_zero (S := S1x2048x704) hz3]

theorem left_B (hc0 : ¬cond0_0 i) (hc1 : ¬cond0_1 i) :
    sout0_B_0 c i a2 h2 a3 h3 a4 h4 a5 h5 a6 h6 a7 h7 a8 h8 a9 h9 a10 h10 a11 h11 a12 h12 a13 h13 hc0 hc1 x0 x1 x2 x3 x4 x5 x6 x7 xs = k0_pay2 x0 x2 x1 x3 xs := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 x5 x6 x7 xs)]
  unfold kernelRun0_B
  dsimp only
  rw [View.canon_unit_zero (S := S512x2048) hz2]
  simp only [View.readAt_eq_ld, h2.read_unread, h3.read_unread, h4.read_unread, h5.read_unread, h13.read_unread, View.ld_unit_zero (S := S1x512x704) hz3, View.ld_unit_zero (S := S1x2048x704) hz3,
    View.ld_unit_zero (S := S512x2048) hz2]

theorem out_C8 (hc0 : ¬cond0_0 i) (hc1 : cond0_1 i) (hc2 : cond0_2 i) (hc3 : ¬cond0_3 i) :
    out0_C_8 c i a2 h2 a3 h3 a4 h4 a5 h5 a6 h6 a7 h7 a8 h8 a9 h9 a10 h10 a11 h11 a12 h12 a13 h13 hc0 hc1 hc2 hc3 x0 x1 x2 x3 x4 x5 x6 x7 xs
      = View.canon (wides x4 x5 x6 x7 (k0_pay2 x0 x2 x1 x3 xs)) := by
  unfold out0_C_8
  rw [View.read_writes_eq_canon _ _ _ (cover0_C_8 c i a2 h2 a3 h3 a4 h4 a5 h5 a6 h6 a7 h7 a8 h8 a9 h9 a10 h10 a11 h11 a12 h12 a13 h13 hc0 hc1 hc2 hc3 x0 x1 x2 x3 x4 x5 x6 x7 xs)]
  unfold kernelRun0_C
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

theorem out_C9 (hc0 : ¬cond0_0 i) (hc1 : cond0_1 i) (hc2 : cond0_2 i) (hc3 : ¬cond0_3 i) :
    out0_C_9 c i a2 h2 a3 h3 a4 h4 a5 h5 a6 h6 a7 h7 a8 h8 a9 h9 a10 h10 a11 h11 a12 h12 a13 h13 hc0 hc1 hc2 hc3 x0 x1 x2 x3 x4 x5 x6 x7 xs
      = View.canon (widesN x4 x5 x6 x7 (k0_pay2 x0 x2 x1 x3 xs)) := by
  unfold out0_C_9
  rw [View.read_writes_eq_canon _ _ _ (cover0_C_9 c i a2 h2 a3 h3 a4 h4 a5 h5 a6 h6 a7 h7 a8 h8 a9 h9 a10 h10 a11 h11 a12 h12 a13 h13 hc0 hc1 hc2 hc3 x0 x1 x2 x3 x4 x5 x6 x7 xs)]
  unfold kernelRun0_C
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

theorem out_C10 (hc0 : ¬cond0_0 i) (hc1 : cond0_1 i) (hc2 : cond0_2 i) (hc3 : ¬cond0_3 i) :
    out0_C_10 c i a2 h2 a3 h3 a4 h4 a5 h5 a6 h6 a7 h7 a8 h8 a9 h9 a10 h10 a11 h11 a12 h12 a13 h13 hc0 hc1 hc2 hc3 x0 x1 x2 x3 x4 x5 x6 x7 xs
      = parts x4 x5 (k0_pay2 x0 x2 x1 x3 xs) := by
  unfold out0_C_10
  rw [View.read_writes_eq_canon _ _ _ (cover0_C_10 c i a2 h2 a3 h3 a4 h4 a5 h5 a6 h6 a7 h7 a8 h8 a9 h9 a10 h10 a11 h11 a12 h12 a13 h13 hc0 hc1 hc2 hc3 x0 x1 x2 x3 x4 x5 x6 x7 xs)]
  unfold kernelRun0_C
  dsimp only
  sl_unfold_words
  rw [View.canon_unit_zero (S := S1x2048) hz2]
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

theorem out_D8 (hc0 : ¬cond0_0 i) (hc1 : cond0_1 i) (hc2 : ¬cond0_2 i) (hc3 : cond0_3 i) :
    out0_D_8 c i a2 h2 a3 h3 a4 h4 a5 h5 a6 h6 a7 h7 a8 h8 a9 h9 a10 h10 a11 h11 a12 h12 a13 h13 hc0 hc1 hc2 hc3 x0 x1 x2 x3 x4 x5 x6 x7 xo xs
      = View.canon (wides x4 x5 x6 x7 (k0_pay2 x0 x2 x1 x3 xs)) := by
  unfold out0_D_8
  rw [View.read_writes_eq_canon _ _ _ (cover0_D_8 c i a2 h2 a3 h3 a4 h4 a5 h5 a6 h6 a7 h7 a8 h8 a9 h9 a10 h10 a11 h11 a12 h12 a13 h13 hc0 hc1 hc2 hc3 x0 x1 x2 x3 x4 x5 x6 x7 xo xs)]
  unfold kernelRun0_D
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

theorem out_D9 (hc0 : ¬cond0_0 i) (hc1 : cond0_1 i) (hc2 : ¬cond0_2 i) (hc3 : cond0_3 i) :
    out0_D_9 c i a2 h2 a3 h3 a4 h4 a5 h5 a6 h6 a7 h7 a8 h8 a9 h9 a10 h10 a11 h11 a12 h12 a13 h13 hc0 hc1 hc2 hc3 x0 x1 x2 x3 x4 x5 x6 x7 xo xs
      = View.canon (widesN x4 x5 x6 x7 (k0_pay2 x0 x2 x1 x3 xs)) := by
  unfold out0_D_9
  rw [View.read_writes_eq_canon _ _ _ (cover0_D_9 c i a2 h2 a3 h3 a4 h4 a5 h5 a6 h6 a7 h7 a8 h8 a9 h9 a10 h10 a11 h11 a12 h12 a13 h13 hc0 hc1 hc2 hc3 x0 x1 x2 x3 x4 x5 x6 x7 xo xs)]
  unfold kernelRun0_D
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

theorem out_D10 (hc0 : ¬cond0_0 i) (hc1 : cond0_1 i) (hc2 : ¬cond0_2 i) (hc3 : cond0_3 i) :
    out0_D_10 c i a2 h2 a3 h3 a4 h4 a5 h5 a6 h6 a7 h7 a8 h8 a9 h9 a10 h10 a11 h11 a12 h12 a13 h13 hc0 hc1 hc2 hc3 x0 x1 x2 x3 x4 x5 x6 x7 xo xs
      = k0_pay3 (parts x4 x5 (k0_pay2 x0 x2 x1 x3 xs)) xo := by
  unfold out0_D_10
  rw [View.read_writes_eq_canon _ _ _ (cover0_D_10 c i a2 h2 a3 h3 a4 h4 a5 h5 a6 h6 a7 h7 a8 h8 a9 h9 a10 h10 a11 h11 a12 h12 a13 h13 hc0 hc1 hc2 hc3 x0 x1 x2 x3 x4 x5 x6 x7 xo xs)]
  unfold kernelRun0_D
  dsimp only
  sl_unfold_words
  rw [View.canon_unit_zero (S := S1x2048) hz2]
  simp only [View.readCov_eq_canon', View.canon_unit_zero (S := S512x2048) hz2]
  simp only [View.readAt_eq_ld, h2.read_unread, h3.read_unread, h4.read_unread, h5.read_unread, h6.read_unread, h7.read_unread, h8.read_unread, h9.read_unread, h12.read_unread, h13.read_unread,
    View.ld_unit_zero (S := S1x512x704) hz3, View.ld_unit_zero (S := S1x2048x704) hz3, View.ld_unit_zero (S := S512x2048) hz2, View.ld_unit_zero (S := S1x2048) hz2]
  rfl

end

end Cert.Kernel4Ideal.Hand

end
-- ==== Proof.Rows.lean ====
/-
  The points of the gradient of the layer's input: the sum in the scratch, the rows that go out after the eighth block,
  and the gain's gradient, added up over the sixteen blocks of rows.
-/
module

public import proofs.«01_k».proof.Proof.Input

@[expose] public section

set_option maxRecDepth 16384

noncomputable section

namespace Cert.Kernel4Ideal.Hand

open Cert.Kernel4Ideal Cert.Kernel4Ideal.Gen Cert.Hand Cert.Staged Idealize.ShloMosaic Idealize.ShloMosaic.TcCoe Idealize.SL.Sem
open Idealize.ShloMosaic.Pipeline (Dat)

theorem pay1_val : E2 (n := 512) (m := 2048) (k0_pay1 (F := Ideal)) fun _ _ => 0 :=
  E2.same (φ := .f32) _ shapeCasts_S512x2048_S512x2048 (E2.bc _ 0 (Ideal.ofBits_zero .f32))

theorem pay2_val {p q u w A : ℕ → ℕ → EReal} (v3 : Vec Ideal S1x512x704 .bf16) (v5 : Vec Ideal S1x2048x704 .bf16) (v8 : Vec Ideal S1x512x704 .bf16) (v10 : Vec Ideal S1x2048x704 .bf16)
    (acc : Vec Ideal S512x2048 .f32) (e3 : E3 (a := 1) (b := 512) (c := 704) v3 fun _ => p) (e5 : E3 (a := 1) (b := 2048) (c := 704) v5 fun _ => q)
    (e8 : E3 (a := 1) (b := 512) (c := 704) v8 fun _ => u) (e10 : E3 (a := 1) (b := 2048) (c := 704) v10 fun _ => w) (ha : E2 (n := 512) (m := 2048) acc A) :
    E2 (n := 512) (m := 2048) (k0_pay2 v3 v5 v8 v10 acc)
      fun s d => A s d + ((∑ n ∈ Finset.range 704, p s n * q d n) + ∑ n ∈ Finset.range 704, u s n * w d n) :=
  E2.same (φ := .f32) _ shapeCasts_S512x2048_S512x2048 (E2.add (φ := .f32) _ _ ha (E2.add (φ := .f32) _ _
    (E2.dotT (φ := .bf16) (ψ := .bf16) none _ _ _ rfl (E3.drop (φ := .bf16) v3 shapeCasts_S1x512x704_S512x704 e3) (E3.drop (φ := .bf16) v5 shapeCasts_S1x2048x704_S2048x704 e5))
    (E2.dotT (φ := .bf16) (ψ := .bf16) none _ _ _ rfl (E3.drop (φ := .bf16) v8 shapeCasts_S1x512x704_S512x704 e8) (E3.drop (φ := .bf16) v10 shapeCasts_S1x2048x704_S2048x704 e10))))

theorem pay3_val {f g : ℕ → ℕ → EReal} (v w : Vec Ideal S1x2048 .f32) (hv : E2 (n := 1) (m := 2048) v f) (hw : E2 (n := 1) (m := 2048) w g) :
    E2 (n := 1) (m := 2048) (k0_pay3 v w) fun i d => g i d + f i d :=
  E2.add (φ := .f32) _ _ (E2.same (φ := .f32) w shapeCasts_S1x2048_S1x2048 hw) hv

theorem wide_cov (y : S512x2048.Idx) : ∃ o : ℕ, ∃ ho : o + 128 ≤ 512, (o = 384 ∨ o = 256 ∨ o = 128 ∨ o = 0) ∧ y ∈ (wide o ho).set := by
  have h0 : (y 0).val < 512 := (y 0).isLt
  have h1 : (y 1).val < 2048 := (y 1).isLt
  refine ⟨128 * ((y 0).val / 128), by omega, by omega, Rect.mem_set_unit.mpr fun a => ?_⟩
  fin_cases a
  · show 128 * ((y 0).val / 128) ≤ (y 0).val ∧ (y 0).val < 128 * ((y 0).val / 128) + 128
    omega
  · show 0 ≤ (y 1).val ∧ (y 1).val < 0 + 2048
    omega

theorem wides_cov (x4 : Vec Ideal S512x2048 .f32) (x5 : Vec Ideal S512x1 .f32) (x6 : Vec Ideal S1x2048 .f32) (x7 acc : Vec Ideal S512x2048 .f32) (y : S512x2048.Idx) :
    ∃ p ∈ wides x4 x5 x6 x7 acc, y ∈ p.1.set := by
  obtain ⟨o, ho, rfl | rfl | rfl | rfl, hy⟩ := wide_cov y
  · exact ⟨_, List.mem_cons_self, hy⟩
  · exact ⟨_, List.mem_cons_of_mem _ List.mem_cons_self, hy⟩
  · exact ⟨_, List.mem_cons_of_mem _ (List.mem_cons_of_mem _ List.mem_cons_self), hy⟩
  · exact ⟨_, List.mem_cons_of_mem _ (List.mem_cons_of_mem _ (List.mem_cons_of_mem _ List.mem_cons_self)), hy⟩

theorem widesN_cov (x4 : Vec Ideal S512x2048 .f32) (x5 : Vec Ideal S512x1 .f32) (x6 : Vec Ideal S1x2048 .f32) (x7 acc : Vec Ideal S512x2048 .f32) (y : S512x2048.Idx) :
    ∃ p ∈ widesN x4 x5 x6 x7 acc, y ∈ p.1.set := by
  obtain ⟨o, ho, rfl | rfl | rfl | rfl, hy⟩ := wide_cov y
  · exact ⟨_, List.mem_cons_self, hy⟩
  · exact ⟨_, List.mem_cons_of_mem _ List.mem_cons_self, hy⟩
  · exact ⟨_, List.mem_cons_of_mem _ (List.mem_cons_of_mem _ List.mem_cons_self), hy⟩
  · exact ⟨_, List.mem_cons_of_mem _ (List.mem_cons_of_mem _ (List.mem_cons_of_mem _ List.mem_cons_self)), hy⟩

/-! ## A block of rows -/

section
variable {h x b : ℕ → ℕ → EReal} {r g : ℕ → EReal} (x4 : Vec Ideal S512x2048 .f32) (x5 : Vec Ideal S512x1 .f32) (x6 : Vec Ideal S1x2048 .f32) (x7 acc : Vec Ideal S512x2048 .f32)
  (e4 : E2 (n := 512) (m := 2048) x4 x) (e5 : E2 (n := 512) (m := 1) x5 fun s _ => r s) (e6 : E2 (n := 1) (m := 2048) x6 fun _ d => g d)
  (e7 : E2 (n := 512) (m := 2048) x7 b) (ea : E2 (n := 512) (m := 2048) acc h)

theorem wide_val {f : ℕ → ℕ → EReal} (v : Vec Ideal S512x2048 .f32) (hv : E2 (n := 512) (m := 2048) v f) (o : ℕ) (ho : o + 128 ≤ 512) :
    E2 (n := 128) (m := 2048) (View.ld v (wide o ho)) fun s => f (o + s) := fun y => (hv _).trans (by
  show f (o + 1 * (y 0).val) (0 + 1 * (y 1).val) = _; simp)

theorem thin_val {f : ℕ → EReal} (v : Vec Ideal S512x1 .f32) (hv : E2 (n := 512) (m := 1) v fun s _ => f s) (o : ℕ) (ho : o + 128 ≤ 512) :
    E2 (n := 128) (m := 1) (View.ld v (thin o ho)) fun s _ => f (o + s) := fun y => (hv _).trans (by
  show f (o + 1 * (y 0).val) = _; simp)

include e4 e5 ea

theorem part_val (o : ℕ) (ho : o + 128 ≤ 512) :
    E2 (n := 1) (m := 2048) (part x4 x5 acc o ho) fun _ d => ∑ s ∈ Finset.range 128, h (o + s) d * (x (o + s) d * r (o + s)) :=
  gains_val (h := fun s => h (o + s)) (x := fun s => x (o + s)) (r := fun s => r (o + s)) _ _ _ (thin_val x5 e5 o ho) (wide_val x4 e4 o ho) (wide_val acc ea o ho)

theorem parts_val : E2 (n := 1) (m := 2048) (parts x4 x5 acc) fun _ d => ∑ s ∈ Finset.range 512, h s d * (x s d * r s) := by
  have hp := part_val (h := h) (x := x) (r := r) x4 x5 acc e4 e5 ea
  refine E2.congr (E2.add (φ := .f32) _ _ (E2.add (φ := .f32) _ _ (E2.add (φ := .f32) _ _ (hp 0 (by decide)) (hp 128 (by decide))) (hp 256 (by decide))) (hp 384 (by decide))) fun _ _ d _ => ?_
  simp only [zero_add]
  rw [show 512 = 128 + 128 + 128 + 128 from rfl, Finset.sum_range_add, Finset.sum_range_add, Finset.sum_range_add]

include e6 e7

theorem rows_val (o : ℕ) (ho : o + 128 ≤ 512) : E2 (n := 128) (m := 2048) (rows x4 x5 x6 x7 acc o ho) fun s => back h x r g b (o + s) :=
  back_val (h := fun s => h (o + s)) (x := fun s => x (o + s)) (r := fun s => r (o + s)) (g := g) (b := fun s => b (o + s)) _ _ _ _ _ e6 (thin_val x5 e5 o ho) (wide_val x4 e4 o ho)
    (wide_val acc ea o ho) (wide_val x7 e7 o ho)

theorem wides_val :
    E2 (n := 512) (m := 2048) (View.canon (Val := Elt Ideal) (wides x4 x5 x6 x7 acc) : Vec Ideal S512x2048 .f32) (back h x r g b) := by
  have hp := rows_val (h := h) (x := x) (r := r) (g := g) (b := b) x4 x5 x6 x7 acc e4 e5 e6 e7 ea
  intro y
  refine View.canon_apply_of_pieces (show S512x2048.Idx → Elt Ideal .f32 from fun y => back h x r g b (y 0).val (y 1).val) _ ?_ y (wides_cov x4 x5 x6 x7 acc y)
  intro p hm z
  rcases List.mem_cons.mp hm with rfl | hm
  · refine (hp 384 (by decide) z).trans ?_
    show _ = back h x r g b (384 + 1 * (z 0).val) (0 + 1 * (z 1).val)
    simp only [one_mul, zero_add]
  rcases List.mem_cons.mp hm with rfl | hm
  · refine (hp 256 (by decide) z).trans ?_
    show _ = back h x r g b (256 + 1 * (z 0).val) (0 + 1 * (z 1).val)
    simp only [one_mul, zero_add]
  rcases List.mem_cons.mp hm with rfl | hm
  · refine (hp 128 (by decide) z).trans ?_
    show _ = back h x r g b (128 + 1 * (z 0).val) (0 + 1 * (z 1).val)
    simp only [one_mul, zero_add]
  obtain rfl := List.mem_singleton.mp hm
  refine (hp 0 (by decide) z).trans ?_
  show _ = back h x r g b (0 + 1 * (z 0).val) (0 + 1 * (z 1).val)
  simp only [one_mul, zero_add]

theorem widesN_val :
    E2 (n := 512) (m := 2048) (View.canon (Val := Elt Ideal) (widesN x4 x5 x6 x7 acc) : Vec Ideal S512x2048 .bf16) (back h x r g b) := by
  have hp := rows_val (h := h) (x := x) (r := r) (g := g) (b := b) x4 x5 x6 x7 acc e4 e5 e6 e7 ea
  intro y
  refine View.canon_apply_of_pieces (show S512x2048.Idx → Elt Ideal .bf16 from fun y => back h x r g b (y 0).val (y 1).val) _ ?_ y (widesN_cov x4 x5 x6 x7 acc y)
  intro p hm z
  rcases List.mem_cons.mp hm with rfl | hm
  · refine (hp 384 (by decide) z).trans ?_
    show _ = back h x r g b (384 + 1 * (z 0).val) (0 + 1 * (z 1).val)
    simp only [one_mul, zero_add]
  rcases List.mem_cons.mp hm with rfl | hm
  · refine (hp 256 (by decide) z).trans ?_
    show _ = back h x r g b (256 + 1 * (z 0).val) (0 + 1 * (z 1).val)
    simp only [one_mul, zero_add]
  rcases List.mem_cons.mp hm with rfl | hm
  · refine (hp 128 (by decide) z).trans ?_
    show _ = back h x r g b (128 + 1 * (z 0).val) (0 + 1 * (z 1).val)
    simp only [one_mul, zero_add]
  obtain rfl := List.mem_singleton.mp hm
  refine (hp 0 (by decide) z).trans ?_
  show _ = back h x r g b (0 + 1 * (z 0).val) (0 + 1 * (z 1).val)
  simp only [one_mul, zero_add]

end

/-! ## The points -/

variable {m : (ℓ : Loc nD τ sig) → Buf (Elt Ideal) ℓ} {c : Dev nD} {dg du wg wu : ℕ → ℕ → ℕ → EReal} {x b : ℕ → ℕ → EReal} {r g : ℕ → EReal}
  (a0 : E3 (a := 8) (b := 8192) (c := 704) (V m c main_arg0) dg) (a1 : E3 (a := 8) (b := 8192) (c := 704) (V m c main_arg1) du)
  (a2 : E3 (a := 8) (b := 2048) (c := 704) (V m c main_arg2) wg) (a3 : E3 (a := 8) (b := 2048) (c := 704) (V m c main_arg3) wu)
  (a4 : E2 (n := 8192) (m := 2048) (V m c main_arg4) x) (a5 : E2 (n := 8192) (m := 1) (V m c main_v7) fun s _ => r s)
  (a6 : E2 (n := 1) (m := 2048) (V m c main_arg5) fun _ d => g d) (a7 : E2 (n := 8192) (m := 2048) (V m c main_arg6) b)

theorem idx_all : ∀ t : Fin cfg0.N, win0_0.index t = ![t.val % 8, t.val / 8, 0] ∧ win0_1.index t = ![t.val % 8, t.val / 8, 0] ∧ win0_2.index t = ![t.val % 8, 0, 0]
    ∧ win0_3.index t = ![t.val % 8, 0, 0] ∧ win0_4.index t = ![t.val / 8, 0] ∧ win0_5.index t = ![t.val / 8, 0] ∧ win0_6.index t = ![0, 0] ∧ win0_7.index t = ![t.val / 8, 0] := by
  decide +kernel

include a0 in
theorem block0 (t : Fin cfg0.N) : E3 (a := 1) (b := 512) (c := 704) (iblk m c 0 t : Vec Ideal S1x512x704 .bf16) fun _ s n => dg (t.val % 8) (512 * (t.val / 8) + s) n := fun y => by
  have h0 : (y 0).val < 1 := (y 0).isLt
  have e0 : (((win0_0.rect t).emb y) 0).val = t.val % 8 := by
    rw [win0_0.rect_emb_val t y 0, (idx_all t).1]; show t.val % 8 * 1 + (y 0).val = _; omega
  have e1 : (((win0_0.rect t).emb y) 1).val = 512 * (t.val / 8) + (y 1).val := by
    rw [win0_0.rect_emb_val t y 1, (idx_all t).1]; show t.val / 8 * 512 + _ = _; omega
  have e2 : (((win0_0.rect t).emb y) 2).val = (y 2).val := by
    rw [win0_0.rect_emb_val t y 2, (idx_all t).1]; show 0 * 704 + _ = _; omega
  refine (a0 ((win0_0.rect t).emb y)).trans ?_
  dsimp only
  rw [e0, e1, e2]

include a1 in
theorem block1 (t : Fin cfg0.N) : E3 (a := 1) (b := 512) (c := 704) (iblk m c 1 t : Vec Ideal S1x512x704 .bf16) fun _ s n => du (t.val % 8) (512 * (t.val / 8) + s) n := fun y => by
  have h0 : (y 0).val < 1 := (y 0).isLt
  have e0 : (((win0_1.rect t).emb y) 0).val = t.val % 8 := by
    rw [win0_1.rect_emb_val t y 0, (idx_all t).2.1]; show t.val % 8 * 1 + (y 0).val = _; omega
  have e1 : (((win0_1.rect t).emb y) 1).val = 512 * (t.val / 8) + (y 1).val := by
    rw [win0_1.rect_emb_val t y 1, (idx_all t).2.1]; show t.val / 8 * 512 + _ = _; omega
  have e2 : (((win0_1.rect t).emb y) 2).val = (y 2).val := by
    rw [win0_1.rect_emb_val t y 2, (idx_all t).2.1]; show 0 * 704 + _ = _; omega
  refine (a1 ((win0_1.rect t).emb y)).trans ?_
  dsimp only
  rw [e0, e1, e2]

include a2 in
theorem block2 (t : Fin cfg0.N) : E3 (a := 1) (b := 2048) (c := 704) (iblk m c 2 t : Vec Ideal S1x2048x704 .bf16) fun _ d n => wg (t.val % 8) d n := fun y => by
  have h0 : (y 0).val < 1 := (y 0).isLt
  have e0 : (((win0_2.rect t).emb y) 0).val = t.val % 8 := by
    rw [win0_2.rect_emb_val t y 0, (idx_all t).2.2.1]; show t.val % 8 * 1 + (y 0).val = _; omega
  have e1 : (((win0_2.rect t).emb y) 1).val = (y 1).val := by
    rw [win0_2.rect_emb_val t y 1, (idx_all t).2.2.1]; show 0 * 2048 + _ = _; omega
  have e2 : (((win0_2.rect t).emb y) 2).val = (y 2).val := by
    rw [win0_2.rect_emb_val t y 2, (idx_all t).2.2.1]; show 0 * 704 + _ = _; omega
  refine (a2 ((win0_2.rect t).emb y)).trans ?_
  dsimp only
  rw [e0, e1, e2]

include a3 in
theorem block3 (t : Fin cfg0.N) : E3 (a := 1) (b := 2048) (c := 704) (iblk m c 3 t : Vec Ideal S1x2048x704 .bf16) fun _ d n => wu (t.val % 8) d n := fun y => by
  have h0 : (y 0).val < 1 := (y 0).isLt
  have e0 : (((win0_3.rect t).emb y) 0).val = t.val % 8 := by
    rw [win0_3.rect_emb_val t y 0, (idx_all t).2.2.2.1]; show t.val % 8 * 1 + (y 0).val = _; omega
  have e1 : (((win0_3.rect t).emb y) 1).val = (y 1).val := by
    rw [win0_3.rect_emb_val t y 1, (idx_all t).2.2.2.1]; show 0 * 2048 + _ = _; omega
  have e2 : (((win0_3.rect t).emb y) 2).val = (y 2).val := by
    rw [win0_3.rect_emb_val t y 2, (idx_all t).2.2.2.1]; show 0 * 704 + _ = _; omega
  refine (a3 ((win0_3.rect t).emb y)).trans ?_
  dsimp only
  rw [e0, e1, e2]

include a4 in
theorem block4 (t : Fin cfg0.N) : E2 (n := 512) (m := 2048) (iblk m c 4 t : Vec Ideal S512x2048 .f32) fun s d => x (512 * (t.val / 8) + s) d := fun y => by
  have e0 : (((win0_4.rect t).emb y) 0).val = 512 * (t.val / 8) + (y 0).val := by
    rw [win0_4.rect_emb_val t y 0, (idx_all t).2.2.2.2.1]; show t.val / 8 * 512 + _ = _; omega
  have e1 : (((win0_4.rect t).emb y) 1).val = (y 1).val := by
    rw [win0_4.rect_emb_val t y 1, (idx_all t).2.2.2.2.1]; show 0 * 2048 + _ = _; omega
  refine (a4 ((win0_4.rect t).emb y)).trans ?_
  dsimp only
  rw [e0, e1]

include a5 in
theorem block5 (t : Fin cfg0.N) : E2 (n := 512) (m := 1) (iblk m c 5 t : Vec Ideal S512x1 .f32) fun s _ => r (512 * (t.val / 8) + s) := fun y => by
  have e0 : (((win0_5.rect t).emb y) 0).val = 512 * (t.val / 8) + (y 0).val := by
    rw [win0_5.rect_emb_val t y 0, (idx_all t).2.2.2.2.2.1]; show t.val / 8 * 512 + _ = _; omega
  refine (a5 ((win0_5.rect t).emb y)).trans ?_
  dsimp only
  rw [e0]

include a6 in
theorem block6 (t : Fin cfg0.N) : E2 (n := 1) (m := 2048) (iblk m c 6 t : Vec Ideal S1x2048 .f32) fun _ d => g d := fun y => by
  have e1 : (((win0_6.rect t).emb y) 1).val = (y 1).val := by
    rw [win0_6.rect_emb_val t y 1, (idx_all t).2.2.2.2.2.2.1]; show 0 * 2048 + _ = _; omega
  refine (a6 ((win0_6.rect t).emb y)).trans ?_
  dsimp only
  rw [e1]

include a7 in
theorem block7 (t : Fin cfg0.N) : E2 (n := 512) (m := 2048) (iblk m c 7 t : Vec Ideal S512x2048 .f32) fun s d => b (512 * (t.val / 8) + s) d := fun y => by
  have e0 : (((win0_7.rect t).emb y) 0).val = 512 * (t.val / 8) + (y 0).val := by
    rw [win0_7.rect_emb_val t y 0, (idx_all t).2.2.2.2.2.2.2]; show t.val / 8 * 512 + _ = _; omega
  have e1 : (((win0_7.rect t).emb y) 1).val = (y 1).val := by
    rw [win0_7.rect_emb_val t y 1, (idx_all t).2.2.2.2.2.2.2]; show 0 * 2048 + _ = _; omega
  refine (a7 ((win0_7.rect t).emb y)).trans ?_
  dsimp only
  rw [e0, e1]

/-- The hidden gradient's product with the weights, over the first `k` blocks of columns. -/
def hid (dg du wg wu : ℕ → ℕ → ℕ → EReal) (k s d : ℕ) : EReal :=
  ∑ j ∈ Finset.range k, ((∑ n ∈ Finset.range 704, dg j s n * wg j d n) + ∑ n ∈ Finset.range 704, du j s n * wu j d n)

include a0 a1 a2 a3

theorem step (t : Fin cfg0.N) (v : Vec Ideal S512x2048 .f32) (hv : E2 (n := 512) (m := 2048) v fun s d => hid dg du wg wu (t.val % 8) (512 * (t.val / 8) + s) d) :
    E2 (n := 512) (m := 2048) (k0_pay2 (iblk m c 0 t) (iblk m c 2 t) (iblk m c 1 t) (iblk m c 3 t) v) fun s d => hid dg du wg wu (t.val % 8 + 1) (512 * (t.val / 8) + s) d :=
  E2.congr (pay2_val _ _ _ _ v (block0 a0 t) (block2 a2 t) (block1 a1 t) (block3 a3 t) hv) fun s _ d _ => (Finset.sum_range_succ _ _).symm

theorem held : ∀ (n : ℕ) (h : n < cfg0.N) (hn : n % 8 ≠ 7), E2 (n := 512) (m := 2048) (outsAt0 m c n h).2.2.2 fun s d => hid dg du wg wu (n % 8 + 1) (512 * (n / 8) + s) d := by
  intro n
  induction n with
  | zero =>
    intro h hn
    rw [outsAt0_A m c ⟨0, h⟩ rfl (by show ¬ 0 % 8 = 7; decide)]
    dsimp only
    rw [left_A]
    exact step a0 a1 a2 a3 ⟨0, h⟩ _ (E2.congr pay1_val fun s _ d _ => by simp [hid])
  | succ n ih =>
    intro h hn
    by_cases h0 : (n + 1) % 8 = 0
    · rw [outsAt0_A m c ⟨n + 1, h⟩ h0 hn]
      dsimp only
      rw [left_A]
      exact step a0 a1 a2 a3 ⟨n + 1, h⟩ _ (E2.congr pay1_val fun s _ d _ => by simp [hid, h0])
    · rw [outsAt0_B m c ⟨n + 1, h⟩ h0 hn]
      dsimp only
      rw [left_B]
      refine step a0 a1 a2 a3 ⟨n + 1, h⟩ _ (E2.congr (ih (Nat.lt_of_succ_lt h) (by omega)) fun s _ d _ => ?_)
      show _ = hid dg du wg wu ((n + 1) % 8) (512 * ((n + 1) / 8) + s) d
      rw [show (n + 1) / 8 = n / 8 by omega, show (n + 1) % 8 = n % 8 + 1 by omega]

/-- The eighth block's sum. -/
theorem whole (t : Fin cfg0.N) (h : t.val % 8 = 7) (hp : t.val - 1 < cfg0.N) :
    E2 (n := 512) (m := 2048) (k0_pay2 (iblk m c 0 t) (iblk m c 2 t) (iblk m c 1 t) (iblk m c 3 t) (outsAt0 m c (t.val - 1) hp).2.2.2)
      fun s d => hid dg du wg wu 8 (512 * (t.val / 8) + s) d := by
  refine E2.congr (step a0 a1 a2 a3 t _ (E2.congr (held a0 a1 a2 a3 (t.val - 1) hp (by omega)) fun s _ d _ => ?_)) fun s _ d _ => ?_
  · rw [show (t.val - 1) / 8 = t.val / 8 by omega, show (t.val - 1) % 8 + 1 = t.val % 8 by omega]
  · rw [h]

include a4 a5

theorem given10 (t : Fin cfg0.N) (h : t.val % 8 = 7) (hp : t.val - 1 < cfg0.N) :
    E2 (n := 1) (m := 2048) (parts (iblk m c 4 t) (iblk m c 5 t) (k0_pay2 (iblk m c 0 t) (iblk m c 2 t) (iblk m c 1 t) (iblk m c 3 t) (outsAt0 m c (t.val - 1) hp).2.2.2))
      fun _ d => ∑ s ∈ Finset.range 512, hid dg du wg wu 8 (512 * (t.val / 8) + s) d * (x (512 * (t.val / 8) + s) d * r (512 * (t.val / 8) + s)) :=
  parts_val (h := fun s d => hid dg du wg wu 8 (512 * (t.val / 8) + s) d) (x := fun s d => x (512 * (t.val / 8) + s) d) (r := fun s => r (512 * (t.val / 8) + s)) _ _ _
    (block4 a4 t) (block5 a5 t) (whole a0 a1 a2 a3 t h hp)

/-- The gain's gradient over the rows so far. -/
theorem held10 : ∀ (n : ℕ) (h : n < cfg0.N) (hn : 7 ≤ n),
    E2 (n := 1) (m := 2048) (outsAt0 m c n h).2.2.1 fun _ d => ∑ s ∈ Finset.range (512 * ((n + 1) / 8)), hid dg du wg wu 8 s d * (x s d * r s) := by
  intro n
  induction n with
  | zero => intro h hn; omega
  | succ n ih =>
    intro h hn
    by_cases h0 : (n + 1) % 8 = 0
    · rw [outsAt0_A m c ⟨n + 1, h⟩ h0 (by show ¬ (n + 1) % 8 = 7; omega)]
      refine E2.congr (ih (Nat.lt_of_succ_lt h) (by omega)) fun _ _ d _ => ?_
      rw [show (n + 1 + 1) / 8 = (n + 1) / 8 by omega]
    by_cases h1 : (n + 1) % 8 = 7
    · have hp : n < cfg0.N := Nat.lt_of_succ_lt h
      have hq := given10 a0 a1 a2 a3 a4 a5 ⟨n + 1, h⟩ h1 hp
      by_cases h2 : n + 1 < 8
      · rw [outsAt0_C m c ⟨n + 1, h⟩ h0 h1 h2 (by show ¬ 8 ≤ n + 1; omega)]
        dsimp only
        rw [out_C10]
        refine E2.congr hq fun _ _ d _ => ?_
        obtain rfl : n = 6 := by omega
        simp
      · rw [outsAt0_D m c ⟨n + 1, h⟩ h0 h1 h2 (by show 8 ≤ n + 1; omega)]
        dsimp only
        rw [out_D10]
        refine E2.congr (pay3_val _ _ hq (ih hp (by omega))) fun _ _ d _ => ?_
        dsimp only
        rw [show 512 * ((n + 1 + 1) / 8) = 512 * ((n + 1) / 8) + 512 by omega, Finset.sum_range_add]
    · rw [outsAt0_B m c ⟨n + 1, h⟩ h0 h1]
      refine E2.congr (ih (Nat.lt_of_succ_lt h) (by omega)) fun _ _ d _ => ?_
      rw [show (n + 1 + 1) / 8 = (n + 1) / 8 by omega]

theorem gain_end : E2 (n := 1) (m := 2048) (Value.G10 m c) fun _ d => ∑ s ∈ Finset.range 8192, hid dg du wg wu 8 s d * (x s d * r s) := by
  rw [Value.G10_last, ← Value.outsAt0_sweep m c 127 (lt_of_lt_of_eq (by decide) N_0.symm)]
  exact held10 a0 a1 a2 a3 a4 a5 127 _ (by decide)

include a6 a7

theorem given8 (t : Fin cfg0.N) (h : t.val % 8 = 7) :
    E2 (n := 512) (m := 2048) (outsAt0 m c t.val t.isLt).1 fun s d => back (hid dg du wg wu 8) x r g b (512 * (t.val / 8) + s) d := by
  have h0 : ¬ t.val % 8 = 0 := by omega
  have hp : t.val - 1 < cfg0.N := by have := t.isLt; omega
  have hw := wides_val (h := fun s d => hid dg du wg wu 8 (512 * (t.val / 8) + s) d) (x := fun s d => x (512 * (t.val / 8) + s) d) (r := fun s => r (512 * (t.val / 8) + s)) (g := g)
    (b := fun s d => b (512 * (t.val / 8) + s) d) _ _ _ _ _ (block4 a4 t) (block5 a5 t) (block6 a6 t) (block7 a7 t) (whole a0 a1 a2 a3 t h hp)
  by_cases h2 : t.val < 8
  · rw [outsAt0_C m c t h0 h h2 (by omega)]
    dsimp only
    rw [out_C8]
    exact hw
  · rw [outsAt0_D m c t h0 h h2 (by omega)]
    dsimp only
    rw [out_D8]
    exact hw

theorem given9 (t : Fin cfg0.N) (h : t.val % 8 = 7) :
    E2 (n := 512) (m := 2048) (outsAt0 m c t.val t.isLt).2.1 fun s d => back (hid dg du wg wu 8) x r g b (512 * (t.val / 8) + s) d := by
  have h0 : ¬ t.val % 8 = 0 := by omega
  have hp : t.val - 1 < cfg0.N := by have := t.isLt; omega
  have hw := widesN_val (h := fun s d => hid dg du wg wu 8 (512 * (t.val / 8) + s) d) (x := fun s d => x (512 * (t.val / 8) + s) d) (r := fun s => r (512 * (t.val / 8) + s)) (g := g)
    (b := fun s d => b (512 * (t.val / 8) + s) d) _ _ _ _ _ (block4 a4 t) (block5 a5 t) (block6 a6 t) (block7 a7 t) (whole a0 a1 a2 a3 t h hp)
  by_cases h2 : t.val < 8
  · rw [outsAt0_C m c t h0 h h2 (by omega)]
    dsimp only
    rw [out_C9]
    exact hw
  · rw [outsAt0_D m c t h0 h h2 (by omega)]
    dsimp only
    rw [out_D9]
    exact hw

theorem wide_end : E2 (n := 8192) (m := 2048) (Value.G8 m c) (back (hid dg du wg wu 8) x r g b) := fun i => by
  have h0 : (i 0).val < 8192 := (i 0).isLt
  have h1 : (i 1).val < 2048 := (i 1).isLt
  have hr : Value.run8Of i = (i 0).val / 512 := by show 1 * ((i 0).val / 512 - 0) + 1 * ((i 1).val / 2048 - 0) = _; omega
  have hp : Value.pt8Of i < cfg0.N := by show 8 * Value.run8Of i + 7 < 128; omega
  unfold Value.G8
  rw [dif_pos hp, ← Value.outsAt0_sweep m c (Value.pt8Of i) hp]
  refine (given8 a0 a1 a2 a3 a4 a5 a6 a7 ⟨Value.pt8Of i, hp⟩ (by show (8 * Value.run8Of i + 7) % 8 = 7; omega) (Value.loc8Of i)).trans ?_
  show back (hid dg du wg wu 8) x r g b (512 * ((8 * Value.run8Of i + 7) / 8) + (i 0).val % 512) ((i 1).val % 2048) = _
  rw [hr, Nat.mod_eq_of_lt h1, show 512 * ((8 * ((i 0).val / 512) + 7) / 8) + (i 0).val % 512 = (i 0).val by omega]

theorem narrow_end : E2 (n := 8192) (m := 2048) (Value.G9 m c) (back (hid dg du wg wu 8) x r g b) := fun i => by
  have h0 : (i 0).val < 8192 := (i 0).isLt
  have h1 : (i 1).val < 2048 := (i 1).isLt
  have hr : Value.run9Of i = (i 0).val / 512 := by show 1 * ((i 0).val / 512 - 0) + 1 * ((i 1).val / 2048 - 0) = _; omega
  have hp : Value.pt9Of i < cfg0.N := by show 8 * Value.run9Of i + 7 < 128; omega
  unfold Value.G9
  rw [dif_pos hp, ← Value.outsAt0_sweep m c (Value.pt9Of i) hp]
  refine (given9 a0 a1 a2 a3 a4 a5 a6 a7 ⟨Value.pt9Of i, hp⟩ (by show (8 * Value.run9Of i + 7) % 8 = 7; omega) (Value.loc9Of i)).trans ?_
  show back (hid dg du wg wu 8) x r g b (512 * ((8 * Value.run9Of i + 7) / 8) + (i 0).val % 512) ((i 1).val % 2048) = _
  rw [hr, Nat.mod_eq_of_lt h1, show 512 * ((8 * ((i 0).val / 512) + 7) / 8) + (i 0).val % 512 = (i 0).val by omega]

end Cert.Kernel4Ideal.Hand

end
-- ==== Proof.Norm.lean ====
/-
  The normalization's factor as the host computes it, and the reference's gradient through the normalization.
-/
module

public import proofs.«01_k».proof.Proof.Rows
public import proofs.«01_k».proof.Proof.Gen.Reference4Ideal.Run

@[expose] public section

set_option maxRecDepth 16384

noncomputable section

namespace Cert.Hand

open Idealize.ShloMosaic Cert.Staged

/-- What is added to the mean square before its root. -/
def eps : ℝ := 8796093 / 2 ^ 43

theorem eps_pos : 0 < eps := by unfold eps; positivity

theorem bits_eps : Ideal.ofBits .f32 0x358637BD#32 = ((eps : ℝ) : EReal) := by
  unfold eps
  simp [Ideal.ofBits, Ideal.ieee]
  norm_cast
  try norm_num

theorem bits_neg_half : Ideal.ofBits .f32 0xBF000000#32 = ((-(1 / 2) : ℝ) : EReal) := by
  simp [Ideal.ofBits, Ideal.ieee]
  norm_cast
  try norm_num

/-- Every entry of the vector `v` is what `f` says of its place. -/
def E1 {n : ℕ} (v : (⟨1, ![n]⟩ : Shape).Idx → EReal) (f : ℕ → EReal) : Prop := ∀ x, v x = f (x 0).val

section
variable {n m : ℕ} {f g : ℕ → ℕ → EReal} {p : ℕ → EReal}

theorem E2.hostRows (v : FVec Ideal ⟨2, ![n, m]⟩ .f32) (h : (⟨2, ![n, m]⟩ : Shape).ReducesTo [1] ⟨1, ![n]⟩) (h0 : 0 < (⟨0, ![]⟩ : Shape).numel) (hv : E2 v f) :
    E1 (Host.reduceAdd v (constant (F := Ideal) ⟨0, ![]⟩ .f32 0x00000000#32) h h0 : FVec Ideal ⟨1, ![n]⟩ .f32) fun r => ∑ c ∈ Finset.range m, f r c := fun x => by
  refine (Ideal.hostReduceAdd_r2_a1 h v (Ideal.ofBits .f32 0x00000000#32) x).trans ?_
  refine (congrArg (· + _) (Ideal.ofBits_zero .f32)).trans ((zero_add _).trans ?_)
  refine (Finset.sum_congr rfl fun k _ => hv _).trans ?_
  exact (Finset.sum_range (fun k => f (x 0).val k)).symm

theorem E2.hostCols (v : FVec Ideal ⟨2, ![n, m]⟩ .f32) (h : (⟨2, ![n, m]⟩ : Shape).ReducesTo [0] ⟨1, ![m]⟩) (h0 : 0 < (⟨0, ![]⟩ : Shape).numel) (hv : E2 v f) :
    E1 (Host.reduceAdd v (constant (F := Ideal) ⟨0, ![]⟩ .f32 0x00000000#32) h h0 : FVec Ideal ⟨1, ![m]⟩ .f32) fun c => ∑ r ∈ Finset.range n, f r c := fun x => by
  refine (Ideal.hostReduceAdd_r2_a0 h v (Ideal.ofBits .f32 0x00000000#32) x).trans ?_
  refine (congrArg (· + _) (Ideal.ofBits_zero .f32)).trans ((zero_add _).trans ?_)
  refine (Finset.sum_congr rfl fun k _ => hv _).trans ?_
  exact (Finset.sum_range (fun k => f k (x 0).val)).symm

theorem E2.hostDiv (v w : FVec Ideal ⟨2, ![n, m]⟩ .f32) (hv : E2 v f) (hw : E2 w g) : E2 (Host.divf v w) fun r c => Ideal.div (f r c) (g r c) :=
  fun x => congrArg₂ Ideal.div (hv x) (hw x)

theorem E2.hostMean (v w : FVec Ideal ⟨2, ![n, m]⟩ .f32) (hv : E2 v f) (hw : E2 w fun _ _ => ((2048 : ℝ) : EReal)) : E2 (Host.divf v w) fun r c => f r c * part2048 := fun x => by
  show Ideal.div (v x) (w x) = _
  rw [hv x, hw x, Ideal.div_coe (by norm_num)]

theorem E2.hostRsqrt (v : FVec Ideal ⟨2, ![n, m]⟩ .f32) (hv : E2 v f) : E2 (Host.rsqrt v) fun r c => Ideal.rsqrt (f r c) := fun x => congrArg Ideal.rsqrt (hv x)

theorem E2.hostConst (b : BitVec 32) (r : EReal) (hb : Ideal.ofBits .f32 b = r) (h : (⟨0, ![]⟩ : Shape).BroadcastsInDim ⟨2, ![n, m]⟩ ![]) :
    E2 (broadcastInDim (⟨2, ![n, m]⟩ : Shape) ![] h (constant (F := Ideal) ⟨0, ![]⟩ .f32 b)) fun _ _ => r := fun _ => hb

theorem E2.hostCol (v : FVec Ideal ⟨2, ![n, 1]⟩ .f32) (h : (⟨2, ![n, 1]⟩ : Shape).BroadcastsInDim ⟨2, ![n, m]⟩ ![0, 1]) (hn : n ≠ 1) (hv : E2 v f) :
    E2 (broadcastInDim (⟨2, ![n, m]⟩ : Shape) ![0, 1] h v) fun r _ => f r 0 := fun x => by
  refine (hv _).trans ?_
  have h0 : ¬ (⟨2, ![n, 1]⟩ : Shape).size 0 = 1 := hn
  have h1 : (⟨2, ![n, 1]⟩ : Shape).size 1 = 1 := rfl
  rw [dif_neg h0, dif_pos h1]
  rfl

theorem E2.hostRow (v : FVec Ideal ⟨2, ![1, m]⟩ .f32) (h : (⟨2, ![1, m]⟩ : Shape).BroadcastsInDim ⟨2, ![n, m]⟩ ![0, 1]) (hm : m ≠ 1) (hv : E2 v f) :
    E2 (broadcastInDim (⟨2, ![n, m]⟩ : Shape) ![0, 1] h v) fun _ c => f 0 c := fun x => by
  refine (hv _).trans ?_
  have h0 : (⟨2, ![1, m]⟩ : Shape).size 0 = 1 := rfl
  have h1 : ¬ (⟨2, ![1, m]⟩ : Shape).size 1 = 1 := hm
  rw [dif_pos h0, dif_neg h1]
  rfl

theorem E1.hostSpread (v : FVec Ideal ⟨1, ![n]⟩ .f32) (h : (⟨1, ![n]⟩ : Shape).BroadcastsInDim ⟨2, ![n, m]⟩ ![0]) (hn : n ≠ 1) (hv : E1 v p) :
    E2 (broadcastInDim (⟨2, ![n, m]⟩ : Shape) ![0] h v) fun r _ => p r := fun x => by
  refine (hv _).trans ?_
  have h0 : ¬ (⟨1, ![n]⟩ : Shape).size 0 = 1 := hn
  rw [dif_neg h0]
  rfl

theorem E1.upright (v : FVec Ideal ⟨1, ![n]⟩ .f32) (h : Shape.ShapeCasts (⟨1, ![n]⟩ : Shape) ⟨2, ![n, 1]⟩) (hv : E1 v p) :
    E2 (shapeCast (⟨2, ![n, 1]⟩ : Shape) v h) fun r _ => p r := fun x => by
  have h1 : (x 1).val < 1 := (x 1).isLt
  refine (congrArg v (Shape.reshapeEquiv_eq_of_vals _ _ (ValueIdx.ix1 (x 0)) _ _ (rowMajor_val1 _) (rowMajor_val2 _ 1 rfl) ?_)).trans (hv _)
  show (x 0).val = (x 0).val * 1 + (x 1).val
  omega

theorem E1.level (v : FVec Ideal ⟨1, ![m]⟩ .f32) (h : Shape.ShapeCasts (⟨1, ![m]⟩ : Shape) ⟨2, ![1, m]⟩) (hv : E1 v p) :
    E2 (shapeCast (⟨2, ![1, m]⟩ : Shape) v h) fun _ c => p c := fun x => by
  have h0 : (x 0).val < 1 := (x 0).isLt
  refine (congrArg v (Shape.reshapeEquiv_eq_of_vals _ _ (ValueIdx.ix1 (x 1)) _ _ (rowMajor_val1 _) (rowMajor_val2 _ m rfl) ?_)).trans (hv _)
  show (x 1).val = (x 0).val * m + (x 1).val
  rw [show (x 0).val = 0 by omega, zero_mul, zero_add]

end

/-- A row's mean square, and the factor that normalizes the row. -/
def msq (x : ℕ → ℕ → EReal) (s : ℕ) : EReal := (∑ d ∈ Finset.range 2048, x s d * x s d) * part2048 + ((eps : ℝ) : EReal)
def fac (x : ℕ → ℕ → EReal) (s : ℕ) : EReal := Ideal.rsqrt (msq x s)

theorem sq_nonneg (y : EReal) : 0 ≤ y * y := EReal.mul_nonneg_iff.mpr ((le_total 0 y).imp (fun h => ⟨h, h⟩) fun h => ⟨h, h⟩)

/-- A mean square is a positive number, or infinite. -/
theorem msq_cases (x : ℕ → ℕ → EReal) (s : ℕ) : msq x s = ⊤ ∨ ∃ w : ℝ, 0 < w ∧ msq x s = (w : EReal) := by
  have h : 0 ≤ (∑ d ∈ Finset.range 2048, x s d * x s d) * part2048 :=
    EReal.mul_nonneg (Finset.sum_nonneg fun _ _ => sq_nonneg _) (EReal.coe_nonneg.mpr (by norm_num))
  unfold msq
  generalize (∑ d ∈ Finset.range 2048, x s d * x s d) * part2048 = y at h ⊢
  induction y with
  | bot => exact absurd h (by simp)
  | top => exact .inl (EReal.top_add_coe _)
  | coe r => exact .inr ⟨r + eps, add_pos_of_nonneg_of_pos (EReal.coe_nonneg.mp h) eps_pos, (EReal.coe_add _ _).symm⟩

/-- A nonnegative number goes into a sum. -/
theorem mul_sum_coe (r : ℝ) (hr : 0 ≤ r) (n : ℕ) (f : ℕ → EReal) : (r : EReal) * ∑ i ∈ Finset.range n, f i = ∑ i ∈ Finset.range n, (r : EReal) * f i := by
  induction n with
  | zero => simp
  | succ n ih => rw [Finset.sum_range_succ, Finset.sum_range_succ, EReal.left_distrib_of_nonneg_of_ne_top (EReal.coe_nonneg.mpr hr) (EReal.coe_ne_top r), ih]

/-- Twice a negative multiple. -/
theorem twice_neg (k : ℝ) (hk : k < 0) (y : EReal) : (k : EReal) * y + (k : EReal) * y = ((2 * k : ℝ) : EReal) * y := by
  have h2 : 2 * k < 0 := by linarith
  induction y with
  | bot => rw [EReal.coe_mul_bot_of_neg hk, EReal.coe_mul_bot_of_neg h2]; rfl
  | top => rw [EReal.coe_mul_top_of_neg hk, EReal.coe_mul_top_of_neg h2]; rfl
  | coe y => rw [← EReal.coe_mul, ← EReal.coe_mul, ← EReal.coe_add]; congr 1; ring

section
variable (v : FVec Ideal ⟨2, ![8192, 2048]⟩ .f32) {x : ℕ → ℕ → EReal} (hv : E2 v x) (hr : (⟨2, ![8192, 2048]⟩ : Shape).ReducesTo [1] ⟨1, ![8192]⟩) (h0 : 0 < (⟨0, ![]⟩ : Shape).numel)
  (hb : (⟨1, ![8192]⟩ : Shape).BroadcastsInDim ⟨2, ![8192, 1]⟩ ![0]) (hc : (⟨0, ![]⟩ : Shape).BroadcastsInDim ⟨2, ![8192, 1]⟩ ![])

/-- The rows' mean squares as the host computes them. -/
abbrev hostMsq : FVec Ideal ⟨2, ![8192, 1]⟩ .f32 :=
  addf (Host.divf (broadcastInDim ⟨2, ![8192, 1]⟩ ![0] hb (Host.reduceAdd (mulf v v) (constant (F := Ideal) ⟨0, ![]⟩ .f32 0x00000000#32) hr h0))
    (broadcastInDim ⟨2, ![8192, 1]⟩ ![] hc (constant (F := Ideal) ⟨0, ![]⟩ .f32 0x45000000#32))) (broadcastInDim ⟨2, ![8192, 1]⟩ ![] hc (constant (F := Ideal) ⟨0, ![]⟩ .f32 0x358637BD#32))

include hv

theorem hostMsq_val : E2 (hostMsq v hr h0 hb hc) fun s _ => msq x s :=
  E2.add (φ := .f32) _ _ (E2.hostMean _ _ (E1.hostSpread _ hb (by decide) (E2.hostRows _ hr h0 (E2.mul (φ := .f32) v v hv hv))) (E2.hostConst _ _ bits_2048 hc))
    (E2.hostConst _ _ bits_eps hc)

theorem hostFac_val : E2 (Host.rsqrt (hostMsq v hr h0 hb hc)) fun s _ => fac x s :=
  E2.hostRsqrt _ (hostMsq_val v hv hr h0 hb hc)

end

/-- The gradient through the normalization, as the reference writes it. -/
theorem back_eq (h x b : ℕ → ℕ → EReal) (g : ℕ → EReal) (s d : ℕ) :
    b s d + ((h s d * g d * fac x s + x s d * (∑ _k ∈ Finset.range 1, (∑ e ∈ Finset.range 2048, x s e * (h s e * g e)) * (((-(1 / 2) : ℝ) : EReal) * Ideal.div (fac x s) (msq x s)) * part2048))
      + (∑ _k ∈ Finset.range 1, (∑ e ∈ Finset.range 2048, x s e * (h s e * g e)) * (((-(1 / 2) : ℝ) : EReal) * Ideal.div (fac x s) (msq x s)) * part2048) * x s d) = Cert.Kernel4Ideal.Hand.back h x (fac x) g b s d := by
  unfold Cert.Kernel4Ideal.Hand.back
  rw [Finset.sum_range_one]
  refine congrArg (b s d + ·) ?_
  generalize hS : ∑ e ∈ Finset.range 2048, x s e * (h s e * g e) = S
  rcases msq_cases x s with hm | ⟨w, hw, hm⟩
  · have hf : fac x s = 0 := by unfold fac; rw [hm]; exact Ideal.rsqrt_top
    rw [hf, hm, show Ideal.div 0 ⊤ = 0 by unfold Ideal.div; simp]
    simp
  · obtain ⟨ρ, hρ, hf, hq⟩ : ∃ ρ : ℝ, 0 < ρ ∧ fac x s = (ρ : EReal) ∧ ρ * (1 / w) = ρ * ρ * ρ := by
      refine ⟨(Real.sqrt w)⁻¹, inv_pos.mpr (Real.sqrt_pos.mpr hw), ?_, ?_⟩
      · unfold fac
        rw [hm, Ideal.rsqrt_coe, if_neg (not_lt.mpr hw.le), if_neg hw.ne']
      · rw [mul_assoc, ← mul_inv, Real.mul_self_sqrt hw.le, one_div]
    have e : ∑ e ∈ Finset.range 2048, h s e * g e * (x s e * (ρ : EReal)) = (ρ : EReal) * S := by
      rw [← hS, mul_sum_coe ρ hρ.le]
      exact Finset.sum_congr rfl fun e _ => by rw [mul_comm (h s e * g e), mul_comm (x s e) (ρ : EReal), mul_assoc]
    have hk : -(1 / 2) * (ρ * ρ * ρ) * (1 / 2048) < 0 := by
      have := mul_pos (mul_pos hρ hρ) hρ
      linarith
    have el : S * (((-(1 / 2) : ℝ) : EReal) * Ideal.div (ρ : EReal) (w : EReal)) * part2048 = ((-(1 / 2) * (ρ * ρ * ρ) * (1 / 2048) : ℝ) : EReal) * S := by
      rw [Ideal.div_coe hw.ne', ← EReal.coe_mul ρ, hq, ← EReal.coe_mul, mul_assoc, ← EReal.coe_mul, mul_comm]
    rw [hf, hm, e, el, EReal.mul_sub_of_nonneg_of_ne_top (EReal.coe_nonneg.mpr hρ.le) (EReal.coe_ne_top ρ), sub_eq_add_neg, add_assoc]
    refine congrArg₂ (· + ·) (mul_comm _ _) ?_
    rw [mul_left_comm (x s d), mul_assoc (((_ : ℝ) : EReal)) S, mul_comm S (x s d), twice_neg _ hk]
    have er : (ρ : EReal) * (x s d * (ρ : EReal) * ((ρ : EReal) * S * part2048)) = ((ρ * ρ * ρ * (1 / 2048) : ℝ) : EReal) * (x s d * S) := by
      rw [EReal.coe_mul, EReal.coe_mul, EReal.coe_mul]
      dsimp only [part2048]
      ac_rfl
    rw [er, ← EReal.neg_mul, ← EReal.coe_neg]
    congr 2
    ring

end Cert.Hand

namespace Cert.Kernel4Ideal.Hand

open Cert.Kernel4Ideal Cert.Kernel4Ideal.Gen Cert.Hand Cert.Staged Idealize.ShloMosaic Idealize.ShloMosaic.TcCoe Idealize.SL.Sem

set_option maxHeartbeats 40000000 in
theorem V_v7 (m : (ℓ : Loc nD τ sig) → Buf (Elt Ideal) ℓ) (c : Dev nD) :
    V m c main_v7 = Host.rsqrt (hostMsq (m ((c.tc : Thread nD τ).loc main_arg4)) reducesTo_S8192x2048_S8192_d1 h_S_ bcast_S8192_S8192x1_0 bcast_S_S8192x1) := by
  dsimp only [V]
  simp only [hostOps0, List.flatten_cons, List.flatten_nil, List.append_nil, List.cons_append, List.nil_append]
  after_results_simp

end Cert.Kernel4Ideal.Hand

namespace Cert.Reference4Ideal.Hand

open Cert.Reference4Ideal Cert.Reference4Ideal.Gen Cert.Hand Cert.Staged Idealize.ShloMosaic Idealize.ShloMosaic.TcCoe Idealize.SL.Sem

/-- One of the reference's two products, over two axes at once. -/
theorem product_val (a : FVec Ideal S8x8192x704 .bf16) (w : FVec Ideal S8x2048x704 .bf16) {p q : ℕ → ℕ → ℕ → EReal}
    (ha : E3 (a := 8) (b := 8192) (c := 704) a p) (hw : E3 (a := 8) (b := 2048) (c := 704) w q) :
    E2 (n := 8192) (m := 2048) (Host.dotGeneral dot_S8x704x8192_S8x2048x704_S8192x2048_01_02_2_1_n_n none
        (transpose S8x704x8192 [0, 2, 1] (extf .f32 a bitsLt_bf16_f32) transposes_S8x8192x704_S8x704x8192_0_2_1) (extf .f32 w bitsLt_bf16_f32) : FVec Ideal S8192x2048 .f32)
      fun s d => ∑ j ∈ Finset.range 8, ∑ n ∈ Finset.range 704, p j s n * q j d n := fun x => by
  refine (Ideal.matmul_apply₂_of dot_S8x704x8192_S8x2048x704_S8192x2048_01_02_2_1_n_n (K₁ := 8) (K₂ := 704) rfl rfl rfl
    (transpose S8x704x8192 [0, 2, 1] (extf .f32 a bitsLt_bf16_f32) transposes_S8x8192x704_S8x704x8192_0_2_1) (extf .f32 w bitsLt_bf16_f32) (fun _ => 0) x
    (fun j n => ValueIdx.ix3 j n (x 0)) (fun j n => ValueIdx.ix3 j (x 1) n) (fun j n => funext fun d => by fin_cases d <;> rfl) (fun j n => funext fun d => by fin_cases d <;> rfl)).trans ?_
  refine (zero_add _).trans ?_
  refine (Finset.sum_congr rfl fun j _ => (Finset.sum_congr rfl fun n _ => ?_).trans (Finset.sum_range (fun n => p j.val (x 0).val n * q j.val (x 1).val n)).symm).trans
    (Finset.sum_range (fun j => ∑ n ∈ Finset.range 704, p j (x 0).val n * q j (x 1).val n)).symm
  refine congrArg₂ (· * ·) ?_ (hw (ValueIdx.ix3 j (x 1) n))
  exact (congrArg a (show Shape.Transposes.src transposes_S8x8192x704_S8x704x8192_0_2_1 (ValueIdx.ix3 j n (x 0)) = ValueIdx.ix3 j (x 0) n from funext fun d => by fin_cases d <;> rfl)).trans
    (ha (ValueIdx.ix3 j (x 0) n))

section
variable {m : (ℓ : Loc nD τ sig) → Buf (Elt Ideal) ℓ} {c : Dev nD} {dg du wg wu : ℕ → ℕ → ℕ → EReal} {x b : ℕ → ℕ → EReal} {g : ℕ → EReal}
  (v0 : FVec Ideal S8x8192x704 .bf16) (v1 : FVec Ideal S8x8192x704 .bf16) (v2 v3 : FVec Ideal S8x2048x704 .bf16) (v4 : FVec Ideal S8192x2048 .f32) (v5 : FVec Ideal S1x2048 .f32) (v6 : FVec Ideal S8192x2048 .f32)
  (a0 : E3 (a := 8) (b := 8192) (c := 704) v0 dg) (a1 : E3 (a := 8) (b := 8192) (c := 704) v1 du) (a2 : E3 (a := 8) (b := 2048) (c := 704) v2 wg)
  (a3 : E3 (a := 8) (b := 2048) (c := 704) v3 wu) (a4 : E2 (n := 8192) (m := 2048) v4 x) (a5 : E2 (n := 1) (m := 2048) v5 fun _ d => g d) (a6 : E2 (n := 8192) (m := 2048) v6 b)

/-- The reference's hidden gradient. -/
abbrev hidR : FVec Ideal S8192x2048 .f32 :=
  addf (Host.dotGeneral dot_S8x704x8192_S8x2048x704_S8192x2048_01_02_2_1_n_n none (transpose S8x704x8192 [0, 2, 1] (extf .f32 v1 bitsLt_bf16_f32) transposes_S8x8192x704_S8x704x8192_0_2_1) (extf .f32 v3 bitsLt_bf16_f32))
    (Host.dotGeneral dot_S8x704x8192_S8x2048x704_S8192x2048_01_02_2_1_n_n none (transpose S8x704x8192 [0, 2, 1] (extf .f32 v0 bitsLt_bf16_f32) transposes_S8x8192x704_S8x704x8192_0_2_1) (extf .f32 v2 bitsLt_bf16_f32))

abbrev facR : FVec Ideal S8192x1 .f32 := Host.rsqrt (hostMsq v4 reducesTo_S8192x2048_S8192_d1 h_S_ bcast_S8192_S8192x1_0 bcast_S_S8192x1)
abbrev gained : FVec Ideal S8192x2048 .f32 := mulf (hidR v0 v1 v2 v3) (broadcastInDim S8192x2048 ![0, 1] bcast_S1x2048_S8192x2048_0_1 v5)

/-- The part of a row's gradient that its mean square passes on. -/
abbrev share : FVec Ideal S8192x2048 .f32 :=
  broadcastInDim S8192x2048 ![0] bcast_S8192_S8192x2048_0 (Host.reduceAdd (Host.divf (mulf (shapeCast S8192x1 (Host.reduceAdd (mulf v4 (gained v0 v1 v2 v3 v5)) (constant S_ .f32 0x00000000#32)
      reducesTo_S8192x2048_S8192_d1 h_S_) shapeCasts_S8192_S8192x1) (mulf (broadcastInDim S8192x1 ![] bcast_S_S8192x1 (constant S_ .f32 0xBF000000#32))
      (Host.divf (facR v4) (hostMsq v4 reducesTo_S8192x2048_S8192_d1 h_S_ bcast_S8192_S8192x1_0 bcast_S_S8192x1))))
    (broadcastInDim S8192x1 ![] bcast_S_S8192x1 (constant S_ .f32 0x45000000#32))) (constant S_ .f32 0x00000000#32) reducesTo_S8192x1_S8192_d1 h_S_)

abbrev inputR : FVec Ideal S8192x2048 .f32 :=
  addf v6 (addf (addf (mulf (gained v0 v1 v2 v3 v5) (broadcastInDim S8192x2048 ![0, 1] bcast_S8192x1_S8192x2048_0_1 (facR v4))) (mulf v4 (share v0 v1 v2 v3 v4 v5))) (mulf (share v0 v1 v2 v3 v4 v5) v4))

abbrev gainR : FVec Ideal S1x2048 .f32 :=
  shapeCast S1x2048 (Host.reduceAdd (mulf (mulf v4 (broadcastInDim S8192x2048 ![0, 1] bcast_S8192x1_S8192x2048_0_1 (facR v4))) (hidR v0 v1 v2 v3)) (constant S_ .f32 0x00000000#32)
    reducesTo_S8192x2048_S2048_d0 h_S_) shapeCasts_S2048_S1x2048

include a0 a1 a2 a3

theorem hidR_val : E2 (n := 8192) (m := 2048) (hidR v0 v1 v2 v3) (Cert.Kernel4Ideal.Hand.hid dg du wg wu 8) :=
  E2.congr (E2.add (φ := .f32) _ _ (product_val v1 v3 a1 a3) (product_val v0 v2 a0 a2)) fun s _ d _ => (add_comm _ _).trans Finset.sum_add_distrib.symm

include a4

theorem gainR_val : E2 (n := 1) (m := 2048) (gainR v0 v1 v2 v3 v4) fun _ d => ∑ s ∈ Finset.range 8192, Cert.Kernel4Ideal.Hand.hid dg du wg wu 8 s d * (x s d * fac x s) :=
  E2.congr (E1.level _ shapeCasts_S2048_S1x2048 (E2.hostCols _ reducesTo_S8192x2048_S2048_d0 h_S_ (E2.mul (φ := .f32) _ _ (E2.mul (φ := .f32) v4 _ a4
    (E2.hostCol _ bcast_S8192x1_S8192x2048_0_1 (by decide) (hostFac_val v4 a4 _ _ _ _))) (hidR_val v0 v1 v2 v3 a0 a1 a2 a3)))) fun _ _ d _ => Finset.sum_congr rfl fun _ _ => mul_comm _ _

include a5

theorem gained_val : E2 (n := 8192) (m := 2048) (gained v0 v1 v2 v3 v5) fun s d => Cert.Kernel4Ideal.Hand.hid dg du wg wu 8 s d * g d :=
  E2.mul (φ := .f32) _ _ (hidR_val v0 v1 v2 v3 a0 a1 a2 a3) (E2.hostRow _ bcast_S1x2048_S8192x2048_0_1 (by decide) a5)

theorem share_val : E2 (n := 8192) (m := 2048) (share v0 v1 v2 v3 v4 v5) fun s _ =>
    ∑ _k ∈ Finset.range 1, (∑ e ∈ Finset.range 2048, x s e * (Cert.Kernel4Ideal.Hand.hid dg du wg wu 8 s e * g e)) * (((-(1 / 2) : ℝ) : EReal) * Ideal.div (fac x s) (msq x s)) * part2048 :=
  E1.hostSpread _ bcast_S8192_S8192x2048_0 (by decide) (E2.hostRows _ reducesTo_S8192x1_S8192_d1 h_S_ (E2.hostMean _ _ (E2.mul (φ := .f32) _ _
    (E1.upright _ shapeCasts_S8192_S8192x1 (E2.hostRows _ reducesTo_S8192x2048_S8192_d1 h_S_ (E2.mul (φ := .f32) v4 _ a4 (gained_val v0 v1 v2 v3 v4 v5 a0 a1 a2 a3 a4 a5))))
    (E2.mul (φ := .f32) _ _ (E2.hostConst _ _ bits_neg_half bcast_S_S8192x1) (E2.hostDiv _ _ (hostFac_val v4 a4 _ _ _ _) (hostMsq_val v4 a4 _ _ _ _))))
    (E2.hostConst _ _ bits_2048 bcast_S_S8192x1)))

include a6

theorem inputR_val : E2 (n := 8192) (m := 2048) (inputR v0 v1 v2 v3 v4 v5 v6) (Cert.Kernel4Ideal.Hand.back (Cert.Kernel4Ideal.Hand.hid dg du wg wu 8) x (fac x) g b) := by
  have hs := share_val v0 v1 v2 v3 v4 v5 a0 a1 a2 a3 a4 a5
  exact E2.congr (E2.add (φ := .f32) _ _ a6 (E2.add (φ := .f32) _ _ (E2.add (φ := .f32) _ _ (E2.mul (φ := .f32) _ _ (gained_val v0 v1 v2 v3 v4 v5 a0 a1 a2 a3 a4 a5)
    (E2.hostCol _ bcast_S8192x1_S8192x2048_0_1 (by decide) (hostFac_val v4 a4 _ _ _ _))) (E2.mul (φ := .f32) v4 _ a4 hs)) (E2.mul (φ := .f32) _ v4 hs a4)))
    fun s _ d _ => back_eq _ x b g s d

end

end Cert.Reference4Ideal.Hand

end
-- ==== Proof.Layer.lean ====
/-
  The claims of the gradient of the layer's input: its frames, and that over the extended reals the kernel's three arrays are the
  reference's.
-/
module

public import proofs.«01_k».proof.Defs
public import proofs.«01_k».proof.Proof.Gen.Kernel4
public import proofs.«01_k».proof.Proof.Further
public import proofs.«01_k».proof.Proof.Norm

@[expose] public section

set_option maxRecDepth 16384

noncomputable section

namespace Cert.Proof

open Idealize.ShloMosaic Idealize.SL.Sem Cert.Staged Cert.Hand

theorem E3.via {a b c : ℕ} {v w : (⟨3, ![a, b, c]⟩ : Shape).Idx → EReal} {f : ℕ → ℕ → ℕ → EReal} (e : w = v) (h : E3 v f) : E3 w f := by rw [e]; exact h
theorem E2.via {n k : ℕ} {v w : (⟨2, ![n, k]⟩ : Shape).Idx → EReal} {f : ℕ → ℕ → EReal} (e : w = v) (h : E2 v f) : E2 w f := by rw [e]; exact h

/-- The two printings of the program have the same bodies. -/
theorem bodies4 {F : FTy → Type} [FloatOps F] : @Cert.Kernel4.defs F _ _ = @Cert.Kernel4Ideal.defs F _ _ :=
  congrArg (Pipeline.defs (Cert.Kernel4Ideal.pcfgs (F := F))) (congrArg Defs.onTc (funext fun l => match l with | 0 => rfl))

theorem frame_kernel4 : Cert.quiescent_Kernel4 := fun m ρ _ => by
  rw [bodies4]
  exact Cert.Kernel4Ideal.Gen.frame (F := Bits) m ρ

theorem frame_kernel4_ideal : Cert.quiescent_Kernel4Ideal := fun m ρ _ => Cert.Kernel4Ideal.Gen.frame (F := Ideal) m ρ

theorem frame_reference4_ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem algebraic4 : Cert.algebraic_Kernel4Ideal_Reference4Ideal := fun m g m' g' _ hargs => by
  have r0 : ∀ c : Dev Cert.Kernel4Ideal.nD, E3 (a := 8) (b := 8192) (c := 704) (m ((c.tc : Thread Cert.Kernel4Ideal.nD Cert.Kernel4Ideal.τ).loc Cert.Kernel4Ideal.main_arg0)) (num3 (m ((c.tc : Thread Cert.Kernel4Ideal.nD Cert.Kernel4Ideal.τ).loc Cert.Kernel4Ideal.main_arg0))) := fun c => num3_val _
  have r1 : ∀ c : Dev Cert.Kernel4Ideal.nD, E3 (a := 8) (b := 8192) (c := 704) (m ((c.tc : Thread Cert.Kernel4Ideal.nD Cert.Kernel4Ideal.τ).loc Cert.Kernel4Ideal.main_arg1)) (num3 (m ((c.tc : Thread Cert.Kernel4Ideal.nD Cert.Kernel4Ideal.τ).loc Cert.Kernel4Ideal.main_arg1))) := fun c => num3_val _
  have r2 : ∀ c : Dev Cert.Kernel4Ideal.nD, E3 (a := 8) (b := 2048) (c := 704) (m ((c.tc : Thread Cert.Kernel4Ideal.nD Cert.Kernel4Ideal.τ).loc Cert.Kernel4Ideal.main_arg2)) (num3 (m ((c.tc : Thread Cert.Kernel4Ideal.nD Cert.Kernel4Ideal.τ).loc Cert.Kernel4Ideal.main_arg2))) := fun c => num3_val _
  have r3 : ∀ c : Dev Cert.Kernel4Ideal.nD, E3 (a := 8) (b := 2048) (c := 704) (m ((c.tc : Thread Cert.Kernel4Ideal.nD Cert.Kernel4Ideal.τ).loc Cert.Kernel4Ideal.main_arg3)) (num3 (m ((c.tc : Thread Cert.Kernel4Ideal.nD Cert.Kernel4Ideal.τ).loc Cert.Kernel4Ideal.main_arg3))) := fun c => num3_val _
  have r4 : ∀ c : Dev Cert.Kernel4Ideal.nD, E2 (n := 8192) (m := 2048) (m ((c.tc : Thread Cert.Kernel4Ideal.nD Cert.Kernel4Ideal.τ).loc Cert.Kernel4Ideal.main_arg4)) (num2 (m ((c.tc : Thread Cert.Kernel4Ideal.nD Cert.Kernel4Ideal.τ).loc Cert.Kernel4Ideal.main_arg4))) := fun c => num2_val _
  have q5 : ∀ c : Dev Cert.Kernel4Ideal.nD, E2 (n := 1) (m := 2048) (m ((c.tc : Thread Cert.Kernel4Ideal.nD Cert.Kernel4Ideal.τ).loc Cert.Kernel4Ideal.main_arg5)) (num2 (m ((c.tc : Thread Cert.Kernel4Ideal.nD Cert.Kernel4Ideal.τ).loc Cert.Kernel4Ideal.main_arg5))) := fun c => num2_val _
  have r6 : ∀ c : Dev Cert.Kernel4Ideal.nD, E2 (n := 8192) (m := 2048) (m ((c.tc : Thread Cert.Kernel4Ideal.nD Cert.Kernel4Ideal.τ).loc Cert.Kernel4Ideal.main_arg6)) (num2 (m ((c.tc : Thread Cert.Kernel4Ideal.nD Cert.Kernel4Ideal.τ).loc Cert.Kernel4Ideal.main_arg6))) := fun c => num2_val _
  have r5 := fun c : Dev Cert.Kernel4Ideal.nD => E2.congr (g := fun _ d => num2 (a := 1) (b := 2048) (m ((c.tc : Thread Cert.Kernel4Ideal.nD Cert.Kernel4Ideal.τ).loc Cert.Kernel4Ideal.main_arg5)) 0 d) (q5 c) fun i hi d _ => by rw [show i = 0 by omega]
  have k0 := fun c : Dev Cert.Kernel4Ideal.nD => E3.via (a := 8) (b := 8192) (c := 704) (Cert.Kernel4Ideal.Gen.V_main_arg0 m c) (r0 c)
  have k1 := fun c : Dev Cert.Kernel4Ideal.nD => E3.via (a := 8) (b := 8192) (c := 704) (Cert.Kernel4Ideal.Gen.V_main_arg1 m c) (r1 c)
  have k2 := fun c : Dev Cert.Kernel4Ideal.nD => E3.via (a := 8) (b := 2048) (c := 704) (Cert.Kernel4Ideal.Gen.V_main_arg2 m c) (r2 c)
  have k3 := fun c : Dev Cert.Kernel4Ideal.nD => E3.via (a := 8) (b := 2048) (c := 704) (Cert.Kernel4Ideal.Gen.V_main_arg3 m c) (r3 c)
  have k4 := fun c : Dev Cert.Kernel4Ideal.nD => E2.via (n := 8192) (k := 2048) (Cert.Kernel4Ideal.Gen.V_main_arg4 m c) (r4 c)
  have k5 := fun c : Dev Cert.Kernel4Ideal.nD => E2.via (n := 1) (k := 2048) (Cert.Kernel4Ideal.Gen.V_main_arg5 m c) (r5 c)
  have k6 := fun c : Dev Cert.Kernel4Ideal.nD => E2.via (n := 8192) (k := 2048) (Cert.Kernel4Ideal.Gen.V_main_arg6 m c) (r6 c)
  have k7 := fun c : Dev Cert.Kernel4Ideal.nD => E2.via (n := 8192) (k := 1) (Cert.Kernel4Ideal.Hand.V_v7 m c) (hostFac_val _ (r4 c) _ _ _ _)
  refine ⟨fun c => Cert.Kernel4Ideal.Value.G8 m c, fun c => Cert.Kernel4Ideal.Value.G9 m c, fun c => Cert.Kernel4Ideal.Value.G10 m c, Cert.Kernel4Ideal.Value.run (F := Ideal) m g, ?_⟩
  refine (θ_run Cert.Reference4Ideal.defs _ _).mono (fun r h c => ?_) (Cert.Reference4Ideal.Value.run (F := Ideal) m' g')
  obtain ⟨e0, e1, e2, k⟩ := h c
  have hi := Cert.Reference4Ideal.Hand.inputR_val _ _ _ _ _ _ _ (r0 c) (r1 c) (r2 c) (r3 c) (r4 c) (r5 c) (r6 c)
  have hg := Cert.Reference4Ideal.Hand.gainR_val _ _ _ _ _ (r0 c) (r1 c) (r2 c) (r3 c) (r4 c)
  obtain ⟨h0, h1, h2, h3, h4, h5, h6⟩ := hargs c
  dsimp only [Cert.Reference4Ideal.Value.res_main_v47] at e0
  dsimp only [Cert.Reference4Ideal.Value.res_main_v48] at e1
  rw [h0, h1, h2, h3, h4, h5, h6] at e0
  rw [h0, h1, h2, h3, h4, h5, h6] at e1
  rw [h0, h1, h2, h3, h4] at e2
  refine ⟨e0.trans (funext fun x => (hi x).trans (Cert.Kernel4Ideal.Hand.wide_end (k0 c) (k1 c) (k2 c) (k3 c) (k4 c) (k7 c) (k5 c) (k6 c) x).symm),
    e1.trans (funext fun x => (hi x).trans (Cert.Kernel4Ideal.Hand.narrow_end (k0 c) (k1 c) (k2 c) (k3 c) (k4 c) (k7 c) (k5 c) (k6 c) x).symm),
    e2.trans (funext fun x => (hg x).trans (Cert.Kernel4Ideal.Hand.gain_end (k0 c) (k1 c) (k2 c) (k3 c) (k4 c) (k7 c) x).symm), k⟩

end Cert.Proof

end
-- ==== Proof.Down.lean ====
/-
  The channel mixer's last product: the kernel starts an output block from the rows carried past the mixer and adds the
  products of the eight blocks of the hidden layer to it, one point of the grid after another.
-/
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Layer

@[expose] public section

set_option maxRecDepth 16384

noncomputable section

namespace Cert.Kernel6Ideal.Hand

open Cert.Kernel6Ideal Cert.Kernel6Ideal.Gen Cert.Hand Idealize.ShloMosaic Idealize.ShloMosaic.TcCoe Idealize.SL.Sem
open Idealize.ShloMosaic.Pipeline (Dat)

/-! ## What a point leaves -/

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1x1024x704 .bf16) (h2 : a2.IsWhole) (a3 : Memref sig .tc .vmem S1x704x2048 .bf16) (h3 : a3.IsWhole)
  (a4 : Memref sig .tc .vmem S1024x2048 .f32) (h4 : a4.IsWhole) (a5 : Memref sig .tc .vmem S1024x2048 .f32) (h5 : a5.IsWhole) (a6 : Memref sig .tc .vmem S1024x2048 .f32) (h6 : a6.IsWhole)
  (x0 : Vec F S1x1024x704 .bf16) (x1 : Vec F S1x704x2048 .bf16) (x2 xo : Vec F S1024x2048 .f32)

theorem out_A (hc0 : cond0_0 i) : out0_A_3 c i a2 h2 a3 h3 a4 h4 a5 h5 a6 h6 hc0 x0 x1 x2 = k0_pay1 x0 x1 x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_cons_unit_zero (S := S1024x2048) hz2, View.readCov_unit_zero (S := S1024x2048) _ hz2]
  simp only [View.readAt_eq_ld, h2.read_unread, h3.read_unread, h4.read_unread, View.ld_unit_zero (S := S1x1024x704) hz3, View.ld_unit_zero (S := S1x704x2048) hz3,
    View.ld_unit_zero (S := S1024x2048) hz2]

theorem out_B (hc0 : ¬cond0_0 i) : out0_B_3 c i a2 h2 a3 h3 a4 h4 a5 h5 a6 h6 hc0 x0 x1 x2 xo = k0_pay1 x0 x1 xo := by
  unfold out0_B_3
  rw [View.read_writes_eq_canon _ _ _ (cover0_B_3 c i a2 h2 a3 h3 a4 h4 a5 h5 a6 h6 hc0 x0 x1 x2 xo)]
  unfold kernelRun0_B
  dsimp only
  rw [View.canon_unit_zero (S := S1024x2048) hz2]
  simp only [View.readAt_eq_ld, h2.read_unread, h3.read_unread, h5.read_unread, View.ld_unit_zero (S := S1x1024x704) hz3, View.ld_unit_zero (S := S1x704x2048) hz3,
    View.ld_unit_zero (S := S1024x2048) hz2]

end

/-! ## Its entries -/

theorem pay_val {p q r : ℕ → ℕ → EReal} (v3 : Vec Ideal S1x1024x704 .bf16) (v5 : Vec Ideal S1x704x2048 .bf16) (v8 : Vec Ideal S1024x2048 .f32)
    (e3 : E3 (a := 1) (b := 1024) (c := 704) v3 fun _ => p) (e5 : E3 (a := 1) (b := 704) (c := 2048) v5 fun _ => q) (e8 : E2 (n := 1024) (m := 2048) v8 r) :
    E2 (n := 1024) (m := 2048) (k0_pay1 v3 v5 v8) fun s d => r s d + ∑ n ∈ Finset.range 704, p s n * q n d := by
  refine E2.add (φ := .f32) _ _ (E2.same (φ := .f32) v8 shapeCasts_S1024x2048_S1024x2048 e8) fun x => ?_
  refine (Ideal.matmul_apply₁_of dot_S1024x704_S704x2048_S1024x2048_1_0_0_1_n_n (K := 704) rfl rfl (shapeCast S1024x704 v3 shapeCasts_S1x1024x704_S1024x704)
    (shapeCast S704x2048 v5 shapeCasts_S1x704x2048_S704x2048) _ x
    (fun n => ValueIdx.ix2 (x 0) n) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (E3.drop (φ := .bf16) v3 shapeCasts_S1x1024x704_S1024x704 e3 _) (E3.drop (φ := .bf16) v5 shapeCasts_S1x704x2048_S704x2048 e5 _)).trans
    (Finset.sum_range (fun n => p (x 0).val n * q n (x 1).val)).symm

/-! ## The sum over the points -/

section
variable (m : (ℓ : Loc nD τ sig) → Buf (Elt Ideal) ℓ) (c : Dev nD)

/-- The three arguments' entries. -/
abbrev A : ℕ → ℕ → ℕ → EReal := num3 (a := 8) (b := 8192) (c := 704) (m ((c.tc : Thread nD τ).loc main_arg0))
abbrev W : ℕ → ℕ → ℕ → EReal := num3 (a := 8) (b := 704) (c := 2048) (m ((c.tc : Thread nD τ).loc main_arg1))
abbrev X : ℕ → ℕ → EReal := num2 (a := 8192) (b := 2048) (m ((c.tc : Thread nD τ).loc main_arg2))

theorem idx_all : ∀ t : Fin cfg0.N, win0_0.index t = ![t.val % 8, t.val / 8, 0] ∧ win0_1.index t = ![t.val % 8, 0, 0] ∧ win0_2.index t = ![t.val / 8, 0] ∧ win0_3.index t = ![t.val / 8, 0] := by
  decide +kernel

theorem block0 (t : Fin cfg0.N) : E3 (a := 1) (b := 1024) (c := 704) (iblk m c 0 t : Vec Ideal S1x1024x704 .bf16) fun _ s n => A m c (t.val % 8) (1024 * (t.val / 8) + s) n := fun x => by
  have h0 : (x 0).val < 1 := (x 0).isLt
  have e0 : (((win0_0.rect t).emb x) 0).val = t.val % 8 := by
    rw [win0_0.rect_emb_val t x 0, (idx_all t).1]; show t.val % 8 * 1 + (x 0).val = _; omega
  have e1 : (((win0_0.rect t).emb x) 1).val = 1024 * (t.val / 8) + (x 1).val := by
    rw [win0_0.rect_emb_val t x 1, (idx_all t).1]; show t.val / 8 * 1024 + _ = _; omega
  have e2 : (((win0_0.rect t).emb x) 2).val = (x 2).val := by
    rw [win0_0.rect_emb_val t x 2, (idx_all t).1]; show 0 * 704 + _ = _; omega
  refine (num3_val (a := 8) (b := 8192) (c := 704) (m ((c.tc : Thread nD τ).loc main_arg0)) ((win0_0.rect t).emb x)).trans ?_
  rw [e0, e1, e2]

theorem block1 (t : Fin cfg0.N) : E3 (a := 1) (b := 704) (c := 2048) (iblk m c 1 t : Vec Ideal S1x704x2048 .bf16) fun _ n d => W m c (t.val % 8) n d := fun x => by
  have h0 : (x 0).val < 1 := (x 0).isLt
  have e0 : (((win0_1.rect t).emb x) 0).val = t.val % 8 := by
    rw [win0_1.rect_emb_val t x 0, (idx_all t).2.1]; show t.val % 8 * 1 + (x 0).val = _; omega
  have e1 : (((win0_1.rect t).emb x) 1).val = (x 1).val := by
    rw [win0_1.rect_emb_val t x 1, (idx_all t).2.1]; show 0 * 704 + _ = _; omega
  have e2 : (((win0_1.rect t).emb x) 2).val = (x 2).val := by
    rw [win0_1.rect_emb_val t x 2, (idx_all t).2.1]; show 0 * 2048 + _ = _; omega
  refine (num3_val (a := 8) (b := 704) (c := 2048) (m ((c.tc : Thread nD τ).loc main_arg1)) ((win0_1.rect t).emb x)).trans ?_
  rw [e0, e1, e2]

theorem block2 (t : Fin cfg0.N) : E2 (n := 1024) (m := 2048) (iblk m c 2 t : Vec Ideal S1024x2048 .f32) fun s d => X m c (1024 * (t.val / 8) + s) d := fun x => by
  have e0 : (((win0_2.rect t).emb x) 0).val = 1024 * (t.val / 8) + (x 0).val := by
    rw [win0_2.rect_emb_val t x 0, (idx_all t).2.2.1]; show t.val / 8 * 1024 + _ = _; omega
  have e1 : (((win0_2.rect t).emb x) 1).val = (x 1).val := by
    rw [win0_2.rect_emb_val t x 1, (idx_all t).2.2.1]; show 0 * 2048 + _ = _; omega
  refine (num2_val (a := 8192) (b := 2048) (m ((c.tc : Thread nD τ).loc main_arg2)) ((win0_2.rect t).emb x)).trans ?_
  rw [e0, e1]

/-- The rows carried past the mixer and the products of the first `k` blocks. -/
def below (k s d : ℕ) : EReal := X m c s d + ∑ j ∈ Finset.range k, ∑ n ∈ Finset.range 704, A m c j s n * W m c j n d

theorem step (t : Fin cfg0.N) (v : Vec Ideal S1024x2048 .f32) (hv : E2 (n := 1024) (m := 2048) v fun s d => below m c (t.val % 8) (1024 * (t.val / 8) + s) d) :
    E2 (n := 1024) (m := 2048) (k0_pay1 (iblk m c 0 t) (iblk m c 1 t) v) fun s d => below m c (t.val % 8 + 1) (1024 * (t.val / 8) + s) d :=
  E2.congr (pay_val (p := fun s n => A m c (t.val % 8) (1024 * (t.val / 8) + s) n) (q := fun n d => W m c (t.val % 8) n d) _ _ v (block0 m c t) (block1 m c t) hv) fun s _ d _ => by
    unfold below
    rw [Finset.sum_range_succ _ (t.val % 8), add_assoc]

theorem first (t : Fin cfg0.N) (h : t.val % 8 = 0) : E2 (n := 1024) (m := 2048) (outsAt0 m c t.val t.isLt) fun s d => below m c (t.val % 8 + 1) (1024 * (t.val / 8) + s) d := by
  rw [outsAt0_A m c t h, out_A]
  exact step m c t _ (E2.congr (block2 m c t) fun s _ d _ => by unfold below; rw [h]; simp)

theorem held : ∀ (n : ℕ) (h : n < cfg0.N), E2 (n := 1024) (m := 2048) (outsAt0 m c n h) fun s d => below m c (n % 8 + 1) (1024 * (n / 8) + s) d := by
  intro n
  induction n with
  | zero => exact fun h => first m c ⟨0, h⟩ rfl
  | succ n ih =>
    intro h
    by_cases h0 : (n + 1) % 8 = 0
    · exact first m c ⟨n + 1, h⟩ h0
    · rw [outsAt0_B m c ⟨n + 1, h⟩ h0, out_B]
      refine step m c ⟨n + 1, h⟩ _ (E2.congr (ih (Nat.lt_of_succ_lt h)) fun s _ d _ => ?_)
      show _ = below m c ((n + 1) % 8) (1024 * ((n + 1) / 8) + s) d
      rw [show (n + 1) / 8 = n / 8 by omega, show (n + 1) % 8 = n % 8 + 1 by omega]

/-- The array the kernel ends with. -/
theorem array_end : ∀ i : S8192x2048.Idx, (dats m 0 c).arrAt 3 cfg0.N i = below m c 8 (i 0).val (i 1).val := by
  refine (dats m 0 c).arrAt_forall_of_cover 3 (fun i v => v = below m c 8 (i 0).val (i 1).val) ?_ ?_
  · intro t hfl x
    have h7 : t.val % 8 = 7 := (flush0_3 t).mp hfl
    have e0 : (((win0_3.rect t).emb x) 0).val = 1024 * (t.val / 8) + (x 0).val := by
      rw [win0_3.rect_emb_val t x 0, (idx_all t).2.2.2]; show t.val / 8 * 1024 + _ = _; omega
    have e1 : (((win0_3.rect t).emb x) 1).val = (x 1).val := by
      rw [win0_3.rect_emb_val t x 1, (idx_all t).2.2.2]; show 0 * 2048 + _ = _; omega
    refine (held m c t.val t.isLt x).trans ?_
    show _ = below m c 8 (((win0_3.rect t).emb x) 0).val (((win0_3.rect t).emb x) 1).val
    rw [e0, e1, h7]
  · intro i
    have h0 : (i 0).val < 8192 := (i 0).isLt
    have h1 : (i 1).val < 2048 := (i 1).isLt
    have hN : 8 * ((i 0).val / 1024) + 7 < cfg0.N := by show _ < 64; omega
    refine ⟨⟨8 * ((i 0).val / 1024) + 7, hN⟩, (flush0_3 _).mpr (by show (8 * ((i 0).val / 1024) + 7) % 8 = 7; omega), ?_⟩
    mem_blk [(idx_all ⟨8 * ((i 0).val / 1024) + 7, hN⟩).2.2.2]
    show ((8 * ((i 0).val / 1024) + 7) / 8 * 1024 ≤ (i 0).val ∧ (i 0).val < (8 * ((i 0).val / 1024) + 7) / 8 * 1024 + 1024) ∧ 0 ≤ (i 1).val ∧ (i 1).val < 2048
    omega

end

end Cert.Kernel6Ideal.Hand

namespace Cert.Reference6Ideal.Hand

open Cert.Reference6Ideal Cert.Reference6Ideal.Gen Cert.Hand Idealize.ShloMosaic Idealize.ShloMosaic.TcCoe Idealize.SL.Sem

/-- The reference's product, read at an index. -/
theorem product (a : FVec Ideal S8x8192x704 .bf16) (w : FVec Ideal S8x704x2048 .bf16) (x : S8192x2048.Idx) :
    (Host.dotGeneral dot_S8x8192x704_S8x704x2048_S8192x2048_02_01_1_2_n_n none (extf .f32 a bitsLt_bf16_f32) (extf .f32 w bitsLt_bf16_f32) : FVec Ideal S8192x2048 .f32) x
      = ∑ j ∈ Finset.range 8, ∑ n ∈ Finset.range 704, num3 (a := 8) (b := 8192) (c := 704) a j (x 0).val n * num3 (a := 8) (b := 704) (c := 2048) w j n (x 1).val := by
  refine (Ideal.matmul_apply₂_of dot_S8x8192x704_S8x704x2048_S8192x2048_02_01_1_2_n_n (K₁ := 8) (K₂ := 704) rfl rfl rfl (extf .f32 a bitsLt_bf16_f32) (extf .f32 w bitsLt_bf16_f32) (fun _ => 0) x
    (fun j n => ValueIdx.ix3 j (x 0) n) (fun j n => ValueIdx.ix3 j n (x 1)) (fun j n => funext fun d => by fin_cases d <;> rfl) (fun j n => funext fun d => by fin_cases d <;> rfl)).trans ?_
  refine (zero_add _).trans ?_
  exact (Finset.sum_congr rfl fun j _ => (Finset.sum_congr rfl fun n _ => congrArg₂ (· * ·) (num3_val (a := 8) (b := 8192) (c := 704) a _) (num3_val (a := 8) (b := 704) (c := 2048) w _)).trans
      (Finset.sum_range (fun n => num3 (a := 8) (b := 8192) (c := 704) a j.val (x 0).val n * num3 (a := 8) (b := 704) (c := 2048) w j.val n (x 1).val)).symm).trans
    (Finset.sum_range (fun j => ∑ n ∈ Finset.range 704, num3 (a := 8) (b := 8192) (c := 704) a j (x 0).val n * num3 (a := 8) (b := 704) (c := 2048) w j n (x 1).val)).symm

end Cert.Reference6Ideal.Hand

namespace Cert.Proof

open Idealize.ShloMosaic Idealize.SL.Sem Cert.Staged Cert.Hand

/-- The two printings of the program have the same bodies. -/
theorem bodies6 {F : FTy → Type} [FloatOps F] : @Cert.Kernel6.defs F _ _ = @Cert.Kernel6Ideal.defs F _ _ :=
  congrArg (Pipeline.defs (Cert.Kernel6Ideal.pcfgs (F := F))) (congrArg Defs.onTc (funext fun l => match l with | 0 => rfl))

theorem frame_kernel6 : Cert.quiescent_Kernel6 := fun m ρ _ => by
  rw [bodies6]
  exact Cert.Kernel6Ideal.Gen.frame (F := Bits) m ρ

theorem frame_kernel6_ideal : Cert.quiescent_Kernel6Ideal := fun m ρ _ => Cert.Kernel6Ideal.Gen.frame (F := Ideal) m ρ

theorem frame_reference6_ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := fun m g m' g' _ hargs => by
  refine ⟨fun c => (Cert.Kernel6Ideal.Gen.dats m 0 c).arrAt 3 Cert.Kernel6Ideal.cfg0.N, Cert.Kernel6Ideal.Value.run_blocks (F := Ideal) m g, ?_⟩
  refine (θ_run Cert.Reference6Ideal.defs _ _).mono (fun r h c => ?_) (Cert.Reference6Ideal.Value.run (F := Ideal) m' g')
  obtain ⟨e0, k⟩ := h c
  obtain ⟨h0, h1, h2⟩ := hargs c
  rw [h0, h1, h2] at e0
  exact ⟨e0.trans (funext fun x => (congrArg₂ (· + ·) (num2_val (a := 8192) (b := 2048) _ x) (Cert.Reference6Ideal.Hand.product _ _ x)).trans (Cert.Kernel6Ideal.Hand.array_end m c x).symm), k⟩

end Cert.Proof

end
-- ==== Proof.Blocks.lean ====
/-
  The remaining products of the backward pass, each over all 8192 rows: the gradients of the mixers' first and last
  weights and of the pooling mixer's, which the kernel adds up over four blocks of rows in its scratch, and the gradient
  of the mixers' output, each block of rows of which is one product.
-/
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal.Run
public import proofs.«01_k».proof.Proof.Layer

@[expose] public section

set_option maxRecDepth 16384

noncomputable section

/-! ## The gradient of the mixers' first weights -/

namespace Cert.Kernel7Ideal.Hand

open Cert.Kernel7Ideal Cert.Kernel7Ideal.Gen Cert.Hand Idealize.ShloMosaic Idealize.ShloMosaic.TcCoe Idealize.SL.Sem
open Idealize.ShloMosaic.Pipeline (Dat)

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S2048x2048 .bf16) (h2 : a2.IsWhole) (a3 : Memref sig .tc .vmem S2048x896 .bf16) (h3 : a3.IsWhole)
  (a4 : Memref sig .tc .vmem S1x2048x896 .bf16) (h4 : a4.IsWhole) (a5 : Memref sig .tc .vmem S2048x896 .f32) (h5 : a5.IsWhole)
  (x0 : Vec F S2048x2048 .bf16) (x1 : Vec F S2048x896 .bf16) (xs : Vec F S2048x896 .f32)

theorem left_A (hc0 : cond0_0 i) (hc1 : ¬cond0_1 i) : sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x896) hz2, View.readCov_unit_zero (S := S2048x896) _ hz2]
  simp only [View.readAt_eq_ld, h2.read_unread, h3.read_unread, View.ld_unit_zero (S := S2048x2048) hz2, View.ld_unit_zero (S := S2048x896) hz2]

theorem left_B (hc0 : ¬cond0_0 i) (hc1 : ¬cond0_1 i) : sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S2048x896) hz2]
  simp only [View.readAt_eq_ld, h2.read_unread, h3.read_unread, h5.read_unread, View.ld_unit_zero (S := S2048x2048) hz2, View.ld_unit_zero (S := S2048x896) hz2]

theorem out_C (hc0 : ¬cond0_0 i) (hc1 : cond0_1 i) : out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x2048x896) hz3, View.readCov_unit_zero (S := S2048x896) _ hz2]
  simp only [View.readAt_eq_ld, h2.read_unread, h3.read_unread, h5.read_unread, View.ld_unit_zero (S := S2048x2048) hz2, View.ld_unit_zero (S := S2048x896) hz2]

end

theorem pay1_val (x : S2048x896.Idx) : k0_pay1 (F := Ideal) x = 0 := by
  unfold k0_pay1
  exact (congrFun (shapeCast_self _ _) x).trans (Ideal.ofBits_zero .f32)

theorem pay2_val (v3 : Vec Ideal S2048x2048 .bf16) (v4 : Vec Ideal S2048x896 .bf16) (v6 : Vec Ideal S2048x896 .f32) {f g : ℕ → ℕ → EReal}
    (e3 : E2 (n := 2048) (m := 2048) v3 f) (e4 : E2 (n := 2048) (m := 896) v4 g) (x : S2048x896.Idx) :
    k0_pay2 v3 v4 v6 x = v6 x + ∑ n ∈ Finset.range 2048, f n (x 0).val * g n (x 1).val := by
  unfold k0_pay2
  refine (congrFun (shapeCast_self _ _) x).trans (congrArg (v6 x + ·) ?_)
  refine (Ideal.matmul_apply₁_of dot_S2048x2048_S2048x896_S2048x896_0_0_1_1_n_n (K := 2048) rfl rfl v3 v4 _ x
    (fun n => ValueIdx.ix2 n (x 0)) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (e3 _) (e4 _)).trans (Finset.sum_range (fun n => f n (x 0).val * g n (x 1).val)).symm

theorem pay3_val (v : Vec Ideal S2048x896 .f32) (x : S1x2048x896.Idx) : k0_pay3 v x = v (ValueIdx.ix2 (x 1) (x 2)) := by
  unfold k0_pay3
  have h0 : (x 0).val < 1 := (x 0).isLt
  refine congrArg v (Shape.reshapeEquiv_eq_of_vals _ _ (ValueIdx.ix2 (x 1) (x 2)) _ _ (rowMajor_val2 _ 896 rfl) (rowMajor_val3 _ 1835008 896 rfl rfl) ?_)
  show (x 1).val * 896 + (x 2).val = (x 0).val * 1835008 + (x 1).val * 896 + (x 2).val
  omega

variable (m : (ℓ : Loc nD τ sig) → Buf (Elt Ideal) ℓ) (c : Dev nD)

/-- The two arguments' entries. -/
abbrev A : ℕ → ℕ → EReal := num2 (a := 8192) (b := 2048) (m ((c.tc : Thread nD τ).loc main_arg0))
abbrev D : ℕ → ℕ → EReal := num2 (a := 8192) (b := 7168) (m ((c.tc : Thread nD τ).loc main_arg1))

theorem idx_all : ∀ t : Fin cfg0.N, win0_0.index t = ![t.val % 4, 0] ∧ win0_1.index t = ![t.val % 4, t.val / 4] := by
  decide +kernel

theorem block0 (t : Fin cfg0.N) : E2 (n := 2048) (m := 2048) (iblk m c 0 t : Vec Ideal S2048x2048 .bf16) fun s r => A m c (2048 * (t.val % 4) + s) (r) := fun x => by
  have e0 : (((win0_0.rect t).emb x) 0).val = 2048 * (t.val % 4) + (x 0).val := by
    rw [win0_0.rect_emb_val t x 0, (idx_all t).1]; show t.val % 4 * 2048 + _ = _; omega
  have e1 : (((win0_0.rect t).emb x) 1).val = (x 1).val := by
    rw [win0_0.rect_emb_val t x 1, (idx_all t).1]; show 0 * 2048 + _ = _; omega
  refine (num2_val (a := 8192) (b := 2048) (m ((c.tc : Thread nD τ).loc main_arg0)) ((win0_0.rect t).emb x)).trans ?_
  rw [e0, e1]

theorem block1 (t : Fin cfg0.N) : E2 (n := 2048) (m := 896) (iblk m c 1 t : Vec Ideal S2048x896 .bf16) fun s d => D m c (2048 * (t.val % 4) + s) (896 * (t.val / 4) + d) := fun x => by
  have e0 : (((win0_1.rect t).emb x) 0).val = 2048 * (t.val % 4) + (x 0).val := by
    rw [win0_1.rect_emb_val t x 0, (idx_all t).2]; show t.val % 4 * 2048 + _ = _; omega
  have e1 : (((win0_1.rect t).emb x) 1).val = 896 * (t.val / 4) + (x 1).val := by
    rw [win0_1.rect_emb_val t x 1, (idx_all t).2]; show t.val / 4 * 896 + _ = _; omega
  refine (num2_val (a := 8192) (b := 7168) (m ((c.tc : Thread nD τ).loc main_arg1)) ((win0_1.rect t).emb x)).trans ?_
  rw [e0, e1]

/-- The sum over the first `n` rows. -/
def upto (j n r d : ℕ) : EReal := ∑ i ∈ Finset.range n, A m c i (r) * D m c i (896 * j + d)

theorem upto_add (j n k r d : ℕ) : upto m c j (n + k) r d = upto m c j n r d + ∑ i ∈ Finset.range k, A m c (n + i) (r) * D m c (n + i) (896 * j + d) :=
  Finset.sum_range_add _ n k

theorem step (t : Fin cfg0.N) (v : Vec Ideal S2048x896 .f32) (hv : ∀ x, v x = upto m c (t.val / 4) (2048 * (t.val % 4)) (x 0).val (x 1).val) (x : S2048x896.Idx) :
    k0_pay2 (iblk m c 0 t) (iblk m c 1 t) v x = upto m c (t.val / 4) (2048 * (t.val % 4 + 1)) (x 0).val (x 1).val := by
  refine (pay2_val _ _ v (f := fun s r => A m c (2048 * (t.val % 4) + s) (r)) (g := fun s d => D m c (2048 * (t.val % 4) + s) (896 * (t.val / 4) + d)) (block0 m c t) (block1 m c t) x).trans ?_
  rw [hv x, Nat.mul_add, upto_add]

theorem held : ∀ (n : ℕ) (h : n < cfg0.N) (hn : n % 4 ≠ 3) (x : S2048x896.Idx), (outsAt0 m c n h).2 x = upto m c (n / 4) (2048 * (n % 4 + 1)) (x 0).val (x 1).val := by
  intro n
  induction n with
  | zero =>
    intro h hn x
    rw [outsAt0_A m c ⟨0, h⟩ rfl (by show ¬ 0 % 4 = 3; decide)]
    dsimp only
    rw [left_A]
    exact step m c ⟨0, h⟩ _ (fun x => (pay1_val x).trans (by simp [upto])) x
  | succ n ih =>
    intro h hn x
    by_cases h0 : (n + 1) % 4 = 0
    · rw [outsAt0_A m c ⟨n + 1, h⟩ h0 hn]
      dsimp only
      rw [left_A]
      exact step m c ⟨n + 1, h⟩ _ (fun x => (pay1_val x).trans (by simp [upto, h0])) x
    · rw [outsAt0_B m c ⟨n + 1, h⟩ h0 hn]
      dsimp only
      rw [left_B]
      refine step m c ⟨n + 1, h⟩ _ (fun x => (ih (Nat.lt_of_succ_lt h) (by omega) x).trans ?_) x
      show _ = upto m c ((n + 1) / 4) (2048 * ((n + 1) % 4)) _ _
      rw [show (n + 1) / 4 = n / 4 by omega, show (n + 1) % 4 = n % 4 + 1 by omega]

theorem given (t : Fin cfg0.N) (h : t.val % 4 = 3) (x : S1x2048x896.Idx) : (outsAt0 m c t.val t.isLt).1 x = upto m c (t.val / 4) 8192 (x 1).val (x 2).val := by
  have h0 : ¬ t.val % 4 = 0 := by omega
  rw [outsAt0_C m c t h0 h]
  dsimp only
  rw [out_C]
  refine (pay3_val _ x).trans ((step m c t _ (fun x => (held m c (t.val - 1) (by have := t.isLt; omega) (by omega) x).trans ?_) (ValueIdx.ix2 (x 1) (x 2))).trans ?_)
  · rw [show (t.val - 1) / 4 = t.val / 4 by omega, show (t.val - 1) % 4 + 1 = t.val % 4 by omega]
  · rw [h]

/-- The array the kernel ends with. -/
theorem array_end (i : S8x2048x896.Idx) : Value.G2 m c i = upto m c (i 0).val 8192 (i 1).val (i 2).val := by
  have h0 : (i 0).val < 8 := (i 0).isLt
  have h1 : (i 1).val < 2048 := (i 1).isLt
  have h2 : (i 2).val < 896 := (i 2).isLt
  have hr : Value.run2Of i = (i 0).val := by show 1 * ((i 0).val / 1 - 0) + 1 * ((i 1).val / 2048 - 0) + 1 * ((i 2).val / 896 - 0) = _; omega
  have hp : Value.pt2Of i < cfg0.N := by show 4 * Value.run2Of i + 3 < 32; omega
  unfold Value.G2
  rw [dif_pos hp, ← Value.outsAt0_sweep m c (Value.pt2Of i) hp]
  refine (given m c ⟨Value.pt2Of i, hp⟩ (by show (4 * Value.run2Of i + 3) % 4 = 3; omega) (Value.loc2Of i)).trans ?_
  show upto m c ((4 * Value.run2Of i + 3) / 4) 8192 ((i 1).val % 2048) ((i 2).val % 896) = _
  rw [hr, Nat.mod_eq_of_lt h1, Nat.mod_eq_of_lt h2, show (4 * (i 0).val + 3) / 4 = (i 0).val by omega]

end Cert.Kernel7Ideal.Hand

namespace Cert.Reference7Ideal.Hand

open Cert.Reference7Ideal Cert.Reference7Ideal.Gen Cert.Hand Idealize.ShloMosaic Idealize.ShloMosaic.TcCoe Idealize.SL.Sem

/-- A matrix with its columns cut into eight blocks of 896. -/
theorem cut_val (v : FVec Ideal S8192x7168 .f32) (n : Fin 8192) (j : Fin 8) (d : Fin 896) :
    shapeCast S8192x8x896 v shapeCasts_S8192x7168_S8192x8x896 (ValueIdx.ix3 n j d) = num2 (a := 8192) (b := 7168) v n.val (896 * j.val + d.val) := by
  have hj : j.val < 8 := j.isLt
  have hd : d.val < 896 := d.isLt
  have hc : 896 * j.val + d.val < 7168 := by omega
  refine (congrArg v (Shape.reshapeEquiv_eq_of_vals _ _ (ValueIdx.ix2 n (⟨896 * j.val + d.val, hc⟩ : Fin 7168)) _ _ (rowMajor_val2 _ 7168 rfl) (rowMajor_val3 _ 7168 896 rfl rfl) ?_)).trans
    (num2_val (a := 8192) (b := 7168) v _)
  show n.val * 7168 + (896 * j.val + d.val) = n.val * 7168 + j.val * 896 + d.val
  omega

/-- The reference's product, read at an index. -/
theorem product (h : FVec Ideal S8192x2048 .bf16) (dy : FVec Ideal S8192x7168 .bf16) (x : S8x2048x896.Idx) :
    (truncf .bf16 (transpose S8x2048x896 [0, 2, 1] (Host.dotGeneral dot_S8192x8x896_S8192x2048_S8x896x2048_0_0_12_1_n_n none (shapeCast _ (extf .f32 dy bitsLt_bf16_f32) shapeCasts_S8192x7168_S8192x8x896)
      (extf .f32 h bitsLt_bf16_f32) : FVec Ideal S8x896x2048 .f32) transposes_S8x896x2048_S8x2048x896_0_2_1) bitsLt_bf16_f32 : FVec Ideal S8x2048x896 .bf16) x
      = ∑ n ∈ Finset.range 8192, num2 (a := 8192) (b := 2048) h n (x 1).val * num2 (a := 8192) (b := 7168) dy n (896 * (x 0).val + (x 2).val) := by
  refine (congrArg (Host.dotGeneral dot_S8192x8x896_S8192x2048_S8x896x2048_0_0_12_1_n_n none (shapeCast _ (extf .f32 dy bitsLt_bf16_f32) shapeCasts_S8192x7168_S8192x8x896) (extf .f32 h bitsLt_bf16_f32) : FVec Ideal S8x896x2048 .f32)
    (show Shape.Transposes.src transposes_S8x896x2048_S8x2048x896_0_2_1 x = ValueIdx.ix3 (x 0) (x 2) (x 1) from funext fun d => by fin_cases d <;> rfl)).trans ?_
  refine (Ideal.matmul_apply₁_of dot_S8192x8x896_S8192x2048_S8x896x2048_0_0_12_1_n_n (K := 8192) rfl rfl (shapeCast _ (extf .f32 dy bitsLt_bf16_f32) shapeCasts_S8192x7168_S8192x8x896) (extf .f32 h bitsLt_bf16_f32) (fun _ => 0) (ValueIdx.ix3 (x 0) (x 2) (x 1))
    (fun n => ValueIdx.ix3 n (x 0) (x 2)) (fun n => ValueIdx.ix2 n (x 1)) (fun n => funext fun d => by fin_cases d <;> rfl) (fun n => funext fun d => by fin_cases d <;> rfl)).trans ?_
  refine (zero_add _).trans ((Finset.sum_congr rfl fun n _ => (mul_comm _ _).trans (congrArg₂ (· * ·) (num2_val (a := 8192) (b := 2048) h _) (cut_val dy n (x 0) (x 2)))).trans ?_)
  exact (Finset.sum_range (fun n => num2 (a := 8192) (b := 2048) h n (x 1).val * num2 (a := 8192) (b := 7168) dy n (896 * (x 0).val + (x 2).val))).symm

end Cert.Reference7Ideal.Hand

/-! ## The gradient of the mixers' last weights -/

namespace Cert.Kernel8Ideal.Hand

open Cert.Kernel8Ideal Cert.Kernel8Ideal.Gen Cert.Hand Idealize.ShloMosaic Idealize.ShloMosaic.TcCoe Idealize.SL.Sem
open Idealize.ShloMosaic.Pipeline (Dat)

section
variable {F : FTy → Type} [FloatOps F]

theorem hz2 : (![0, 0] : Fin 2 → Nat) = fun _ => 0 := funext fun a => by fin_cases a <;> rfl

variable (c : Dev nD) (i : grid0.Coords) (a2 : Memref sig .tc .vmem S2048x1024 .bf16) (h2 : a2.IsWhole) (a3 : Memref sig .tc .vmem S2048x2048 .bf16) (h3 : a3.IsWhole)
  (a4 : Memref sig .tc .vmem S1024x2048 .bf16) (h4 : a4.IsWhole) (a5 : Memref sig .tc .vmem S1024x2048 .f32) (h5 : a5.IsWhole)
  (x0 : Vec F S2048x1024 .bf16) (x1 : Vec F S2048x2048 .bf16) (xs : Vec F S1024x2048 .f32)

theorem left_A (hc0 : cond0_0 i) (hc1 : ¬cond0_1 i) : sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2048) hz2, View.readCov_unit_zero (S := S1024x2048) _ hz2]
  simp only [View.readAt_eq_ld, h2.read_unread, h3.read_unread, View.ld_unit_zero (S := S2048x1024) hz2, View.ld_unit_zero (S := S2048x2048) hz2]

theorem left_B (hc0 : ¬cond0_0 i) (hc1 : ¬cond0_1 i) : sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S1024x2048) hz2]
  simp only [View.readAt_eq_ld, h2.read_unread, h3.read_unread, h5.read_unread, View.ld_unit_zero (S := S2048x1024) hz2, View.ld_unit_zero (S := S2048x2048) hz2, View.ld_unit_zero (S := S1024x2048) hz2]

theorem out_C (hc0 : ¬cond0_0 i) (hc1 : cond0_1 i) : out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1024x2048) hz2, View.readCov_unit_zero (S := S1024x2048) _ hz2]
  simp only [View.readAt_eq_ld, h2.read_unread, h3.read_unread, h5.read_unread, View.ld_unit_zero (S := S2048x1024) hz2, View.ld_unit_zero (S := S2048x2048) hz2, View.ld_unit_zero (S := S1024x2048) hz2]

end

theorem pay1_val (x : S1024x2048.Idx) : k0_pay1 (F := Ideal) x = 0 := by
  unfold k0_pay1
  exact (congrFun (shapeCast_self _ _) x).trans (Ideal.ofBits_zero .f32)

theorem pay2_val (v3 : Vec Ideal S2048x1024 .bf16) (v4 : Vec Ideal S2048x2048 .bf16) (v6 : Vec Ideal S1024x2048 .f32) {f g : ℕ → ℕ → EReal}
    (e3 : E2 (n := 2048) (m := 1024) v3 f) (e4 : E2 (n := 2048) (m := 2048) v4 g) (x : S1024x2048.Idx) :
    k0_pay2 v3 v4 v6 x = v6 x + ∑ n ∈ Finset.range 2048, f n (x 0).val * g n (x 1).val := by
  unfold k0_pay2
  refine (congrFun (shapeCast_self _ _) x).trans (congrArg (v6 x + ·) ?_)
  refine (Ideal.matmul_apply₁_of dot_S2048x1024_S2048x2048_S1024x2048_0_0_1_1_n_n (K := 2048) rfl rfl v3 v4 _ x
    (fun n => ValueIdx.ix2 n (x 0)) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (e3 _) (e4 _)).trans (Finset.sum_range (fun n => f n (x 0).val * g n (x 1).val)).symm

variable (m : (ℓ : Loc nD τ sig) → Buf (Elt Ideal) ℓ) (c : Dev nD)

/-- The two arguments' entries. -/
abbrev A : ℕ → ℕ → EReal := num2 (a := 8192) (b := 2048) (m ((c.tc : Thread nD τ).loc main_arg0))
abbrev D : ℕ → ℕ → EReal := num2 (a := 8192) (b := 2048) (m ((c.tc : Thread nD τ).loc main_arg1))

theorem idx_all : ∀ t : Fin cfg0.N, win0_0.index t = ![t.val % 4, t.val / 4] ∧ win0_1.index t = ![t.val % 4, 0] := by
  decide +kernel

theorem block0 (t : Fin cfg0.N) : E2 (n := 2048) (m := 1024) (iblk m c 0 t : Vec Ideal S2048x1024 .bf16) fun s r => A m c (2048 * (t.val % 4) + s) (1024 * (t.val / 4) + r) := fun x => by
  have e0 : (((win0_0.rect t).emb x) 0).val = 2048 * (t.val % 4) + (x 0).val := by
    rw [win0_0.rect_emb_val t x 0, (idx_all t).1]; show t.val % 4 * 2048 + _ = _; omega
  have e1 : (((win0_0.rect t).emb x) 1).val = 1024 * (t.val / 4) + (x 1).val := by
    rw [win0_0.rect_emb_val t x 1, (idx_all t).1]; show t.val / 4 * 1024 + _ = _; omega
  refine (num2_val (a := 8192) (b := 2048) (m ((c.tc : Thread nD τ).loc main_arg0)) ((win0_0.rect t).emb x)).trans ?_
  rw [e0, e1]

theorem block1 (t : Fin cfg0.N) : E2 (n := 2048) (m := 2048) (iblk m c 1 t : Vec Ideal S2048x2048 .bf16) fun s d => D m c (2048 * (t.val % 4) + s) (d) := fun x => by
  have e0 : (((win0_1.rect t).emb x) 0).val = 2048 * (t.val % 4) + (x 0).val := by
    rw [win0_1.rect_emb_val t x 0, (idx_all t).2]; show t.val % 4 * 2048 + _ = _; omega
  have e1 : (((win0_1.rect t).emb x) 1).val = (x 1).val := by
    rw [win0_1.rect_emb_val t x 1, (idx_all t).2]; show 0 * 2048 + _ = _; omega
  refine (num2_val (a := 8192) (b := 2048) (m ((c.tc : Thread nD τ).loc main_arg1)) ((win0_1.rect t).emb x)).trans ?_
  rw [e0, e1]

/-- The sum over the first `n` rows. -/
def upto (j n r d : ℕ) : EReal := ∑ i ∈ Finset.range n, A m c i (1024 * j + r) * D m c i (d)

theorem upto_add (j n k r d : ℕ) : upto m c j (n + k) r d = upto m c j n r d + ∑ i ∈ Finset.range k, A m c (n + i) (1024 * j + r) * D m c (n + i) (d) :=
  Finset.sum_range_add _ n k

theorem step (t : Fin cfg0.N) (v : Vec Ideal S1024x2048 .f32) (hv : ∀ x, v x = upto m c (t.val / 4) (2048 * (t.val % 4)) (x 0).val (x 1).val) (x : S1024x2048.Idx) :
    k0_pay2 (iblk m c 0 t) (iblk m c 1 t) v x = upto m c (t.val / 4) (2048 * (t.val % 4 + 1)) (x 0).val (x 1).val := by
  refine (pay2_val _ _ v (f := fun s r => A m c (2048 * (t.val % 4) + s) (1024 * (t.val / 4) + r)) (g := fun s d => D m c (2048 * (t.val % 4) + s) (d)) (block0 m c t) (block1 m c t) x).trans ?_
  rw [hv x, Nat.mul_add, upto_add]

theorem held : ∀ (n : ℕ) (h : n < cfg0.N) (hn : n % 4 ≠ 3) (x : S1024x2048.Idx), (outsAt0 m c n h).2 x = upto m c (n / 4) (2048 * (n % 4 + 1)) (x 0).val (x 1).val := by
  intro n
  induction n with
  | zero =>
    intro h hn x
    rw [outsAt0_A m c ⟨0, h⟩ rfl (by show ¬ 0 % 4 = 3; decide)]
    dsimp only
    rw [left_A]
    exact step m c ⟨0, h⟩ _ (fun x => (pay1_val x).trans (by simp [upto])) x
  | succ n ih =>
    intro h hn x
    by_cases h0 : (n + 1) % 4 = 0
    · rw [outsAt0_A m c ⟨n + 1, h⟩ h0 hn]
      dsimp only
      rw [left_A]
      exact step m c ⟨n + 1, h⟩ _ (fun x => (pay1_val x).trans (by simp [upto, h0])) x
    · rw [outsAt0_B m c ⟨n + 1, h⟩ h0 hn]
      dsimp only
      rw [left_B]
      refine step m c ⟨n + 1, h⟩ _ (fun x => (ih (Nat.lt_of_succ_lt h) (by omega) x).trans ?_) x
      show _ = upto m c ((n + 1) / 4) (2048 * ((n + 1) % 4)) _ _
      rw [show (n + 1) / 4 = n / 4 by omega, show (n + 1) % 4 = n % 4 + 1 by omega]

theorem given (t : Fin cfg0.N) (h : t.val % 4 = 3) (x : S1024x2048.Idx) : (outsAt0 m c t.val t.isLt).1 x = upto m c (t.val / 4) 8192 (x 0).val (x 1).val := by
  have h0 : ¬ t.val % 4 = 0 := by omega
  rw [outsAt0_C m c t h0 h]
  dsimp only
  rw [out_C]
  refine ((step m c t _ (fun x => (held m c (t.val - 1) (by have := t.isLt; omega) (by omega) x).trans ?_) x).trans ?_)
  · rw [show (t.val - 1) / 4 = t.val / 4 by omega, show (t.val - 1) % 4 + 1 = t.val % 4 by omega]
  · rw [h]

/-- The array the kernel ends with. -/
theorem array_end (i : S2048x2048.Idx) : Value.G2 m c i = ∑ n ∈ Finset.range 8192, A m c n (i 0).val * D m c n (i 1).val := by
  have h0 : (i 0).val < 2048 := (i 0).isLt
  have h1 : (i 1).val < 2048 := (i 1).isLt
  have hr : Value.run2Of i = (i 0).val / 1024 := by show 1 * ((i 0).val / 1024 - 0) + 1 * ((i 1).val / 2048 - 0) = _; omega
  have hp : Value.pt2Of i < cfg0.N := by show 4 * Value.run2Of i + 3 < 8; omega
  unfold Value.G2
  rw [dif_pos hp, ← Value.outsAt0_sweep m c (Value.pt2Of i) hp]
  refine (given m c ⟨Value.pt2Of i, hp⟩ (by show (4 * Value.run2Of i + 3) % 4 = 3; omega) (Value.loc2Of i)).trans ?_
  show upto m c ((4 * Value.run2Of i + 3) / 4) 8192 ((i 0).val % 1024) ((i 1).val % 2048) = _
  rw [hr, Nat.mod_eq_of_lt h1, show (4 * ((i 0).val / 1024) + 3) / 4 = (i 0).val / 1024 by omega]
  unfold upto
  rw [show 1024 * ((i 0).val / 1024) + (i 0).val % 1024 = (i 0).val by omega]

end Cert.Kernel8Ideal.Hand

namespace Cert.Reference8Ideal.Hand

open Cert.Reference8Ideal Cert.Reference8Ideal.Gen Cert.Hand Idealize.ShloMosaic Idealize.ShloMosaic.TcCoe Idealize.SL.Sem

/-- The reference's product, read at an index. -/
theorem product (a : FVec Ideal S8192x2048 .bf16) (dy : FVec Ideal S8192x2048 .bf16) (x : S2048x2048.Idx) :
    (truncf .bf16 (transpose S2048x2048 [1, 0] (Host.dotGeneral dot_S8192x2048_S8192x2048_S2048x2048_0_0_1_1_n_n none (extf .f32 dy bitsLt_bf16_f32) (extf .f32 a bitsLt_bf16_f32)
      : FVec Ideal S2048x2048 .f32) transposes_S2048x2048_S2048x2048_1_0) bitsLt_bf16_f32 : FVec Ideal S2048x2048 .bf16) x
      = ∑ n ∈ Finset.range 8192, num2 (a := 8192) (b := 2048) a n (x 0).val * num2 (a := 8192) (b := 2048) dy n (x 1).val := by
  refine (congrArg (Host.dotGeneral dot_S8192x2048_S8192x2048_S2048x2048_0_0_1_1_n_n none (extf .f32 dy bitsLt_bf16_f32) (extf .f32 a bitsLt_bf16_f32) : FVec Ideal S2048x2048 .f32)
    (show Shape.Transposes.src transposes_S2048x2048_S2048x2048_1_0 x = ValueIdx.ix2 (x 1) (x 0) from funext fun d => by fin_cases d <;> rfl)).trans ?_
  refine (Ideal.matmul_apply₁_of dot_S8192x2048_S8192x2048_S2048x2048_0_0_1_1_n_n (K := 8192) rfl rfl (extf .f32 dy bitsLt_bf16_f32) (extf .f32 a bitsLt_bf16_f32) (fun _ => 0) (ValueIdx.ix2 (x 1) (x 0))
    (fun n => ValueIdx.ix2 n (x 1)) (fun n => ValueIdx.ix2 n (x 0)) (fun n => funext fun d => by fin_cases d <;> rfl) (fun n => funext fun d => by fin_cases d <;> rfl)).trans ?_
  refine (zero_add _).trans ((Finset.sum_congr rfl fun n _ => (mul_comm _ _).trans (congrArg₂ (· * ·) (num2_val (a := 8192) (b := 2048) a _) (num2_val (a := 8192) (b := 2048) dy _))).trans ?_)
  exact (Finset.sum_range (fun n => num2 (a := 8192) (b := 2048) a n (x 0).val * num2 (a := 8192) (b := 2048) dy n (x 1).val)).symm

end Cert.Reference8Ideal.Hand

/-! ## The gradient of the mixers' output -/

namespace Cert.Kernel9Ideal.Hand

open Cert.Kernel9Ideal Cert.Kernel9Ideal.Gen Cert.Hand Idealize.ShloMosaic Idealize.ShloMosaic.TcCoe Idealize.SL.Sem
open Idealize.ShloMosaic.Pipeline (Dat)

theorem hz2 : (![0, 0] : Fin 2 → Nat) = fun _ => 0 := funext fun a => by fin_cases a <;> rfl

theorem out_A {F : FTy → Type} [FloatOps F] (c : Dev nD) (i : grid0.Coords) (a2 : Memref sig .tc .vmem S512x2048 .bf16) (h2 : a2.IsWhole) (a3 : Memref sig .tc .vmem S2048x2048 .bf16) (h3 : a3.IsWhole)
    (a4 : Memref sig .tc .vmem S512x2048 .f32) (h4 : a4.IsWhole) (a5 : Memref sig .tc .vmem S8x128 .f32) (h5 : a5.IsWhole) (x0 : Vec F S512x2048 .bf16) (x1 : Vec F S2048x2048 .bf16) :
    out0_A_2 c i a2 h2 a3 h3 a4 h4 a5 h5 x0 x1 = k0_pay1 x0 x1 := by
  unfold out0_A_2
  rw [View.read_writes_eq_canon _ _ _ (cover0_A_2 c i a2 h2 a3 h3 a4 h4 a5 h5 x0 x1)]
  unfold kernelRun0_A
  dsimp only
  rw [View.canon_unit_zero (S := S512x2048) hz2]
  simp only [View.readAt_eq_ld, h2.read_unread, h3.read_unread, View.ld_unit_zero (S := S512x2048) hz2, View.ld_unit_zero (S := S2048x2048) hz2]

theorem pay_val {f g : ℕ → ℕ → EReal} (v0 : Vec Ideal S512x2048 .bf16) (v1 : Vec Ideal S2048x2048 .bf16) (e0 : E2 (n := 512) (m := 2048) v0 f) (e1 : E2 (n := 2048) (m := 2048) v1 g) :
    E2 (n := 512) (m := 2048) (k0_pay1 v0 v1) fun s d => ∑ e ∈ Finset.range 2048, f s e * g d e := by
  unfold k0_pay1
  exact E2.dotT none v0 v1 _ rfl e0 e1

variable (m : (ℓ : Loc nD τ sig) → Buf (Elt Ideal) ℓ) (c : Dev nD)

/-- The two arguments' entries. -/
abbrev Y : ℕ → ℕ → EReal := num2 (a := 8192) (b := 2048) (m ((c.tc : Thread nD τ).loc main_arg0))
abbrev W : ℕ → ℕ → EReal := num2 (a := 2048) (b := 2048) (m ((c.tc : Thread nD τ).loc main_arg1))

theorem idx_all : ∀ t : Fin cfg0.N, win0_0.index t = ![t.val, 0] ∧ win0_1.index t = ![0, 0] ∧ win0_2.index t = ![t.val, 0] := by
  decide +kernel

theorem block0 (t : Fin cfg0.N) : E2 (n := 512) (m := 2048) (iblk m c 0 t : Vec Ideal S512x2048 .bf16) fun s e => Y m c (512 * t.val + s) e := fun x => by
  have e0 : (((win0_0.rect t).emb x) 0).val = 512 * t.val + (x 0).val := by
    rw [win0_0.rect_emb_val t x 0, (idx_all t).1]; show t.val * 512 + _ = _; omega
  have e1 : (((win0_0.rect t).emb x) 1).val = (x 1).val := by
    rw [win0_0.rect_emb_val t x 1, (idx_all t).1]; show 0 * 2048 + _ = _; omega
  refine (num2_val (a := 8192) (b := 2048) (m ((c.tc : Thread nD τ).loc main_arg0)) ((win0_0.rect t).emb x)).trans ?_
  rw [e0, e1]

theorem block1 (t : Fin cfg0.N) : E2 (n := 2048) (m := 2048) (iblk m c 1 t : Vec Ideal S2048x2048 .bf16) fun d e => W m c d e := fun x => by
  have e0 : (((win0_1.rect t).emb x) 0).val = (x 0).val := by
    rw [win0_1.rect_emb_val t x 0, (idx_all t).2.1]; show 0 * 2048 + _ = _; omega
  have e1 : (((win0_1.rect t).emb x) 1).val = (x 1).val := by
    rw [win0_1.rect_emb_val t x 1, (idx_all t).2.1]; show 0 * 2048 + _ = _; omega
  refine (num2_val (a := 2048) (b := 2048) (m ((c.tc : Thread nD τ).loc main_arg1)) ((win0_1.rect t).emb x)).trans ?_
  rw [e0, e1]

theorem given (t : Fin cfg0.N) : E2 (n := 512) (m := 2048) ((dats m 0 c).after 2 t : Vec Ideal S512x2048 .f32) fun s d => ∑ e ∈ Finset.range 2048, Y m c (512 * t.val + s) e * W m c d e := by
  rw [after0_2]
  unfold outsAt0
  rw [out_A]
  exact pay_val (f := fun s e => Y m c (512 * t.val + s) e) _ _ (block0 m c t) (block1 m c t)

/-- The array the kernel ends with. -/
theorem array_end : ∀ i : S8192x2048.Idx, (dats m 0 c).arrAt 2 cfg0.N i = ∑ e ∈ Finset.range 2048, Y m c (i 0).val e * W m c (i 1).val e := by
  refine (dats m 0 c).arrAt_forall_of_cover 2 (fun i v => v = ∑ e ∈ Finset.range 2048, Y m c (i 0).val e * W m c (i 1).val e) ?_ ?_
  · intro t hfl x
    have e0 : (((win0_2.rect t).emb x) 0).val = 512 * t.val + (x 0).val := by
      rw [win0_2.rect_emb_val t x 0, (idx_all t).2.2]; show t.val * 512 + _ = _; omega
    have e1 : (((win0_2.rect t).emb x) 1).val = (x 1).val := by
      rw [win0_2.rect_emb_val t x 1, (idx_all t).2.2]; show 0 * 2048 + _ = _; omega
    refine (given m c t x).trans ?_
    show _ = ∑ e ∈ Finset.range 2048, Y m c (((win0_2.rect t).emb x) 0).val e * W m c (((win0_2.rect t).emb x) 1).val e
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_2 _, ?_⟩
    mem_blk [(idx_all ⟨(i 0).val / 512, hN⟩).2.2]
    show ((i 0).val / 512 * 512 ≤ (i 0).val ∧ (i 0).val < (i 0).val / 512 * 512 + 512) ∧ 0 ≤ (i 1).val ∧ (i 1).val < 2048
    omega

end Cert.Kernel9Ideal.Hand

namespace Cert.Reference9Ideal.Hand

open Cert.Reference9Ideal Cert.Reference9Ideal.Gen Cert.Hand Idealize.ShloMosaic Idealize.ShloMosaic.TcCoe Idealize.SL.Sem

/-- The reference's product, read at an index. -/
theorem product (dy : FVec Ideal S8192x2048 .bf16) (w : FVec Ideal S2048x2048 .bf16) (x : S8192x2048.Idx) :
    (Host.dotGeneral dot_S8192x2048_S2048x2048_S8192x2048_1_1_0_0_n_n none (extf .f32 dy bitsLt_bf16_f32) (extf .f32 w bitsLt_bf16_f32) : FVec Ideal S8192x2048 .f32) x
      = ∑ e ∈ Finset.range 2048, num2 (a := 8192) (b := 2048) dy (x 0).val e * num2 (a := 2048) (b := 2048) w (x 1).val e := by
  refine (Ideal.matmul_apply₁_of dot_S8192x2048_S2048x2048_S8192x2048_1_1_0_0_n_n (K := 2048) rfl rfl (extf .f32 dy bitsLt_bf16_f32) (extf .f32 w bitsLt_bf16_f32) (fun _ => 0) x
    (fun n => ValueIdx.ix2 (x 0) n) (fun n => ValueIdx.ix2 (x 1) n) (fun n => funext fun d => by fin_cases d <;> rfl) (fun n => funext fun d => by fin_cases d <;> rfl)).trans ?_
  refine (zero_add _).trans ((Finset.sum_congr rfl fun n _ => congrArg₂ (· * ·) (num2_val (a := 8192) (b := 2048) dy _) (num2_val (a := 2048) (b := 2048) w _)).trans ?_)
  exact (Finset.sum_range (fun e => num2 (a := 8192) (b := 2048) dy (x 0).val e * num2 (a := 2048) (b := 2048) w (x 1).val e)).symm

end Cert.Reference9Ideal.Hand

/-! ## The gradient of the pooling mixer's weights -/

namespace Cert.Kernel10Ideal.Hand

open Cert.Kernel10Ideal Cert.Kernel10Ideal.Gen Cert.Hand Idealize.ShloMosaic Idealize.ShloMosaic.TcCoe Idealize.SL.Sem
open Idealize.ShloMosaic.Pipeline (Dat)

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S2048x512 .bf16) (h2 : a2.IsWhole) (a3 : Memref sig .tc .vmem S2048x512 .bf16) (h3 : a3.IsWhole)
  (a4 : Memref sig .tc .vmem S1x512x512 .bf16) (h4 : a4.IsWhole) (a5 : Memref sig .tc .vmem S512x512 .f32) (h5 : a5.IsWhole)
  (x0 : Vec F S2048x512 .bf16) (x1 : Vec F S2048x512 .bf16) (xs : Vec F S512x512 .f32)

theorem left_A (hc0 : cond0_0 i) (hc1 : ¬cond0_1 i) : sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x512) hz2, View.readCov_unit_zero (S := S512x512) _ hz2]
  simp only [View.readAt_eq_ld, h2.read_unread, h3.read_unread, View.ld_unit_zero (S := S2048x512) hz2]

theorem left_B (hc0 : ¬cond0_0 i) (hc1 : ¬cond0_1 i) : sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S512x512) hz2]
  simp only [View.readAt_eq_ld, h2.read_unread, h3.read_unread, h5.read_unread, View.ld_unit_zero (S := S2048x512) hz2, View.ld_unit_zero (S := S512x512) hz2]

theorem out_C (hc0 : ¬cond0_0 i) (hc1 : cond0_1 i) : out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x512x512) hz3, View.readCov_unit_zero (S := S512x512) _ hz2]
  simp only [View.readAt_eq_ld, h2.read_unread, h3.read_unread, h5.read_unread, View.ld_unit_zero (S := S2048x512) hz2, View.ld_unit_zero (S := S512x512) hz2]

end

theorem pay1_val (x : S512x512.Idx) : k0_pay1 (F := Ideal) x = 0 := by
  unfold k0_pay1
  exact (congrFun (shapeCast_self _ _) x).trans (Ideal.ofBits_zero .f32)

theorem pay2_val (v3 : Vec Ideal S2048x512 .bf16) (v4 : Vec Ideal S2048x512 .bf16) (v6 : Vec Ideal S512x512 .f32) {f g : ℕ → ℕ → EReal}
    (e3 : E2 (n := 2048) (m := 512) v3 f) (e4 : E2 (n := 2048) (m := 512) v4 g) (x : S512x512.Idx) :
    k0_pay2 v3 v4 v6 x = v6 x + ∑ n ∈ Finset.range 2048, f n (x 0).val * g n (x 1).val := by
  unfold k0_pay2
  refine (congrFun (shapeCast_self _ _) x).trans (congrArg (v6 x + ·) ?_)
  refine (Ideal.matmul_apply₁_of dot_S2048x512_S2048x512_S512x512_0_0_1_1_n_n (K := 2048) rfl rfl v3 v4 _ x
    (fun n => ValueIdx.ix2 n (x 0)) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (e3 _) (e4 _)).trans (Finset.sum_range (fun n => f n (x 0).val * g n (x 1).val)).symm

theorem pay3_val (v : Vec Ideal S512x512 .f32) (x : S1x512x512.Idx) : k0_pay3 v x = v (ValueIdx.ix2 (x 1) (x 2)) := by
  unfold k0_pay3
  have h0 : (x 0).val < 1 := (x 0).isLt
  refine congrArg v (Shape.reshapeEquiv_eq_of_vals _ _ (ValueIdx.ix2 (x 1) (x 2)) _ _ (rowMajor_val2 _ 512 rfl) (rowMajor_val3 _ 262144 512 rfl rfl) ?_)
  show (x 1).val * 512 + (x 2).val = (x 0).val * 262144 + (x 1).val * 512 + (x 2).val
  omega

variable (m : (ℓ : Loc nD τ sig) → Buf (Elt Ideal) ℓ) (c : Dev nD)

/-- The two arguments' entries. -/
abbrev A : ℕ → ℕ → EReal := num2 (a := 8192) (b := 2048) (m ((c.tc : Thread nD τ).loc main_arg0))
abbrev D : ℕ → ℕ → EReal := num2 (a := 8192) (b := 2048) (m ((c.tc : Thread nD τ).loc main_arg1))

theorem idx_all : ∀ t : Fin cfg0.N, win0_0.index t = ![t.val % 4, t.val / 4] ∧ win0_1.index t = ![t.val % 4, t.val / 4] := by
  decide +kernel

theorem block0 (t : Fin cfg0.N) : E2 (n := 2048) (m := 512) (iblk m c 0 t : Vec Ideal S2048x512 .bf16) fun s r => A m c (2048 * (t.val % 4) + s) (512 * (t.val / 4) + r) := fun x => by
  have e0 : (((win0_0.rect t).emb x) 0).val = 2048 * (t.val % 4) + (x 0).val := by
    rw [win0_0.rect_emb_val t x 0, (idx_all t).1]; show t.val % 4 * 2048 + _ = _; omega
  have e1 : (((win0_0.rect t).emb x) 1).val = 512 * (t.val / 4) + (x 1).val := by
    rw [win0_0.rect_emb_val t x 1, (idx_all t).1]; show t.val / 4 * 512 + _ = _; omega
  refine (num2_val (a := 8192) (b := 2048) (m ((c.tc : Thread nD τ).loc main_arg0)) ((win0_0.rect t).emb x)).trans ?_
  rw [e0, e1]

theorem block1 (t : Fin cfg0.N) : E2 (n := 2048) (m := 512) (iblk m c 1 t : Vec Ideal S2048x512 .bf16) fun s d => D m c (2048 * (t.val % 4) + s) (512 * (t.val / 4) + d) := fun x => by
  have e0 : (((win0_1.rect t).emb x) 0).val = 2048 * (t.val % 4) + (x 0).val := by
    rw [win0_1.rect_emb_val t x 0, (idx_all t).2]; show t.val % 4 * 2048 + _ = _; omega
  have e1 : (((win0_1.rect t).emb x) 1).val = 512 * (t.val / 4) + (x 1).val := by
    rw [win0_1.rect_emb_val t x 1, (idx_all t).2]; show t.val / 4 * 512 + _ = _; omega
  refine (num2_val (a := 8192) (b := 2048) (m ((c.tc : Thread nD τ).loc main_arg1)) ((win0_1.rect t).emb x)).trans ?_
  rw [e0, e1]

/-- The sum over the first `n` rows. -/
def upto (j n r d : ℕ) : EReal := ∑ i ∈ Finset.range n, A m c i (512 * j + r) * D m c i (512 * j + d)

theorem upto_add (j n k r d : ℕ) : upto m c j (n + k) r d = upto m c j n r d + ∑ i ∈ Finset.range k, A m c (n + i) (512 * j + r) * D m c (n + i) (512 * j + d) :=
  Finset.sum_range_add _ n k

theorem step (t : Fin cfg0.N) (v : Vec Ideal S512x512 .f32) (hv : ∀ x, v x = upto m c (t.val / 4) (2048 * (t.val % 4)) (x 0).val (x 1).val) (x : S512x512.Idx) :
    k0_pay2 (iblk m c 0 t) (iblk m c 1 t) v x = upto m c (t.val / 4) (2048 * (t.val % 4 + 1)) (x 0).val (x 1).val := by
  refine (pay2_val _ _ v (f := fun s r => A m c (2048 * (t.val % 4) + s) (512 * (t.val / 4) + r)) (g := fun s d => D m c (2048 * (t.val % 4) + s) (512 * (t.val / 4) + d)) (block0 m c t) (block1 m c t) x).trans ?_
  rw [hv x, Nat.mul_add, upto_add]

theorem held : ∀ (n : ℕ) (h : n < cfg0.N) (hn : n % 4 ≠ 3) (x : S512x512.Idx), (outsAt0 m c n h).2 x = upto m c (n / 4) (2048 * (n % 4 + 1)) (x 0).val (x 1).val := by
  intro n
  induction n with
  | zero =>
    intro h hn x
    rw [outsAt0_A m c ⟨0, h⟩ rfl (by show ¬ 0 % 4 = 3; decide)]
    dsimp only
    rw [left_A]
    exact step m c ⟨0, h⟩ _ (fun x => (pay1_val x).trans (by simp [upto])) x
  | succ n ih =>
    intro h hn x
    by_cases h0 : (n + 1) % 4 = 0
    · rw [outsAt0_A m c ⟨n + 1, h⟩ h0 hn]
      dsimp only
      rw [left_A]
      exact step m c ⟨n + 1, h⟩ _ (fun x => (pay1_val x).trans (by simp [upto, h0])) x
    · rw [outsAt0_B m c ⟨n + 1, h⟩ h0 hn]
      dsimp only
      rw [left_B]
      refine step m c ⟨n + 1, h⟩ _ (fun x => (ih (Nat.lt_of_succ_lt h) (by omega) x).trans ?_) x
      show _ = upto m c ((n + 1) / 4) (2048 * ((n + 1) % 4)) _ _
      rw [show (n + 1) / 4 = n / 4 by omega, show (n + 1) % 4 = n % 4 + 1 by omega]

theorem given (t : Fin cfg0.N) (h : t.val % 4 = 3) (x : S1x512x512.Idx) : (outsAt0 m c t.val t.isLt).1 x = upto m c (t.val / 4) 8192 (x 1).val (x 2).val := by
  have h0 : ¬ t.val % 4 = 0 := by omega
  rw [outsAt0_C m c t h0 h]
  dsimp only
  rw [out_C]
  refine (pay3_val _ x).trans ((step m c t _ (fun x => (held m c (t.val - 1) (by have := t.isLt; omega) (by omega) x).trans ?_) (ValueIdx.ix2 (x 1) (x 2))).trans ?_)
  · rw [show (t.val - 1) / 4 = t.val / 4 by omega, show (t.val - 1) % 4 + 1 = t.val % 4 by omega]
  · rw [h]

/-- The array the kernel ends with. -/
theorem array_end (i : S4x512x512.Idx) : Value.G2 m c i = upto m c (i 0).val 8192 (i 1).val (i 2).val := by
  have h0 : (i 0).val < 4 := (i 0).isLt
  have h1 : (i 1).val < 512 := (i 1).isLt
  have h2 : (i 2).val < 512 := (i 2).isLt
  have hr : Value.run2Of i = (i 0).val := by show 1 * ((i 0).val / 1 - 0) + 1 * ((i 1).val / 512 - 0) + 1 * ((i 2).val / 512 - 0) = _; omega
  have hp : Value.pt2Of i < cfg0.N := by show 4 * Value.run2Of i + 3 < 16; omega
  unfold Value.G2
  rw [dif_pos hp, ← Value.outsAt0_sweep m c (Value.pt2Of i) hp]
  refine (given m c ⟨Value.pt2Of i, hp⟩ (by show (4 * Value.run2Of i + 3) % 4 = 3; omega) (Value.loc2Of i)).trans ?_
  show upto m c ((4 * Value.run2Of i + 3) / 4) 8192 ((i 1).val % 512) ((i 2).val % 512) = _
  rw [hr, Nat.mod_eq_of_lt h1, Nat.mod_eq_of_lt h2, show (4 * (i 0).val + 3) / 4 = (i 0).val by omega]

end Cert.Kernel10Ideal.Hand

namespace Cert.Reference10Ideal.Hand

open Cert.Reference10Ideal Cert.Reference10Ideal.Gen Cert.Hand Idealize.ShloMosaic Idealize.ShloMosaic.TcCoe Idealize.SL.Sem

/-- A matrix with its columns cut into four groups of 512. -/
theorem cut_val (v : FVec Ideal S8192x2048 .f32) (n : Fin 8192) (j : Fin 4) (d : Fin 512) :
    shapeCast S8192x4x512 v shapeCasts_S8192x2048_S8192x4x512 (ValueIdx.ix3 n j d) = num2 (a := 8192) (b := 2048) v n.val (512 * j.val + d.val) := by
  have hj : j.val < 4 := j.isLt
  have hd : d.val < 512 := d.isLt
  have hc : 512 * j.val + d.val < 2048 := by omega
  refine (congrArg v (Shape.reshapeEquiv_eq_of_vals _ _ (ValueIdx.ix2 n (⟨512 * j.val + d.val, hc⟩ : Fin 2048)) _ _ (rowMajor_val2 _ 2048 rfl) (rowMajor_val3 _ 2048 512 rfl rfl) ?_)).trans
    (num2_val (a := 8192) (b := 2048) v _)
  show n.val * 2048 + (512 * j.val + d.val) = n.val * 2048 + j.val * 512 + d.val
  omega

/-- The cut matrix with its rows last. -/
def turned (dy : FVec Ideal S8192x2048 .bf16) : FVec Ideal S4x512x8192 .f32 :=
  transpose S4x512x8192 [1, 2, 0] (shapeCast _ (extf .f32 dy bitsLt_bf16_f32) shapeCasts_S8192x2048_S8192x4x512) transposes_S8192x4x512_S4x512x8192_1_2_0

theorem turned_val (dy : FVec Ideal S8192x2048 .bf16) (n : Fin 8192) (j : Fin 4) (d : Fin 512) :
    turned dy (ValueIdx.ix3 j d n) = num2 (a := 8192) (b := 2048) dy n.val (512 * j.val + d.val) :=
  (congrArg (shapeCast S8192x4x512 (extf .f32 dy bitsLt_bf16_f32) shapeCasts_S8192x2048_S8192x4x512)
    (show Shape.Transposes.src transposes_S8192x4x512_S4x512x8192_1_2_0 (ValueIdx.ix3 j d n) = ValueIdx.ix3 n j d from funext fun d => by fin_cases d <;> rfl)).trans (cut_val dy n j d)

/-- The reference's product, read at an index. -/
theorem product (a : FVec Ideal S8192x2048 .bf16) (dy : FVec Ideal S8192x2048 .bf16) (x : S4x512x512.Idx) :
    (truncf .bf16 (transpose S4x512x512 [0, 2, 1] (Host.dotGeneral dot_S4x512x8192_S8192x4x512_S4x512x512_2_0_1_2_0_1 none (turned dy)
      (shapeCast _ (extf .f32 a bitsLt_bf16_f32) shapeCasts_S8192x2048_S8192x4x512) : FVec Ideal S4x512x512 .f32) transposes_S4x512x512_S4x512x512_0_2_1) bitsLt_bf16_f32 : FVec Ideal S4x512x512 .bf16) x
      = ∑ n ∈ Finset.range 8192, num2 (a := 8192) (b := 2048) a n (512 * (x 0).val + (x 1).val) * num2 (a := 8192) (b := 2048) dy n (512 * (x 0).val + (x 2).val) := by
  refine (congrArg (Host.dotGeneral dot_S4x512x8192_S8192x4x512_S4x512x512_2_0_1_2_0_1 none (turned dy) (shapeCast _ (extf .f32 a bitsLt_bf16_f32) shapeCasts_S8192x2048_S8192x4x512) : FVec Ideal S4x512x512 .f32)
    (show Shape.Transposes.src transposes_S4x512x512_S4x512x512_0_2_1 x = ValueIdx.ix3 (x 0) (x 2) (x 1) from funext fun d => by fin_cases d <;> rfl)).trans ?_
  refine (Ideal.matmul_apply₁_of dot_S4x512x8192_S8192x4x512_S4x512x512_2_0_1_2_0_1 (K := 8192) rfl rfl (turned dy) (shapeCast _ (extf .f32 a bitsLt_bf16_f32) shapeCasts_S8192x2048_S8192x4x512) (fun _ => 0) (ValueIdx.ix3 (x 0) (x 2) (x 1))
    (fun n => ValueIdx.ix3 (x 0) (x 2) n) (fun n => ValueIdx.ix3 n (x 0) (x 1)) (fun n => funext fun d => by fin_cases d <;> rfl) (fun n => funext fun d => by fin_cases d <;> rfl)).trans ?_
  refine (zero_add _).trans ((Finset.sum_congr rfl fun n _ => (mul_comm _ _).trans (congrArg₂ (· * ·) (cut_val a n (x 0) (x 1)) (turned_val dy n (x 0) (x 2)))).trans ?_)
  exact (Finset.sum_range (fun n => num2 (a := 8192) (b := 2048) a n (512 * (x 0).val + (x 1).val) * num2 (a := 8192) (b := 2048) dy n (512 * (x 0).val + (x 2).val))).symm

end Cert.Reference10Ideal.Hand

/-! ## The claims -/

namespace Cert.Proof

open Idealize.ShloMosaic Idealize.SL.Sem Cert.Staged Cert.Hand

/-- The two printings of the program have the same bodies. -/
theorem bodies7 {F : FTy → Type} [FloatOps F] : @Cert.Kernel7.defs F _ _ = @Cert.Kernel7Ideal.defs F _ _ :=
  congrArg (Pipeline.defs (Cert.Kernel7Ideal.pcfgs (F := F))) (congrArg Defs.onTc (funext fun l => match l with | 0 => rfl))

theorem frame_kernel7 : Cert.quiescent_Kernel7 := fun m ρ _ => by
  rw [bodies7]
  exact Cert.Kernel7Ideal.Gen.frame (F := Bits) m ρ

theorem frame_kernel7_ideal : Cert.quiescent_Kernel7Ideal := fun m ρ _ => Cert.Kernel7Ideal.Gen.frame (F := Ideal) m ρ

theorem frame_reference7_ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := fun m g m' g' _ hargs => by
  refine ⟨fun c => Cert.Kernel7Ideal.Value.G2 m c, Cert.Kernel7Ideal.Value.run (F := Ideal) m g, ?_⟩
  refine (θ_run Cert.Reference7Ideal.defs _ _).mono (fun r h c => ?_) (Cert.Reference7Ideal.Value.run (F := Ideal) m' g')
  obtain ⟨e0, k⟩ := h c
  refine ⟨e0.trans (funext fun x => (Cert.Reference7Ideal.Hand.product _ _ x).trans ((Cert.Kernel7Ideal.Hand.array_end m c x).trans ?_).symm), k⟩
  rw [(hargs c).1, (hargs c).2]
  rfl

/-- The two printings of the program have the same bodies. -/
theorem bodies8 {F : FTy → Type} [FloatOps F] : @Cert.Kernel8.defs F _ _ = @Cert.Kernel8Ideal.defs F _ _ :=
  congrArg (Pipeline.defs (Cert.Kernel8Ideal.pcfgs (F := F))) (congrArg Defs.onTc (funext fun l => match l with | 0 => rfl))

theorem frame_kernel8 : Cert.quiescent_Kernel8 := fun m ρ _ => by
  rw [bodies8]
  exact Cert.Kernel8Ideal.Gen.frame (F := Bits) m ρ

theorem frame_kernel8_ideal : Cert.quiescent_Kernel8Ideal := fun m ρ _ => Cert.Kernel8Ideal.Gen.frame (F := Ideal) m ρ

theorem frame_reference8_ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m g m' g' _ hargs => by
  refine ⟨fun c => Cert.Kernel8Ideal.Value.G2 m c, Cert.Kernel8Ideal.Value.run (F := Ideal) m g, ?_⟩
  refine (θ_run Cert.Reference8Ideal.defs _ _).mono (fun r h c => ?_) (Cert.Reference8Ideal.Value.run (F := Ideal) m' g')
  obtain ⟨e0, k⟩ := h c
  refine ⟨e0.trans (funext fun x => (Cert.Reference8Ideal.Hand.product _ _ x).trans ((Cert.Kernel8Ideal.Hand.array_end m c x).trans ?_).symm), k⟩
  rw [(hargs c).1, (hargs c).2]

/-- The two printings of the program have the same bodies. -/
theorem bodies9 {F : FTy → Type} [FloatOps F] : @Cert.Kernel9.defs F _ _ = @Cert.Kernel9Ideal.defs F _ _ :=
  congrArg (Pipeline.defs (Cert.Kernel9Ideal.pcfgs (F := F))) (congrArg Defs.onTc (funext fun l => match l with | 0 => rfl))

theorem frame_kernel9 : Cert.quiescent_Kernel9 := fun m ρ _ => by
  rw [bodies9]
  exact Cert.Kernel9Ideal.Gen.frame (F := Bits) m ρ

theorem frame_kernel9_ideal : Cert.quiescent_Kernel9Ideal := fun m ρ _ => Cert.Kernel9Ideal.Gen.frame (F := Ideal) m ρ

theorem frame_reference9_ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := fun m g m' g' _ hargs => by
  refine ⟨fun c => (Cert.Kernel9Ideal.Gen.dats m 0 c).arrAt 2 Cert.Kernel9Ideal.cfg0.N, Cert.Kernel9Ideal.Value.run_blocks (F := Ideal) m g, ?_⟩
  refine (θ_run Cert.Reference9Ideal.defs _ _).mono (fun r h c => ?_) (Cert.Reference9Ideal.Value.run (F := Ideal) m' g')
  obtain ⟨e0, k⟩ := h c
  obtain ⟨h0, h1⟩ := hargs c
  rw [h0, h1] at e0
  exact ⟨e0.trans (funext fun x => (Cert.Reference9Ideal.Hand.product _ _ x).trans (Cert.Kernel9Ideal.Hand.array_end m c x).symm), k⟩

/-- The two printings of the program have the same bodies. -/
theorem bodies10 {F : FTy → Type} [FloatOps F] : @Cert.Kernel10.defs F _ _ = @Cert.Kernel10Ideal.defs F _ _ :=
  congrArg (Pipeline.defs (Cert.Kernel10Ideal.pcfgs (F := F))) (congrArg Defs.onTc (funext fun l => match l with | 0 => rfl))

theorem frame_kernel10 : Cert.quiescent_Kernel10 := fun m ρ _ => by
  rw [bodies10]
  exact Cert.Kernel10Ideal.Gen.frame (F := Bits) m ρ

theorem frame_kernel10_ideal : Cert.quiescent_Kernel10Ideal := fun m ρ _ => Cert.Kernel10Ideal.Gen.frame (F := Ideal) m ρ

theorem frame_reference10_ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := fun m g m' g' _ hargs => by
  refine ⟨fun c => Cert.Kernel10Ideal.Value.G2 m c, Cert.Kernel10Ideal.Value.run (F := Ideal) m g, ?_⟩
  refine (θ_run Cert.Reference10Ideal.defs _ _).mono (fun r h c => ?_) (Cert.Reference10Ideal.Value.run (F := Ideal) m' g')
  obtain ⟨e0, k⟩ := h c
  refine ⟨e0.trans (funext fun x => (Cert.Reference10Ideal.Hand.product _ _ x).trans ((Cert.Kernel10Ideal.Hand.array_end m c x).trans ?_).symm), k⟩
  rw [(hargs c).1, (hargs c).2]
  rfl

end Cert.Proof

end
-- ==== Proof.Back.lean ====
/-
  The gradient of the mixers' input: the kernel adds the products of eight blocks of columns of the projection's gradient
  in its scratch, and after the eighth takes the rows through their normalization, as the gated mixer's input does.
-/
module

public import proofs.«01_k».proof.Defs
public import proofs.«01_k».proof.Proof.Gen.Kernel11
public import proofs.«01_k».proof.Proof.Gen.Kernel11Ideal.Value
public import proofs.«01_k».proof.Proof.Gen.Reference11Ideal.Run
public import proofs.«01_k».proof.Proof.Layer

@[expose] public section

set_option maxRecDepth 16384

noncomputable section

namespace Cert.Kernel11Ideal.Hand

open Cert.Kernel11Ideal Cert.Kernel11Ideal.Gen Cert.Hand Cert.Staged Idealize.ShloMosaic Idealize.ShloMosaic.TcCoe Idealize.SL.Sem
open Idealize.ShloMosaic.Pipeline (Dat)
open Cert.Kernel4Ideal.Hand (back wides widesN parts wides_val widesN_val parts_val)

/-! ## What a point leaves -/

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S512x896 .bf16) (h2 : a2.IsWhole) (a3 : Memref sig .tc .vmem S1x2048x896 .bf16) (h3 : a3.IsWhole)
  (a4 : Memref sig .tc .vmem S512x2048 .f32) (h4 : a4.IsWhole) (a5 : Memref sig .tc .vmem S512x1 .f32) (h5 : a5.IsWhole)
  (a6 : Memref sig .tc .vmem S1x2048 .f32) (h6 : a6.IsWhole) (a7 : Memref sig .tc .vmem S512x2048 .f32) (h7 : a7.IsWhole)
  (a8 : Memref sig .tc .vmem S512x2048 .f32) (h8 : a8.IsWhole) (a9 : Memref sig .tc .vmem S512x2048 .bf16) (h9 : a9.IsWhole)
  (a10 : Memref sig .tc .vmem S1x2048 .f32) (h10 : a10.IsWhole) (a11 : Memref sig .tc .vmem S512x2048 .f32) (h11 : a11.IsWhole)
  (x0 : Vec F S512x896 .bf16) (x1 : Vec F S1x2048x896 .bf16) (x2 : Vec F S512x2048 .f32) (x3 : Vec F S512x1 .f32) (x4 : Vec F S1x2048 .f32) (x5 : Vec F S512x2048 .f32)
  (xo : Vec F S1x2048 .f32) (xs : Vec F S512x2048 .f32)

theorem left_A (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4 x5 = k0_pay2 x0 x1 (k0_pay1 (F := F)) := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S512x2048) hz2, View.readCov_unit_zero (S := S512x2048) _ hz2]
  simp only [View.readAt_eq_ld, h2.read_unread, h3.read_unread, View.ld_unit_zero (S := S512x896) hz2, View.ld_unit_zero (S := S1x2048x896) hz3]

theorem left_B (hc0 : ¬cond0_0 i) (hc1 : ¬cond0_1 i) :
    sout0_B_0 c i a2 h2 a3 h3 a4 h4 a5 h5 a6 h6 a7 h7 a8 h8 a9 h9 a10 h10 a11 h11 hc0 hc1 x0 x1 x2 x3 x4 x5 xs = k0_pay2 x0 x1 xs := by
  unfold sout0_B_0
  rw [View.read_writes_eq_canon _ _ _ (scover0_B_0 c i a2 h2 a3 h3 a4 h4 a5 h5 a6 h6 a7 h7 a8 h8 a9 h9 a10 h10 a11 h11 hc0 hc1 x0 x1 x2 x3 x4 x5 xs)]
  unfold kernelRun0_B
  dsimp only
  rw [View.canon_unit_zero (S := S512x2048) hz2]
  simp only [View.readAt_eq_ld, h2.read_unread, h3.read_unread, h11.read_unread, View.ld_unit_zero (S := S512x896) hz2, View.ld_unit_zero (S := S1x2048x896) hz3,
    View.ld_unit_zero (S := S512x2048) hz2]

theorem out_C6 (hc0 : ¬cond0_0 i) (hc1 : cond0_1 i) (hc2 : cond0_2 i) (hc3 : ¬cond0_3 i) :
    out0_C_6 c i a2 h2 a3 h3 a4 h4 a5 h5 a6 h6 a7 h7 a8 h8 a9 h9 a10 h10 a11 h11 hc0 hc1 hc2 hc3 x0 x1 x2 x3 x4 x5 xs
      = View.canon (wides x2 x3 x4 x5 (k0_pay2 x0 x1 xs)) := by
  unfold out0_C_6
  rw [View.read_writes_eq_canon _ _ _ (cover0_C_6 c i a2 h2 a3 h3 a4 h4 a5 h5 a6 h6 a7 h7 a8 h8 a9 h9 a10 h10 a11 h11 hc0 hc1 hc2 hc3 x0 x1 x2 x3 x4 x5 xs)]
  unfold kernelRun0_C
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

theorem out_C7 (hc0 : ¬cond0_0 i) (hc1 : cond0_1 i) (hc2 : cond0_2 i) (hc3 : ¬cond0_3 i) :
    out0_C_7 c i a2 h2 a3 h3 a4 h4 a5 h5 a6 h6 a7 h7 a8 h8 a9 h9 a10 h10 a11 h11 hc0 hc1 hc2 hc3 x0 x1 x2 x3 x4 x5 xs
      = View.canon (widesN x2 x3 x4 x5 (k0_pay2 x0 x1 xs)) := by
  unfold out0_C_7
  rw [View.read_writes_eq_canon _ _ _ (cover0_C_7 c i a2 h2 a3 h3 a4 h4 a5 h5 a6 h6 a7 h7 a8 h8 a9 h9 a10 h10 a11 h11 hc0 hc1 hc2 hc3 x0 x1 x2 x3 x4 x5 xs)]
  unfold kernelRun0_C
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

theorem out_C8 (hc0 : ¬cond0_0 i) (hc1 : cond0_1 i) (hc2 : cond0_2 i) (hc3 : ¬cond0_3 i) :
    out0_C_8 c i a2 h2 a3 h3 a4 h4 a5 h5 a6 h6 a7 h7 a8 h8 a9 h9 a10 h10 a11 h11 hc0 hc1 hc2 hc3 x0 x1 x2 x3 x4 x5 xs
      = parts x2 x3 (k0_pay2 x0 x1 xs) := by
  unfold out0_C_8
  rw [View.read_writes_eq_canon _ _ _ (cover0_C_8 c i a2 h2 a3 h3 a4 h4 a5 h5 a6 h6 a7 h7 a8 h8 a9 h9 a10 h10 a11 h11 hc0 hc1 hc2 hc3 x0 x1 x2 x3 x4 x5 xs)]
  unfold kernelRun0_C
  dsimp only
  sl_unfold_words
  rw [View.canon_unit_zero (S := S1x2048) hz2]
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

theorem out_D6 (hc0 : ¬cond0_0 i) (hc1 : cond0_1 i) (hc2 : ¬cond0_2 i) (hc3 : cond0_3 i) :
    out0_D_6 c i a2 h2 a3 h3 a4 h4 a5 h5 a6 h6 a7 h7 a8 h8 a9 h9 a10 h10 a11 h11 hc0 hc1 hc2 hc3 x0 x1 x2 x3 x4 x5 xo xs
      = View.canon (wides x2 x3 x4 x5 (k0_pay2 x0 x1 xs)) := by
  unfold out0_D_6
  rw [View.read_writes_eq_canon _ _ _ (cover0_D_6 c i a2 h2 a3 h3 a4 h4 a5 h5 a6 h6 a7 h7 a8 h8 a9 h9 a10 h10 a11 h11 hc0 hc1 hc2 hc3 x0 x1 x2 x3 x4 x5 xo xs)]
  unfold kernelRun0_D
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

theorem out_D7 (hc0 : ¬cond0_0 i) (hc1 : cond0_1 i) (hc2 : ¬cond0_2 i) (hc3 : cond0_3 i) :
    out0_D_7 c i a2 h2 a3 h3 a4 h4 a5 h5 a6 h6 a7 h7 a8 h8 a9 h9 a10 h10 a11 h11 hc0 hc1 hc2 hc3 x0 x1 x2 x3 x4 x5 xo xs
      = View.canon (widesN x2 x3 x4 x5 (k0_pay2 x0 x1 xs)) := by
  unfold out0_D_7
  rw [View.read_writes_eq_canon _ _ _ (cover0_D_7 c i a2 h2 a3 h3 a4 h4 a5 h5 a6 h6 a7 h7 a8 h8 a9 h9 a10 h10 a11 h11 hc0 hc1 hc2 hc3 x0 x1 x2 x3 x4 x5 xo xs)]
  unfold kernelRun0_D
  dsimp only
  sl_unfold_words
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

theorem out_D8 (hc0 : ¬cond0_0 i) (hc1 : cond0_1 i) (hc2 : ¬cond0_2 i) (hc3 : cond0_3 i) :
    out0_D_8 c i a2 h2 a3 h3 a4 h4 a5 h5 a6 h6 a7 h7 a8 h8 a9 h9 a10 h10 a11 h11 hc0 hc1 hc2 hc3 x0 x1 x2 x3 x4 x5 xo xs
      = k0_pay3 (parts x2 x3 (k0_pay2 x0 x1 xs)) xo := by
  unfold out0_D_8
  rw [View.read_writes_eq_canon _ _ _ (cover0_D_8 c i a2 h2 a3 h3 a4 h4 a5 h5 a6 h6 a7 h7 a8 h8 a9 h9 a10 h10 a11 h11 hc0 hc1 hc2 hc3 x0 x1 x2 x3 x4 x5 xo xs)]
  unfold kernelRun0_D
  dsimp only
  sl_unfold_words
  rw [View.canon_unit_zero (S := S1x2048) hz2]
  simp only [View.readCov_eq_canon', View.canon_unit_zero (S := S512x2048) hz2]
  simp only [View.readAt_eq_ld, h2.read_unread, h3.read_unread, h4.read_unread, h5.read_unread, h6.read_unread, h7.read_unread, h10.read_unread, h11.read_unread,
    View.ld_unit_zero (S := S512x896) hz2, View.ld_unit_zero (S := S1x2048x896) hz3, View.ld_unit_zero (S := S512x2048) hz2, View.ld_unit_zero (S := S1x2048) hz2]
  rfl

end

/-! ## The points -/

theorem pay1_val : E2 (n := 512) (m := 2048) (k0_pay1 (F := Ideal)) fun _ _ => 0 :=
  E2.same (φ := .f32) _ shapeCasts_S512x2048_S512x2048 (E2.bc _ 0 (Ideal.ofBits_zero .f32))

theorem pay2_val {p q A : ℕ → ℕ → EReal} (v3 : Vec Ideal S512x896 .bf16) (v4 : Vec Ideal S1x2048x896 .bf16)
    (acc : Vec Ideal S512x2048 .f32) (e3 : E2 (n := 512) (m := 896) v3 p) (e4 : E3 (a := 1) (b := 2048) (c := 896) v4 fun _ => q) (ha : E2 (n := 512) (m := 2048) acc A) :
    E2 (n := 512) (m := 2048) (k0_pay2 v3 v4 acc) fun s d => A s d + ∑ n ∈ Finset.range 896, p s n * q d n :=
  E2.same (φ := .f32) _ shapeCasts_S512x2048_S512x2048 (E2.add (φ := .f32) _ _ ha
    (E2.dotT (φ := .bf16) (ψ := .bf16) none _ _ _ rfl e3 (E3.drop (φ := .bf16) v4 shapeCasts_S1x2048x896_S2048x896 e4)))

theorem pay3_val {f g : ℕ → ℕ → EReal} (v w : Vec Ideal S1x2048 .f32) (hv : E2 (n := 1) (m := 2048) v f) (hw : E2 (n := 1) (m := 2048) w g) :
    E2 (n := 1) (m := 2048) (k0_pay3 v w) fun i d => g i d + f i d :=
  E2.add (φ := .f32) _ _ (E2.same (φ := .f32) w shapeCasts_S1x2048_S1x2048 hw) hv

variable {m : (ℓ : Loc nD τ sig) → Buf (Elt Ideal) ℓ} {c : Dev nD} {dy : ℕ → ℕ → EReal} {w : ℕ → ℕ → ℕ → EReal} {x b : ℕ → ℕ → EReal} {r g : ℕ → EReal}
  (a0 : E2 (n := 8192) (m := 7168) (V m c main_arg0) dy) (a1 : E3 (a := 8) (b := 2048) (c := 896) (V m c main_arg1) w)
  (a2 : E2 (n := 8192) (m := 2048) (V m c main_arg2) x) (a3 : E2 (n := 8192) (m := 1) (V m c main_v7) fun s _ => r s)
  (a4 : E2 (n := 1) (m := 2048) (V m c main_arg3) fun _ d => g d) (a5 : E2 (n := 8192) (m := 2048) (V m c main_arg4) b)

theorem idx_all : ∀ t : Fin cfg0.N, win0_0.index t = ![t.val / 8, t.val % 8] ∧ win0_1.index t = ![t.val % 8, 0, 0]
    ∧ win0_2.index t = ![t.val / 8, 0] ∧ win0_3.index t = ![t.val / 8, 0] ∧ win0_4.index t = ![0, 0] ∧ win0_5.index t = ![t.val / 8, 0] := by
  decide +kernel

include a0 in
theorem block0 (t : Fin cfg0.N) : E2 (n := 512) (m := 896) (iblk m c 0 t : Vec Ideal S512x896 .bf16) fun s n => dy (512 * (t.val / 8) + s) (896 * (t.val % 8) + n) := fun y => by
  have e0 : (((win0_0.rect t).emb y) 0).val = 512 * (t.val / 8) + (y 0).val := by
    rw [win0_0.rect_emb_val t y 0, (idx_all t).1]; show t.val / 8 * 512 + _ = _; omega
  have e1 : (((win0_0.rect t).emb y) 1).val = 896 * (t.val % 8) + (y 1).val := by
    rw [win0_0.rect_emb_val t y 1, (idx_all t).1]; show t.val % 8 * 896 + _ = _; omega
  refine (a0 ((win0_0.rect t).emb y)).trans ?_
  dsimp only
  rw [e0, e1]

include a1 in
theorem block1 (t : Fin cfg0.N) : E3 (a := 1) (b := 2048) (c := 896) (iblk m c 1 t : Vec Ideal S1x2048x896 .bf16) fun _ d n => w (t.val % 8) d n := fun y => by
  have h0 : (y 0).val < 1 := (y 0).isLt
  have e0 : (((win0_1.rect t).emb y) 0).val = t.val % 8 := by
    rw [win0_1.rect_emb_val t y 0, (idx_all t).2.1]; show t.val % 8 * 1 + (y 0).val = _; omega
  have e1 : (((win0_1.rect t).emb y) 1).val = (y 1).val := by
    rw [win0_1.rect_emb_val t y 1, (idx_all t).2.1]; show 0 * 2048 + _ = _; omega
  have e2 : (((win0_1.rect t).emb y) 2).val = (y 2).val := by
    rw [win0_1.rect_emb_val t y 2, (idx_all t).2.1]; show 0 * 896 + _ = _; omega
  refine (a1 ((win0_1.rect t).emb y)).trans ?_
  dsimp only
  rw [e0, e1, e2]

include a2 in
theorem block2 (t : Fin cfg0.N) : E2 (n := 512) (m := 2048) (iblk m c 2 t : Vec Ideal S512x2048 .f32) fun s d => x (512 * (t.val / 8) + s) d := fun y => by
  have e0 : (((win0_2.rect t).emb y) 0).val = 512 * (t.val / 8) + (y 0).val := by
    rw [win0_2.rect_emb_val t y 0, (idx_all t).2.2.1]; show t.val / 8 * 512 + _ = _; omega
  have e1 : (((win0_2.rect t).emb y) 1).val = (y 1).val := by
    rw [win0_2.rect_emb_val t y 1, (idx_all t).2.2.1]; show 0 * 2048 + _ = _; omega
  refine (a2 ((win0_2.rect t).emb y)).trans ?_
  dsimp only
  rw [e0, e1]

include a3 in
theorem block3 (t : Fin cfg0.N) : E2 (n := 512) (m := 1) (iblk m c 3 t : Vec Ideal S512x1 .f32) fun s _ => r (512 * (t.val / 8) + s) := fun y => by
  have e0 : (((win0_3.rect t).emb y) 0).val = 512 * (t.val / 8) + (y 0).val := by
    rw [win0_3.rect_emb_val t y 0, (idx_all t).2.2.2.1]; show t.val / 8 * 512 + _ = _; omega
  refine (a3 ((win0_3.rect t).emb y)).trans ?_
  dsimp only
  rw [e0]

include a4 in
theorem block4 (t : Fin cfg0.N) : E2 (n := 1) (m := 2048) (iblk m c 4 t : Vec Ideal S1x2048 .f32) fun _ d => g d := fun y => by
  have e1 : (((win0_4.rect t).emb y) 1).val = (y 1).val := by
    rw [win0_4.rect_emb_val t y 1, (idx_all t).2.2.2.2.1]; show 0 * 2048 + _ = _; omega
  refine (a4 ((win0_4.rect t).emb y)).trans ?_
  dsimp only
  rw [e1]

include a5 in
theorem block5 (t : Fin cfg0.N) : E2 (n := 512) (m := 2048) (iblk m c 5 t : Vec Ideal S512x2048 .f32) fun s d => b (512 * (t.val / 8) + s) d := fun y => by
  have e0 : (((win0_5.rect t).emb y) 0).val = 512 * (t.val / 8) + (y 0).val := by
    rw [win0_5.rect_emb_val t y 0, (idx_all t).2.2.2.2.2]; show t.val / 8 * 512 + _ = _; omega
  have e1 : (((win0_5.rect t).emb y) 1).val = (y 1).val := by
    rw [win0_5.rect_emb_val t y 1, (idx_all t).2.2.2.2.2]; show 0 * 2048 + _ = _; omega
  refine (a5 ((win0_5.rect t).emb y)).trans ?_
  dsimp only
  rw [e0, e1]

/-- The gradient's product with the weights, over the first `k` blocks of columns. -/
def hid (dy : ℕ → ℕ → EReal) (w : ℕ → ℕ → ℕ → EReal) (k s d : ℕ) : EReal :=
  ∑ j ∈ Finset.range k, ∑ n ∈ Finset.range 896, dy s (896 * j + n) * w j d n

include a0 a1

theorem step (t : Fin cfg0.N) (v : Vec Ideal S512x2048 .f32) (hv : E2 (n := 512) (m := 2048) v fun s d => hid dy w (t.val % 8) (512 * (t.val / 8) + s) d) :
    E2 (n := 512) (m := 2048) (k0_pay2 (iblk m c 0 t) (iblk m c 1 t) v) fun s d => hid dy w (t.val % 8 + 1) (512 * (t.val / 8) + s) d :=
  E2.congr (pay2_val (p := fun s n => dy (512 * (t.val / 8) + s) (896 * (t.val % 8) + n)) _ _ v (block0 a0 t) (block1 a1 t) hv) fun s _ d _ => (Finset.sum_range_succ _ _).symm

theorem held : ∀ (n : ℕ) (h : n < cfg0.N) (hn : n % 8 ≠ 7), E2 (n := 512) (m := 2048) (outsAt0 m c n h).2.2.2 fun s d => hid dy w (n % 8 + 1) (512 * (n / 8) + s) d := by
  intro n
  induction n with
  | zero =>
    intro h hn
    rw [outsAt0_A m c ⟨0, h⟩ rfl (by show ¬ 0 % 8 = 7; decide)]
    dsimp only
    rw [left_A]
    exact step a0 a1 ⟨0, h⟩ _ (E2.congr pay1_val fun s _ d _ => by simp [hid])
  | succ n ih =>
    intro h hn
    by_cases h0 : (n + 1) % 8 = 0
    · rw [outsAt0_A m c ⟨n + 1, h⟩ h0 hn]
      dsimp only
      rw [left_A]
      exact step a0 a1 ⟨n + 1, h⟩ _ (E2.congr pay1_val fun s _ d _ => by simp [hid, h0])
    · rw [outsAt0_B m c ⟨n + 1, h⟩ h0 hn]
      dsimp only
      rw [left_B]
      refine step a0 a1 ⟨n + 1, h⟩ _ (E2.congr (ih (Nat.lt_of_succ_lt h) (by omega)) fun s _ d _ => ?_)
      show _ = hid dy w ((n + 1) % 8) (512 * ((n + 1) / 8) + s) d
      rw [show (n + 1) / 8 = n / 8 by omega, show (n + 1) % 8 = n % 8 + 1 by omega]

/-- The eighth block's sum. -/
theorem whole (t : Fin cfg0.N) (h : t.val % 8 = 7) (hp : t.val - 1 < cfg0.N) :
    E2 (n := 512) (m := 2048) (k0_pay2 (iblk m c 0 t) (iblk m c 1 t) (outsAt0 m c (t.val - 1) hp).2.2.2)
      fun s d => hid dy w 8 (512 * (t.val / 8) + s) d := by
  refine E2.congr (step a0 a1 t _ (E2.congr (held a0 a1 (t.val - 1) hp (by omega)) fun s _ d _ => ?_)) fun s _ d _ => ?_
  · rw [show (t.val - 1) / 8 = t.val / 8 by omega, show (t.val - 1) % 8 + 1 = t.val % 8 by omega]
  · rw [h]

include a2 a3

theorem given8 (t : Fin cfg0.N) (h : t.val % 8 = 7) (hp : t.val - 1 < cfg0.N) :
    E2 (n := 1) (m := 2048) (parts (iblk m c 2 t) (iblk m c 3 t) (k0_pay2 (iblk m c 0 t) (iblk m c 1 t) (outsAt0 m c (t.val - 1) hp).2.2.2))
      fun _ d => ∑ s ∈ Finset.range 512, hid dy w 8 (512 * (t.val / 8) + s) d * (x (512 * (t.val / 8) + s) d * r (512 * (t.val / 8) + s)) :=
  parts_val (h := fun s d => hid dy w 8 (512 * (t.val / 8) + s) d) (x := fun s d => x (512 * (t.val / 8) + s) d) (r := fun s => r (512 * (t.val / 8) + s)) _ _ _
    (block2 a2 t) (block3 a3 t) (whole a0 a1 t h hp)

/-- The gain's gradient over the rows so far. -/
theorem held8 : ∀ (n : ℕ) (h : n < cfg0.N) (hn : 7 ≤ n),
    E2 (n := 1) (m := 2048) (outsAt0 m c n h).2.2.1 fun _ d => ∑ s ∈ Finset.range (512 * ((n + 1) / 8)), hid dy w 8 s d * (x s d * r s) := by
  intro n
  induction n with
  | zero => intro h hn; omega
  | succ n ih =>
    intro h hn
    by_cases h0 : (n + 1) % 8 = 0
    · rw [outsAt0_A m c ⟨n + 1, h⟩ h0 (by show ¬ (n + 1) % 8 = 7; omega)]
      refine E2.congr (ih (Nat.lt_of_succ_lt h) (by omega)) fun _ _ d _ => ?_
      rw [show (n + 1 + 1) / 8 = (n + 1) / 8 by omega]
    by_cases h1 : (n + 1) % 8 = 7
    · have hp : n < cfg0.N := Nat.lt_of_succ_lt h
      have hq := given8 a0 a1 a2 a3 ⟨n + 1, h⟩ h1 hp
      by_cases h2 : n + 1 < 8
      · rw [outsAt0_C m c ⟨n + 1, h⟩ h0 h1 h2 (by show ¬ 8 ≤ n + 1; omega)]
        dsimp only
        rw [out_C8]
        refine E2.congr hq fun _ _ d _ => ?_
        obtain rfl : n = 6 := by omega
        simp
      · rw [outsAt0_D m c ⟨n + 1, h⟩ h0 h1 h2 (by show 8 ≤ n + 1; omega)]
        dsimp only
        rw [out_D8]
        refine E2.congr (pay3_val _ _ hq (ih hp (by omega))) fun _ _ d _ => ?_
        dsimp only
        rw [show 512 * ((n + 1 + 1) / 8) = 512 * ((n + 1) / 8) + 512 by omega, Finset.sum_range_add]
    · rw [outsAt0_B m c ⟨n + 1, h⟩ h0 h1]
      refine E2.congr (ih (Nat.lt_of_succ_lt h) (by omega)) fun _ _ d _ => ?_
      rw [show (n + 1 + 1) / 8 = (n + 1) / 8 by omega]

theorem gain_end : E2 (n := 1) (m := 2048) (Value.G8 m c) fun _ d => ∑ s ∈ Finset.range 8192, hid dy w 8 s d * (x s d * r s) := by
  rw [Value.G8_last, ← Value.outsAt0_sweep m c 127 (lt_of_lt_of_eq (by decide) N_0.symm)]
  exact held8 a0 a1 a2 a3 127 _ (by decide)

include a4 a5

theorem given6 (t : Fin cfg0.N) (h : t.val % 8 = 7) :
    E2 (n := 512) (m := 2048) (outsAt0 m c t.val t.isLt).1 fun s d => back (hid dy w 8) x r g b (512 * (t.val / 8) + s) d := by
  have h0 : ¬ t.val % 8 = 0 := by omega
  have hp : t.val - 1 < cfg0.N := by have := t.isLt; omega
  have hw := wides_val (h := fun s d => hid dy w 8 (512 * (t.val / 8) + s) d) (x := fun s d => x (512 * (t.val / 8) + s) d) (r := fun s => r (512 * (t.val / 8) + s)) (g := g)
    (b := fun s d => b (512 * (t.val / 8) + s) d) _ _ _ _ _ (block2 a2 t) (block3 a3 t) (block4 a4 t) (block5 a5 t) (whole a0 a1 t h hp)
  by_cases h2 : t.val < 8
  · rw [outsAt0_C m c t h0 h h2 (by omega)]
    dsimp only
    rw [out_C6]
    exact hw
  · rw [outsAt0_D m c t h0 h h2 (by omega)]
    dsimp only
    rw [out_D6]
    exact hw

theorem given7 (t : Fin cfg0.N) (h : t.val % 8 = 7) :
    E2 (n := 512) (m := 2048) (outsAt0 m c t.val t.isLt).2.1 fun s d => back (hid dy w 8) x r g b (512 * (t.val / 8) + s) d := by
  have h0 : ¬ t.val % 8 = 0 := by omega
  have hp : t.val - 1 < cfg0.N := by have := t.isLt; omega
  have hw := widesN_val (h := fun s d => hid dy w 8 (512 * (t.val / 8) + s) d) (x := fun s d => x (512 * (t.val / 8) + s) d) (r := fun s => r (512 * (t.val / 8) + s)) (g := g)
    (b := fun s d => b (512 * (t.val / 8) + s) d) _ _ _ _ _ (block2 a2 t) (block3 a3 t) (block4 a4 t) (block5 a5 t) (whole a0 a1 t h hp)
  by_cases h2 : t.val < 8
  · rw [outsAt0_C m c t h0 h h2 (by omega)]
    dsimp only
    rw [out_C7]
    exact hw
  · rw [outsAt0_D m c t h0 h h2 (by omega)]
    dsimp only
    rw [out_D7]
    exact hw

theorem wide_end : E2 (n := 8192) (m := 2048) (Value.G6 m c) (back (hid dy w 8) x r g b) := fun i => by
  have h0 : (i 0).val < 8192 := (i 0).isLt
  have h1 : (i 1).val < 2048 := (i 1).isLt
  have hr : Value.run6Of i = (i 0).val / 512 := by show 1 * ((i 0).val / 512 - 0) + 1 * ((i 1).val / 2048 - 0) = _; omega
  have hp : Value.pt6Of i < cfg0.N := by show 8 * Value.run6Of i + 7 < 128; omega
  unfold Value.G6
  rw [dif_pos hp, ← Value.outsAt0_sweep m c (Value.pt6Of i) hp]
  refine (given6 a0 a1 a2 a3 a4 a5 ⟨Value.pt6Of i, hp⟩ (by show (8 * Value.run6Of i + 7) % 8 = 7; omega) (Value.loc6Of i)).trans ?_
  show back (hid dy w 8) x r g b (512 * ((8 * Value.run6Of i + 7) / 8) + (i 0).val % 512) ((i 1).val % 2048) = _
  rw [hr, Nat.mod_eq_of_lt h1, show 512 * ((8 * ((i 0).val / 512) + 7) / 8) + (i 0).val % 512 = (i 0).val by omega]

theorem narrow_end : E2 (n := 8192) (m := 2048) (Value.G7 m c) (back (hid dy w 8) x r g b) := fun i => by
  have h0 : (i 0).val < 8192 := (i 0).isLt
  have h1 : (i 1).val < 2048 := (i 1).isLt
  have hr : Value.run7Of i = (i 0).val / 512 := by show 1 * ((i 0).val / 512 - 0) + 1 * ((i 1).val / 2048 - 0) = _; omega
  have hp : Value.pt7Of i < cfg0.N := by show 8 * Value.run7Of i + 7 < 128; omega
  unfold Value.G7
  rw [dif_pos hp, ← Value.outsAt0_sweep m c (Value.pt7Of i) hp]
  refine (given7 a0 a1 a2 a3 a4 a5 ⟨Value.pt7Of i, hp⟩ (by show (8 * Value.run7Of i + 7) % 8 = 7; omega) (Value.loc7Of i)).trans ?_
  show back (hid dy w 8) x r g b (512 * ((8 * Value.run7Of i + 7) / 8) + (i 0).val % 512) ((i 1).val % 2048) = _
  rw [hr, Nat.mod_eq_of_lt h1, show 512 * ((8 * ((i 0).val / 512) + 7) / 8) + (i 0).val % 512 = (i 0).val by omega]

end Cert.Kernel11Ideal.Hand

namespace Cert.Kernel11Ideal.Hand

open Cert.Kernel11Ideal Cert.Kernel11Ideal.Gen Cert.Hand Cert.Staged Idealize.ShloMosaic Idealize.ShloMosaic.TcCoe Idealize.SL.Sem

set_option maxHeartbeats 40000000 in
theorem V_v7 (m : (ℓ : Loc nD τ sig) → Buf (Elt Ideal) ℓ) (c : Dev nD) :
    V m c main_v7 = Host.rsqrt (hostMsq (m ((c.tc : Thread nD τ).loc main_arg2)) reducesTo_S8192x2048_S8192_d1 h_S_ bcast_S8192_S8192x1_0 bcast_S_S8192x1) := by
  dsimp only [V]
  simp only [hostOps0, List.flatten_cons, List.flatten_nil, List.append_nil, List.cons_append, List.nil_append]
  after_results_simp

end Cert.Kernel11Ideal.Hand

namespace Cert.Reference11Ideal.Hand

open Cert.Reference11Ideal Cert.Reference11Ideal.Gen Cert.Hand Cert.Staged Idealize.ShloMosaic Idealize.ShloMosaic.TcCoe Idealize.SL.Sem

/-- A matrix with its columns cut into eight blocks of 896. -/
theorem cut_val {p : ℕ → ℕ → EReal} (v : FVec Ideal S8192x7168 .f32) (hv : E2 (n := 8192) (m := 7168) v p) (n : Fin 8192) (j : Fin 8) (d : Fin 896) :
    shapeCast S8192x8x896 v shapeCasts_S8192x7168_S8192x8x896 (ValueIdx.ix3 n j d) = p n.val (896 * j.val + d.val) := by
  have hj : j.val < 8 := j.isLt
  have hd : d.val < 896 := d.isLt
  have hc : 896 * j.val + d.val < 7168 := by omega
  refine (congrArg v (Shape.reshapeEquiv_eq_of_vals _ _ (ValueIdx.ix2 n (⟨896 * j.val + d.val, hc⟩ : Fin 7168)) _ _ (rowMajor_val2 _ 7168 rfl) (rowMajor_val3 _ 7168 896 rfl rfl) ?_)).trans (hv _)
  show n.val * 7168 + (896 * j.val + d.val) = n.val * 7168 + j.val * 896 + d.val
  omega

section
variable {dy : ℕ → ℕ → EReal} {w : ℕ → ℕ → ℕ → EReal} {x b : ℕ → ℕ → EReal} {g : ℕ → EReal}
  (v0 : FVec Ideal S8192x7168 .bf16) (v1 : FVec Ideal S8x2048x896 .bf16) (v2 : FVec Ideal S8192x2048 .f32) (v3 : FVec Ideal S1x2048 .f32) (v4 : FVec Ideal S8192x2048 .f32)
  (a0 : E2 (n := 8192) (m := 7168) v0 dy) (a1 : E3 (a := 8) (b := 2048) (c := 896) v1 w) (a2 : E2 (n := 8192) (m := 2048) v2 x) (a3 : E2 (n := 1) (m := 2048) v3 fun _ d => g d)
  (a4 : E2 (n := 8192) (m := 2048) v4 b)

/-- The gradient of the normed rows, a product over two axes at once. -/
abbrev hidR : FVec Ideal S8192x2048 .f32 :=
  Host.dotGeneral dot_S8192x8x896_S8x2048x896_S8192x2048_12_02_0_1_n_n none (shapeCast _ (extf .f32 v0 bitsLt_bf16_f32) shapeCasts_S8192x7168_S8192x8x896) (extf .f32 v1 bitsLt_bf16_f32)

abbrev facR : FVec Ideal S8192x1 .f32 := Host.rsqrt (hostMsq v2 reducesTo_S8192x2048_S8192_d1 h_S_ bcast_S8192_S8192x1_0 bcast_S_S8192x1)
abbrev gained : FVec Ideal S8192x2048 .f32 := mulf (hidR v0 v1) (broadcastInDim S8192x2048 ![0, 1] bcast_S1x2048_S8192x2048_0_1 v3)

/-- The part of a row's gradient that its mean square passes on. -/
abbrev share : FVec Ideal S8192x2048 .f32 :=
  broadcastInDim S8192x2048 ![0] bcast_S8192_S8192x2048_0 (Host.reduceAdd (Host.divf (mulf (shapeCast S8192x1 (Host.reduceAdd (mulf v2 (gained v0 v1 v3)) (constant S_ .f32 0x00000000#32)
      reducesTo_S8192x2048_S8192_d1 h_S_) shapeCasts_S8192_S8192x1) (mulf (broadcastInDim S8192x1 ![] bcast_S_S8192x1 (constant S_ .f32 0xBF000000#32))
      (Host.divf (facR v2) (hostMsq v2 reducesTo_S8192x2048_S8192_d1 h_S_ bcast_S8192_S8192x1_0 bcast_S_S8192x1))))
    (broadcastInDim S8192x1 ![] bcast_S_S8192x1 (constant S_ .f32 0x45000000#32))) (constant S_ .f32 0x00000000#32) reducesTo_S8192x1_S8192_d1 h_S_)

abbrev inputR : FVec Ideal S8192x2048 .f32 :=
  addf v4 (addf (addf (mulf (gained v0 v1 v3) (broadcastInDim S8192x2048 ![0, 1] bcast_S8192x1_S8192x2048_0_1 (facR v2))) (mulf v2 (share v0 v1 v2 v3))) (mulf (share v0 v1 v2 v3) v2))

abbrev gainR : FVec Ideal S1x2048 .f32 :=
  shapeCast S1x2048 (Host.reduceAdd (mulf (mulf v2 (broadcastInDim S8192x2048 ![0, 1] bcast_S8192x1_S8192x2048_0_1 (facR v2))) (hidR v0 v1)) (constant S_ .f32 0x00000000#32)
    reducesTo_S8192x2048_S2048_d0 h_S_) shapeCasts_S2048_S1x2048

include a0 a1

theorem hidR_val : E2 (n := 8192) (m := 2048) (hidR v0 v1) (Cert.Kernel11Ideal.Hand.hid dy w 8) := fun y => by
  refine (Ideal.matmul_apply₂_of dot_S8192x8x896_S8x2048x896_S8192x2048_12_02_0_1_n_n (K₁ := 8) (K₂ := 896) rfl rfl rfl
    (shapeCast _ (extf .f32 v0 bitsLt_bf16_f32) shapeCasts_S8192x7168_S8192x8x896) (extf .f32 v1 bitsLt_bf16_f32) (fun _ => 0) y
    (fun j n => ValueIdx.ix3 (y 0) j n) (fun j n => ValueIdx.ix3 j (y 1) n) (fun j n => funext fun d => by fin_cases d <;> rfl) (fun j n => funext fun d => by fin_cases d <;> rfl)).trans ?_
  refine (zero_add _).trans ?_
  refine (Finset.sum_congr rfl fun j _ => (Finset.sum_congr rfl fun n _ => ?_).trans (Finset.sum_range (fun n => dy (y 0).val (896 * j.val + n) * w j.val (y 1).val n)).symm).trans
    (Finset.sum_range (fun j => ∑ n ∈ Finset.range 896, dy (y 0).val (896 * j + n) * w j (y 1).val n)).symm
  exact congrArg₂ (· * ·) (cut_val (extf .f32 v0 bitsLt_bf16_f32) a0 (y 0) j n) (a1 (ValueIdx.ix3 j (y 1) n))

include a2

theorem gainR_val : E2 (n := 1) (m := 2048) (gainR v0 v1 v2) fun _ d => ∑ s ∈ Finset.range 8192, Cert.Kernel11Ideal.Hand.hid dy w 8 s d * (x s d * fac x s) :=
  E2.congr (E1.level _ shapeCasts_S2048_S1x2048 (E2.hostCols _ reducesTo_S8192x2048_S2048_d0 h_S_ (E2.mul (φ := .f32) _ _ (E2.mul (φ := .f32) v2 _ a2
    (E2.hostCol _ bcast_S8192x1_S8192x2048_0_1 (by decide) (hostFac_val v2 a2 _ _ _ _))) (hidR_val v0 v1 a0 a1)))) fun _ _ d _ => Finset.sum_congr rfl fun _ _ => mul_comm _ _

include a3

theorem gained_val : E2 (n := 8192) (m := 2048) (gained v0 v1 v3) fun s d => Cert.Kernel11Ideal.Hand.hid dy w 8 s d * g d :=
  E2.mul (φ := .f32) _ _ (hidR_val v0 v1 a0 a1) (E2.hostRow _ bcast_S1x2048_S8192x2048_0_1 (by decide) a3)

theorem share_val : E2 (n := 8192) (m := 2048) (share v0 v1 v2 v3) fun s _ =>
    ∑ _k ∈ Finset.range 1, (∑ e ∈ Finset.range 2048, x s e * (Cert.Kernel11Ideal.Hand.hid dy w 8 s e * g e)) * (((-(1 / 2) : ℝ) : EReal) * Ideal.div (fac x s) (msq x s)) * part2048 :=
  E1.hostSpread _ bcast_S8192_S8192x2048_0 (by decide) (E2.hostRows _ reducesTo_S8192x1_S8192_d1 h_S_ (E2.hostMean _ _ (E2.mul (φ := .f32) _ _
    (E1.upright _ shapeCasts_S8192_S8192x1 (E2.hostRows _ reducesTo_S8192x2048_S8192_d1 h_S_ (E2.mul (φ := .f32) v2 _ a2 (gained_val v0 v1 v2 v3 a0 a1 a2 a3))))
    (E2.mul (φ := .f32) _ _ (E2.hostConst _ _ bits_neg_half bcast_S_S8192x1) (E2.hostDiv _ _ (hostFac_val v2 a2 _ _ _ _) (hostMsq_val v2 a2 _ _ _ _))))
    (E2.hostConst _ _ bits_2048 bcast_S_S8192x1)))

include a4

theorem inputR_val : E2 (n := 8192) (m := 2048) (inputR v0 v1 v2 v3 v4) (Cert.Kernel4Ideal.Hand.back (Cert.Kernel11Ideal.Hand.hid dy w 8) x (fac x) g b) := by
  have hs := share_val v0 v1 v2 v3 a0 a1 a2 a3
  exact E2.congr (E2.add (φ := .f32) _ _ a4 (E2.add (φ := .f32) _ _ (E2.add (φ := .f32) _ _ (E2.mul (φ := .f32) _ _ (gained_val v0 v1 v2 v3 a0 a1 a2 a3)
    (E2.hostCol _ bcast_S8192x1_S8192x2048_0_1 (by decide) (hostFac_val v2 a2 _ _ _ _))) (E2.mul (φ := .f32) v2 _ a2 hs)) (E2.mul (φ := .f32) _ v2 hs a2)))
    fun s _ d _ => back_eq _ x b g s d

end

end Cert.Reference11Ideal.Hand

namespace Cert.Proof

open Idealize.ShloMosaic Idealize.SL.Sem Cert.Staged Cert.Hand

/-- The two printings of the program have the same bodies. -/
theorem bodies11 {F : FTy → Type} [FloatOps F] : @Cert.Kernel11.defs F _ _ = @Cert.Kernel11Ideal.defs F _ _ :=
  congrArg (Pipeline.defs (Cert.Kernel11Ideal.pcfgs (F := F))) (congrArg Defs.onTc (funext fun l => match l with | 0 => rfl))

theorem frame_kernel11 : Cert.quiescent_Kernel11 := fun m ρ _ => by
  rw [bodies11]
  exact Cert.Kernel11Ideal.Gen.frame (F := Bits) m ρ

theorem frame_kernel11_ideal : Cert.quiescent_Kernel11Ideal := fun m ρ _ => Cert.Kernel11Ideal.Gen.frame (F := Ideal) m ρ

theorem frame_reference11_ideal : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem algebraic11 : Cert.algebraic_Kernel11Ideal_Reference11Ideal := fun m g m' g' _ hargs => by
  have r0 : ∀ c : Dev Cert.Kernel11Ideal.nD, E2 (n := 8192) (m := 7168) (m ((c.tc : Thread Cert.Kernel11Ideal.nD Cert.Kernel11Ideal.τ).loc Cert.Kernel11Ideal.main_arg0)) (num2 (m ((c.tc : Thread Cert.Kernel11Ideal.nD Cert.Kernel11Ideal.τ).loc Cert.Kernel11Ideal.main_arg0))) := fun c => num2_val _
  have r1 : ∀ c : Dev Cert.Kernel11Ideal.nD, E3 (a := 8) (b := 2048) (c := 896) (m ((c.tc : Thread Cert.Kernel11Ideal.nD Cert.Kernel11Ideal.τ).loc Cert.Kernel11Ideal.main_arg1)) (num3 (m ((c.tc : Thread Cert.Kernel11Ideal.nD Cert.Kernel11Ideal.τ).loc Cert.Kernel11Ideal.main_arg1))) := fun c => num3_val _
  have r2 : ∀ c : Dev Cert.Kernel11Ideal.nD, E2 (n := 8192) (m := 2048) (m ((c.tc : Thread Cert.Kernel11Ideal.nD Cert.Kernel11Ideal.τ).loc Cert.Kernel11Ideal.main_arg2)) (num2 (m ((c.tc : Thread Cert.Kernel11Ideal.nD Cert.Kernel11Ideal.τ).loc Cert.Kernel11Ideal.main_arg2))) := fun c => num2_val _
  have q3 : ∀ c : Dev Cert.Kernel11Ideal.nD, E2 (n := 1) (m := 2048) (m ((c.tc : Thread Cert.Kernel11Ideal.nD Cert.Kernel11Ideal.τ).loc Cert.Kernel11Ideal.main_arg3)) (num2 (m ((c.tc : Thread Cert.Kernel11Ideal.nD Cert.Kernel11Ideal.τ).loc Cert.Kernel11Ideal.main_arg3))) := fun c => num2_val _
  have r4 : ∀ c : Dev Cert.Kernel11Ideal.nD, E2 (n := 8192) (m := 2048) (m ((c.tc : Thread Cert.Kernel11Ideal.nD Cert.Kernel11Ideal.τ).loc Cert.Kernel11Ideal.main_arg4)) (num2 (m ((c.tc : Thread Cert.Kernel11Ideal.nD Cert.Kernel11Ideal.τ).loc Cert.Kernel11Ideal.main_arg4))) := fun c => num2_val _
  have r3 := fun c : Dev Cert.Kernel11Ideal.nD => E2.congr (g := fun _ d => num2 (a := 1) (b := 2048) (m ((c.tc : Thread Cert.Kernel11Ideal.nD Cert.Kernel11Ideal.τ).loc Cert.Kernel11Ideal.main_arg3)) 0 d) (q3 c) fun i hi d _ => by rw [show i = 0 by omega]
  have k0 := fun c : Dev Cert.Kernel11Ideal.nD => E2.via (n := 8192) (k := 7168) (Cert.Kernel11Ideal.Gen.V_main_arg0 m c) (r0 c)
  have k1 := fun c : Dev Cert.Kernel11Ideal.nD => E3.via (a := 8) (b := 2048) (c := 896) (Cert.Kernel11Ideal.Gen.V_main_arg1 m c) (r1 c)
  have k2 := fun c : Dev Cert.Kernel11Ideal.nD => E2.via (n := 8192) (k := 2048) (Cert.Kernel11Ideal.Gen.V_main_arg2 m c) (r2 c)
  have k3 := fun c : Dev Cert.Kernel11Ideal.nD => E2.via (n := 1) (k := 2048) (Cert.Kernel11Ideal.Gen.V_main_arg3 m c) (r3 c)
  have k4 := fun c : Dev Cert.Kernel11Ideal.nD => E2.via (n := 8192) (k := 2048) (Cert.Kernel11Ideal.Gen.V_main_arg4 m c) (r4 c)
  have k5 := fun c : Dev Cert.Kernel11Ideal.nD => E2.via (n := 8192) (k := 1) (Cert.Kernel11Ideal.Hand.V_v7 m c) (hostFac_val _ (r2 c) _ _ _ _)
  refine ⟨fun c => Cert.Kernel11Ideal.Value.G6 m c, fun c => Cert.Kernel11Ideal.Value.G7 m c, fun c => Cert.Kernel11Ideal.Value.G8 m c, Cert.Kernel11Ideal.Value.run (F := Ideal) m g, ?_⟩
  refine (θ_run Cert.Reference11Ideal.defs _ _).mono (fun r h c => ?_) (Cert.Reference11Ideal.Value.run (F := Ideal) m' g')
  obtain ⟨e0, e1, e2, k⟩ := h c
  have hi := Cert.Reference11Ideal.Hand.inputR_val _ _ _ _ _ (r0 c) (r1 c) (r2 c) (r3 c) (r4 c)
  have hg := Cert.Reference11Ideal.Hand.gainR_val _ _ _ (r0 c) (r1 c) (r2 c)
  obtain ⟨h0, h1, h2, h3, h4⟩ := hargs c
  dsimp only [Cert.Reference11Ideal.Value.res_main_v40] at e0
  dsimp only [Cert.Reference11Ideal.Value.res_main_v41] at e1
  rw [h0, h1, h2, h3, h4] at e0
  rw [h0, h1, h2, h3, h4] at e1
  rw [h0, h1, h2] at e2
  refine ⟨e0.trans (funext fun x => (hi x).trans (Cert.Kernel11Ideal.Hand.wide_end (k0 c) (k1 c) (k2 c) (k5 c) (k3 c) (k4 c) x).symm),
    e1.trans (funext fun x => (hi x).trans (Cert.Kernel11Ideal.Hand.narrow_end (k0 c) (k1 c) (k2 c) (k5 c) (k3 c) (k4 c) x).symm),
    e2.trans (funext fun x => (hg x).trans (Cert.Kernel11Ideal.Hand.gain_end (k0 c) (k1 c) (k2 c) (k5 c) x).symm), k⟩

end Cert.Proof

end
-- ==== Proof.Fore.lean ====
/-
  The forward products of the mixers: the product the first layer of every mixer begins with, the one its output passes
  through on the way to the residual stream together with the normalization that follows, and that normalization alone.
-/
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal.Run
public import proofs.«01_k».proof.Proof.Layer

@[expose] public section

set_option maxRecDepth 16384

noncomputable section

/-! ## The product every mixer begins with -/

namespace Cert.Kernel12Ideal.Hand

open Cert.Kernel12Ideal Cert.Kernel12Ideal.Gen Cert.Hand Cert.Staged Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem out_A3 {F : FTy → Type} [FloatOps F] (c : Dev nD) (i : grid0.Coords) (a3 : Memref sig .tc .vmem S1024x2048 .bf16) (h3 : a3.IsWhole) (a4 : Memref sig .tc .vmem S1x2048x896 .bf16) (h4 : a4.IsWhole)
    (a5 : Memref sig .tc .vmem S1x896 .f32) (h5 : a5.IsWhole) (a6 : Memref sig .tc .vmem S1024x896 .f32) (h6 : a6.IsWhole) (a7 : Memref sig .tc .vmem S1024x896 .bf16) (h7 : a7.IsWhole)
    (a8 : Memref sig .tc .vmem S8x128 .f32) (h8 : a8.IsWhole) (x0 : Vec F S1024x2048 .bf16) (x1 : Vec F S1x2048x896 .bf16) (x2 : Vec F S1x896 .f32) :
    out0_A_3 c i a3 h3 a4 h4 a5 h5 a6 h6 a7 h7 a8 h8 x0 x1 x2 = k0_pay1 x0 x1 := by
  unfold out0_A_3
  rw [View.read_writes_eq_canon _ _ _ (cover0_A_3 c i a3 h3 a4 h4 a5 h5 a6 h6 a7 h7 a8 h8 x0 x1 x2)]
  unfold kernelRun0_A
  dsimp only
  rw [View.canon_unit_zero (S := S1024x896) hz2]
  simp only [View.readAt_eq_ld, h3.read_unread, h4.read_unread, View.ld_unit_zero (S := S1024x2048) hz2, View.ld_unit_zero (S := S1x2048x896) hz3]

theorem out_A4 {F : FTy → Type} [FloatOps F] (c : Dev nD) (i : grid0.Coords) (a3 : Memref sig .tc .vmem S1024x2048 .bf16) (h3 : a3.IsWhole) (a4 : Memref sig .tc .vmem S1x2048x896 .bf16) (h4 : a4.IsWhole)
    (a5 : Memref sig .tc .vmem S1x896 .f32) (h5 : a5.IsWhole) (a6 : Memref sig .tc .vmem S1024x896 .f32) (h6 : a6.IsWhole) (a7 : Memref sig .tc .vmem S1024x896 .bf16) (h7 : a7.IsWhole)
    (a8 : Memref sig .tc .vmem S8x128 .f32) (h8 : a8.IsWhole) (x0 : Vec F S1024x2048 .bf16) (x1 : Vec F S1x2048x896 .bf16) (x2 : Vec F S1x896 .f32) :
    out0_A_4 c i a3 h3 a4 h4 a5 h5 a6 h6 a7 h7 a8 h8 x0 x1 x2 = k0_pay2 x0 x1 x2 := by
  unfold out0_A_4
  rw [View.read_writes_eq_canon _ _ _ (cover0_A_4 c i a3 h3 a4 h4 a5 h5 a6 h6 a7 h7 a8 h8 x0 x1 x2)]
  unfold kernelRun0_A
  dsimp only
  rw [View.canon_unit_zero (S := S1024x896) hz2]
  simp only [View.readAt_eq_ld, h3.read_unread, h4.read_unread, h5.read_unread, View.ld_unit_zero (S := S1024x2048) hz2, View.ld_unit_zero (S := S1x2048x896) hz3, View.ld_unit_zero (S := S1x896) hz2]

theorem pay1_val {f g : ℕ → ℕ → EReal} (v0 : Vec Ideal S1024x2048 .bf16) (v1 : Vec Ideal S1x2048x896 .bf16) (e0 : E2 (n := 1024) (m := 2048) v0 f) (e1 : E3 (a := 1) (b := 2048) (c := 896) v1 fun _ => g) :
    E2 (n := 1024) (m := 896) (k0_pay1 v0 v1) fun s n => ∑ e ∈ Finset.range 2048, f s e * g e n := fun x => by
  refine (Ideal.matmul_apply₁_of dot_S1024x2048_S2048x896_S1024x896_1_0_0_1_n_n (K := 2048) rfl rfl v0 (shapeCast S2048x896 v1 shapeCasts_S1x2048x896_S2048x896) _ x
    (fun n => ValueIdx.ix2 (x 0) n) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (e0 _) (E3.drop (φ := .bf16) v1 shapeCasts_S1x2048x896_S2048x896 e1 _)).trans
    (Finset.sum_range (fun e => f (x 0).val e * g e (x 1).val)).symm

theorem pay2_val {f g : ℕ → ℕ → EReal} {k : ℕ → EReal} (v0 : Vec Ideal S1024x2048 .bf16) (v1 : Vec Ideal S1x2048x896 .bf16) (v5 : Vec Ideal S1x896 .f32) (e0 : E2 (n := 1024) (m := 2048) v0 f)
    (e1 : E3 (a := 1) (b := 2048) (c := 896) v1 fun _ => g) (e5 : E2 (n := 1) (m := 896) v5 fun _ n => k n) :
    E2 (n := 1024) (m := 896) (k0_pay2 v0 v1 v5) fun s n => (∑ e ∈ Finset.range 2048, f s e * g e n) * k n :=
  E2.mul (φ := .f32) _ _ (pay1_val v0 v1 e0 e1) (E2.row (φ := .f32) v5 broadcasts_S1x896_S1024x896 (by decide) e5)

variable (m : (ℓ : Loc nD τ sig) → Buf (Elt Ideal) ℓ) (c : Dev nD)

/-- The three arguments' entries. -/
abbrev H : ℕ → ℕ → EReal := num2 (a := 8192) (b := 2048) (m ((c.tc : Thread nD τ).loc main_arg0))
abbrev W : ℕ → ℕ → ℕ → EReal := num3 (a := 8) (b := 2048) (c := 896) (m ((c.tc : Thread nD τ).loc main_arg1))
abbrev K : ℕ → ℕ → EReal := num2 (a := 1) (b := 7168) (m ((c.tc : Thread nD τ).loc main_arg2))

/-- The product, its columns in eight blocks of 896. -/
def prod (h : ℕ → ℕ → EReal) (w : ℕ → ℕ → ℕ → EReal) (s n : ℕ) : EReal := ∑ e ∈ Finset.range 2048, h s e * w (n / 896) e (n % 896)
def scaled (h : ℕ → ℕ → EReal) (w : ℕ → ℕ → ℕ → EReal) (k : ℕ → ℕ → EReal) (s n : ℕ) : EReal := prod h w s n * k 0 n

theorem idx_all : ∀ t : Fin cfg0.N, win0_0.index t = ![t.val % 8, 0] ∧ win0_1.index t = ![t.val / 8, 0, 0] ∧ win0_2.index t = ![0, t.val / 8] ∧ win0_3.index t = ![t.val % 8, t.val / 8]
    ∧ win0_4.index t = ![t.val % 8, t.val / 8] := by
  decide +kernel

theorem block0 (t : Fin cfg0.N) : E2 (n := 1024) (m := 2048) (iblk m c 0 t : Vec Ideal S1024x2048 .bf16) fun s d => H m c (1024 * (t.val % 8) + s) (d) := fun x => by
  have h0 : (x 0).val < 1024 := (x 0).isLt
  have e0 : (((win0_0.rect t).emb x) 0).val = 1024 * (t.val % 8) + (x 0).val := by
    rw [win0_0.rect_emb_val t x 0, (idx_all t).1]; show t.val % 8 * 1024 + (x 0).val = _; omega
  have e1 : (((win0_0.rect t).emb x) 1).val = (x 1).val := by
    rw [win0_0.rect_emb_val t x 1, (idx_all t).1]; show 0 * 2048 + (x 1).val = _; omega
  refine (num2_val (a := 8192) (b := 2048) (m ((c.tc : Thread nD τ).loc main_arg0)) ((win0_0.rect t).emb x)).trans ?_
  rw [e0, e1]

theorem block1 (t : Fin cfg0.N) : E3 (a := 1) (b := 2048) (c := 896) (iblk m c 1 t : Vec Ideal S1x2048x896 .bf16) fun _ e n => W m c (t.val / 8) e n := fun x => by
  have h0 : (x 0).val < 1 := (x 0).isLt
  have e0 : (((win0_1.rect t).emb x) 0).val = t.val / 8 := by
    rw [win0_1.rect_emb_val t x 0, (idx_all t).2.1]; show t.val / 8 * 1 + (x 0).val = _; omega
  have e1 : (((win0_1.rect t).emb x) 1).val = (x 1).val := by
    rw [win0_1.rect_emb_val t x 1, (idx_all t).2.1]; show 0 * 2048 + _ = _; omega
  have e2 : (((win0_1.rect t).emb x) 2).val = (x 2).val := by
    rw [win0_1.rect_emb_val t x 2, (idx_all t).2.1]; show 0 * 896 + _ = _; omega
  refine (num3_val (a := 8) (b := 2048) (c := 896) (m ((c.tc : Thread nD τ).loc main_arg1)) ((win0_1.rect t).emb x)).trans ?_
  rw [e0, e1, e2]

theorem block2 (t : Fin cfg0.N) : E2 (n := 1) (m := 896) (iblk m c 2 t : Vec Ideal S1x896 .f32) fun _ d => K m c (0) (896 * (t.val / 8) + d) := fun x => by
  have h0 : (x 0).val < 1 := (x 0).isLt
  have e0 : (((win0_2.rect t).emb x) 0).val = 0 := by
    rw [win0_2.rect_emb_val t x 0, (idx_all t).2.2.1]; show 0 * 1 + (x 0).val = _; omega
  have e1 : (((win0_2.rect t).emb x) 1).val = 896 * (t.val / 8) + (x 1).val := by
    rw [win0_2.rect_emb_val t x 1, (idx_all t).2.2.1]; show t.val / 8 * 896 + (x 1).val = _; omega
  refine (num2_val (a := 1) (b := 7168) (m ((c.tc : Thread nD τ).loc main_arg2)) ((win0_2.rect t).emb x)).trans ?_
  rw [e0, e1]

theorem prod_block (h : ℕ → ℕ → EReal) (w : ℕ → ℕ → ℕ → EReal) (s j n : ℕ) (hn : n < 896) : ∑ e ∈ Finset.range 2048, h s e * w j e n = prod h w s (896 * j + n) := by
  unfold prod
  rw [show (896 * j + n) / 896 = j by omega, show (896 * j + n) % 896 = n by omega]

theorem given3 (t : Fin cfg0.N) : E2 (n := 1024) (m := 896) ((dats m 0 c).after 3 t : Vec Ideal S1024x896 .f32) fun s n => prod (H m c) (W m c) (1024 * (t.val % 8) + s) (896 * (t.val / 8) + n) := by
  rw [after0_3]
  unfold outsAt0
  dsimp only
  rw [out_A3]
  exact E2.congr (pay1_val (f := fun s e => H m c (1024 * (t.val % 8) + s) e) (g := fun e n => W m c (t.val / 8) e n) _ _ (block0 m c t) (block1 m c t)) fun s _ n hn => prod_block _ _ _ _ _ hn

theorem given4 (t : Fin cfg0.N) : E2 (n := 1024) (m := 896) ((dats m 0 c).after 4 t : Vec Ideal S1024x896 .bf16) fun s n => scaled (H m c) (W m c) (K m c) (1024 * (t.val % 8) + s) (896 * (t.val / 8) + n) := by
  rw [after0_4]
  unfold outsAt0
  dsimp only
  rw [out_A4]
  exact E2.congr (pay2_val (f := fun s e => H m c (1024 * (t.val % 8) + s) e) (g := fun e n => W m c (t.val / 8) e n) (k := fun n => K m c 0 (896 * (t.val / 8) + n)) _ _ _ (block0 m c t) (block1 m c t) (block2 m c t))
    fun s _ n hn => congrArg (· * _) (prod_block _ _ _ _ _ hn)

/-- The product the kernel ends with. -/
theorem wide_end : ∀ i : S8192x7168.Idx, (dats m 0 c).arrAt 3 cfg0.N i = prod (H m c) (W m c) (i 0).val (i 1).val := by
  refine (dats m 0 c).arrAt_forall_of_cover 3 (fun i v => v = prod (H m c) (W m c) (i 0).val (i 1).val) ?_ ?_
  · intro t hfl x
    have h0 : (x 0).val < 1024 := (x 0).isLt
    have h1 : (x 1).val < 896 := (x 1).isLt
    have e0 : (((win0_3.rect t).emb x) 0).val = 1024 * (t.val % 8) + (x 0).val := by
      rw [win0_3.rect_emb_val t x 0, (idx_all t).2.2.2.1]; show t.val % 8 * 1024 + (x 0).val = _; omega
    have e1 : (((win0_3.rect t).emb x) 1).val = 896 * (t.val / 8) + (x 1).val := by
      rw [win0_3.rect_emb_val t x 1, (idx_all t).2.2.2.1]; show t.val / 8 * 896 + (x 1).val = _; omega
    refine (given3 m c t x).trans ?_
    show _ = prod (H m c) (W m c) (((win0_3.rect t).emb x) 0).val (((win0_3.rect t).emb x) 1).val
    rw [e0, e1]
  · intro i
    have h0 : (i 0).val < 8192 := (i 0).isLt
    have h1 : (i 1).val < 7168 := (i 1).isLt
    have hN : (i 1).val / 896 * 8 + (i 0).val / 1024 < cfg0.N := by show _ < 64; omega
    refine ⟨⟨(i 1).val / 896 * 8 + (i 0).val / 1024, hN⟩, flush0_3 _, ?_⟩
    mem_blk [(idx_all ⟨(i 1).val / 896 * 8 + (i 0).val / 1024, hN⟩).2.2.2.1]
    show (((i 1).val / 896 * 8 + (i 0).val / 1024) % 8 * 1024 ≤ (i 0).val ∧ (i 0).val < ((i 1).val / 896 * 8 + (i 0).val / 1024) % 8 * 1024 + 1024) ∧ ((i 1).val / 896 * 8 + (i 0).val / 1024) / 8 * 896 ≤ (i 1).val ∧ (i 1).val < ((i 1).val / 896 * 8 + (i 0).val / 1024) / 8 * 896 + 896
    omega

/-- The product with its columns scaled. -/
theorem narrow_end : ∀ i : S8192x7168.Idx, (dats m 0 c).arrAt 4 cfg0.N i = scaled (H m c) (W m c) (K m c) (i 0).val (i 1).val := by
  refine (dats m 0 c).arrAt_forall_of_cover 4 (fun i v => v = scaled (H m c) (W m c) (K m c) (i 0).val (i 1).val) ?_ ?_
  · intro t hfl x
    have h0 : (x 0).val < 1024 := (x 0).isLt
    have h1 : (x 1).val < 896 := (x 1).isLt
    have e0 : (((win0_4.rect t).emb x) 0).val = 1024 * (t.val % 8) + (x 0).val := by
      rw [win0_4.rect_emb_val t x 0, (idx_all t).2.2.2.2]; show t.val % 8 * 1024 + (x 0).val = _; omega
    have e1 : (((win0_4.rect t).emb x) 1).val = 896 * (t.val / 8) + (x 1).val := by
      rw [win0_4.rect_emb_val t x 1, (idx_all t).2.2.2.2]; show t.val / 8 * 896 + (x 1).val = _; omega
    refine (given4 m c t x).trans ?_
    show _ = scaled (H m c) (W m c) (K m c) (((win0_4.rect t).emb x) 0).val (((win0_4.rect t).emb x) 1).val
    rw [e0, e1]
  · intro i
    have h0 : (i 0).val < 8192 := (i 0).isLt
    have h1 : (i 1).val < 7168 := (i 1).isLt
    have hN : (i 1).val / 896 * 8 + (i 0).val / 1024 < cfg0.N := by show _ < 64; omega
    refine ⟨⟨(i 1).val / 896 * 8 + (i 0).val / 1024, hN⟩, flush0_4 _, ?_⟩
    mem_blk [(idx_all ⟨(i 1).val / 896 * 8 + (i 0).val / 1024, hN⟩).2.2.2.2]
    show (((i 1).val / 896 * 8 + (i 0).val / 1024) % 8 * 1024 ≤ (i 0).val ∧ (i 0).val < ((i 1).val / 896 * 8 + (i 0).val / 1024) % 8 * 1024 + 1024) ∧ ((i 1).val / 896 * 8 + (i 0).val / 1024) / 8 * 896 ≤ (i 1).val ∧ (i 1).val < ((i 1).val / 896 * 8 + (i 0).val / 1024) / 8 * 896 + 896
    omega

end Cert.Kernel12Ideal.Hand

namespace Cert.Reference12Ideal.Hand

open Cert.Reference12Ideal Cert.Reference12Ideal.Gen Cert.Hand Cert.Staged Idealize.ShloMosaic Idealize.ShloMosaic.TcCoe Idealize.SL.Sem

abbrev prodR (h : FVec Ideal S8192x2048 .bf16) (w : FVec Ideal S8x2048x896 .bf16) : FVec Ideal S8192x7168 .f32 :=
  shapeCast S8192x7168 (Host.dotGeneral dot_S8192x2048_S8x2048x896_S8192x8x896_1_1_0_02_n_n none (extf .f32 h bitsLt_bf16_f32) (extf .f32 w bitsLt_bf16_f32)) shapeCasts_S8192x8x896_S8192x7168

/-- The reference's product. -/
theorem prod_val (h : FVec Ideal S8192x2048 .bf16) (w : FVec Ideal S8x2048x896 .bf16) :
    E2 (n := 8192) (m := 7168) (prodR h w) (Cert.Kernel12Ideal.Hand.prod (num2 (a := 8192) (b := 2048) h) (num3 (a := 8) (b := 2048) (c := 896) w)) := fun x => by
  have h1 : (x 1).val < 7168 := (x 1).isLt
  have hj : (x 1).val / 896 < 8 := by omega
  have hn : (x 1).val % 896 < 896 := Nat.mod_lt _ (by norm_num)
  refine (congrArg (Host.dotGeneral dot_S8192x2048_S8x2048x896_S8192x8x896_1_1_0_02_n_n none (extf .f32 h bitsLt_bf16_f32) (extf .f32 w bitsLt_bf16_f32) : FVec Ideal S8192x8x896 .f32)
    (Shape.reshapeEquiv_eq_of_vals _ _ (ValueIdx.ix3 (x 0) (⟨(x 1).val / 896, hj⟩ : Fin 8) (⟨(x 1).val % 896, hn⟩ : Fin 896)) _ _ (rowMajor_val3 _ 7168 896 rfl rfl) (rowMajor_val2 _ 7168 rfl) ?_)).trans ?_
  · show (x 0).val * 7168 + (x 1).val / 896 * 896 + (x 1).val % 896 = (x 0).val * 7168 + (x 1).val
    omega
  refine (Ideal.matmul_apply₁_of dot_S8192x2048_S8x2048x896_S8192x8x896_1_1_0_02_n_n (K := 2048) rfl rfl (extf .f32 h bitsLt_bf16_f32) (extf .f32 w bitsLt_bf16_f32) (fun _ => 0) _
    (fun n => ValueIdx.ix2 (x 0) n) (fun n => ValueIdx.ix3 (⟨(x 1).val / 896, hj⟩ : Fin 8) n (⟨(x 1).val % 896, hn⟩ : Fin 896)) (fun n => funext fun d => by fin_cases d <;> rfl)
    (fun n => funext fun d => by fin_cases d <;> rfl)).trans ?_
  refine (zero_add _).trans ((Finset.sum_congr rfl fun n _ => congrArg₂ (· * ·) (num2_val (a := 8192) (b := 2048) h _) (num3_val (a := 8) (b := 2048) (c := 896) w _)).trans ?_)
  exact (Finset.sum_range (fun e => num2 (a := 8192) (b := 2048) h (x 0).val e * num3 (a := 8) (b := 2048) (c := 896) w ((x 1).val / 896) e ((x 1).val % 896))).symm

theorem scaled_val (h : FVec Ideal S8192x2048 .bf16) (w : FVec Ideal S8x2048x896 .bf16) (k : FVec Ideal S1x7168 .f32) :
    E2 (n := 8192) (m := 7168) (mulf (prodR h w) (broadcastInDim S8192x7168 ![0, 1] bcast_S1x7168_S8192x7168_0_1 k))
      (Cert.Kernel12Ideal.Hand.scaled (num2 (a := 8192) (b := 2048) h) (num3 (a := 8) (b := 2048) (c := 896) w) (num2 (a := 1) (b := 7168) k)) :=
  E2.mul (φ := .f32) _ _ (prod_val h w) (E2.hostRow _ bcast_S1x7168_S8192x7168_0_1 (by decide) (num2_val (a := 1) (b := 7168) k))

end Cert.Reference12Ideal.Hand

/-! ## The mixers' output into the residual stream, and the normalization after it -/

namespace Cert.Kernel13Ideal.Hand

open Cert.Kernel13Ideal Cert.Kernel13Ideal.Gen Cert.Hand Cert.Staged Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem rowSums {f : ℕ → ℕ → EReal} (v : FVec Ideal S512x2048 .f32) (hv : E2 (n := 512) (m := 2048) v f) :
    E2 (n := 512) (m := 1) (shapeCast S512x1 (multiReduction .add [1] S512 v 0x00000000#32 reduces_S512x2048_S512 (.inl rfl) rfl) shapeCasts_S512_S512x1)
      fun r _ => ∑ c ∈ Finset.range 2048, f r c := fun x => by
  have h1 : (x 1).val < 1 := (x 1).isLt
  refine (congrArg (multiReduction .add [1] S512 v 0x00000000#32 reduces_S512x2048_S512 (.inl rfl) rfl)
    (Shape.reshapeEquiv_eq_of_vals _ _ (ValueIdx.ix1 (x 0)) _ _ (rowMajor_val1 _) (rowMajor_val2 _ 1 rfl) ?_)).trans ?_
  · show (x 0).val = (x 0).val * 1 + (x 1).val
    omega
  · refine (Ideal.reduceAdd_r2_a1 reduces_S512x2048_S512 v (ValueIdx.ix1 (x 0))).trans ?_
    refine (Finset.sum_congr rfl fun k _ => hv _).trans ?_
    exact (Finset.sum_range (fun k => f (x 0).val k)).symm

/-- The factor that normalizes a row. -/
theorem fac_val {z : ℕ → ℕ → EReal} (v : FVec Ideal S512x2048 .f32) (hv : E2 (n := 512) (m := 2048) v z) :
    E2 (n := 512) (m := 1) (rsqrt (addf (divf (shapeCast S512x1 (multiReduction .add [1] S512 (mulf v v) 0x00000000#32 reduces_S512x2048_S512 (.inl rfl) rfl) shapeCasts_S512_S512x1)
      (broadcast S512x1 (Ideal.ofBits .f32 0x45000000#32))) (broadcast S512x1 (Ideal.ofBits .f32 0x358637BD#32))) : FVec Ideal S512x1 .f32) fun s _ => fac z s := fun x =>
  congrArg Ideal.rsqrt (E2.add (φ := .f32) _ _ (E2.mean (φ := .f32) _ (broadcast S512x1 (Ideal.ofBits .f32 0x45000000#32)) (rowSums _ (E2.mul (φ := .f32) v v hv hv)) (fun _ => bits_2048))
    (E2.bc _ _ bits_eps) x)

/-- The normalized rows with their columns scaled. -/
def normed (z : ℕ → ℕ → EReal) (g : ℕ → ℕ → EReal) (s d : ℕ) : EReal := z s d * fac z s * g 0 d
def factor (z : ℕ → ℕ → EReal) (s _d : ℕ) : EReal := fac z s

theorem out_4 {F : FTy → Type} [FloatOps F] (x0 : Vec F S512x2048 .bf16) (x1 : Vec F S2048x2048 .bf16) (x2 : Vec F S512x2048 .f32) (x3 : Vec F S1x2048 .f32) : out0_4 x0 x1 x2 x3 = k0_pay1 x2 x0 x1 := by
  unfold out0_4 r0_0 r0_1
  rw [View.canon_unit_zero (S := S512x2048) hz2]
  simp only [View.ld_unit_zero (S := S512x2048) hz2, View.ld_unit_zero (S := S2048x2048) hz2]

theorem out_5 {F : FTy → Type} [FloatOps F] (x0 : Vec F S512x2048 .bf16) (x1 : Vec F S2048x2048 .bf16) (x2 : Vec F S512x2048 .f32) (x3 : Vec F S1x2048 .f32) : out0_5 x0 x1 x2 x3 = k0_pay3 x2 x0 x1 x3 := by
  unfold out0_5 r0_0 r0_1 r0_2
  rw [View.canon_unit_zero (S := S512x2048) hz2]
  simp only [View.ld_unit_zero (S := S512x2048) hz2, View.ld_unit_zero (S := S2048x2048) hz2, View.ld_unit_zero (S := S1x2048) hz2]

theorem out_6 {F : FTy → Type} [FloatOps F] (x0 : Vec F S512x2048 .bf16) (x1 : Vec F S2048x2048 .bf16) (x2 : Vec F S512x2048 .f32) (x3 : Vec F S1x2048 .f32) : out0_6 x0 x1 x2 x3 = k0_pay2 x2 x0 x1 := by
  unfold out0_6 r0_0 r0_1 r0_3
  rw [View.canon_unit_zero (S := S512x1) hz2]
  simp only [View.ld_unit_zero (S := S512x2048) hz2, View.ld_unit_zero (S := S2048x2048) hz2]

/-- The residual stream after the mixer. -/
def stream (a w x : ℕ → ℕ → EReal) (s d : ℕ) : EReal := x s d + ∑ e ∈ Finset.range 2048, a s e * w e d

section
variable {a w x : ℕ → ℕ → EReal} {g : ℕ → ℕ → EReal} (v0 : Vec Ideal S512x2048 .f32) (v1 : Vec Ideal S512x2048 .bf16) (v2 : Vec Ideal S2048x2048 .bf16) (v16 : Vec Ideal S1x2048 .f32)
  (e0 : E2 (n := 512) (m := 2048) v0 x) (e1 : E2 (n := 512) (m := 2048) v1 a) (e2 : E2 (n := 2048) (m := 2048) v2 w) (e16 : E2 (n := 1) (m := 2048) v16 g)

include e0 e1 e2

theorem pay1_val : E2 (n := 512) (m := 2048) (k0_pay1 v0 v1 v2) (stream a w x) := by
  refine E2.add (φ := .f32) v0 _ e0 fun y => ?_
  refine (Ideal.matmul_apply₁_of dot_S512x2048_S2048x2048_S512x2048_1_0_0_1_n_n (K := 2048) rfl rfl v1 v2 _ y
    (fun n => ValueIdx.ix2 (y 0) n) (fun n => ValueIdx.ix2 n (y 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (e1 _) (e2 _)).trans (Finset.sum_range (fun e => a (y 0).val e * w e (y 1).val)).symm

theorem pay2_val : E2 (n := 512) (m := 1) (k0_pay2 v0 v1 v2) (factor (stream a w x)) := fac_val _ (pay1_val v0 v1 v2 e0 e1 e2)

include e16

theorem pay3_val : E2 (n := 512) (m := 2048) (k0_pay3 v0 v1 v2 v16) (normed (stream a w x) g) :=
  E2.mul (φ := .f32) _ _ (E2.mul (φ := .f32) _ _ (pay1_val v0 v1 v2 e0 e1 e2) (E2.col (φ := .f32) _ broadcasts_S512x1_S512x2048 (by decide) (pay2_val v0 v1 v2 e0 e1 e2)))
    (E2.row (φ := .f32) v16 broadcasts_S1x2048_S512x2048 (by decide) e16)

end

variable (m : (ℓ : Loc nD τ sig) → Buf (Elt Ideal) ℓ) (c : Dev nD)

/-- The four arguments' entries. -/
abbrev A : ℕ → ℕ → EReal := num2 (a := 8192) (b := 2048) (m ((c.tc : Thread nD τ).loc main_arg0))
abbrev W : ℕ → ℕ → EReal := num2 (a := 2048) (b := 2048) (m ((c.tc : Thread nD τ).loc main_arg1))
abbrev X : ℕ → ℕ → EReal := num2 (a := 8192) (b := 2048) (m ((c.tc : Thread nD τ).loc main_arg2))
abbrev G : ℕ → ℕ → EReal := num2 (a := 1) (b := 2048) (m ((c.tc : Thread nD τ).loc main_arg3))

theorem idx_all : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![t.val, 0] := by
  decide +kernel

theorem block0 (t : Fin cfg0.N) : E2 (n := 512) (m := 2048) (iblk m c 0 t : Vec Ideal S512x2048 .bf16) fun s d => A m c (512 * t.val + s) (d) := fun x => by
  have h0 : (x 0).val < 512 := (x 0).isLt
  have e0 : (((win0_0.rect t).emb x) 0).val = 512 * t.val + (x 0).val := by
    rw [win0_0.rect_emb_val t x 0, (idx_all t).1]; show t.val * 512 + (x 0).val = _; omega
  have e1 : (((win0_0.rect t).emb x) 1).val = (x 1).val := by
    rw [win0_0.rect_emb_val t x 1, (idx_all t).1]; show 0 * 2048 + (x 1).val = _; omega
  refine (num2_val (a := 8192) (b := 2048) (m ((c.tc : Thread nD τ).loc main_arg0)) ((win0_0.rect t).emb x)).trans ?_
  rw [e0, e1]

theorem block1 (t : Fin cfg0.N) : E2 (n := 2048) (m := 2048) (iblk m c 1 t : Vec Ideal S2048x2048 .bf16) fun s d => W m c (s) (d) := fun x => by
  have h0 : (x 0).val < 2048 := (x 0).isLt
  have e0 : (((win0_1.rect t).emb x) 0).val = (x 0).val := by
    rw [win0_1.rect_emb_val t x 0, (idx_all t).2.1]; show 0 * 2048 + (x 0).val = _; omega
  have e1 : (((win0_1.rect t).emb x) 1).val = (x 1).val := by
    rw [win0_1.rect_emb_val t x 1, (idx_all t).2.1]; show 0 * 2048 + (x 1).val = _; omega
  refine (num2_val (a := 2048) (b := 2048) (m ((c.tc : Thread nD τ).loc main_arg1)) ((win0_1.rect t).emb x)).trans ?_
  rw [e0, e1]

theorem block2 (t : Fin cfg0.N) : E2 (n := 512) (m := 2048) (iblk m c 2 t : Vec Ideal S512x2048 .f32) fun s d => X m c (512 * t.val + s) (d) := fun x => by
  have h0 : (x 0).val < 512 := (x 0).isLt
  have e0 : (((win0_2.rect t).emb x) 0).val = 512 * t.val + (x 0).val := by
    rw [win0_2.rect_emb_val t x 0, (idx_all t).2.2.1]; show t.val * 512 + (x 0).val = _; omega
  have e1 : (((win0_2.rect t).emb x) 1).val = (x 1).val := by
    rw [win0_2.rect_emb_val t x 1, (idx_all t).2.2.1]; show 0 * 2048 + (x 1).val = _; omega
  refine (num2_val (a := 8192) (b := 2048) (m ((c.tc : Thread nD τ).loc main_arg2)) ((win0_2.rect t).emb x)).trans ?_
  rw [e0, e1]

theorem block3 (t : Fin cfg0.N) : E2 (n := 1) (m := 2048) (iblk m c 3 t : Vec Ideal S1x2048 .f32) fun s d => G m c (s) (d) := fun x => by
  have h0 : (x 0).val < 1 := (x 0).isLt
  have e0 : (((win0_3.rect t).emb x) 0).val = (x 0).val := by
    rw [win0_3.rect_emb_val t x 0, (idx_all t).2.2.2.1]; show 0 * 1 + (x 0).val = _; omega
  have e1 : (((win0_3.rect t).emb x) 1).val = (x 1).val := by
    rw [win0_3.rect_emb_val t x 1, (idx_all t).2.2.2.1]; show 0 * 2048 + (x 1).val = _; omega
  refine (num2_val (a := 1) (b := 2048) (m ((c.tc : Thread nD τ).loc main_arg3)) ((win0_3.rect t).emb x)).trans ?_
  rw [e0, e1]

theorem given4 (t : Fin cfg0.N) : E2 (n := 512) (m := 2048) ((dats m 0 c).after 4 t : Vec Ideal S512x2048 .f32) fun s d => stream (A m c) (W m c) (X m c) (512 * t.val + s) d := by
  rw [after0_4, out_4]
  exact pay1_val (a := fun s e => A m c (512 * t.val + s) e) (w := fun s e => W m c s e) (x := fun s d => X m c (512 * t.val + s) d) _ _ _ (block2 m c t) (block0 m c t) (block1 m c t)

theorem given5 (t : Fin cfg0.N) : E2 (n := 512) (m := 2048) ((dats m 0 c).after 5 t : Vec Ideal S512x2048 .bf16) fun s d => normed (stream (A m c) (W m c) (X m c)) (G m c) (512 * t.val + s) d := by
  rw [after0_5, out_5]
  exact pay3_val (a := fun s e => A m c (512 * t.val + s) e) (w := fun s e => W m c s e) (x := fun s d => X m c (512 * t.val + s) d) _ _ _ _ (block2 m c t) (block0 m c t) (block1 m c t) (block3 m c t)

theorem given6 (t : Fin cfg0.N) : E2 (n := 512) (m := 1) ((dats m 0 c).after 6 t : Vec Ideal S512x1 .f32) fun s d => factor (stream (A m c) (W m c) (X m c)) (512 * t.val + s) d := by
  rw [after0_6, out_6]
  exact pay2_val (a := fun s e => A m c (512 * t.val + s) e) (w := fun s e => W m c s e) (x := fun s d => X m c (512 * t.val + s) d) _ _ _ (block2 m c t) (block0 m c t) (block1 m c t)

/-- The residual stream the kernel ends with. -/
theorem stream_end : ∀ i : S8192x2048.Idx, (dats m 0 c).arrAt 4 cfg0.N i = stream (A m c) (W m c) (X m c) (i 0).val (i 1).val := by
  refine (dats m 0 c).arrAt_forall_of_cover 4 (fun i v => v = stream (A m c) (W m c) (X m c) (i 0).val (i 1).val) ?_ ?_
  · intro t hfl x
    have h0 : (x 0).val < 512 := (x 0).isLt
    have h1 : (x 1).val < 2048 := (x 1).isLt
    have e0 : (((win0_4.rect t).emb x) 0).val = 512 * t.val + (x 0).val := by
      rw [win0_4.rect_emb_val t x 0, (idx_all t).2.2.2.2.1]; show t.val * 512 + (x 0).val = _; omega
    have e1 : (((win0_4.rect t).emb x) 1).val = (x 1).val := by
      rw [win0_4.rect_emb_val t x 1, (idx_all t).2.2.2.2.1]; show 0 * 2048 + (x 1).val = _; omega
    refine (given4 m c t x).trans ?_
    show _ = stream (A m c) (W m c) (X m c) (((win0_4.rect t).emb x) 0).val (((win0_4.rect t).emb x) 1).val
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_4 _, ?_⟩
    mem_blk [(idx_all ⟨(i 0).val / 512, hN⟩).2.2.2.2.1]
    show (((i 0).val / 512) * 512 ≤ (i 0).val ∧ (i 0).val < ((i 0).val / 512) * 512 + 512) ∧ 0 * 2048 ≤ (i 1).val ∧ (i 1).val < 0 * 2048 + 2048
    omega

/-- Its normalized rows. -/
theorem normed_end : ∀ i : S8192x2048.Idx, (dats m 0 c).arrAt 5 cfg0.N i = normed (stream (A m c) (W m c) (X m c)) (G m c) (i 0).val (i 1).val := by
  refine (dats m 0 c).arrAt_forall_of_cover 5 (fun i v => v = normed (stream (A m c) (W m c) (X m c)) (G m c) (i 0).val (i 1).val) ?_ ?_
  · intro t hfl x
    have h0 : (x 0).val < 512 := (x 0).isLt
    have h1 : (x 1).val < 2048 := (x 1).isLt
    have e0 : (((win0_5.rect t).emb x) 0).val = 512 * t.val + (x 0).val := by
      rw [win0_5.rect_emb_val t x 0, (idx_all t).2.2.2.2.2.1]; show t.val * 512 + (x 0).val = _; omega
    have e1 : (((win0_5.rect t).emb x) 1).val = (x 1).val := by
      rw [win0_5.rect_emb_val t x 1, (idx_all t).2.2.2.2.2.1]; show 0 * 2048 + (x 1).val = _; omega
    refine (given5 m c t x).trans ?_
    show _ = normed (stream (A m c) (W m c) (X m c)) (G m c) (((win0_5.rect t).emb x) 0).val (((win0_5.rect t).emb x) 1).val
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_5 _, ?_⟩
    mem_blk [(idx_all ⟨(i 0).val / 512, hN⟩).2.2.2.2.2.1]
    show (((i 0).val / 512) * 512 ≤ (i 0).val ∧ (i 0).val < ((i 0).val / 512) * 512 + 512) ∧ 0 * 2048 ≤ (i 1).val ∧ (i 1).val < 0 * 2048 + 2048
    omega

/-- The rows' factors. -/
theorem factor_end : ∀ i : S8192x1.Idx, (dats m 0 c).arrAt 6 cfg0.N i = factor (stream (A m c) (W m c) (X m c)) (i 0).val (i 1).val := by
  refine (dats m 0 c).arrAt_forall_of_cover 6 (fun i v => v = factor (stream (A m c) (W m c) (X m c)) (i 0).val (i 1).val) ?_ ?_
  · intro t hfl x
    have h0 : (x 0).val < 512 := (x 0).isLt
    have h1 : (x 1).val < 1 := (x 1).isLt
    have e0 : (((win0_6.rect t).emb x) 0).val = 512 * t.val + (x 0).val := by
      rw [win0_6.rect_emb_val t x 0, (idx_all t).2.2.2.2.2.2]; show t.val * 512 + (x 0).val = _; omega
    have e1 : (((win0_6.rect t).emb x) 1).val = (x 1).val := by
      rw [win0_6.rect_emb_val t x 1, (idx_all t).2.2.2.2.2.2]; show 0 * 1 + (x 1).val = _; omega
    refine (given6 m c t x).trans ?_
    show _ = factor (stream (A m c) (W m c) (X m c)) (((win0_6.rect t).emb x) 0).val (((win0_6.rect t).emb x) 1).val
    rw [e0, e1]
  · intro i
    have h0 : (i 0).val < 8192 := (i 0).isLt
    have h1 : (i 1).val < 1 := (i 1).isLt
    have hN : (i 0).val / 512 < cfg0.N := by show _ < 16; omega
    refine ⟨⟨(i 0).val / 512, hN⟩, flush0_6 _, ?_⟩
    mem_blk [(idx_all ⟨(i 0).val / 512, hN⟩).2.2.2.2.2.2]
    show (((i 0).val / 512) * 512 ≤ (i 0).val ∧ (i 0).val < ((i 0).val / 512) * 512 + 512) ∧ 0 * 1 ≤ (i 1).val ∧ (i 1).val < 0 * 1 + 1
    omega

end Cert.Kernel13Ideal.Hand

namespace Cert.Reference13Ideal.Hand

open Cert.Reference13Ideal Cert.Reference13Ideal.Gen Cert.Hand Cert.Staged Idealize.ShloMosaic Idealize.ShloMosaic.TcCoe Idealize.SL.Sem

abbrev streamR (a : FVec Ideal S8192x2048 .bf16) (w : FVec Ideal S2048x2048 .bf16) (x : FVec Ideal S8192x2048 .f32) : FVec Ideal S8192x2048 .f32 :=
  addf x (Host.dotGeneral dot_S8192x2048_S2048x2048_S8192x2048_1_0_0_1_n_n none (extf .f32 a bitsLt_bf16_f32) (extf .f32 w bitsLt_bf16_f32))

theorem stream_val (a : FVec Ideal S8192x2048 .bf16) (w : FVec Ideal S2048x2048 .bf16) (x : FVec Ideal S8192x2048 .f32) :
    E2 (n := 8192) (m := 2048) (streamR a w x) (Cert.Kernel13Ideal.Hand.stream (num2 (a := 8192) (b := 2048) a) (num2 (a := 2048) (b := 2048) w) (num2 (a := 8192) (b := 2048) x)) := by
  refine E2.add (φ := .f32) x _ (num2_val (a := 8192) (b := 2048) x) fun y => ?_
  refine (Ideal.matmul_apply₁_of dot_S8192x2048_S2048x2048_S8192x2048_1_0_0_1_n_n (K := 2048) rfl rfl (extf .f32 a bitsLt_bf16_f32) (extf .f32 w bitsLt_bf16_f32) (fun _ => 0) y
    (fun n => ValueIdx.ix2 (y 0) n) (fun n => ValueIdx.ix2 n (y 1)) (fun n => funext fun d => by fin_cases d <;> rfl) (fun n => funext fun d => by fin_cases d <;> rfl)).trans ?_
  refine (zero_add _).trans ((Finset.sum_congr rfl fun n _ => congrArg₂ (· * ·) (num2_val (a := 8192) (b := 2048) a _) (num2_val (a := 2048) (b := 2048) w _)).trans ?_)
  exact (Finset.sum_range (fun e => num2 (a := 8192) (b := 2048) a (y 0).val e * num2 (a := 2048) (b := 2048) w e (y 1).val)).symm

theorem normed_val {z : ℕ → ℕ → EReal} (v : FVec Ideal S8192x2048 .f32) (g : FVec Ideal S1x2048 .f32) (hv : E2 (n := 8192) (m := 2048) v z) :
    E2 (n := 8192) (m := 2048) (mulf (mulf v (broadcastInDim S8192x2048 ![0, 1] bcast_S8192x1_S8192x2048_0_1 (Host.rsqrt (hostMsq v reducesTo_S8192x2048_S8192_d1 h_S_ bcast_S8192_S8192x1_0 bcast_S_S8192x1))))
      (broadcastInDim S8192x2048 ![0, 1] bcast_S1x2048_S8192x2048_0_1 g)) (Cert.Kernel13Ideal.Hand.normed z (num2 (a := 1) (b := 2048) g)) :=
  E2.mul (φ := .f32) _ _ (E2.mul (φ := .f32) v _ hv (E2.hostCol _ bcast_S8192x1_S8192x2048_0_1 (by decide) (hostFac_val v hv _ _ _ _)))
    (E2.hostRow _ bcast_S1x2048_S8192x2048_0_1 (by decide) (num2_val (a := 1) (b := 2048) g))

theorem factor_val {z : ℕ → ℕ → EReal} (v : FVec Ideal S8192x2048 .f32) (hv : E2 (n := 8192) (m := 2048) v z) :
    E2 (n := 8192) (m := 1) (Host.rsqrt (hostMsq v reducesTo_S8192x2048_S8192_d1 h_S_ bcast_S8192_S8192x1_0 bcast_S_S8192x1)) (Cert.Kernel13Ideal.Hand.factor z) :=
  hostFac_val v hv _ _ _ _

end Cert.Reference13Ideal.Hand

/-! ## The normalization alone -/

namespace Cert.Kernel14Ideal.Hand

open Cert.Kernel14Ideal Cert.Kernel14Ideal.Gen Cert.Hand Cert.Staged Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem rowSums {f : ℕ → ℕ → EReal} (v : FVec Ideal S512x2048 .f32) (hv : E2 (n := 512) (m := 2048) v f) :
    E2 (n := 512) (m := 1) (shapeCast S512x1 (multiReduction .add [1] S512 v 0x00000000#32 reduces_S512x2048_S512 (.inl rfl) rfl) shapeCasts_S512_S512x1)
      fun r _ => ∑ c ∈ Finset.range 2048, f r c := fun x => by
  have h1 : (x 1).val < 1 := (x 1).isLt
  refine (congrArg (multiReduction .add [1] S512 v 0x00000000#32 reduces_S512x2048_S512 (.inl rfl) rfl)
    (Shape.reshapeEquiv_eq_of_vals _ _ (ValueIdx.ix1 (x 0)) _ _ (rowMajor_val1 _) (rowMajor_val2 _ 1 rfl) ?_)).trans ?_
  · show (x 0).val = (x 0).val * 1 + (x 1).val
    omega
  · refine (Ideal.reduceAdd_r2_a1 reduces_S512x2048_S512 v (ValueIdx.ix1 (x 0))).trans ?_
    refine (Finset.sum_congr rfl fun k _ => hv _).trans ?_
    exact (Finset.sum_range (fun k => f (x 0).val k)).symm

/-- The factor that normalizes a row. -/
theorem fac_val {z : ℕ → ℕ → EReal} (v : FVec Ideal S512x2048 .f32) (hv : E2 (n := 512) (m := 2048) v z) :
    E2 (n := 512) (m := 1) (rsqrt (addf (divf (shapeCast S512x1 (multiReduction .add [1] S512 (mulf v v) 0x00000000#32 reduces_S512x2048_S512 (.inl rfl) rfl) shapeCasts_S512_S512x1)
      (broadcast S512x1 (Ideal.ofBits .f32 0x45000000#32))) (broadcast S512x1 (Ideal.ofBits .f32 0x358637BD#32))) : FVec Ideal S512x1 .f32) fun s _ => fac z s := fun x =>
  congrArg Ideal.rsqrt (E2.add (φ := .f32) _ _ (E2.mean (φ := .f32) _ (broadcast S512x1 (Ideal.ofBits .f32 0x45000000#32)) (rowSums _ (E2.mul (φ := .f32) v v hv hv)) (fun _ => bits_2048))
    (E2.bc _ _ bits_eps) x)

/-- The normalized rows with their columns scaled. -/
def normed (z : ℕ → ℕ → EReal) (g : ℕ → ℕ → EReal) (s d : ℕ) : EReal := z s d * fac z s * g 0 d
def factor (z : ℕ → ℕ → EReal) (s _d : ℕ) : EReal := fac z s

theorem out_2 {F : FTy → Type} [FloatOps F] (x0 : Vec F S512x2048 .f32) (x1 : Vec F S1x2048 .f32) : out0_2 x0 x1 = k0_pay2 x0 x1 := by
  unfold out0_2 r0_0 r0_1
  rw [View.canon_unit_zero (S := S512x2048) hz2]
  simp only [View.ld_unit_zero (S := S512x2048) hz2, View.ld_unit_zero (S := S1x2048) hz2]

theorem out_3 {F : FTy → Type} [FloatOps F] (x0 : Vec F S512x2048 .f32) (x1 : Vec F S1x2048 .f32) : out0_3 x0 x1 = k0_pay1 x0 := by
  unfold out0_3 r0_0 r0_2
  rw [View.canon_unit_zero (S := S512x1) hz2]
  simp only [View.ld_unit_zero (S := S512x2048) hz2]

theorem pay1_val {x : ℕ → ℕ → EReal} (v0 : Vec Ideal S512x2048 .f32) (e0 : E2 (n := 512) (m := 2048) v0 x) : E2 (n := 512) (m := 1) (k0_pay1 v0) (factor x) := fac_val v0 e0

theorem pay2_val {x g : ℕ → ℕ → EReal} (v0 : Vec Ideal S512x2048 .f32) (v11 : Vec Ideal S1x2048 .f32) (e0 : E2 (n := 512) (m := 2048) v0 x) (e11 : E2 (n := 1) (m := 2048) v11 g) :
    E2 (n := 512) (m := 2048) (k0_pay2 v0 v11) (normed x g) :=
  E2.mul (φ := .f32) _ _ (E2.mul (φ := .f32) v0 _ e0 (E2.col (φ := .f32) _ broadcasts_S512x1_S512x2048 (by decide) (pay1_val v0 e0)))
    (E2.row (φ := .f32) v11 broadcasts_S1x2048_S512x2048 (by decide) e11)

variable (m : (ℓ : Loc nD τ sig) → Buf (Elt Ideal) ℓ) (c : Dev nD)

/-- The two arguments' entries. -/
abbrev X : ℕ → ℕ → EReal := num2 (a := 8192) (b := 2048) (m ((c.tc : Thread nD τ).loc main_arg0))
abbrev G : ℕ → ℕ → EReal := num2 (a := 1) (b := 2048) (m ((c.tc : Thread nD τ).loc main_arg1))

theorem idx_all : ∀ t : Fin cfg0.N, win0_0.index t = ![t.val, 0] ∧ win0_1.index t = ![0, 0] ∧ win0_2.index t = ![t.val, 0] ∧ win0_3.index t = ![t.val, 0] := by
  decide +kernel

theorem block0 (t : Fin cfg0.N) : E2 (n := 512) (m := 2048) (iblk m c 0 t : Vec Ideal S512x2048 .f32) fun s d => X m c (512 * t.val + s) (d) := fun x => by
  have h0 : (x 0).val < 512 := (x 0).isLt
  have e0 : (((win0_0.rect t).emb x) 0).val = 512 * t.val + (x 0).val := by
    rw [win0_0.rect_emb_val t x 0, (idx_all t).1]; show t.val * 512 + (x 0).val = _; omega
  have e1 : (((win0_0.rect t).emb x) 1).val = (x 1).val := by
    rw [win0_0.rect_emb_val t x 1, (idx_all t).1]; show 0 * 2048 + (x 1).val = _; omega
  refine (num2_val (a := 8192) (b := 2048) (m ((c.tc : Thread nD τ).loc main_arg0)) ((win0_0.rect t).emb x)).trans ?_
  rw [e0, e1]

theorem block1 (t : Fin cfg0.N) : E2 (n := 1) (m := 2048) (iblk m c 1 t : Vec Ideal S1x2048 .f32) fun s d => G m c (s) (d) := fun x => by
  have h0 : (x 0).val < 1 := (x 0).isLt
  have e0 : (((win0_1.rect t).emb x) 0).val = (x 0).val := by
    rw [win0_1.rect_emb_val t x 0, (idx_all t).2.1]; show 0 * 1 + (x 0).val = _; omega
  have e1 : (((win0_1.rect t).emb x) 1).val = (x 1).val := by
    rw [win0_1.rect_emb_val t x 1, (idx_all t).2.1]; show 0 * 2048 + (x 1).val = _; omega
  refine (num2_val (a := 1) (b := 2048) (m ((c.tc : Thread nD τ).loc main_arg1)) ((win0_1.rect t).emb x)).trans ?_
  rw [e0, e1]

theorem given2 (t : Fin cfg0.N) : E2 (n := 512) (m := 2048) ((dats m 0 c).after 2 t : Vec Ideal S512x2048 .f32) fun s d => normed (X m c) (G m c) (512 * t.val + s) d := by
  rw [after0_2, out_2]
  exact pay2_val (x := fun s d => X m c (512 * t.val + s) d) _ _ (block0 m c t) (block1 m c t)

theorem given3 (t : Fin cfg0.N) : E2 (n := 512) (m := 1) ((dats m 0 c).after 3 t : Vec Ideal S512x1 .f32) fun s d => factor (X m c) (512 * t.val + s) d := by
  rw [after0_3, out_3]
  exact pay1_val (x := fun s d => X m c (512 * t.val + s) d) _ (block0 m c t)

/-- The normalized rows the kernel ends with. -/
theorem normed_end : ∀ i : S8192x2048.Idx, (dats m 0 c).arrAt 2 cfg0.N i = normed (X m c) (G m c) (i 0).val (i 1).val := by
  refine (dats m 0 c).arrAt_forall_of_cover 2 (fun i v => v = normed (X m c) (G m c) (i 0).val (i 1).val) ?_ ?_
  · intro t hfl x
    have h0 : (x 0).val < 512 := (x 0).isLt
    have h1 : (x 1).val < 2048 := (x 1).isLt
    have e0 : (((win0_2.rect t).emb x) 0).val = 512 * t.val + (x 0).val := by
      rw [win0_2.rect_emb_val t x 0, (idx_all t).2.2.1]; show t.val * 512 + (x 0).val = _; omega
    have e1 : (((win0_2.rect t).emb x) 1).val = (x 1).val := by
      rw [win0_2.rect_emb_val t x 1, (idx_all t).2.2.1]; show 0 * 2048 + (x 1).val = _; omega
    refine (given2 m c t x).trans ?_
    show _ = normed (X m c) (G m c) (((win0_2.rect t).emb x) 0).val (((win0_2.rect t).emb x) 1).val
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_2 _, ?_⟩
    mem_blk [(idx_all ⟨(i 0).val / 512, hN⟩).2.2.1]
    show (((i 0).val / 512) * 512 ≤ (i 0).val ∧ (i 0).val < ((i 0).val / 512) * 512 + 512) ∧ 0 * 2048 ≤ (i 1).val ∧ (i 1).val < 0 * 2048 + 2048
    omega

/-- The rows' factors. -/
theorem factor_end : ∀ i : S8192x1.Idx, (dats m 0 c).arrAt 3 cfg0.N i = factor (X m c) (i 0).val (i 1).val := by
  refine (dats m 0 c).arrAt_forall_of_cover 3 (fun i v => v = factor (X m c) (i 0).val (i 1).val) ?_ ?_
  · intro t hfl x
    have h0 : (x 0).val < 512 := (x 0).isLt
    have h1 : (x 1).val < 1 := (x 1).isLt
    have e0 : (((win0_3.rect t).emb x) 0).val = 512 * t.val + (x 0).val := by
      rw [win0_3.rect_emb_val t x 0, (idx_all t).2.2.2]; show t.val * 512 + (x 0).val = _; omega
    have e1 : (((win0_3.rect t).emb x) 1).val = (x 1).val := by
      rw [win0_3.rect_emb_val t x 1, (idx_all t).2.2.2]; show 0 * 1 + (x 1).val = _; omega
    refine (given3 m c t x).trans ?_
    show _ = factor (X m c) (((win0_3.rect t).emb x) 0).val (((win0_3.rect t).emb x) 1).val
    rw [e0, e1]
  · intro i
    have h0 : (i 0).val < 8192 := (i 0).isLt
    have h1 : (i 1).val < 1 := (i 1).isLt
    have hN : (i 0).val / 512 < cfg0.N := by show _ < 16; omega
    refine ⟨⟨(i 0).val / 512, hN⟩, flush0_3 _, ?_⟩
    mem_blk [(idx_all ⟨(i 0).val / 512, hN⟩).2.2.2]
    show (((i 0).val / 512) * 512 ≤ (i 0).val ∧ (i 0).val < ((i 0).val / 512) * 512 + 512) ∧ 0 * 1 ≤ (i 1).val ∧ (i 1).val < 0 * 1 + 1
    omega

end Cert.Kernel14Ideal.Hand

namespace Cert.Reference14Ideal.Hand

open Cert.Reference14Ideal Cert.Reference14Ideal.Gen Cert.Hand Cert.Staged Idealize.ShloMosaic Idealize.ShloMosaic.TcCoe Idealize.SL.Sem

theorem normed_val {z : ℕ → ℕ → EReal} (v : FVec Ideal S8192x2048 .f32) (g : FVec Ideal S1x2048 .f32) (hv : E2 (n := 8192) (m := 2048) v z) :
    E2 (n := 8192) (m := 2048) (mulf (mulf v (broadcastInDim S8192x2048 ![0, 1] bcast_S8192x1_S8192x2048_0_1 (Host.rsqrt (hostMsq v reducesTo_S8192x2048_S8192_d1 h_S_ bcast_S8192_S8192x1_0 bcast_S_S8192x1))))
      (broadcastInDim S8192x2048 ![0, 1] bcast_S1x2048_S8192x2048_0_1 g)) (Cert.Kernel14Ideal.Hand.normed z (num2 (a := 1) (b := 2048) g)) :=
  E2.mul (φ := .f32) _ _ (E2.mul (φ := .f32) v _ hv (E2.hostCol _ bcast_S8192x1_S8192x2048_0_1 (by decide) (hostFac_val v hv _ _ _ _)))
    (E2.hostRow _ bcast_S1x2048_S8192x2048_0_1 (by decide) (num2_val (a := 1) (b := 2048) g))

theorem factor_val {z : ℕ → ℕ → EReal} (v : FVec Ideal S8192x2048 .f32) (hv : E2 (n := 8192) (m := 2048) v z) :
    E2 (n := 8192) (m := 1) (Host.rsqrt (hostMsq v reducesTo_S8192x2048_S8192_d1 h_S_ bcast_S8192_S8192x1_0 bcast_S_S8192x1)) (Cert.Kernel14Ideal.Hand.factor z) :=
  hostFac_val v hv _ _ _ _

end Cert.Reference14Ideal.Hand

namespace Cert.Proof

open Idealize.ShloMosaic Idealize.SL.Sem Cert.Staged Cert.Hand

/-- The two printings of the program have the same bodies. -/
theorem bodies12 {F : FTy → Type} [FloatOps F] : @Cert.Kernel12.defs F _ _ = @Cert.Kernel12Ideal.defs F _ _ :=
  congrArg (Pipeline.defs (Cert.Kernel12Ideal.pcfgs (F := F))) (congrArg Defs.onTc (funext fun l => match l with | 0 => rfl))

theorem frame_kernel12 : Cert.quiescent_Kernel12 := fun m ρ _ => by
  rw [bodies12]
  exact Cert.Kernel12Ideal.Gen.frame (F := Bits) m ρ

theorem frame_kernel12_ideal : Cert.quiescent_Kernel12Ideal := fun m ρ _ => Cert.Kernel12Ideal.Gen.frame (F := Ideal) m ρ

theorem frame_reference12_ideal : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := fun m g m' g' _ hargs => by
  refine ⟨fun c => (Cert.Kernel12Ideal.Gen.dats m 0 c).arrAt 3 Cert.Kernel12Ideal.cfg0.N, fun c => (Cert.Kernel12Ideal.Gen.dats m 0 c).arrAt 4 Cert.Kernel12Ideal.cfg0.N,
    Cert.Kernel12Ideal.Value.run_blocks (F := Ideal) m g, ?_⟩
  refine (θ_run Cert.Reference12Ideal.defs _ _).mono (fun r h c => ?_) (Cert.Reference12Ideal.Value.run (F := Ideal) m' g')
  obtain ⟨e0, e1, k⟩ := h c
  obtain ⟨h0, h1, h2⟩ := hargs c
  rw [h0, h1] at e0
  rw [h0, h1, h2] at e1
  exact ⟨e0.trans (funext fun x => (Cert.Reference12Ideal.Hand.prod_val _ _ x).trans (Cert.Kernel12Ideal.Hand.wide_end m c x).symm),
    e1.trans (funext fun x => (Cert.Reference12Ideal.Hand.scaled_val _ _ _ x).trans (Cert.Kernel12Ideal.Hand.narrow_end m c x).symm), k⟩

/-- The two printings of the program have the same bodies. -/
theorem bodies13 {F : FTy → Type} [FloatOps F] : @Cert.Kernel13.defs F _ _ = @Cert.Kernel13Ideal.defs F _ _ :=
  congrArg (Pipeline.defs (Cert.Kernel13Ideal.pcfgs (F := F))) (congrArg Defs.onTc (funext fun l => match l with | 0 => rfl))

theorem frame_kernel13 : Cert.quiescent_Kernel13 := fun m ρ _ => by
  rw [bodies13]
  exact Cert.Kernel13Ideal.Gen.frame (F := Bits) m ρ

theorem frame_kernel13_ideal : Cert.quiescent_Kernel13Ideal := fun m ρ _ => Cert.Kernel13Ideal.Gen.frame (F := Ideal) m ρ

theorem frame_reference13_ideal : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic13 : Cert.algebraic_Kernel13Ideal_Reference13Ideal := fun m g m' g' _ hargs => by
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks (F := Ideal) m g, ?_⟩
  refine (θ_run Cert.Reference13Ideal.defs _ _).mono (fun r h c => ?_) (Cert.Reference13Ideal.Value.run (F := Ideal) m' g')
  obtain ⟨e0, e1, e2, k⟩ := h c
  obtain ⟨h0, h1, h2, h3⟩ := hargs c
  rw [h0, h1, h2] at e0
  rw [h0, h1, h2, h3] at e1
  rw [h0, h1, h2] at e2
  exact ⟨e0.trans (funext fun x => (Cert.Reference13Ideal.Hand.stream_val _ _ _ x).trans (Cert.Kernel13Ideal.Hand.stream_end m c x).symm),
    e1.trans (funext fun x => (Cert.Reference13Ideal.Hand.normed_val _ _ (Cert.Reference13Ideal.Hand.stream_val _ _ _) x).trans (Cert.Kernel13Ideal.Hand.normed_end m c x).symm),
    e2.trans (funext fun x => (Cert.Reference13Ideal.Hand.factor_val _ (Cert.Reference13Ideal.Hand.stream_val _ _ _) x).trans (Cert.Kernel13Ideal.Hand.factor_end m c x).symm), k⟩

/-- The two printings of the program have the same bodies. -/
theorem bodies14 {F : FTy → Type} [FloatOps F] : @Cert.Kernel14.defs F _ _ = @Cert.Kernel14Ideal.defs F _ _ :=
  congrArg (Pipeline.defs (Cert.Kernel14Ideal.pcfgs (F := F))) (congrArg Defs.onTc (funext fun l => match l with | 0 => rfl))

theorem frame_kernel14 : Cert.quiescent_Kernel14 := fun m ρ _ => by
  rw [bodies14]
  exact Cert.Kernel14Ideal.Gen.frame (F := Bits) m ρ

theorem frame_kernel14_ideal : Cert.quiescent_Kernel14Ideal := fun m ρ _ => Cert.Kernel14Ideal.Gen.frame (F := Ideal) m ρ

theorem frame_reference14_ideal : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem algebraic14 : Cert.algebraic_Kernel14Ideal_Reference14Ideal := fun m g m' g' _ hargs => by
  refine ⟨fun c => (Cert.Kernel14Ideal.Gen.dats m 0 c).arrAt 2 Cert.Kernel14Ideal.cfg0.N, fun c => (Cert.Kernel14Ideal.Gen.dats m 0 c).arrAt 3 Cert.Kernel14Ideal.cfg0.N,
    Cert.Kernel14Ideal.Value.run_blocks (F := Ideal) m g, ?_⟩
  refine (θ_run Cert.Reference14Ideal.defs _ _).mono (fun r h c => ?_) (Cert.Reference14Ideal.Value.run (F := Ideal) m' g')
  obtain ⟨e0, e1, k⟩ := h c
  obtain ⟨h0, h1⟩ := hargs c
  rw [h0, h1] at e0
  rw [h0] at e1
  exact ⟨e0.trans (funext fun x => (Cert.Reference14Ideal.Hand.normed_val _ _ (num2_val _) x).trans (Cert.Kernel14Ideal.Hand.normed_end m c x).symm),
    e1.trans (funext fun x => (Cert.Reference14Ideal.Hand.factor_val _ (num2_val _) x).trans (Cert.Kernel14Ideal.Hand.factor_end m c x).symm), k⟩

end Cert.Proof

end
-- ==== Proof.Pool.lean ====
/-
  The gradient through the product of the pooling mixer: the gradient of its output, that of what it pools, and that of the scale
  of its columns, the last summed over all rows.
-/
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.Layer

@[expose] public section

set_option maxRecDepth 16384

noncomputable section

namespace Cert.Kernel15Ideal.Hand

open Cert.Kernel15Ideal Cert.Kernel15Ideal.Gen Cert.Hand Cert.Staged Idealize.ShloMosaic Idealize.ShloMosaic.TcCoe Idealize.SL.Sem

theorem hz2 : (![0, 0] : Fin 2 → Nat) = fun _ => 0 := funext fun a => by fin_cases a <;> rfl

/-! ## What a point stores -/

abbrev R0 : Rect S512x2048 := Rect.unit (s := S512x2048) ![0, 0] S512x512.size inb_S512x2048_S512x512_0_0
abbrev C0 : Rect S1x2048 := Rect.unit (s := S1x2048) ![0, 0] S1x512.size inb_S1x2048_S1x512_0_0
abbrev B0 : Rect S4x512x512 := Rect.unit (s := S4x512x512) ![0, 0, 0] S1x512x512.size inb_S4x512x512_S1x512x512_0_0_0
abbrev R1 : Rect S512x2048 := Rect.unit (s := S512x2048) ![0, 512] S512x512.size inb_S512x2048_S512x512_0_512
abbrev C1 : Rect S1x2048 := Rect.unit (s := S1x2048) ![0, 512] S1x512.size inb_S1x2048_S1x512_0_512
abbrev B1 : Rect S4x512x512 := Rect.unit (s := S4x512x512) ![1, 0, 0] S1x512x512.size inb_S4x512x512_S1x512x512_1_0_0
abbrev R2 : Rect S512x2048 := Rect.unit (s := S512x2048) ![0, 1024] S512x512.size inb_S512x2048_S512x512_0_1024
abbrev C2 : Rect S1x2048 := Rect.unit (s := S1x2048) ![0, 1024] S1x512.size inb_S1x2048_S1x512_0_1024
abbrev B2 : Rect S4x512x512 := Rect.unit (s := S4x512x512) ![2, 0, 0] S1x512x512.size inb_S4x512x512_S1x512x512_2_0_0
abbrev R3 : Rect S512x2048 := Rect.unit (s := S512x2048) ![0, 1536] S512x512.size inb_S512x2048_S512x512_0_1536
abbrev C3 : Rect S1x2048 := Rect.unit (s := S1x2048) ![0, 1536] S1x512.size inb_S1x2048_S1x512_0_1536
abbrev B3 : Rect S4x512x512 := Rect.unit (s := S4x512x512) ![3, 0, 0] S1x512x512.size inb_S4x512x512_S1x512x512_3_0_0

section
variable {F : FTy → Type} [FloatOps F] (x0 : Vec F S512x2048 .f32) (x1 : Vec F S512x2048 .bf16) (x2 : Vec F S4x512x512 .bf16) (x3 : Vec F S1x2048 .f32) (xo : Vec F S1x2048 .f32)

/-- The stores of the two blocks, the last first, and the row of column sums. -/
abbrev list4 : List (View.Piece (Elt F) S512x2048 .bf16) := [⟨R3, k0_pay1 (View.ld x0 R3) (View.ld x3 C3)⟩, ⟨R2, k0_pay11 (View.ld x0 R2) (View.ld x3 C2)⟩, ⟨R1, k0_pay8 (View.ld x0 R1) (View.ld x3 C1)⟩, ⟨R0, k0_pay5 (View.ld x0 R0) (View.ld x3 C0)⟩]
abbrev list5 : List (View.Piece (Elt F) S512x2048 .f32) := [⟨R3, k0_pay2 (View.ld x0 R3) (View.ld x3 C3) (View.ld x2 B3)⟩, ⟨R2, k0_pay12 (View.ld x0 R2) (View.ld x3 C2) (View.ld x2 B2)⟩, ⟨R1, k0_pay9 (View.ld x0 R1) (View.ld x3 C1) (View.ld x2 B1)⟩, ⟨R0, k0_pay6 (View.ld x0 R0) (View.ld x3 C0) (View.ld x2 B0)⟩]
abbrev part6 : FVec F S1x2048 .f32 := k0_pay3 (k0_pay7 (View.ld x0 R0) (View.ld x1 R0) (View.ld x2 B0)) (k0_pay10 (View.ld x0 R1) (View.ld x1 R1) (View.ld x2 B1)) (k0_pay13 (View.ld x0 R2) (View.ld x1 R2) (View.ld x2 B2)) (View.ld x0 R3) (View.ld x1 R3) (View.ld x2 B3)
abbrev next6 : FVec F S1x2048 .f32 := k0_pay4 (k0_pay7 (View.ld x0 R0) (View.ld x1 R0) (View.ld x2 B0)) (k0_pay10 (View.ld x0 R1) (View.ld x1 R1) (View.ld x2 B1)) (k0_pay13 (View.ld x0 R2) (View.ld x1 R2) (View.ld x2 B2)) (View.ld x0 R3) (View.ld x1 R3) (View.ld x2 B3) xo

variable (c : Dev nD) (i : grid0.Coords)
  (a1 : Memref sig .tc .vmem S512x2048 .f32) (h1 : a1.IsWhole) (a2 : Memref sig .tc .vmem S512x2048 .bf16) (h2 : a2.IsWhole) (a3 : Memref sig .tc .vmem S4x512x512 .bf16) (h3 : a3.IsWhole) (a4 : Memref sig .tc .vmem S1x2048 .f32) (h4 : a4.IsWhole) (a5 : Memref sig .tc .vmem S512x2048 .bf16) (h5 : a5.IsWhole) (a6 : Memref sig .tc .vmem S512x2048 .f32) (h6 : a6.IsWhole) (a7 : Memref sig .tc .vmem S1x2048 .f32) (h7 : a7.IsWhole)

theorem out_A4 (hc0 : cond0_0 i) (hc1 : ¬cond0_1 i) : out0_A_4 c i a1 h1 a2 h2 a3 h3 a4 h4 a5 h5 a6 h6 a7 h7 hc0 hc1 x0 x1 x2 x3 = View.canon (Val := Elt F) (list4 x0 x3) := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  simp only [View.readAt_eq_ld, h1.read_unread, h2.read_unread, h3.read_unread, h4.read_unread] <;> rfl

theorem out_A5 (hc0 : cond0_0 i) (hc1 : ¬cond0_1 i) : out0_A_5 c i a1 h1 a2 h2 a3 h3 a4 h4 a5 h5 a6 h6 a7 h7 hc0 hc1 x0 x1 x2 x3 = View.canon (Val := Elt F) (list5 x0 x2 x3) := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  simp only [View.readAt_eq_ld, h1.read_unread, h2.read_unread, h3.read_unread, h4.read_unread] <;> rfl

theorem out_A6 (hc0 : cond0_0 i) (hc1 : ¬cond0_1 i) : out0_A_6 c i a1 h1 a2 h2 a3 h3 a4 h4 a5 h5 a6 h6 a7 h7 hc0 hc1 x0 x1 x2 x3 = part6 x0 x1 x2 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero (S := S1x2048) hz2]
  simp only [View.readAt_eq_ld, h1.read_unread, h2.read_unread, h3.read_unread, h4.read_unread] <;> rfl

theorem out_B4 (hc0 : ¬cond0_0 i) (hc1 : cond0_1 i) : out0_B_4 c i a1 h1 a2 h2 a3 h3 a4 h4 a5 h5 a6 h6 a7 h7 hc0 hc1 x0 x1 x2 x3 xo = View.canon (Val := Elt F) (list4 x0 x3) := by
  unfold out0_B_4
  rw [View.read_writes_eq_canon _ _ _ (cover0_B_4 c i a1 h1 a2 h2 a3 h3 a4 h4 a5 h5 a6 h6 a7 h7 hc0 hc1 x0 x1 x2 x3 xo)]
  unfold kernelRun0_B
  dsimp only
  sl_unfold_words
  simp only [View.readAt_eq_ld, h1.read_unread, h2.read_unread, h3.read_unread, h4.read_unread] <;> rfl

theorem out_B5 (hc0 : ¬cond0_0 i) (hc1 : cond0_1 i) : out0_B_5 c i a1 h1 a2 h2 a3 h3 a4 h4 a5 h5 a6 h6 a7 h7 hc0 hc1 x0 x1 x2 x3 xo = View.canon (Val := Elt F) (list5 x0 x2 x3) := by
  unfold out0_B_5
  rw [View.read_writes_eq_canon _ _ _ (cover0_B_5 c i a1 h1 a2 h2 a3 h3 a4 h4 a5 h5 a6 h6 a7 h7 hc0 hc1 x0 x1 x2 x3 xo)]
  unfold kernelRun0_B
  dsimp only
  sl_unfold_words
  simp only [View.readAt_eq_ld, h1.read_unread, h2.read_unread, h3.read_unread, h4.read_unread] <;> rfl

theorem out_B6 (hc0 : ¬cond0_0 i) (hc1 : cond0_1 i) : out0_B_6 c i a1 h1 a2 h2 a3 h3 a4 h4 a5 h5 a6 h6 a7 h7 hc0 hc1 x0 x1 x2 x3 xo = next6 x0 x1 x2 xo := by
  unfold out0_B_6
  rw [View.read_writes_eq_canon _ _ _ (cover0_B_6 c i a1 h1 a2 h2 a3 h3 a4 h4 a5 h5 a6 h6 a7 h7 hc0 hc1 x0 x1 x2 x3 xo)]
  unfold kernelRun0_B
  dsimp only
  sl_unfold_words
  rw [View.canon_unit_zero (S := S1x2048) hz2]
  simp only [View.readAt_eq_ld, h1.read_unread, h2.read_unread, h3.read_unread, h4.read_unread, h7.read_unread, View.ld_unit_zero (S := S1x2048) hz2] <;> rfl

end

/-! ## What the pieces hold -/

theorem rows0 {f : ℕ → ℕ → EReal} (v : Vec Ideal S512x2048 .f32) (e : E2 (n := 512) (m := 2048) v f) : E2 (n := 512) (m := 512) (View.ld v R0) fun s d => f s (d) := fun x => (e _).trans (by
  show f (0 + 1 * (x 0).val) (0 + 1 * (x 1).val) = _; simp)
theorem rowsN0 {f : ℕ → ℕ → EReal} (v : Vec Ideal S512x2048 .bf16) (e : E2 (n := 512) (m := 2048) v f) : E2 (n := 512) (m := 512) (View.ld v R0) fun s d => f s (d) := fun x => (e _).trans (by
  show f (0 + 1 * (x 0).val) (0 + 1 * (x 1).val) = _; simp)
theorem cols0 {f : ℕ → ℕ → EReal} (v : Vec Ideal S1x2048 .f32) (e : E2 (n := 1) (m := 2048) v f) : E2 (n := 1) (m := 512) (View.ld v C0) fun s d => f s (d) := fun x => (e _).trans (by
  show f (0 + 1 * (x 0).val) (0 + 1 * (x 1).val) = _; simp)
theorem group0 {f : ℕ → ℕ → ℕ → EReal} (v : Vec Ideal S4x512x512 .bf16) (e : E3 (a := 4) (b := 512) (c := 512) v f) : E3 (a := 1) (b := 512) (c := 512) (View.ld v B0) fun _ => f 0 := fun x => (e _).trans (by
  have h0 : (x 0).val < 1 := (x 0).isLt
  show f (0 + 1 * (x 0).val) (0 + 1 * (x 1).val) (0 + 1 * (x 2).val) = _; simp [show (x 0).val = 0 by omega])
theorem rows1 {f : ℕ → ℕ → EReal} (v : Vec Ideal S512x2048 .f32) (e : E2 (n := 512) (m := 2048) v f) : E2 (n := 512) (m := 512) (View.ld v R1) fun s d => f s (512 + d) := fun x => (e _).trans (by
  show f (0 + 1 * (x 0).val) (512 + 1 * (x 1).val) = _; simp)
theorem rowsN1 {f : ℕ → ℕ → EReal} (v : Vec Ideal S512x2048 .bf16) (e : E2 (n := 512) (m := 2048) v f) : E2 (n := 512) (m := 512) (View.ld v R1) fun s d => f s (512 + d) := fun x => (e _).trans (by
  show f (0 + 1 * (x 0).val) (512 + 1 * (x 1).val) = _; simp)
theorem cols1 {f : ℕ → ℕ → EReal} (v : Vec Ideal S1x2048 .f32) (e : E2 (n := 1) (m := 2048) v f) : E2 (n := 1) (m := 512) (View.ld v C1) fun s d => f s (512 + d) := fun x => (e _).trans (by
  show f (0 + 1 * (x 0).val) (512 + 1 * (x 1).val) = _; simp)
theorem group1 {f : ℕ → ℕ → ℕ → EReal} (v : Vec Ideal S4x512x512 .bf16) (e : E3 (a := 4) (b := 512) (c := 512) v f) : E3 (a := 1) (b := 512) (c := 512) (View.ld v B1) fun _ => f 1 := fun x => (e _).trans (by
  have h0 : (x 0).val < 1 := (x 0).isLt
  show f (1 + 1 * (x 0).val) (0 + 1 * (x 1).val) (0 + 1 * (x 2).val) = _; simp [show (x 0).val = 0 by omega])
theorem rows2 {f : ℕ → ℕ → EReal} (v : Vec Ideal S512x2048 .f32) (e : E2 (n := 512) (m := 2048) v f) : E2 (n := 512) (m := 512) (View.ld v R2) fun s d => f s (1024 + d) := fun x => (e _).trans (by
  show f (0 + 1 * (x 0).val) (1024 + 1 * (x 1).val) = _; simp)
theorem rowsN2 {f : ℕ → ℕ → EReal} (v : Vec Ideal S512x2048 .bf16) (e : E2 (n := 512) (m := 2048) v f) : E2 (n := 512) (m := 512) (View.ld v R2) fun s d => f s (1024 + d) := fun x => (e _).trans (by
  show f (0 + 1 * (x 0).val) (1024 + 1 * (x 1).val) = _; simp)
theorem cols2 {f : ℕ → ℕ → EReal} (v : Vec Ideal S1x2048 .f32) (e : E2 (n := 1) (m := 2048) v f) : E2 (n := 1) (m := 512) (View.ld v C2) fun s d => f s (1024 + d) := fun x => (e _).trans (by
  show f (0 + 1 * (x 0).val) (1024 + 1 * (x 1).val) = _; simp)
theorem group2 {f : ℕ → ℕ → ℕ → EReal} (v : Vec Ideal S4x512x512 .bf16) (e : E3 (a := 4) (b := 512) (c := 512) v f) : E3 (a := 1) (b := 512) (c := 512) (View.ld v B2) fun _ => f 2 := fun x => (e _).trans (by
  have h0 : (x 0).val < 1 := (x 0).isLt
  show f (2 + 1 * (x 0).val) (0 + 1 * (x 1).val) (0 + 1 * (x 2).val) = _; simp [show (x 0).val = 0 by omega])
theorem rows3 {f : ℕ → ℕ → EReal} (v : Vec Ideal S512x2048 .f32) (e : E2 (n := 512) (m := 2048) v f) : E2 (n := 512) (m := 512) (View.ld v R3) fun s d => f s (1536 + d) := fun x => (e _).trans (by
  show f (0 + 1 * (x 0).val) (1536 + 1 * (x 1).val) = _; simp)
theorem rowsN3 {f : ℕ → ℕ → EReal} (v : Vec Ideal S512x2048 .bf16) (e : E2 (n := 512) (m := 2048) v f) : E2 (n := 512) (m := 512) (View.ld v R3) fun s d => f s (1536 + d) := fun x => (e _).trans (by
  show f (0 + 1 * (x 0).val) (1536 + 1 * (x 1).val) = _; simp)
theorem cols3 {f : ℕ → ℕ → EReal} (v : Vec Ideal S1x2048 .f32) (e : E2 (n := 1) (m := 2048) v f) : E2 (n := 1) (m := 512) (View.ld v C3) fun s d => f s (1536 + d) := fun x => (e _).trans (by
  show f (0 + 1 * (x 0).val) (1536 + 1 * (x 1).val) = _; simp)
theorem group3 {f : ℕ → ℕ → ℕ → EReal} (v : Vec Ideal S4x512x512 .bf16) (e : E3 (a := 4) (b := 512) (c := 512) v f) : E3 (a := 1) (b := 512) (c := 512) (View.ld v B3) fun _ => f 3 := fun x => (e _).trans (by
  have h0 : (x 0).val < 1 := (x 0).isLt
  show f (3 + 1 * (x 0).val) (0 + 1 * (x 1).val) (0 + 1 * (x 2).val) = _; simp [show (x 0).val = 0 by omega])

section
variable {f k g p : ℕ → ℕ → EReal}

theorem grad_val (v : Vec Ideal S512x512 .f32) (w : Vec Ideal S1x512 .f32) (e : E2 (n := 512) (m := 512) v f) (d : E2 (n := 1) (m := 512) w k) :
    E2 (n := 512) (m := 512) (k0_pay1 v w) fun s n => f s n * k 0 n :=
  E2.mul (φ := .f32) v _ e (E2.row (φ := .f32) w broadcasts_S1x512_S512x512 (by decide) d)

theorem back_val (v : Vec Ideal S512x512 .f32) (w : Vec Ideal S1x512 .f32) (u : Vec Ideal S1x512x512 .bf16) (e : E2 (n := 512) (m := 512) v f) (d : E2 (n := 1) (m := 512) w k)
    (b : E3 (a := 1) (b := 512) (c := 512) u fun _ => g) : E2 (n := 512) (m := 512) (k0_pay2 v w u) fun s n => ∑ e ∈ Finset.range 512, f s e * k 0 e * g n e :=
  E2.dotT none (k0_pay1 v w) _ _ rfl (grad_val v w e d) (E3.drop (φ := .bf16) u shapeCasts_S1x512x512_S512x512 b)

theorem colSums (v : FVec Ideal S512x512 .f32) (hv : E2 (n := 512) (m := 512) v f) :
    E2 (n := 1) (m := 512) (shapeCast S1x512 (multiReduction .add [0] S512 v 0x00000000#32 reduces_S512x512_S512 (.inl rfl) rfl) shapeCasts_S512_S1x512)
      fun _ d => ∑ s ∈ Finset.range 512, f s d := fun x => by
  have h0 : (x 0).val < 1 := (x 0).isLt
  refine (congrArg (multiReduction .add [0] S512 v 0x00000000#32 reduces_S512x512_S512 (.inl rfl) rfl)
    (Shape.reshapeEquiv_eq_of_vals _ _ (ValueIdx.ix1 (x 1)) _ _ (rowMajor_val1 _) (rowMajor_val2 _ 512 rfl) ?_)).trans ?_
  · show (x 1).val = (x 0).val * 512 + (x 1).val
    omega
  · refine (Ideal.reduceAdd_r2_a0 reduces_S512x512_S512 v (ValueIdx.ix1 (x 1))).trans ?_
    refine (Finset.sum_congr rfl fun k _ => hv _).trans ?_
    exact (Finset.sum_range (fun k => f k (x 1).val)).symm

theorem sums_val (v : Vec Ideal S512x512 .f32) (w : Vec Ideal S512x512 .bf16) (u : Vec Ideal S1x512x512 .bf16) (e : E2 (n := 512) (m := 512) v f) (d : E2 (n := 512) (m := 512) w p)
    (b : E3 (a := 1) (b := 512) (c := 512) u fun _ => g) : E2 (n := 1) (m := 512) (k0_pay7 v w u) fun _ n => ∑ s ∈ Finset.range 512, f s n * ∑ i ∈ Finset.range 512, p s i * g i n := by
  refine colSums (f := fun s n => f s n * ∑ i ∈ Finset.range 512, p s i * g i n) _ (E2.mul (φ := .f32) v _ e fun x => ?_)
  refine (Ideal.matmul_apply₁_of dot_S512x512_S512x512_S512x512_1_0_0_1_n_n (K := 512) rfl rfl w (shapeCast S512x512 u shapeCasts_S1x512x512_S512x512) _ x
    (fun n => ValueIdx.ix2 (x 0) n) (fun n => ValueIdx.ix2 n (x 1)) (fun n => funext fun d => by fin_cases d <;> rfl) (fun n => funext fun d => by fin_cases d <;> rfl)).trans ?_
  refine (congrArg (· + _) (Ideal.ofBits_zero .f32)).trans ((zero_add _).trans ?_)
  exact (Finset.sum_congr rfl fun n _ => congrArg₂ (· * ·) (d _) (E3.drop (φ := .bf16) u shapeCasts_S1x512x512_S512x512 b _)).trans
    (Finset.sum_range (fun i => p (x 0).val i * g i (x 1).val)).symm

end

/-- A row in four pieces. -/
theorem four_val {f : ℕ → EReal} (v0 v1 v2 v3 : FVec Ideal S1x512 .f32) (h0 : E2 (n := 1) (m := 512) v0 fun _ d => f d) (h1 : E2 (n := 1) (m := 512) v1 fun _ d => f (512 + d))
    (h2 : E2 (n := 1) (m := 512) v2 fun _ d => f (1024 + d)) (h3 : E2 (n := 1) (m := 512) v3 fun _ d => f (1536 + d)) :
    E2 (n := 1) (m := 2048) (concatenate S1x2048 1 [⟨S1x512, v0⟩, ⟨S1x512, v1⟩, ⟨S1x512, v2⟩, ⟨S1x512, v3⟩] concatenates_S1x512_S1x512_S1x512_S1x512_S1x2048_d1) fun _ d => f d := fun x => by
  have hx : (x 1).val < 2048 := (x 1).isLt
  rcases (by omega : (x 1).val < 512 ∨ (512 ≤ (x 1).val ∧ (x 1).val < 1024) ∨ (1024 ≤ (x 1).val ∧ (x 1).val < 1536) ∨ 1536 ≤ (x 1).val) with hl | hl | hl | hl
  · have hd : (x 1).val - 0 < 512 := by omega
    refine (concatenate_apply_piece (t := S1x2048) 1 [⟨S1x512, v0⟩, ⟨S1x512, v1⟩, ⟨S1x512, v2⟩, ⟨S1x512, v3⟩] concatenates_S1x512_S1x512_S1x512_S1x512_S1x2048_d1 x 0 (by show 0 < 4; omega) S1x512 v0 rfl rfl 0 rfl
      (ValueIdx.ix2 (x 0) (⟨(x 1).val - 0, hd⟩ : Fin 512)) (fun b hb => ?_) ?_).trans ((h0 _).trans ?_)
    · fin_cases b
      · rfl
      · exact absurd rfl hb
    · show 0 + ((x 1).val - 0) = (x 1).val; omega
    · show f (((x 1).val - 0)) = f (x 1).val
      rw [show ((x 1).val - 0) = (x 1).val by omega]
  · have hd : (x 1).val - 512 < 512 := by omega
    refine (concatenate_apply_piece (t := S1x2048) 1 [⟨S1x512, v0⟩, ⟨S1x512, v1⟩, ⟨S1x512, v2⟩, ⟨S1x512, v3⟩] concatenates_S1x512_S1x512_S1x512_S1x512_S1x2048_d1 x 1 (by show 1 < 4; omega) S1x512 v1 rfl rfl 512 rfl
      (ValueIdx.ix2 (x 0) (⟨(x 1).val - 512, hd⟩ : Fin 512)) (fun b hb => ?_) ?_).trans ((h1 _).trans ?_)
    · fin_cases b
      · rfl
      · exact absurd rfl hb
    · show 512 + ((x 1).val - 512) = (x 1).val; omega
    · show f (512 + ((x 1).val - 512)) = f (x 1).val
      rw [show 512 + ((x 1).val - 512) = (x 1).val by omega]
  · have hd : (x 1).val - 1024 < 512 := by omega
    refine (concatenate_apply_piece (t := S1x2048) 1 [⟨S1x512, v0⟩, ⟨S1x512, v1⟩, ⟨S1x512, v2⟩, ⟨S1x512, v3⟩] concatenates_S1x512_S1x512_S1x512_S1x512_S1x2048_d1 x 2 (by show 2 < 4; omega) S1x512 v2 rfl rfl 1024 rfl
      (ValueIdx.ix2 (x 0) (⟨(x 1).val - 1024, hd⟩ : Fin 512)) (fun b hb => ?_) ?_).trans ((h2 _).trans ?_)
    · fin_cases b
      · rfl
      · exact absurd rfl hb
    · show 1024 + ((x 1).val - 1024) = (x 1).val; omega
    · show f (1024 + ((x 1).val - 1024)) = f (x 1).val
      rw [show 1024 + ((x 1).val - 1024) = (x 1).val by omega]
  · have hd : (x 1).val - 1536 < 512 := by omega
    refine (concatenate_apply_piece (t := S1x2048) 1 [⟨S1x512, v0⟩, ⟨S1x512, v1⟩, ⟨S1x512, v2⟩, ⟨S1x512, v3⟩] concatenates_S1x512_S1x512_S1x512_S1x512_S1x2048_d1 x 3 (by show 3 < 4; omega) S1x512 v3 rfl rfl 1536 rfl
      (ValueIdx.ix2 (x 0) (⟨(x 1).val - 1536, hd⟩ : Fin 512)) (fun b hb => ?_) ?_).trans ((h3 _).trans ?_)
    · fin_cases b
      · rfl
      · exact absurd rfl hb
    · show 1536 + ((x 1).val - 1536) = (x 1).val; omega
    · show f (1536 + ((x 1).val - 1536)) = f (x 1).val
      rw [show 1536 + ((x 1).val - 1536) = (x 1).val by omega]

/-- The gradient of the output; of what is pooled, its columns in four groups; and the groups' products of what is pooled. -/
def scaled (x k : ℕ → ℕ → EReal) (s n : ℕ) : EReal := x s n * k 0 n
def spread (x k : ℕ → ℕ → EReal) (w : ℕ → ℕ → ℕ → EReal) (s n : ℕ) : EReal := ∑ e ∈ Finset.range 512, scaled x k s (512 * (n / 512) + e) * w (n / 512) (n % 512) e
def mixed (p : ℕ → ℕ → EReal) (w : ℕ → ℕ → ℕ → EReal) (s n : ℕ) : EReal := ∑ d ∈ Finset.range 512, p s (512 * (n / 512) + d) * w (n / 512) d (n % 512)

theorem spread_at (x k : ℕ → ℕ → EReal) (w : ℕ → ℕ → ℕ → EReal) (s j n : ℕ) (hn : n < 512) :
    spread x k w s (512 * j + n) = ∑ e ∈ Finset.range 512, x s (512 * j + e) * k 0 (512 * j + e) * w j n e := by
  unfold spread scaled
  rw [show (512 * j + n) / 512 = j by omega, show (512 * j + n) % 512 = n by omega]

theorem mixed_at (p : ℕ → ℕ → EReal) (w : ℕ → ℕ → ℕ → EReal) (s j n : ℕ) (hn : n < 512) :
    mixed p w s (512 * j + n) = ∑ d ∈ Finset.range 512, p s (512 * j + d) * w j d n := by
  unfold mixed
  rw [show (512 * j + n) / 512 = j by omega, show (512 * j + n) % 512 = n by omega]

section
variable {x k p : ℕ → ℕ → EReal} {w : ℕ → ℕ → ℕ → EReal} (x0 : Vec Ideal S512x2048 .f32) (x1 : Vec Ideal S512x2048 .bf16) (x2 : Vec Ideal S4x512x512 .bf16) (x3 : Vec Ideal S1x2048 .f32)
  (e0 : E2 (n := 512) (m := 2048) x0 x) (e1 : E2 (n := 512) (m := 2048) x1 p) (e2 : E3 (a := 4) (b := 512) (c := 512) x2 w) (e3 : E2 (n := 1) (m := 2048) x3 k)
include e0 e3

theorem list4_val : E2 (n := 512) (m := 2048) (View.canon (Val := Elt Ideal) (list4 x0 x3) : Vec Ideal S512x2048 .bf16) (scaled x k) := by
  intro y
  refine View.canon_apply_of_pieces (show S512x2048.Idx → Elt Ideal .bf16 from fun y => scaled x k (y 0).val (y 1).val) (list4 x0 x3) ?_ y
    (View.cover_of_tiledL (list4 x0 x3) S512x512.size (by sl_kernel_rfl) y)
  intro q hq z
  rcases List.mem_cons.mp hq with rfl | hq
  · refine (grad_val _ _ (rows3 x0 e0) (cols3 x3 e3) z).trans ?_
    show _ = scaled x k (0 + 1 * (z 0).val) (1536 + 1 * (z 1).val)
    simp [scaled]
  ·
    rcases List.mem_cons.mp hq with rfl | hq
    · refine (grad_val _ _ (rows2 x0 e0) (cols2 x3 e3) z).trans ?_
      show _ = scaled x k (0 + 1 * (z 0).val) (1024 + 1 * (z 1).val)
      simp [scaled]
    ·
      rcases List.mem_cons.mp hq with rfl | hq
      · refine (grad_val _ _ (rows1 x0 e0) (cols1 x3 e3) z).trans ?_
        show _ = scaled x k (0 + 1 * (z 0).val) (512 + 1 * (z 1).val)
        simp [scaled]
      ·
        obtain rfl := List.mem_singleton.mp hq
        refine (grad_val _ _ (rows0 x0 e0) (cols0 x3 e3) z).trans ?_
        show _ = scaled x k (0 + 1 * (z 0).val) (0 + 1 * (z 1).val)
        simp [scaled]

include e2

theorem list5_val : E2 (n := 512) (m := 2048) (View.canon (Val := Elt Ideal) (list5 x0 x2 x3) : Vec Ideal S512x2048 .f32) (spread x k w) := by
  intro y
  refine View.canon_apply_of_pieces (show S512x2048.Idx → Elt Ideal .f32 from fun y => spread x k w (y 0).val (y 1).val) (list5 x0 x2 x3) ?_ y
    (View.cover_of_tiledL (list5 x0 x2 x3) S512x512.size (by sl_kernel_rfl) y)
  intro q hq z
  rcases List.mem_cons.mp hq with rfl | hq
  · refine (back_val _ _ _ (rows3 x0 e0) (cols3 x3 e3) (group3 x2 e2) z).trans ?_
    show _ = spread x k w (0 + 1 * (z 0).val) (1536 + 1 * (z 1).val)
    rw [show 1536 + 1 * (z 1).val = 512 * 3 + (z 1).val by omega, show 0 + 1 * (z 0).val = (z 0).val by omega]
    exact (Finset.sum_congr rfl fun e _ => by simp).trans (spread_at x k w _ 3 _ (z 1).isLt).symm
  ·
    rcases List.mem_cons.mp hq with rfl | hq
    · refine (back_val _ _ _ (rows2 x0 e0) (cols2 x3 e3) (group2 x2 e2) z).trans ?_
      show _ = spread x k w (0 + 1 * (z 0).val) (1024 + 1 * (z 1).val)
      rw [show 1024 + 1 * (z 1).val = 512 * 2 + (z 1).val by omega, show 0 + 1 * (z 0).val = (z 0).val by omega]
      exact (Finset.sum_congr rfl fun e _ => by simp).trans (spread_at x k w _ 2 _ (z 1).isLt).symm
    ·
      rcases List.mem_cons.mp hq with rfl | hq
      · refine (back_val _ _ _ (rows1 x0 e0) (cols1 x3 e3) (group1 x2 e2) z).trans ?_
        show _ = spread x k w (0 + 1 * (z 0).val) (512 + 1 * (z 1).val)
        rw [show 512 + 1 * (z 1).val = 512 * 1 + (z 1).val by omega, show 0 + 1 * (z 0).val = (z 0).val by omega]
        exact (Finset.sum_congr rfl fun e _ => by simp).trans (spread_at x k w _ 1 _ (z 1).isLt).symm
      ·
        obtain rfl := List.mem_singleton.mp hq
        refine (back_val _ _ _ (rows0 x0 e0) (cols0 x3 e3) (group0 x2 e2) z).trans ?_
        show _ = spread x k w (0 + 1 * (z 0).val) (0 + 1 * (z 1).val)
        rw [show 0 + 1 * (z 1).val = 512 * 0 + (z 1).val by omega, show 0 + 1 * (z 0).val = (z 0).val by omega]
        exact (Finset.sum_congr rfl fun e _ => by simp).trans (spread_at x k w _ 0 _ (z 1).isLt).symm

omit e3
include e1

theorem part6_val : E2 (n := 1) (m := 2048) (part6 x0 x1 x2) fun _ d => ∑ s ∈ Finset.range 512, x s d * mixed p w s d := by
  unfold part6 k0_pay3
  exact four_val (f := fun d => ∑ s ∈ Finset.range 512, x s d * mixed p w s d) _ _ _ _
    (E2.congr (sums_val _ _ _ (rows0 x0 e0) (rowsN0 x1 e1) (group0 x2 e2)) fun _ _ d hd => Finset.sum_congr rfl fun s _ => congrArg (x s _ * ·) (by
      have h := mixed_at p w s 0 d hd
      simp only [Nat.reduceMul, zero_add] at h
      exact h.symm))
    (E2.congr (sums_val _ _ _ (rows1 x0 e0) (rowsN1 x1 e1) (group1 x2 e2)) fun _ _ d hd => Finset.sum_congr rfl fun s _ => congrArg (x s _ * ·) (by
      have h := mixed_at p w s 1 d hd
      simp only [Nat.reduceMul, zero_add] at h
      exact h.symm))
    (E2.congr (sums_val _ _ _ (rows2 x0 e0) (rowsN2 x1 e1) (group2 x2 e2)) fun _ _ d hd => Finset.sum_congr rfl fun s _ => congrArg (x s _ * ·) (by
      have h := mixed_at p w s 2 d hd
      simp only [Nat.reduceMul, zero_add] at h
      exact h.symm))
    (E2.congr (sums_val _ _ _ (rows3 x0 e0) (rowsN3 x1 e1) (group3 x2 e2)) fun _ _ d hd => Finset.sum_congr rfl fun s _ => congrArg (x s _ * ·) (by
      have h := mixed_at p w s 3 d hd
      simp only [Nat.reduceMul, zero_add] at h
      exact h.symm))

theorem next6_val {g : ℕ → EReal} (xo : Vec Ideal S1x2048 .f32) (eo : E2 (n := 1) (m := 2048) xo fun _ d => g d) :
    E2 (n := 1) (m := 2048) (next6 x0 x1 x2 xo) fun _ d => g d + ∑ s ∈ Finset.range 512, x s d * mixed p w s d :=
  E2.add (φ := .f32) _ _ (E2.same (φ := .f32) xo shapeCasts_S1x2048_S1x2048 eo) (part6_val x0 x1 x2 e0 e1 e2)

end

/-! ## The arrays -/

variable (m : (ℓ : Loc nD τ sig) → Buf (Elt Ideal) ℓ) (c : Dev nD)

/-- The four arguments' entries. -/
abbrev X : ℕ → ℕ → EReal := num2 (a := 8192) (b := 2048) (m ((c.tc : Thread nD τ).loc main_arg0))
abbrev P : ℕ → ℕ → EReal := num2 (a := 8192) (b := 2048) (m ((c.tc : Thread nD τ).loc main_arg1))
abbrev W : ℕ → ℕ → ℕ → EReal := num3 (a := 4) (b := 512) (c := 512) (m ((c.tc : Thread nD τ).loc main_arg2))
abbrev K : ℕ → ℕ → EReal := num2 (a := 1) (b := 2048) (m ((c.tc : Thread nD τ).loc main_arg3))

theorem idx_all : ∀ t : Fin cfg0.N, win0_0.index t = ![t.val, 0] ∧ win0_1.index t = ![t.val, 0] ∧ win0_2.index t = ![0, 0, 0] ∧ win0_3.index t = ![0, 0] ∧ win0_4.index t = ![t.val, 0]
    ∧ win0_5.index t = ![t.val, 0] ∧ win0_6.index t = ![0, 0] := by
  decide +kernel

theorem block0 (t : Fin cfg0.N) : E2 (n := 512) (m := 2048) (iblk m c 0 t : Vec Ideal S512x2048 .f32) fun s d => X m c (512 * t.val + s) d := fun x => by
  have e0 : (((win0_0.rect t).emb x) 0).val = 512 * t.val + (x 0).val := by
    rw [win0_0.rect_emb_val t x 0, (idx_all t).1]; show t.val * 512 + (x 0).val = _; omega
  have e1 : (((win0_0.rect t).emb x) 1).val = (x 1).val := by
    rw [win0_0.rect_emb_val t x 1, (idx_all t).1]; show 0 * 2048 + (x 1).val = _; omega
  refine (num2_val (a := 8192) (b := 2048) (m ((c.tc : Thread nD τ).loc main_arg0)) ((win0_0.rect t).emb x)).trans ?_
  rw [e0, e1]

theorem block1 (t : Fin cfg0.N) : E2 (n := 512) (m := 2048) (iblk m c 1 t : Vec Ideal S512x2048 .bf16) fun s d => P m c (512 * t.val + s) d := fun x => by
  have e0 : (((win0_1.rect t).emb x) 0).val = 512 * t.val + (x 0).val := by
    rw [win0_1.rect_emb_val t x 0, (idx_all t).2.1]; show t.val * 512 + (x 0).val = _; omega
  have e1 : (((win0_1.rect t).emb x) 1).val = (x 1).val := by
    rw [win0_1.rect_emb_val t x 1, (idx_all t).2.1]; show 0 * 2048 + (x 1).val = _; omega
  refine (num2_val (a := 8192) (b := 2048) (m ((c.tc : Thread nD τ).loc main_arg1)) ((win0_1.rect t).emb x)).trans ?_
  rw [e0, e1]

theorem block2 (t : Fin cfg0.N) : E3 (a := 4) (b := 512) (c := 512) (iblk m c 2 t : Vec Ideal S4x512x512 .bf16) (W m c) := fun x => by
  have e0 : (((win0_2.rect t).emb x) 0).val = (x 0).val := by
    rw [win0_2.rect_emb_val t x 0, (idx_all t).2.2.1]; show 0 * 4 + (x 0).val = _; omega
  have e1 : (((win0_2.rect t).emb x) 1).val = (x 1).val := by
    rw [win0_2.rect_emb_val t x 1, (idx_all t).2.2.1]; show 0 * 512 + (x 1).val = _; omega
  have e2 : (((win0_2.rect t).emb x) 2).val = (x 2).val := by
    rw [win0_2.rect_emb_val t x 2, (idx_all t).2.2.1]; show 0 * 512 + (x 2).val = _; omega
  refine (num3_val (a := 4) (b := 512) (c := 512) (m ((c.tc : Thread nD τ).loc main_arg2)) ((win0_2.rect t).emb x)).trans ?_
  rw [e0, e1, e2]

theorem block3 (t : Fin cfg0.N) : E2 (n := 1) (m := 2048) (iblk m c 3 t : Vec Ideal S1x2048 .f32) (K m c) := fun x => by
  have e0 : (((win0_3.rect t).emb x) 0).val = (x 0).val := by
    rw [win0_3.rect_emb_val t x 0, (idx_all t).2.2.2.1]; show 0 * 1 + (x 0).val = _; omega
  have e1 : (((win0_3.rect t).emb x) 1).val = (x 1).val := by
    rw [win0_3.rect_emb_val t x 1, (idx_all t).2.2.2.1]; show 0 * 2048 + (x 1).val = _; omega
  refine (num2_val (a := 1) (b := 2048) (m ((c.tc : Thread nD τ).loc main_arg3)) ((win0_3.rect t).emb x)).trans ?_
  rw [e0, e1]

theorem given4 (t : Fin cfg0.N) : E2 (n := 512) (m := 2048) ((dats m 0 c).after 4 t : Vec Ideal S512x2048 .bf16) fun s d => scaled (X m c) (K m c) (512 * t.val + s) d := by
  rw [after0_4]
  have hv := list4_val (x := fun s d => X m c (512 * t.val + s) d) (k := K m c) _ _ (block0 m c t) (block3 m c t)
  have hN : t.val < 16 := lt_of_lt_of_eq t.isLt N_0
  by_cases h0 : t.val % 16 = 0
  · rw [outsAt0_A m c t h0 (by omega)]
    dsimp only
    rw [out_A4]
    exact hv
  · rw [outsAt0_B m c t h0 (by omega)]
    dsimp only
    rw [out_B4]
    exact hv

theorem given5 (t : Fin cfg0.N) : E2 (n := 512) (m := 2048) ((dats m 0 c).after 5 t : Vec Ideal S512x2048 .f32) fun s d => spread (X m c) (K m c) (W m c) (512 * t.val + s) d := by
  rw [after0_5]
  have hv := list5_val (x := fun s d => X m c (512 * t.val + s) d) (k := K m c) (w := W m c) _ _ _ (block0 m c t) (block2 m c t) (block3 m c t)
  have hN : t.val < 16 := lt_of_lt_of_eq t.isLt N_0
  by_cases h0 : t.val % 16 = 0
  · rw [outsAt0_A m c t h0 (by omega)]
    dsimp only
    rw [out_A5]
    exact hv
  · rw [outsAt0_B m c t h0 (by omega)]
    dsimp only
    rw [out_B5]
    exact hv

/-- The sums over the rows so far. -/
theorem held6 : ∀ (n : ℕ) (h : n < cfg0.N), E2 (n := 1) (m := 2048) (outsAt0 m c n h).2.2 fun _ d => ∑ s ∈ Finset.range (512 * (n + 1)), X m c s d * mixed (P m c) (W m c) s d := by
  intro n
  induction n with
  | zero =>
    intro h
    have hv := part6_val (x := fun s d => X m c (512 * 0 + s) d) (p := fun s d => P m c (512 * 0 + s) d) (w := W m c) _ _ _ (block0 m c ⟨0, h⟩) (block1 m c ⟨0, h⟩) (block2 m c ⟨0, h⟩)
    rw [outsAt0_A m c ⟨0, h⟩ rfl (by show ¬ 1 ≤ 0; decide)]
    dsimp only
    rw [out_A6]
    refine E2.congr hv fun _ _ d _ => ?_
    show ∑ s ∈ Finset.range 512, X m c (512 * 0 + s) d * mixed (P m c) (W m c) (512 * 0 + s) d = _
    simp only [Nat.mul_zero, Nat.zero_add, Nat.mul_one]
  | succ n ih =>
    intro h
    have hN : n + 1 < 16 := lt_of_lt_of_eq h N_0
    rw [outsAt0_B m c ⟨n + 1, h⟩ (by show ¬ (n + 1) % 16 = 0; omega) (by show 1 ≤ n + 1; omega)]
    dsimp only
    rw [out_B6]
    refine E2.congr (next6_val (x := fun s d => X m c (512 * (n + 1) + s) d) (p := fun s d => P m c (512 * (n + 1) + s) d) (w := W m c) _ _ _
      (block0 m c ⟨n + 1, h⟩) (block1 m c ⟨n + 1, h⟩) (block2 m c ⟨n + 1, h⟩) _ (ih (Nat.lt_of_succ_lt h))) fun _ _ d _ => ?_
    rw [show 512 * (n + 1 + 1) = 512 * (n + 1) + 512 by omega, Finset.sum_range_add]
    rfl

/-- The gradient of the output. -/
theorem grad_end : ∀ i : S8192x2048.Idx, (dats m 0 c).arrAt 4 cfg0.N i = scaled (X m c) (K m c) (i 0).val (i 1).val := by
  refine (dats m 0 c).arrAt_forall_of_cover 4 (fun i v => v = scaled (X m c) (K m c) (i 0).val (i 1).val) ?_ ?_
  · intro t hfl x
    have e0 : (((win0_4.rect t).emb x) 0).val = 512 * t.val + (x 0).val := by
      rw [win0_4.rect_emb_val t x 0, (idx_all t).2.2.2.2.1]; show t.val * 512 + (x 0).val = _; omega
    have e1 : (((win0_4.rect t).emb x) 1).val = (x 1).val := by
      rw [win0_4.rect_emb_val t x 1, (idx_all t).2.2.2.2.1]; show 0 * 2048 + (x 1).val = _; omega
    refine (given4 m c t x).trans ?_
    show _ = scaled (X m c) (K m c) (((win0_4.rect t).emb x) 0).val (((win0_4.rect t).emb x) 1).val
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_4 _, ?_⟩
    mem_blk [(idx_all ⟨(i 0).val / 512, hN⟩).2.2.2.2.1]
    show (((i 0).val / 512) * 512 ≤ (i 0).val ∧ (i 0).val < ((i 0).val / 512) * 512 + 512) ∧ 0 * 2048 ≤ (i 1).val ∧ (i 1).val < 0 * 2048 + 2048
    omega

/-- The gradient of what is pooled. -/
theorem spread_end : ∀ i : S8192x2048.Idx, (dats m 0 c).arrAt 5 cfg0.N i = spread (X m c) (K m c) (W m c) (i 0).val (i 1).val := by
  refine (dats m 0 c).arrAt_forall_of_cover 5 (fun i v => v = spread (X m c) (K m c) (W m c) (i 0).val (i 1).val) ?_ ?_
  · intro t hfl x
    have e0 : (((win0_5.rect t).emb x) 0).val = 512 * t.val + (x 0).val := by
      rw [win0_5.rect_emb_val t x 0, (idx_all t).2.2.2.2.2.1]; show t.val * 512 + (x 0).val = _; omega
    have e1 : (((win0_5.rect t).emb x) 1).val = (x 1).val := by
      rw [win0_5.rect_emb_val t x 1, (idx_all t).2.2.2.2.2.1]; show 0 * 2048 + (x 1).val = _; omega
    refine (given5 m c t x).trans ?_
    show _ = spread (X m c) (K m c) (W m c) (((win0_5.rect t).emb x) 0).val (((win0_5.rect t).emb x) 1).val
    rw [e0, e1]
  · intro i
    have h0 : (i 0).val < 8192 := (i 0).isLt
    have h1 : (i 1).val < 2048 := (i 1).isLt
    have hN : (i 0).val / 512 < cfg0.N := by show _ < 16; omega
    refine ⟨⟨(i 0).val / 512, hN⟩, flush0_5 _, ?_⟩
    mem_blk [(idx_all ⟨(i 0).val / 512, hN⟩).2.2.2.2.2.1]
    show (((i 0).val / 512) * 512 ≤ (i 0).val ∧ (i 0).val < ((i 0).val / 512) * 512 + 512) ∧ 0 * 2048 ≤ (i 1).val ∧ (i 1).val < 0 * 2048 + 2048
    omega

/-- The gradient of the columns' scale. -/
def total (x p : ℕ → ℕ → EReal) (w : ℕ → ℕ → ℕ → EReal) (d : ℕ) : EReal := ∑ s ∈ Finset.range 8192, x s d * mixed p w s d

theorem total_end : ∀ i : S1x2048.Idx, (dats m 0 c).arrAt 6 cfg0.N i = total (X m c) (P m c) (W m c) (i 1).val := by
  refine (dats m 0 c).arrAt_forall_of_cover 6 (fun i v => v = total (X m c) (P m c) (W m c) (i 1).val) ?_ ?_
  · intro t hfl x
    have hN : t.val < 16 := lt_of_lt_of_eq t.isLt N_0
    have ht : t.val = 15 := by have := (flush0_6 t).mp hfl; omega
    have e1 : (((win0_6.rect t).emb x) 1).val = (x 1).val := by
      rw [win0_6.rect_emb_val t x 1, (idx_all t).2.2.2.2.2.2]; show 0 * 2048 + (x 1).val = _; omega
    have hv : E2 (n := 1) (m := 2048) ((dats m 0 c).after 6 t : Vec Ideal S1x2048 .f32) fun _ d => ∑ s ∈ Finset.range (512 * (t.val + 1)), X m c s d * mixed (P m c) (W m c) s d := by
      rw [after0_6]
      exact held6 m c t.val t.isLt
    refine (hv x).trans ?_
    show _ = total (X m c) (P m c) (W m c) (((win0_6.rect t).emb x) 1).val
    rw [e1, ht]
    rfl
  · intro i
    have h0 : (i 0).val < 1 := (i 0).isLt
    have h1 : (i 1).val < 2048 := (i 1).isLt
    have hN : 15 < cfg0.N := by show _ < 16; omega
    refine ⟨⟨15, hN⟩, (flush0_6 _).mpr rfl, ?_⟩
    mem_blk [(idx_all ⟨15, hN⟩).2.2.2.2.2.2]
    show (0 * 1 ≤ (i 0).val ∧ (i 0).val < 0 * 1 + 1) ∧ 0 * 2048 ≤ (i 1).val ∧ (i 1).val < 0 * 2048 + 2048
    omega

end Cert.Kernel15Ideal.Hand

/-! ## The reference -/

namespace Cert.Reference15Ideal.Hand

open Cert.Reference15Ideal Cert.Reference15Ideal.Gen Cert.Hand Cert.Staged Idealize.ShloMosaic Idealize.ShloMosaic.TcCoe Idealize.SL.Sem

/-- A matrix with its columns cut into four groups of 512, and the groups joined again. -/
theorem cut_val {f : ℕ → ℕ → EReal} (v : FVec Ideal S8192x2048 .f32) (hv : E2 (n := 8192) (m := 2048) v f) :
    E3 (a := 8192) (b := 4) (c := 512) (shapeCast S8192x4x512 v shapeCasts_S8192x2048_S8192x4x512) fun n j d => f n (512 * j + d) := fun x => by
  have hj : (x 1).val < 4 := (x 1).isLt
  have hd : (x 2).val < 512 := (x 2).isLt
  have hc : 512 * (x 1).val + (x 2).val < 2048 := by omega
  refine (congrArg v (Shape.reshapeEquiv_eq_of_vals _ _ (ValueIdx.ix2 (x 0) (⟨512 * (x 1).val + (x 2).val, hc⟩ : Fin 2048)) _ _ (rowMajor_val2 _ 2048 rfl) (rowMajor_val3 _ 2048 512 rfl rfl) ?_)).trans (hv _)
  show (x 0).val * 2048 + (512 * (x 1).val + (x 2).val) = (x 0).val * 2048 + (x 1).val * 512 + (x 2).val
  omega

theorem join_val {f : ℕ → ℕ → ℕ → EReal} (v : FVec Ideal S8192x4x512 .f32) (hv : E3 (a := 8192) (b := 4) (c := 512) v f) :
    E2 (n := 8192) (m := 2048) (shapeCast S8192x2048 v shapeCasts_S8192x4x512_S8192x2048) fun s n => f s (n / 512) (n % 512) := fun x => by
  have h1 : (x 1).val < 2048 := (x 1).isLt
  have hj : (x 1).val / 512 < 4 := by omega
  have hn : (x 1).val % 512 < 512 := Nat.mod_lt _ (by norm_num)
  refine (congrArg v (Shape.reshapeEquiv_eq_of_vals _ _ (ValueIdx.ix3 (x 0) (⟨(x 1).val / 512, hj⟩ : Fin 4) (⟨(x 1).val % 512, hn⟩ : Fin 512)) _ _ (rowMajor_val3 _ 2048 512 rfl rfl) (rowMajor_val2 _ 2048 rfl) ?_)).trans (hv _)
  show (x 0).val * 2048 + (x 1).val / 512 * 512 + (x 1).val % 512 = (x 0).val * 2048 + (x 1).val
  omega

section
variable (dx : FVec Ideal S8192x2048 .f32) (p : FVec Ideal S8192x2048 .bf16) (w : FVec Ideal S4x512x512 .bf16) (k : FVec Ideal S1x2048 .f32)

abbrev gradR : FVec Ideal S8192x2048 .f32 := mulf dx (broadcastInDim S8192x2048 ![0, 1] bcast_S1x2048_S8192x2048_0_1 k)
abbrev turned : FVec Ideal S4x512x8192 .f32 := transpose S4x512x8192 [1, 2, 0] (shapeCast _ (gradR dx k) shapeCasts_S8192x2048_S8192x4x512) transposes_S8192x4x512_S4x512x8192_1_2_0
abbrev spreadR : FVec Ideal S8192x2048 .f32 :=
  shapeCast _ (transpose S8192x4x512 [1, 0, 2] (Host.dotGeneral dot_S4x512x8192_S4x512x512_S4x8192x512_1_2_2_1_0_0 none (turned dx k) (extf .f32 w bitsLt_bf16_f32)) transposes_S4x8192x512_S8192x4x512_1_0_2)
    shapeCasts_S8192x4x512_S8192x2048
abbrev cutR : FVec Ideal S8192x4x512 .f32 := shapeCast _ (extf .f32 p bitsLt_bf16_f32) shapeCasts_S8192x2048_S8192x4x512
abbrev mixedR : FVec Ideal S8192x2048 .f32 :=
  shapeCast _ (transpose S8192x4x512 [2, 0, 1] (Host.dotGeneral dot_S4x512x512_S8192x4x512_S4x512x8192_1_2_2_0_0_1 none (extf .f32 w bitsLt_bf16_f32) (cutR p)) transposes_S4x512x8192_S8192x4x512_2_0_1)
    shapeCasts_S8192x4x512_S8192x2048
abbrev totalR : FVec Ideal S1x2048 .f32 :=
  shapeCast _ (Host.reduceAdd (mulf (mixedR p w) dx) (constant S_ .f32 0x00000000#32) reducesTo_S8192x2048_S2048_d0 h_S_) shapeCasts_S2048_S1x2048

theorem grad_val : E2 (n := 8192) (m := 2048) (gradR dx k) (Cert.Kernel15Ideal.Hand.scaled (num2 (a := 8192) (b := 2048) dx) (num2 (a := 1) (b := 2048) k)) :=
  E2.mul (φ := .f32) _ _ (num2_val (a := 8192) (b := 2048) dx) (E2.hostRow _ bcast_S1x2048_S8192x2048_0_1 (by decide) (num2_val (a := 1) (b := 2048) k))

theorem turned_val (j : Fin 4) (n : Fin 512) (s : Fin 8192) :
    turned dx k (ValueIdx.ix3 j n s) = Cert.Kernel15Ideal.Hand.scaled (num2 (a := 8192) (b := 2048) dx) (num2 (a := 1) (b := 2048) k) s.val (512 * j.val + n.val) :=
  (congrArg (shapeCast S8192x4x512 (gradR dx k) shapeCasts_S8192x2048_S8192x4x512)
    (show Shape.Transposes.src transposes_S8192x4x512_S4x512x8192_1_2_0 (ValueIdx.ix3 j n s) = ValueIdx.ix3 s j n from funext fun d => by fin_cases d <;> rfl)).trans
    (cut_val _ (grad_val dx k) _)

theorem spread_val : E2 (n := 8192) (m := 2048) (spreadR dx w k)
    (Cert.Kernel15Ideal.Hand.spread (num2 (a := 8192) (b := 2048) dx) (num2 (a := 1) (b := 2048) k) (num3 (a := 4) (b := 512) (c := 512) w)) := by
  refine join_val (f := fun s j d => ∑ e ∈ Finset.range 512, Cert.Kernel15Ideal.Hand.scaled (num2 (a := 8192) (b := 2048) dx) (num2 (a := 1) (b := 2048) k) s (512 * j + e) * num3 (a := 4) (b := 512) (c := 512) w j d e)
    _ fun x => ?_
  refine (congrArg (Host.dotGeneral dot_S4x512x8192_S4x512x512_S4x8192x512_1_2_2_1_0_0 none (turned dx k) (extf .f32 w bitsLt_bf16_f32) : FVec Ideal S4x8192x512 .f32)
    (show Shape.Transposes.src transposes_S4x8192x512_S8192x4x512_1_0_2 x = ValueIdx.ix3 (x 1) (x 0) (x 2) from funext fun d => by fin_cases d <;> rfl)).trans ?_
  refine (Ideal.matmul_apply₁_of dot_S4x512x8192_S4x512x512_S4x8192x512_1_2_2_1_0_0 (K := 512) rfl rfl (turned dx k) (extf .f32 w bitsLt_bf16_f32) (fun _ => 0) (ValueIdx.ix3 (x 1) (x 0) (x 2))
    (fun n => ValueIdx.ix3 (x 1) n (x 0)) (fun n => ValueIdx.ix3 (x 1) (x 2) n) (fun n => funext fun d => by fin_cases d <;> rfl) (fun n => funext fun d => by fin_cases d <;> rfl)).trans ?_
  refine (zero_add _).trans ((Finset.sum_congr rfl fun n _ => congrArg₂ (· * ·) (turned_val dx k (x 1) n (x 0)) (num3_val (a := 4) (b := 512) (c := 512) w _)).trans ?_)
  exact (Finset.sum_range (fun e => Cert.Kernel15Ideal.Hand.scaled (num2 (a := 8192) (b := 2048) dx) (num2 (a := 1) (b := 2048) k) (x 0).val (512 * (x 1).val + e)
      * num3 (a := 4) (b := 512) (c := 512) w (x 1).val (x 2).val e)).symm

theorem mixed_val : E2 (n := 8192) (m := 2048) (mixedR p w)
    (Cert.Kernel15Ideal.Hand.mixed (num2 (a := 8192) (b := 2048) p) (num3 (a := 4) (b := 512) (c := 512) w)) := by
  refine join_val (f := fun s j e => ∑ d ∈ Finset.range 512, num2 (a := 8192) (b := 2048) p s (512 * j + d) * num3 (a := 4) (b := 512) (c := 512) w j d e) _ fun x => ?_
  refine (congrArg (Host.dotGeneral dot_S4x512x512_S8192x4x512_S4x512x8192_1_2_2_0_0_1 none (extf .f32 w bitsLt_bf16_f32) (cutR p) : FVec Ideal S4x512x8192 .f32)
    (show Shape.Transposes.src transposes_S4x512x8192_S8192x4x512_2_0_1 x = ValueIdx.ix3 (x 1) (x 2) (x 0) from funext fun d => by fin_cases d <;> rfl)).trans ?_
  refine (Ideal.matmul_apply₁_of dot_S4x512x512_S8192x4x512_S4x512x8192_1_2_2_0_0_1 (K := 512) rfl rfl (extf .f32 w bitsLt_bf16_f32) (cutR p) (fun _ => 0) (ValueIdx.ix3 (x 1) (x 2) (x 0))
    (fun n => ValueIdx.ix3 (x 1) n (x 2)) (fun n => ValueIdx.ix3 (x 0) (x 1) n) (fun n => funext fun d => by fin_cases d <;> rfl) (fun n => funext fun d => by fin_cases d <;> rfl)).trans ?_
  refine (zero_add _).trans ((Finset.sum_congr rfl fun n _ => (mul_comm _ _).trans (congrArg₂ (· * ·) (cut_val (extf .f32 p bitsLt_bf16_f32) (num2_val (a := 8192) (b := 2048) p) _)
    (num3_val (a := 4) (b := 512) (c := 512) w _))).trans ?_)
  exact (Finset.sum_range (fun d => num2 (a := 8192) (b := 2048) p (x 0).val (512 * (x 1).val + d) * num3 (a := 4) (b := 512) (c := 512) w (x 1).val d (x 2).val)).symm

theorem total_val : E2 (n := 1) (m := 2048) (totalR dx p w)
    fun _ d => Cert.Kernel15Ideal.Hand.total (num2 (a := 8192) (b := 2048) dx) (num2 (a := 8192) (b := 2048) p) (num3 (a := 4) (b := 512) (c := 512) w) d :=
  E2.congr (E1.level _ shapeCasts_S2048_S1x2048 (E2.hostCols _ reducesTo_S8192x2048_S2048_d0 h_S_ (E2.mul (φ := .f32) _ _ (mixed_val p w) (num2_val (a := 8192) (b := 2048) dx))))
    fun _ _ d _ => Finset.sum_congr rfl fun _ _ => mul_comm _ _

end

end Cert.Reference15Ideal.Hand

/-! ## The claims -/

namespace Cert.Proof

open Idealize.ShloMosaic Idealize.SL.Sem Cert.Staged Cert.Hand

/-- The two printings of the program have the same bodies. -/
theorem bodies15 {F : FTy → Type} [FloatOps F] : @Cert.Kernel15.defs F _ _ = @Cert.Kernel15Ideal.defs F _ _ :=
  congrArg (Pipeline.defs (Cert.Kernel15Ideal.pcfgs (F := F))) (congrArg Defs.onTc (funext fun l => match l with | 0 => rfl))

theorem frame_kernel15 : Cert.quiescent_Kernel15 := fun m ρ _ => by
  rw [bodies15]
  exact Cert.Kernel15Ideal.Gen.frame (F := Bits) m ρ

theorem frame_kernel15_ideal : Cert.quiescent_Kernel15Ideal := fun m ρ _ => Cert.Kernel15Ideal.Gen.frame (F := Ideal) m ρ

theorem frame_reference15_ideal : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem algebraic15 : Cert.algebraic_Kernel15Ideal_Reference15Ideal := fun m g m' g' _ hargs => by
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N,
    fun c => (Cert.Kernel15Ideal.Gen.dats m 0 c).arrAt 6 Cert.Kernel15Ideal.cfg0.N, Cert.Kernel15Ideal.Value.run_blocks (F := Ideal) m g, ?_⟩
  refine (θ_run Cert.Reference15Ideal.defs _ _).mono (fun r h c => ?_) (Cert.Reference15Ideal.Value.run (F := Ideal) m' g')
  obtain ⟨e0, e1, e2, k⟩ := h c
  obtain ⟨h0, h1, h2, h3⟩ := hargs c
  rw [h0, h3] at e0
  rw [h0, h2, h3] at e1
  rw [h0, h1, h2] at e2
  exact ⟨e0.trans (funext fun x => (Cert.Reference15Ideal.Hand.grad_val _ _ x).trans (Cert.Kernel15Ideal.Hand.grad_end m c x).symm),
    e1.trans (funext fun x => (Cert.Reference15Ideal.Hand.spread_val _ _ _ x).trans (Cert.Kernel15Ideal.Hand.spread_end m c x).symm),
    e2.trans (funext fun x => (Cert.Reference15Ideal.Hand.total_val _ _ _ x).trans (Cert.Kernel15Ideal.Hand.total_end m c x).symm), k⟩

end Cert.Proof

end
-- ==== Proof.lean ====
/-
  The claims: the programs run and leave their arguments alone, the named constants are the reals the kernel's rounded
  ones stand for, and over the reals the kernels' arrays are the references'.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Run
public import proofs.«01_k».proof.Proof.KRun
public import proofs.«01_k».proof.Proof.Values
public import proofs.«01_k».proof.Proof.Further
public import proofs.«01_k».proof.Proof.Layer
public import proofs.«01_k».proof.Proof.Down
public import proofs.«01_k».proof.Proof.Blocks
public import proofs.«01_k».proof.Proof.Back
public import proofs.«01_k».proof.Proof.Fore
public import proofs.«01_k».proof.Proof.Pool

@[expose] public section

noncomputable section

namespace Cert.Proof

open Idealize.ShloMosaic Idealize.SL.Sem

theorem frame_kernel : Cert.quiescent_Kernel := fun m ρ _ =>
  (θ_run Cert.Kernel.defs _ _).mono (fun _ h => ⟨Cert.Kernel.Hand.args_kept m h.1, h.2⟩) (Cert.Kernel.Hand.run_main (F := Bits) m ρ)

theorem frame_kernel_ideal : Cert.quiescent_KernelIdeal := fun m ρ _ =>
  (θ_run Cert.KernelIdeal.defs _ _).mono (fun _ h => ⟨Cert.KernelIdeal.Hand.args_kept m h.1, h.2⟩) (Cert.KernelIdeal.Hand.run_main (F := Ideal) m ρ)

theorem frame_reference_ideal : Cert.quiescent_ReferenceIdeal := fun m ρ _ =>
  (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "sb_query_scale" .f32 0x3E0293EE#32 ((((Real.sqrt 128) * (Real.log 2))⁻¹ : ℝ) : EReal) rfl,
    IdealRules.named_const.statement Cert.KernelIdeal.κ "sb_scale" .f32 0x3DB504F3#32 (((Real.sqrt 128)⁻¹ : ℝ) : EReal) rfl,
    IdealRules.named_const.statement Cert.KernelIdeal.κ "sb_query_unscale" .f32 0x40FAF233#32 (((Real.sqrt 128) * (Real.log 2) : ℝ) : EReal) rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts,
  finiteFacts, finite3Facts, finite5Facts,
  frame_kernel, frame_kernel_ideal, fun m ρ _ => frame_kernel_ideal m ρ trivial, frame_reference_ideal, fun m ρ _ => frame_reference_ideal m ρ trivial,
  frame_kernel2, frame_kernel2_ideal, frame_reference2_ideal,
  frame_kernel3, frame_kernel3_ideal, fun m ρ _ => frame_kernel3_ideal m ρ trivial, frame_reference3_ideal, fun m ρ _ => frame_reference3_ideal m ρ trivial,
  frame_kernel4, frame_kernel4_ideal, frame_reference4_ideal,
  frame_kernel5, frame_kernel5_ideal, fun m ρ _ => frame_kernel5_ideal m ρ trivial, frame_reference5_ideal, fun m ρ _ => frame_reference5_ideal m ρ trivial,
  frame_kernel6, frame_kernel6_ideal, frame_reference6_ideal,
  frame_kernel7, frame_kernel7_ideal, frame_reference7_ideal,
  frame_kernel8, frame_kernel8_ideal, frame_reference8_ideal,
  frame_kernel9, frame_kernel9_ideal, frame_reference9_ideal,
  frame_kernel10, frame_kernel10_ideal, frame_reference10_ideal,
  frame_kernel11, frame_kernel11_ideal, frame_reference11_ideal,
  frame_kernel12, frame_kernel12_ideal, frame_reference12_ideal,
  frame_kernel13, frame_kernel13_ideal, frame_reference13_ideal,
  frame_kernel14, frame_kernel14_ideal, frame_reference14_ideal,
  frame_kernel15, frame_kernel15_ideal, frame_reference15_ideal,
  preserves, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15⟩

end Cert.Proof

end
